-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 [hPre_in_order : Cert.Pre_in_order.Facts] (m : (ℓ : Loc Cert.Kernel25.nD Cert.Kernel25.τ Cert.Kernel25.sig) → Buf (Elt Bits) ℓ) : Prop :=
  ∀ c : Dev Cert.Kernel25.nD,
    (Cert.Pre_in_order.fn (F := Bits) (m ((c.tc : Thread Cert.Kernel25.nD Cert.Kernel25.τ).loc Cert.Kernel25.main_arg0)) (m ((c.tc : Thread Cert.Kernel25.nD Cert.Kernel25.τ).loc Cert.Kernel25.main_arg1)) (m ((c.tc : Thread Cert.Kernel25.nD Cert.Kernel25.τ).loc Cert.Kernel25.main_arg2)) (m ((c.tc : Thread Cert.Kernel25.nD Cert.Kernel25.τ).loc Cert.Kernel25.main_arg3)) (m ((c.tc : Thread Cert.Kernel25.nD Cert.Kernel25.τ).loc Cert.Kernel25.main_arg4))) = (fun _ => 1#1)

def Pre_Kernel25Ideal [hPre_in_order : Cert.Pre_in_order.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_in_order.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4))) = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_in_order [hPre_in_order : Cert.Pre_in_order.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_in_order.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4))) = (fun _ => 1#1)

def Pre_Kernel26 [hPre_in_order : Cert.Pre_in_order.Facts] (m : (ℓ : Loc Cert.Kernel26.nD Cert.Kernel26.τ Cert.Kernel26.sig) → Buf (Elt Bits) ℓ) : Prop :=
  ∀ c : Dev Cert.Kernel26.nD,
    (Cert.Pre_in_order.fn (F := Bits) (m ((c.tc : Thread Cert.Kernel26.nD Cert.Kernel26.τ).loc Cert.Kernel26.main_arg0)) (m ((c.tc : Thread Cert.Kernel26.nD Cert.Kernel26.τ).loc Cert.Kernel26.main_arg1)) (m ((c.tc : Thread Cert.Kernel26.nD Cert.Kernel26.τ).loc Cert.Kernel26.main_arg2)) (m ((c.tc : Thread Cert.Kernel26.nD Cert.Kernel26.τ).loc Cert.Kernel26.main_arg3)) (m ((c.tc : Thread Cert.Kernel26.nD Cert.Kernel26.τ).loc Cert.Kernel26.main_arg4))) = (fun _ => 1#1)

def Pre_Kernel26Ideal [hPre_in_order : Cert.Pre_in_order.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_in_order.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)) (m ((c.tc : Thread Cert.Kernel26Ideal.nD Cert.Kernel26Ideal.τ).loc Cert.Kernel26Ideal.main_arg4))) = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_in_order [hPre_in_order : Cert.Pre_in_order.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_in_order.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2)) (m ((c.tc : Thread Cert.Reference26Ideal.nD Cert.Reference26Ideal.τ).loc Cert.Reference26Ideal.main_arg3)) (m ((c.tc : Thread Cert.Reference26Ideal.nD Cert.Reference26Ideal.τ).loc Cert.Reference26Ideal.main_arg4))) = (fun _ => 1#1)

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] [hPre_in_order : Cert.Pre_in_order.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] [hPre_in_order : Cert.Pre_in_order.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Reference25Ideal_pre_in_order [hReference25Ideal : Cert.Reference25Ideal.Facts] [hPre_in_order : Cert.Pre_in_order.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_in_order m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] [hPre_in_order : Cert.Pre_in_order.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] [hPre_in_order : Cert.Pre_in_order.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Reference26Ideal_pre_in_order [hReference26Ideal : Cert.Reference26Ideal.Facts] [hPre_in_order : Cert.Pre_in_order.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_in_order m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_v217) = v1 c
          ∧ r.2.mem ((c.tc : Thread Cert.ReferenceIdeal.nD Cert.ReferenceIdeal.τ).loc Cert.ReferenceIdeal.main_v216) = v2 c
          ∧ r.2.mem ((c.tc : Thread Cert.ReferenceIdeal.nD Cert.ReferenceIdeal.τ).loc Cert.ReferenceIdeal.main_v221) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  IdealRules.named_const.Statement Cert.Kernel10Ideal.κ "c1" .f32 0x3FC48605#32 ((8388608 / 5463681 : ℝ) : EReal)
  ∧ IdealRules.named_const.Statement Cert.Kernel10Ideal.κ "c2" .f32 0x42C8E6D3#32 ((268435456 / 2672307 : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_arg1) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_v4) = v2 c
          ∧ r.2.mem ((c.tc : Thread Cert.Reference10Ideal.nD Cert.Reference10Ideal.τ).loc Cert.Reference10Ideal.main_v10) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  IdealRules.named_const.Statement Cert.Kernel11Ideal.κ "c1" .f32 0x3FC48605#32 ((8388608 / 5463681 : ℝ) : EReal)
  ∧ IdealRules.named_const.Statement Cert.Kernel11Ideal.κ "c2" .f32 0x42C8E6D3#32 ((268435456 / 2672307 : ℝ) : EReal)

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_arg1) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_v4) = v2 c
          ∧ r.2.mem ((c.tc : Thread Cert.Reference11Ideal.nD Cert.Reference11Ideal.τ).loc Cert.Reference11Ideal.main_v10) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  IdealRules.named_const.Statement Cert.Kernel12Ideal.κ "c1" .f32 0x3FC48605#32 ((8388608 / 5463681 : ℝ) : EReal)
  ∧ IdealRules.named_const.Statement Cert.Kernel12Ideal.κ "c2" .f32 0x42C8E6D3#32 ((268435456 / 2672307 : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_arg1) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_v4) = v2 c
          ∧ r.2.mem ((c.tc : Thread Cert.Reference12Ideal.nD Cert.Reference12Ideal.τ).loc Cert.Reference12Ideal.main_v10) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.named_const.Statement Cert.Kernel13Ideal.κ "c1" .f32 0x3FC48605#32 ((8388608 / 5463681 : ℝ) : EReal)
  ∧ IdealRules.named_const.Statement Cert.Kernel13Ideal.κ "c2" .f32 0x42C8E6D3#32 ((268435456 / 2672307 : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_arg1) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_v4) = v2 c
          ∧ r.2.mem ((c.tc : Thread Cert.Reference13Ideal.nD Cert.Reference13Ideal.τ).loc Cert.Reference13Ideal.main_v10) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  IdealRules.named_const.Statement Cert.Kernel14Ideal.κ "c1" .f32 0x3FC48605#32 ((8388608 / 5463681 : ℝ) : EReal)
  ∧ IdealRules.named_const.Statement Cert.Kernel14Ideal.κ "c2" .f32 0x42C8E6D3#32 ((268435456 / 2672307 : ℝ) : EReal)

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_arg1) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v4) = v2 c
          ∧ r.2.mem ((c.tc : Thread Cert.Reference14Ideal.nD Cert.Reference14Ideal.τ).loc Cert.Reference14Ideal.main_v10) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  IdealRules.named_const.Statement Cert.Kernel15Ideal.κ "c1" .f32 0x3FC48605#32 ((8388608 / 5463681 : ℝ) : EReal)
  ∧ IdealRules.named_const.Statement Cert.Kernel15Ideal.κ "c2" .f32 0x42C8E6D3#32 ((268435456 / 2672307 : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_arg1) = v0 c
          ∧ r.2.mem ((c.tc : Thread Cert.Reference15Ideal.nD Cert.Reference15Ideal.τ).loc Cert.Reference15Ideal.main_v23) = v1 c
          ∧ r.2.mem ((c.tc : Thread Cert.Reference15Ideal.nD Cert.Reference15Ideal.τ).loc Cert.Reference15Ideal.main_v4) = v2 c
          ∧ r.2.mem ((c.tc : Thread Cert.Reference15Ideal.nD Cert.Reference15Ideal.τ).loc Cert.Reference15Ideal.main_v10) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  IdealRules.named_const.Statement Cert.Kernel16Ideal.κ "c1" .f32 0x3FC48605#32 ((8388608 / 5463681 : ℝ) : EReal)
  ∧ IdealRules.named_const.Statement Cert.Kernel16Ideal.κ "c2" .f32 0x42C8E6D3#32 ((268435456 / 2672307 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_arg1) = v0 c
          ∧ r.2.mem ((c.tc : Thread Cert.Reference16Ideal.nD Cert.Reference16Ideal.τ).loc Cert.Reference16Ideal.main_v23) = v1 c
          ∧ r.2.mem ((c.tc : Thread Cert.Reference16Ideal.nD Cert.Reference16Ideal.τ).loc Cert.Reference16Ideal.main_v4) = v2 c
          ∧ r.2.mem ((c.tc : Thread Cert.Reference16Ideal.nD Cert.Reference16Ideal.τ).loc Cert.Reference16Ideal.main_v10) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  IdealRules.named_const.Statement Cert.Kernel17Ideal.κ "c1" .f32 0x3FC48605#32 ((8388608 / 5463681 : ℝ) : EReal)
  ∧ IdealRules.named_const.Statement Cert.Kernel17Ideal.κ "c2" .f32 0x42C8E6D3#32 ((268435456 / 2672307 : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_arg1) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_v4) = v2 c
          ∧ r.2.mem ((c.tc : Thread Cert.Reference17Ideal.nD Cert.Reference17Ideal.τ).loc Cert.Reference17Ideal.main_v10) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  IdealRules.named_const.Statement Cert.Kernel18Ideal.κ "c1" .f32 0x3FC48605#32 ((8388608 / 5463681 : ℝ) : EReal)
  ∧ IdealRules.named_const.Statement Cert.Kernel18Ideal.κ "c2" .f32 0x42C8E6D3#32 ((268435456 / 2672307 : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg1) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  IdealRules.named_const.Statement Cert.Kernel19Ideal.κ "c1" .f32 0x3FC48605#32 ((8388608 / 5463681 : ℝ) : EReal)
  ∧ IdealRules.named_const.Statement Cert.Kernel19Ideal.κ "c2" .f32 0x42C8E6D3#32 ((268435456 / 2672307 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_arg1) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v4) = v2 c
          ∧ r.2.mem ((c.tc : Thread Cert.Reference19Ideal.nD Cert.Reference19Ideal.τ).loc Cert.Reference19Ideal.main_v10) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  IdealRules.named_const.Statement Cert.Kernel20Ideal.κ "c1" .f32 0x3FC48605#32 ((8388608 / 5463681 : ℝ) : EReal)
  ∧ IdealRules.named_const.Statement Cert.Kernel20Ideal.κ "c2" .f32 0x42C8E6D3#32 ((268435456 / 2672307 : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg1) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  IdealRules.named_const.Statement Cert.Kernel21Ideal.κ "c1" .f32 0x3FC48605#32 ((8388608 / 5463681 : ℝ) : EReal)
  ∧ IdealRules.named_const.Statement Cert.Kernel21Ideal.κ "c2" .f32 0x42C8E6D3#32 ((268435456 / 2672307 : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_arg1) = v0 c
          ∧ r.2.mem ((c.tc : Thread Cert.Reference21Ideal.nD Cert.Reference21Ideal.τ).loc Cert.Reference21Ideal.main_v23) = v1 c
          ∧ r.2.mem ((c.tc : Thread Cert.Reference21Ideal.nD Cert.Reference21Ideal.τ).loc Cert.Reference21Ideal.main_v4) = v2 c
          ∧ r.2.mem ((c.tc : Thread Cert.Reference21Ideal.nD Cert.Reference21Ideal.τ).loc Cert.Reference21Ideal.main_v10) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  IdealRules.named_const.Statement Cert.Kernel22Ideal.κ "c1" .f32 0x3FC48605#32 ((8388608 / 5463681 : ℝ) : EReal)
  ∧ IdealRules.named_const.Statement Cert.Kernel22Ideal.κ "c2" .f32 0x42C8E6D3#32 ((268435456 / 2672307 : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_arg1) = v0 c
          ∧ r.2.mem ((c.tc : Thread Cert.Reference22Ideal.nD Cert.Reference22Ideal.τ).loc Cert.Reference22Ideal.main_v23) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v10) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v7) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] [hPre_in_order : Cert.Pre_in_order.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v16) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] [hPre_in_order : Cert.Pre_in_order.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v11) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)) (v4 : (c : Dev Cert.Kernel27Ideal.nD) → Buf (Elt Ideal) ((c.tc : Thread Cert.Kernel27Ideal.nD Cert.Kernel27Ideal.τ).loc Cert.Kernel27Ideal.main_v0_4)) (v5 : (c : Dev Cert.Kernel27Ideal.nD) → Buf (Elt Ideal) ((c.tc : Thread Cert.Kernel27Ideal.nD Cert.Kernel27Ideal.τ).loc Cert.Kernel27Ideal.main_v0_5)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_v0_4) = v4 c
          ∧ r.2.mem ((c.tc : Thread Cert.Kernel27Ideal.nD Cert.Kernel27Ideal.τ).loc Cert.Kernel27Ideal.main_v0_5) = v5 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v41) = v0 c
          ∧ r.2.mem ((c.tc : Thread Cert.Reference27Ideal.nD Cert.Reference27Ideal.τ).loc Cert.Reference27Ideal.main_v42) = v1 c
          ∧ r.2.mem ((c.tc : Thread Cert.Reference27Ideal.nD Cert.Reference27Ideal.τ).loc Cert.Reference27Ideal.main_v43) = v2 c
          ∧ r.2.mem ((c.tc : Thread Cert.Reference27Ideal.nD Cert.Reference27Ideal.τ).loc Cert.Reference27Ideal.main_v44) = v3 c
          ∧ r.2.mem ((c.tc : Thread Cert.Reference27Ideal.nD Cert.Reference27Ideal.τ).loc Cert.Reference27Ideal.main_v40) = v4 c
          ∧ r.2.mem ((c.tc : Thread Cert.Reference27Ideal.nD Cert.Reference27Ideal.τ).loc Cert.Reference27Ideal.main_v35) = v5 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v17) = v0 c
          ∧ r.2.mem ((c.tc : Thread Cert.Reference29Ideal.nD Cert.Reference29Ideal.τ).loc Cert.Reference29Ideal.main_v18) = v1 c
          ∧ r.2.mem ((c.tc : Thread Cert.Reference29Ideal.nD Cert.Reference29Ideal.τ).loc Cert.Reference29Ideal.main_v21) = v2 c
          ∧ r.2.mem ((c.tc : Thread Cert.Reference29Ideal.nD Cert.Reference29Ideal.τ).loc Cert.Reference29Ideal.main_v23) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v24) = v0 c
          ∧ r.2.mem ((c.tc : Thread Cert.Reference30Ideal.nD Cert.Reference30Ideal.τ).loc Cert.Reference30Ideal.main_v25) = v1 c
          ∧ r.2.mem ((c.tc : Thread Cert.Reference30Ideal.nD Cert.Reference30Ideal.τ).loc Cert.Reference30Ideal.main_v20) = v2 c
          ∧ r.2.mem ((c.tc : Thread Cert.Reference30Ideal.nD Cert.Reference30Ideal.τ).loc Cert.Reference30Ideal.main_v16) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)) (v4 : (c : Dev Cert.Kernel31Ideal.nD) → Buf (Elt Ideal) ((c.tc : Thread Cert.Kernel31Ideal.nD Cert.Kernel31Ideal.τ).loc Cert.Kernel31Ideal.main_v0_4)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_v0_4) = v4 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v51) = v0 c
          ∧ r.2.mem ((c.tc : Thread Cert.Reference31Ideal.nD Cert.Reference31Ideal.τ).loc Cert.Reference31Ideal.main_v52) = v1 c
          ∧ r.2.mem ((c.tc : Thread Cert.Reference31Ideal.nD Cert.Reference31Ideal.τ).loc Cert.Reference31Ideal.main_v53) = v2 c
          ∧ r.2.mem ((c.tc : Thread Cert.Reference31Ideal.nD Cert.Reference31Ideal.τ).loc Cert.Reference31Ideal.main_v56) = v3 c
          ∧ r.2.mem ((c.tc : Thread Cert.Reference31Ideal.nD Cert.Reference31Ideal.τ).loc Cert.Reference31Ideal.main_v58) = v4 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v32) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite : Cert.Pre_finite.Facts) (hPre_in_order : Cert.Pre_in_order.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25) (hPre_in_order := hPre_in_order)
    ∧ quiescent_Kernel25Ideal (hKernel25Ideal := hKernel25Ideal) (hPre_in_order := hPre_in_order)
    ∧ quiescent_Reference25Ideal (hReference25Ideal := hReference25Ideal)
    ∧ quiescent_Reference25Ideal_pre_in_order (hReference25Ideal := hReference25Ideal) (hPre_in_order := hPre_in_order)
    ∧ quiescent_Kernel26 (hKernel26 := hKernel26) (hPre_in_order := hPre_in_order)
    ∧ quiescent_Kernel26Ideal (hKernel26Ideal := hKernel26Ideal) (hPre_in_order := hPre_in_order)
    ∧ quiescent_Reference26Ideal (hReference26Ideal := hReference26Ideal)
    ∧ quiescent_Reference26Ideal_pre_in_order (hReference26Ideal := hReference26Ideal) (hPre_in_order := hPre_in_order)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal) (hPre_in_order := hPre_in_order)
    ∧ preserves_Kernel26_Kernel26Ideal
    ∧ algebraic_Kernel26Ideal_Reference26Ideal (hKernel26Ideal := hKernel26Ideal) (hReference26Ideal := hReference26Ideal) (hPre_in_order := hPre_in_order)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_finite.lean ====
abbrev S2048x11776 : Shape := ⟨2, ![2048, 11776]⟩
abbrev S2048x2048 : Shape := ⟨2, ![2048, 2048]⟩
abbrev S1x32 : Shape := ⟨2, ![1, 32]⟩
abbrev S2048x2560 : Shape := ⟨2, ![2048, 2560]⟩
abbrev S_ : Shape := ⟨0, ![]⟩

class Facts : Prop where
  slices_S2048x11776_S2048x2560_0_0 : S2048x11776.Slices ![0, 0] S2048x2560
  bcast_S_S2048x2560 : S_.BroadcastsInDim S2048x2560 (![] : Fin 0 → Fin S2048x2560.rank)
  bcast_S_S2048x2048 : S_.BroadcastsInDim S2048x2048 (![] : Fin 0 → Fin S2048x2048.rank)
  bcast_S_S1x32 : S_.BroadcastsInDim S1x32 (![] : Fin 0 → Fin S1x32.rank)

variable [Facts]

def fn {F : FTy → Type} [FloatOps F] (main_arg0 : FVec F S2048x11776 .f32) (main_arg1 : FVec F S2048x2048 .f32) (main_arg2 : FVec F S1x32 .f32) : IVec S2048x2560 1 × IVec S2048x2048 1 × IVec S1x32 1 :=
  let main_v0 : FVec F S2048x2560 .f32 := (extractStridedSlice S2048x2560 ![0, 0] · slices_S2048x11776_S2048x2560_0_0) main_arg0
  let main_v1 : FVec F S2048x2560 .f32 := Host.absf main_v0
  let main_cst : FVec F S_ .f32 := constant S_ .f32 0x7F800000#32
  let main_v2 : FVec F S2048x2560 .f32 := broadcastInDim S2048x2560 ![] bcast_S_S2048x2560 main_cst
  let main_v3 : IVec S2048x2560 1 := cmpf .olt main_v1 main_v2
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_v7 : FVec F S1x32 .f32 := Host.absf main_arg2
  let main_cst_1 : FVec F S_ .f32 := constant S_ .f32 0x7F800000#32
  let main_v8 : FVec F S1x32 .f32 := broadcastInDim S1x32 ![] bcast_S_S1x32 main_cst_1
  let main_v9 : IVec S1x32 1 := cmpf .olt main_v7 main_v8
  (main_v3, main_v6, main_v9)
-- ==== Pre_in_order.lean ====
abbrev S2048x2048 : Shape := ⟨2, ![2048, 2048]⟩
abbrev S4x2048x2944 : Shape := ⟨3, ![4, 2048, 2944]⟩
abbrev S4 : Shape := ⟨1, ![4]⟩
abbrev S8x128 : Shape := ⟨2, ![8, 128]⟩
abbrev S2048x11776 : Shape := ⟨2, ![2048, 11776]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S2048x2048 .bf16) (main_arg1 : FVec F S4x2048x2944 .bf16) (main_arg2 : IVec S4 32) (main_arg3 : FVec F S8x128 .f32) (main_arg4 : FVec F S2048x11776 .f32) : IVec S4 1 :=
  let main_c : IVec S_ 32 := constantI S_ 32 0#32
  let main_v0 : IVec S4 32 := broadcastInDim S4 ![] bcast_S_S4 main_c
  let main_v1 : IVec S4 1 := cmpi .sge main_arg2 main_v0
  let main_c_0 : IVec S_ 32 := constantI S_ 32 4#32
  let main_v2 : IVec S4 32 := broadcastInDim S4 ![] bcast_S_S4 main_c_0
  let main_v3 : IVec S4 1 := cmpi .slt main_arg2 main_v2
  let main_v4 : IVec S4 1 := andi main_v1 main_v3
  main_v4
-- ==== Kernel.lean ====
abbrev S2048x11776 : Shape := ⟨2, ![2048, 11776]⟩
abbrev S2048x2048 : Shape := ⟨2, ![2048, 2048]⟩
abbrev S1x32 : Shape := ⟨2, ![1, 32]⟩
abbrev S2048x256 : Shape := ⟨2, ![2048, 256]⟩
abbrev S8x128 : Shape := ⟨2, ![8, 128]⟩
abbrev S128x2048 : Shape := ⟨2, ![128, 2048]⟩
abbrev S128x256 : Shape := ⟨2, ![128, 256]⟩
abbrev S1024x256 : Shape := ⟨2, ![1024, 256]⟩
abbrev S128x64 : Shape := ⟨2, ![128, 64]⟩
abbrev S256x64 : Shape := ⟨2, ![256, 64]⟩
abbrev S1024x1 : Shape := ⟨2, ![1024, 1]⟩
abbrev S1x1 : Shape := ⟨2, ![1, 1]⟩
abbrev S1024x64 : Shape := ⟨2, ![1024, 64]⟩
abbrev S1024 : Shape := ⟨1, ![1024]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 7
  | .vmem => 17
  | .smem => 1
  | _ => 0

abbrev bufTy : (tb : Table) → Fin (tcTables nBuf tb) → BufTy
  | .hbm, ⟨0, _⟩ => ⟨S2048x11776, .f32⟩
  | .hbm, ⟨1, _⟩ => ⟨S2048x2048, .f32⟩
  | .hbm, ⟨2, _⟩ => ⟨S1x32, .f32⟩
  | .hbm, ⟨3, _⟩ => ⟨S2048x2048, .bf16⟩
  | .hbm, ⟨4, _⟩ => ⟨S2048x256, .f32⟩
  | .hbm, ⟨5, _⟩ => ⟨S2048x256, .f32⟩
  | .hbm, ⟨6, _⟩ => ⟨S8x128, .f32⟩
  | .local _ .vmem, ⟨0, _⟩ => ⟨S128x2048, .f32⟩
  | .local _ .vmem, ⟨1, _⟩ => ⟨S128x2048, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x2048, .f32⟩
  | .local _ .vmem, ⟨11, _⟩ => ⟨S128x2048, .f32⟩
  | .local _ .vmem, ⟨12, _⟩ => ⟨S128x2048, .bf16⟩
  | .local _ .vmem, ⟨13, _⟩ => ⟨S128x2048, .bf16⟩
  | .local _ .vmem, ⟨14, _⟩ => ⟨S2048x256, .f32⟩
  | .local _ .vmem, ⟨15, _⟩ => ⟨S2048x256, .f32⟩
  | .local _ .vmem, ⟨16, _⟩ => ⟨S8x128, .f32⟩
  | .local _ .smem, ⟨0, _⟩ => ⟨S1x32, .f32⟩
  | _, _ => ⟨S2048x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c128_i32_5 : BitVec 32 := 128#32
  let v22 : BitVec 32 := Scalar.muli arg0 c128_i32_5
  v22
def k0_mult2 (i : grid0.Coords) : BitVec 32 :=
  let arg0 : BitVec 32 := BitVec.ofNat 32 (i 0).val
  let c1_i32 : BitVec 32 := 1#32
  let v24 : BitVec 32 := Scalar.subi arg0 c1_i32
  let c0_i32_6 : BitVec 32 := 0#32
  let v25 : BitVec 32 := Scalar.maxsi v24 c0_i32_6
  let c128_i32_7 : BitVec 32 := 128#32
  let v26 : BitVec 32 := Scalar.muli v25 c128_i32_7
  v26
def k0_off1 (i : grid0.Coords) : Fin 2 → Nat :=
  let arg0 : BitVec 32 := BitVec.ofNat 32 (i 0).val
  let c1_i32 : BitVec 32 := 1#32
  let v24 : BitVec 32 := Scalar.subi arg0 c1_i32
  let c0_i32_6 : BitVec 32 := 0#32
  let v25 : BitVec 32 := Scalar.maxsi v24 c0_i32_6
  let c128_i32_7 : BitVec 32 := 128#32
  let v26 : BitVec 32 := Scalar.muli v25 c128_i32_7
  let v27 : BitVec 32 := v26
  let v375 : Index := Scalar.indexCast v27
  let c0_152 : Index := 0#32
  ![v375.toNat, 0]
def k0_off2 (i : grid0.Coords) : Fin 2 → Nat :=
  let arg0 : BitVec 32 := BitVec.ofNat 32 (i 0).val
  let c128_i32_5 : BitVec 32 := 128#32
  let v22 : BitVec 32 := Scalar.muli arg0 c128_i32_5
  let v23 : BitVec 32 := v22
  let v389 : Index := Scalar.indexCast v23
  let c0_156 : Index := 0#32
  ![v389.toNat, 0]
def k0_off3 (i : grid0.Coords) : Fin 2 → Nat :=
  let arg0 : BitVec 32 := BitVec.ofNat 32 (i 0).val
  let c1_i32 : BitVec 32 := 1#32
  let v24 : BitVec 32 := Scalar.subi arg0 c1_i32
  let c0_i32_6 : BitVec 32 := 0#32
  let v25 : BitVec 32 := Scalar.maxsi v24 c0_i32_6
  let c128_i32_7 : BitVec 32 := 128#32
  let v26 : BitVec 32 := Scalar.muli v25 c128_i32_7
  let v27 : BitVec 32 := v26
  let v747 : Index := Scalar.indexCast v27
  let c64_301 : Index := 64#32
  ![v747.toNat, 64]
def k0_off4 (i : grid0.Coords) : Fin 2 → Nat :=
  let arg0 : BitVec 32 := BitVec.ofNat 32 (i 0).val
  let c128_i32_5 : BitVec 32 := 128#32
  let v22 : BitVec 32 := Scalar.muli arg0 c128_i32_5
  let v23 : BitVec 32 := v22
  let v761 : Index := Scalar.indexCast v23
  let c64_305 : Index := 64#32
  ![v761.toNat, 64]
def k0_off5 (i : grid0.Coords) : Fin 2 → Nat :=
  let arg0 : BitVec 32 := BitVec.ofNat 32 (i 0).val
  let c1_i32 : BitVec 32 := 1#32
  let v24 : BitVec 32 := Scalar.subi arg0 c1_i32
  let c0_i32_6 : BitVec 32 := 0#32
  let v25 : BitVec 32 := Scalar.maxsi v24 c0_i32_6
  let c128_i32_7 : BitVec 32 := 128#32
  let v26 : BitVec 32 := Scalar.muli v25 c128_i32_7
  let v27 : BitVec 32 := v26
  let v1119 : Index := Scalar.indexCast v27
  let c128_450 : Index := 128#32
  ![v1119.toNat, 128]
def k0_off6 (i : grid0.Coords) : Fin 2 → Nat :=
  let arg0 : BitVec 32 := BitVec.ofNat 32 (i 0).val
  let c128_i32_5 : BitVec 32 := 128#32
  let v22 : BitVec 32 := Scalar.muli arg0 c128_i32_5
  let v23 : BitVec 32 := v22
  let v1133 : Index := Scalar.indexCast v23
  let c128_454 : Index := 128#32
  ![v1133.toNat, 128]
def k0_off7 (i : grid0.Coords) : Fin 2 → Nat :=
  let arg0 : BitVec 32 := BitVec.ofNat 32 (i 0).val
  let c1_i32 : BitVec 32 := 1#32
  let v24 : BitVec 32 := Scalar.subi arg0 c1_i32
  let c0_i32_6 : BitVec 32 := 0#32
  let v25 : BitVec 32 := Scalar.maxsi v24 c0_i32_6
  let c128_i32_7 : BitVec 32 := 128#32
  let v26 : BitVec 32 := Scalar.muli v25 c128_i32_7
  let v27 : BitVec 32 := v26
  let v1491 : Index := Scalar.indexCast v27
  let c192_599 : Index := 192#32
  ![v1491.toNat, 192]
def k0_off8 (i : grid0.Coords) : Fin 2 → Nat :=
  let arg0 : BitVec 32 := BitVec.ofNat 32 (i 0).val
  let c128_i32_5 : BitVec 32 := 128#32
  let v22 : BitVec 32 := Scalar.muli arg0 c128_i32_5
  let v23 : BitVec 32 := v22
  let v1505 : Index := Scalar.indexCast v23
  let c192_603 : Index := 192#32
  ![v1505.toNat, 192]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  ![v1.toNat, c9_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2048x11776 : Shape := ⟨2, ![2048, 11776]⟩
abbrev S2048x2048 : Shape := ⟨2, ![2048, 2048]⟩
abbrev S1x32 : Shape := ⟨2, ![1, 32]⟩
abbrev S2048x256 : Shape := ⟨2, ![2048, 256]⟩
abbrev S32 : Shape := ⟨1, ![32]⟩
abbrev S1x2048x32x64 : Shape := ⟨4, ![1, 2048, 32, 64]⟩
abbrev S1x2048x4x64 : Shape := ⟨4, ![1, 2048, 4, 64]⟩
abbrev S1x16x128x4x8x64 : Shape := ⟨6, ![1, 16, 128, 4, 8, 64]⟩
abbrev S1x16x128x4x64 : Shape := ⟨5, ![1, 16, 128, 4, 64]⟩
abbrev S1x1x128x4x64 : Shape := ⟨5, ![1, 1, 128, 4, 64]⟩
abbrev S_ : Shape := ⟨0, ![]⟩
abbrev S1x15x128x4x64 : Shape := ⟨5, ![1, 15, 128, 4, 64]⟩
abbrev S1x16x256x4x64 : Shape := ⟨5, ![1, 16, 256, 4, 64]⟩
abbrev S1x4x16x256x128x8 : Shape := ⟨6, ![1, 4, 16, 256, 128, 8]⟩
abbrev S1x4x8x16x128x256 : Shape := ⟨6, ![1, 4, 8, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1 : Shape := ⟨1, ![1]⟩
abbrev S4x8x1x1x1 : Shape := ⟨5, ![4, 8, 1, 1, 1]⟩
abbrev S1x1x1x128x256 : Shape := ⟨5, ![1, 1, 1, 128, 256]⟩
abbrev S4x8x1x128x256 : Shape := ⟨5, ![4, 8, 1, 128, 256]⟩
abbrev S1x4x8x1x128x256 : Shape := ⟨6, ![1, 4, 8, 1, 128, 256]⟩
abbrev S1x4x8x16x128 : Shape := ⟨5, ![1, 4, 8, 16, 128]⟩
abbrev S1x4x8x16x128x1 : Shape := ⟨6, ![1, 4, 8, 16, 128, 1]⟩
abbrev S1x4x8x1x1x1 : Shape := ⟨6, ![1, 4, 8, 1, 1, 1]⟩
abbrev S1x16x4x64x8x128 : Shape := ⟨6, ![1, 16, 4, 64, 8, 128]⟩
abbrev S1x2048x2048 : Shape := ⟨3, ![1, 2048, 2048]⟩
abbrev S1x16x4x8x128x256 : Shape := ⟨6, ![1, 16, 4, 8, 128, 256]⟩
abbrev S1x16x4x64x256 : Shape := ⟨5, ![1, 16, 4, 64, 256]⟩
abbrev S1x4x8x1 : Shape := ⟨4, ![1, 4, 8, 1]⟩
abbrev S4x8 : Shape := ⟨2, ![4, 8]⟩
abbrev S4x8x16x128 : Shape := ⟨4, ![4, 8, 16, 128]⟩
abbrev S1x4x16x128x8x64 : Shape := ⟨6, ![1, 4, 16, 128, 8, 64]⟩
abbrev S1x4x16x256x64 : Shape := ⟨5, ![1, 4, 16, 256, 64]⟩
abbrev S8x128 : Shape := ⟨2, ![8, 128]⟩

abbrev nBuf : Space → Nat
  | .hbm => 299
  | .vmem => 0
  | .smem => 0
  | _ => 0

abbrev hbmTy0_0 (i : Nat) : BufTy := match i % 128 with
  | 0 => ⟨S2048x11776, .f32⟩
  | 1 => ⟨S2048x2048, .f32⟩
  | 2 => ⟨S1x32, .f32⟩
  | 3 => ⟨S2048x2048, .f32⟩
  | 4 => ⟨S2048x256, .f32⟩
  | 5 => ⟨S2048x256, .f32⟩
  | 6 => ⟨S32, .f32⟩
  | 7 => ⟨S1x2048x32x64, .f32⟩
  | 8 => ⟨S1x2048x4x64, .f32⟩
  | 9 => ⟨S1x2048x4x64, .f32⟩
  | 10 => ⟨S1x16x128x4x8x64, .f32⟩
  | 11 => ⟨S1x16x128x4x64, .f32⟩
  | 12 => ⟨S1x1x128x4x64, .f32⟩
  | 13 => ⟨S_, .f32⟩
  | 14 => ⟨S1x1x128x4x64, .f32⟩
  | 15 => ⟨S1x15x128x4x64, .f32⟩
  | 16 => ⟨S1x16x128x4x64, .f32⟩
  | 17 => ⟨S_, .f32⟩
  | 18 => ⟨S1x1x128x4x64, .f32⟩
  | 19 => ⟨S1x16x256x4x64, .f32⟩
  | 20 => ⟨S1x16x128x4x64, .f32⟩
  | 21 => ⟨S1x1x128x4x64, .f32⟩
  | 22 => ⟨S_, .f32⟩
  | 23 => ⟨S1x1x128x4x64, .f32⟩
  | 24 => ⟨S1x15x128x4x64, .f32⟩
  | 25 => ⟨S1x16x128x4x64, .f32⟩
  | 26 => ⟨S_, .f32⟩
  | 27 => ⟨S1x1x128x4x64, .f32⟩
  | 28 => ⟨S1x16x256x4x64, .f32⟩
  | 29 => ⟨S1x4x16x256x128x8, .f32⟩
  | 30 => ⟨S1x4x8x16x128x256, .f32⟩
  | 31 => ⟨S_, .f32⟩
  | 32 => ⟨S1x4x8x16x128x256, .f32⟩
  | 33 => ⟨S1x4x8x16x128x256, .f32⟩
  | 34 => ⟨S128, .i32⟩
  | 35 => ⟨S128x1, .i32⟩
  | 36 => ⟨S256, .i32⟩
  | 37 => ⟨S1x256, .i32⟩
  | 38 => ⟨S_, .i32⟩
  | 39 => ⟨S128x1, .i32⟩
  | 40 => ⟨S128x1, .i32⟩
  | 41 => ⟨S128x256, .i32⟩
  | 42 => ⟨S128x256, .i32⟩
  | 43 => ⟨S128x256, .i32⟩
  | 44 => ⟨S16, .i32⟩
  | 45 => ⟨S16x1x1, .i32⟩
  | 46 => ⟨S_, .i32⟩
  | 47 => ⟨S16x1x1, .i32⟩
  | 48 => ⟨S16x1x1, .i32⟩
  | 49 => ⟨S_, .i32⟩
  | 50 => ⟨S16x1x1, .i32⟩
  | 51 => ⟨S16x1x1, .i32⟩
  | 52 => ⟨S1x1x256, .i32⟩
  | 53 => ⟨S16x1x256, .i32⟩
  | 54 => ⟨S16x1x256, .i32⟩
  | 55 => ⟨S16x1x256, .i32⟩
  | 56 => ⟨S_, .i32⟩
  | 57 => ⟨S128x256, .i32⟩
  | 58 => ⟨S128x256, .i1⟩
  | 59 => ⟨S_, .i32⟩
  | 60 => ⟨S128x256, .i32⟩
  | 61 => ⟨S128x256, .i1⟩
  | 62 => ⟨S128x256, .i1⟩
  | 63 => ⟨S_, .i32⟩
  | 64 => ⟨S16x1x256, .i32⟩
  | 65 => ⟨S16x1x256, .i1⟩
  | 66 => ⟨S1x128x256, .i1⟩
  | 67 => ⟨S16x128x256, .i1⟩
  | 68 => ⟨S16x128x256, .i1⟩
  | 69 => ⟨S16x128x256, .i1⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S1, .f32⟩
  | 103 => ⟨S1, .f32⟩
  | 104 => ⟨S1, .f32⟩
  | 105 => ⟨S1, .f32⟩
  | 106 => ⟨S1, .f32⟩
  | 107 => ⟨S1, .f32⟩
  | 108 => ⟨S1, .f32⟩
  | 109 => ⟨S1, .f32⟩
  | 110 => ⟨S1, .f32⟩
  | 111 => ⟨S1, .f32⟩
  | 112 => ⟨S1, .f32⟩
  | 113 => ⟨S1, .f32⟩
  | 114 => ⟨S1, .f32⟩
  | 115 => ⟨S1, .f32⟩
  | 116 => ⟨S1, .f32⟩
  | 117 => ⟨S1, .f32⟩
  | 118 => ⟨S1, .f32⟩
  | 119 => ⟨S1, .f32⟩
  | 120 => ⟨S1, .f32⟩
  | 121 => ⟨S1, .f32⟩
  | 122 => ⟨S1, .f32⟩
  | 123 => ⟨S1, .f32⟩
  | 124 => ⟨S1, .f32⟩
  | 125 => ⟨S1, .f32⟩
  | 126 => ⟨S1, .f32⟩
  | 127 => ⟨S1, .f32⟩
  | _ => ⟨S2048x11776, .f32⟩

abbrev hbmTy0_1 (i : Nat) : BufTy := match i % 128 with
  | 0 => ⟨S1, .f32⟩
  | 1 => ⟨S1, .f32⟩
  | 2 => ⟨S1, .f32⟩
  | 3 => ⟨S1, .f32⟩
  | 4 => ⟨S1, .f32⟩
  | 5 => ⟨S1, .f32⟩
  | 6 => ⟨S16, .f32⟩
  | 7 => ⟨S16, .f32⟩
  | 8 => ⟨S32, .f32⟩
  | 9 => ⟨S4x8x1x1x1, .f32⟩
  | 10 => ⟨S128x256, .f32⟩
  | 11 => ⟨S1x1x1x128x256, .f32⟩
  | 12 => ⟨S4x8x1x128x256, .f32⟩
  | 13 => ⟨S4x8x1x128x256, .f32⟩
  | 14 => ⟨S4x8x1x128x256, .f32⟩
  | 15 => ⟨S1x4x8x1x128x256, .f32⟩
  | 16 => ⟨S1x4x8x16x128x256, .f32⟩
  | 17 => ⟨S1x4x8x16x128x256, .f32⟩
  | 18 => ⟨S_, .f32⟩
  | 19 => ⟨S_, .f32⟩
  | 20 => ⟨S1x4x8x16x128x256, .i1⟩
  | 21 => ⟨S1x4x8x16x128x256, .f32⟩
  | 22 => ⟨S1x4x8x16x128x256, .f32⟩
  | 23 => ⟨S_, .f32⟩
  | 24 => ⟨S1x4x8x16x128x256, .f32⟩
  | 25 => ⟨S4x8x1x1x1, .f32⟩
  | 26 => ⟨S_, .f32⟩
  | 27 => ⟨S1x4x8x16x128, .f32⟩
  | 28 => ⟨S1x4x8x16x128x1, .f32⟩
  | 29 => ⟨S1x4x8x16x128x256, .f32⟩
  | 30 => ⟨S1x4x8x16x128x256, .i1⟩
  | 31 => ⟨S1x4x8x16x128x256, .f32⟩
  | 32 => ⟨S_, .f32⟩
  | 33 => ⟨S1x4x8x16x128, .f32⟩
  | 34 => ⟨S1x4x8x16x128x1, .f32⟩
  | 35 => ⟨S1x4x8x1x1x1, .f32⟩
  | 36 => ⟨S1x4x8x16x128x1, .f32⟩
  | 37 => ⟨S1x4x8x16x128x1, .f32⟩
  | 38 => ⟨S1x4x8x16x128x1, .f32⟩
  | 39 => ⟨S1x4x8x16x128x1, .i1⟩
  | 40 => ⟨S1x4x8x16x128x1, .f32⟩
  | 41 => ⟨S1x4x8x16x128x1, .i1⟩
  | 42 => ⟨S_, .f32⟩
  | 43 => ⟨S1x4x8x16x128x1, .f32⟩
  | 44 => ⟨S_, .f32⟩
  | 45 => ⟨S1x4x8x16x128x1, .f32⟩
  | 46 => ⟨S_, .f32⟩
  | 47 => ⟨S1x4x8x16x128x1, .f32⟩
  | 48 => ⟨S1x4x8x16x128x1, .f32⟩
  | 49 => ⟨S1x4x8x16x128x1, .f32⟩
  | 50 => ⟨S1x4x8x16x128x1, .f32⟩
  | 51 => ⟨S1x4x8x16x128x1, .i1⟩
  | 52 => ⟨S1x4x8x16x128x1, .f32⟩
  | 53 => ⟨S1x4x8x16x128x1, .i1⟩
  | 54 => ⟨S_, .f32⟩
  | 55 => ⟨S1x4x8x16x128x1, .f32⟩
  | 56 => ⟨S_, .f32⟩
  | 57 => ⟨S1x4x8x16x128x1, .f32⟩
  | 58 => ⟨S_, .f32⟩
  | 59 => ⟨S1x4x8x16x128x1, .f32⟩
  | 60 => ⟨S1x4x8x16x128x1, .f32⟩
  | 61 => ⟨S1x4x8x16x128x1, .f32⟩
  | 62 => ⟨S1x4x8x16x128x256, .f32⟩
  | 63 => ⟨S1x4x8x16x128x256, .f32⟩
  | 64 => ⟨S1x4x8x16x128x256, .f32⟩
  | 65 => ⟨S_, .f32⟩
  | 66 => ⟨S1x4x8x16x128, .f32⟩
  | 67 => ⟨S1x4x8x16x128x1, .f32⟩
  | 68 => ⟨S1x4x8x1x1x1, .f32⟩
  | 69 => ⟨S1x4x8x16x128x1, .f32⟩
  | 70 => ⟨S1x4x8x16x128x1, .f32⟩
  | 71 => ⟨S1x4x8x16x128x1, .f32⟩
  | 72 => ⟨S1x4x8x16x128x1, .f32⟩
  | 73 => ⟨S1x4x8x16x128x256, .f32⟩
  | 74 => ⟨S1x4x8x16x128x256, .f32⟩
  | 75 => ⟨S1x4x8x16x128x1, .f32⟩
  | 76 => ⟨S_, .f32⟩
  | 77 => ⟨S1x4x8x16x128x1, .f32⟩
  | 78 => ⟨S1x4x8x16x128x1, .f32⟩
  | 79 => ⟨S1x16x4x64x8x128, .f32⟩
  | 80 => ⟨S1x16x128x4x8x64, .f32⟩
  | 81 => ⟨S1x2048x2048, .f32⟩
  | 82 => ⟨S2048x2048, .f32⟩
  | 83 => ⟨S1x2048x2048, .f32⟩
  | 84 => ⟨S1x16x128x4x8x64, .f32⟩
  | 85 => ⟨S1x16x4x64x8x128, .f32⟩
  | 86 => ⟨S1x16x4x8x128x256, .f32⟩
  | 87 => ⟨S1x4x8x16x128x256, .f32⟩
  | 88 => ⟨S1x16x4x64x256, .f32⟩
  | 89 => ⟨S1x16x256x4x64, .f32⟩
  | 90 => ⟨S1x4x8x16x128x256, .f32⟩
  | 91 => ⟨S1x4x8x16x128x256, .f32⟩
  | 92 => ⟨S1x4x8x16x128x256, .f32⟩
  | 93 => ⟨S_, .f32⟩
  | 94 => ⟨S1x4x8x16x128, .f32⟩
  | 95 => ⟨S1x4x8x16x128x1, .f32⟩
  | 96 => ⟨S1x4x8x16x128x1, .f32⟩
  | 97 => ⟨S1x4x8x16x128x256, .f32⟩
  | 98 => ⟨S1x4x8x16x128x256, .f32⟩
  | 99 => ⟨S1x4x8x16x128x1, .f32⟩
  | 100 => ⟨S_, .f32⟩
  | 101 => ⟨S1x4x8x1, .f32⟩
  | 102 => ⟨S1x4x8x1x1x1, .f32⟩
  | 103 => ⟨S1x4x8x16x128x1, .f32⟩
  | 104 => ⟨S_, .f32⟩
  | 105 => ⟨S4x8, .f32⟩
  | 106 => ⟨S4x8x1x1x1, .f32⟩
  | 107 => ⟨S_, .f32⟩
  | 108 => ⟨S4x8x16x128, .f32⟩
  | 109 => ⟨S1x4x8x16x128, .f32⟩
  | 110 => ⟨S1x4x8x16x128x256, .f32⟩
  | 111 => ⟨S1x4x8x16x128x256, .f32⟩
  | 112 => ⟨S1x4x8x16x128x256, .f32⟩
  | 113 => ⟨S1x4x8x16x128x256, .f32⟩
  | 114 => ⟨S_, .f32⟩
  | 115 => ⟨S1x4x8x16x128, .f32⟩
  | 116 => ⟨S1x4x8x16x128x1, .f32⟩
  | 117 => ⟨S1x4x8x16x128x1, .f32⟩
  | 118 => ⟨S1x4x8x16x128x1, .f32⟩
  | 119 => ⟨S_, .f32⟩
  | 120 => ⟨S1x4x8x1, .f32⟩
  | 121 => ⟨S1x4x8x1x1x1, .f32⟩
  | 122 => ⟨S1x4x8x16x128x1, .f32⟩
  | 123 => ⟨S_, .f32⟩
  | 124 => ⟨S4x8, .f32⟩
  | 125 => ⟨S4x8x1x1x1, .f32⟩
  | 126 => ⟨S4x8x1x1x1, .f32⟩
  | 127 => ⟨S_, .f32⟩
  | _ => ⟨S2048x11776, .f32⟩

abbrev hbmTy0_2 (i : Nat) : BufTy := match i % 128 with
  | 0 => ⟨S4x8x16x128, .f32⟩
  | 1 => ⟨S1x4x8x16x128, .f32⟩
  | 2 => ⟨S1x4x8x16x128, .f32⟩
  | 3 => ⟨S1x4x8x16x128x256, .f32⟩
  | 4 => ⟨S1x4x8x16x128x256, .f32⟩
  | 5 => ⟨S1x4x8x16x128x256, .f32⟩
  | 6 => ⟨S32, .f32⟩
  | 7 => ⟨S_, .f32⟩
  | 8 => ⟨S1x4x8x16x128x256, .f32⟩
  | 9 => ⟨S1x4x8x16x128x256, .f32⟩
  | 10 => ⟨S_, .f32⟩
  | 11 => ⟨S1x4x8x16x128x256, .f32⟩
  | 12 => ⟨S1x4x8x16x128x256, .f32⟩
  | 13 => ⟨S1x4x16x256x128x8, .f32⟩
  | 14 => ⟨S1x4x16x128x8x64, .f32⟩
  | 15 => ⟨S1x16x128x4x8x64, .f32⟩
  | 16 => ⟨S1x4x16x256x64, .f32⟩
  | 17 => ⟨S1x16x256x4x64, .f32⟩
  | 18 => ⟨S1x16x128x4x64, .f32⟩
  | 19 => ⟨S1x16x128x4x64, .f32⟩
  | 20 => ⟨S1x1x128x4x64, .f32⟩
  | 21 => ⟨S1x15x128x4x64, .f32⟩
  | 22 => ⟨S_, .f32⟩
  | 23 => ⟨S1x16x128x4x64, .f32⟩
  | 24 => ⟨S1x16x128x4x64, .f32⟩
  | 25 => ⟨S1x2048x4x64, .f32⟩
  | 26 => ⟨S1x16x128x4x64, .f32⟩
  | 27 => ⟨S1x16x128x4x64, .f32⟩
  | 28 => ⟨S1x1x128x4x64, .f32⟩
  | 29 => ⟨S1x15x128x4x64, .f32⟩
  | 30 => ⟨S_, .f32⟩
  | 31 => ⟨S1x16x128x4x64, .f32⟩
  | 32 => ⟨S1x16x128x4x64, .f32⟩
  | 33 => ⟨S1x2048x4x64, .f32⟩
  | 34 => ⟨S1x2048x32x64, .f32⟩
  | 35 => ⟨S2048x256, .f32⟩
  | 36 => ⟨S2048x256, .f32⟩
  | 37 => ⟨S2048x2048, .f32⟩
  | 38 => ⟨S2048x2048, .bf16⟩
  | 39 => ⟨S1x32, .f32⟩
  | 40 => ⟨S_, .i32⟩
  | 41 => ⟨S_, .f32⟩
  | 42 => ⟨S8x128, .f32⟩
  | _ => ⟨S2048x11776, .f32⟩

abbrev hbmTy (i : Nat) : BufTy := match i / 128 with
  | 0 => hbmTy0_0 i
  | 1 => hbmTy0_1 i
  | 2 => hbmTy0_2 i
  | _ => ⟨S2048x11776, .f32⟩

abbrev bufTy : (tb : Table) → Fin (tcTables nBuf tb) → BufTy
  | .hbm, ⟨i, _⟩ => hbmTy i
  | _, _ => ⟨S2048x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_4 : Ref sig .tc := ⟨.hbm, 46, rfl⟩
abbrev main_v37 : Ref sig .tc := ⟨.hbm, 47, rfl⟩
abbrev main_v38 : Ref sig .tc := ⟨.hbm, 48, rfl⟩
abbrev main_c_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_6 : Ref sig .tc := ⟨.hbm, 56, rfl⟩
abbrev main_v45 : Ref sig .tc := ⟨.hbm, 57, rfl⟩
abbrev main_v46 : Ref sig .tc := ⟨.hbm, 58, rfl⟩
abbrev main_c_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_8 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_cst_10 : Ref sig .tc := ⟨.hbm, 71, rfl⟩
abbrev main_cst_11 : Ref sig .tc := ⟨.hbm, 72, rfl⟩
abbrev main_cst_12 : Ref sig .tc := ⟨.hbm, 73, rfl⟩
abbrev main_cst_13 : Ref sig .tc := ⟨.hbm, 74, rfl⟩
abbrev main_cst_14 : Ref sig .tc := ⟨.hbm, 75, rfl⟩
abbrev main_cst_15 : Ref sig .tc := ⟨.hbm, 76, rfl⟩
abbrev main_cst_16 : Ref sig .tc := ⟨.hbm, 77, rfl⟩
abbrev main_cst_17 : Ref sig .tc := ⟨.hbm, 78, rfl⟩
abbrev main_cst_18 : Ref sig .tc := ⟨.hbm, 79, rfl⟩
abbrev main_cst_19 : Ref sig .tc := ⟨.hbm, 80, rfl⟩
abbrev main_cst_20 : Ref sig .tc := ⟨.hbm, 81, rfl⟩
abbrev main_cst_21 : Ref sig .tc := ⟨.hbm, 82, rfl⟩
abbrev main_cst_22 : Ref sig .tc := ⟨.hbm, 83, rfl⟩
abbrev main_cst_23 : Ref sig .tc := ⟨.hbm, 84, rfl⟩
abbrev main_cst_24 : Ref sig .tc := ⟨.hbm, 85, rfl⟩
abbrev main_cst_25 : Ref sig .tc := ⟨.hbm, 86, rfl⟩
abbrev main_cst_26 : Ref sig .tc := ⟨.hbm, 87, rfl⟩
abbrev main_cst_27 : Ref sig .tc := ⟨.hbm, 88, rfl⟩
abbrev main_cst_28 : Ref sig .tc := ⟨.hbm, 89, rfl⟩
abbrev main_cst_29 : Ref sig .tc := ⟨.hbm, 90, rfl⟩
abbrev main_cst_30 : Ref sig .tc := ⟨.hbm, 91, rfl⟩
abbrev main_cst_31 : Ref sig .tc := ⟨.hbm, 92, rfl⟩
abbrev main_cst_32 : Ref sig .tc := ⟨.hbm, 93, rfl⟩
abbrev main_cst_33 : Ref sig .tc := ⟨.hbm, 94, rfl⟩
abbrev main_cst_34 : Ref sig .tc := ⟨.hbm, 95, rfl⟩
abbrev main_cst_35 : Ref sig .tc := ⟨.hbm, 96, rfl⟩
abbrev main_cst_36 : Ref sig .tc := ⟨.hbm, 97, rfl⟩
abbrev main_cst_37 : Ref sig .tc := ⟨.hbm, 98, rfl⟩
abbrev main_cst_38 : Ref sig .tc := ⟨.hbm, 99, rfl⟩
abbrev main_cst_39 : Ref sig .tc := ⟨.hbm, 100, rfl⟩
abbrev main_cst_40 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_41 : Ref sig .tc := ⟨.hbm, 146, rfl⟩
abbrev main_call0_v0 : Ref sig .tc := ⟨.hbm, 147, rfl⟩
abbrev main_v100_1 : Ref sig .tc := ⟨.hbm, 148, rfl⟩
abbrev main_call0_v2 : Ref sig .tc := ⟨.hbm, 149, rfl⟩
abbrev main_v100_0 : Ref sig .tc := ⟨.hbm, 150, rfl⟩
abbrev main_call0_cst : Ref sig .tc := ⟨.hbm, 151, rfl⟩
abbrev main_v100_2 : Ref sig .tc := ⟨.hbm, 152, rfl⟩
abbrev main_v101 : Ref sig .tc := ⟨.hbm, 153, rfl⟩
abbrev main_cst_42 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_cst_43 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_cst_44 : Ref sig .tc := ⟨.hbm, 170, rfl⟩
abbrev main_v116 : Ref sig .tc := ⟨.hbm, 171, rfl⟩
abbrev main_cst_45 : Ref sig .tc := ⟨.hbm, 172, rfl⟩
abbrev main_v117 : Ref sig .tc := ⟨.hbm, 173, rfl⟩
abbrev main_cst_46 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_cst_47 : Ref sig .tc := ⟨.hbm, 182, rfl⟩
abbrev main_v125 : Ref sig .tc := ⟨.hbm, 183, rfl⟩
abbrev main_cst_48 : Ref sig .tc := ⟨.hbm, 184, rfl⟩
abbrev main_v126 : Ref sig .tc := ⟨.hbm, 185, rfl⟩
abbrev main_cst_49 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_cst_50 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_cst_51 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_cst_52 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_cst_53 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_cst_54 : Ref sig .tc := ⟨.hbm, 232, rfl⟩
abbrev main_v168 : Ref sig .tc := ⟨.hbm, 233, rfl⟩
abbrev main_v169 : Ref sig .tc := ⟨.hbm, 234, rfl⟩
abbrev main_cst_55 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_cst_56 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_cst_57 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_cst_58 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_cst_59 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_call1_cst : Ref sig .tc := ⟨.hbm, 263, rfl⟩
abbrev main_call1_v0 : Ref sig .tc := ⟨.hbm, 264, rfl⟩
abbrev main_v193 : Ref sig .tc := ⟨.hbm, 265, rfl⟩
abbrev main_cst_60 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_cst_61 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_cst_62 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_c_63 : Ref sig .tc := ⟨.hbm, 296, rfl⟩
abbrev main_call2_v0 : Ref sig .tc := ⟨.hbm, 297, rfl⟩
abbrev main_v221 : Ref sig .tc := ⟨.hbm, 298, rfl⟩

abbrev nD : Nat := 1
abbrev τ : Topo := Topo.v7x

variable {F : FTy → Type} [FloatOps F]
-- ==== Kernel2.lean ====
abbrev S2048x2048 : Shape := ⟨2, ![2048, 2048]⟩
abbrev S2048x6144 : Shape := ⟨2, ![2048, 6144]⟩
abbrev S4x2048x1536 : Shape := ⟨3, ![4, 2048, 1536]⟩
abbrev S2048x512 : Shape := ⟨2, ![2048, 512]⟩
abbrev S2048x1536 : Shape := ⟨2, ![2048, 1536]⟩
abbrev S1x512x1536 : Shape := ⟨3, ![1, 512, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S4x2048x1536, .bf16⟩
  | .local _ .vmem, ⟨0, _⟩ => ⟨S2048x512, .bf16⟩
  | .local _ .vmem, ⟨1, _⟩ => ⟨S2048x512, .bf16⟩
  | .local _ .vmem, ⟨2, _⟩ => ⟨S2048x1536, .bf16⟩
  | .local _ .vmem, ⟨3, _⟩ => ⟨S2048x1536, .bf16⟩
  | .local _ .vmem, ⟨4, _⟩ => ⟨S1x512x1536, .bf16⟩
  | .local _ .vmem, ⟨5, _⟩ => ⟨S1x512x1536, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x2048 : Shape := ⟨2, ![2048, 2048]⟩
abbrev S2048x6144 : Shape := ⟨2, ![2048, 6144]⟩
abbrev S_ : Shape := ⟨0, ![]⟩
abbrev S6144x2048 : Shape := ⟨2, ![6144, 2048]⟩
abbrev S2048x4x1536 : Shape := ⟨3, ![2048, 4, 1536]⟩
abbrev S4x2048x1536 : Shape := ⟨3, ![4, 2048, 1536]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S_, .f32⟩
  | .hbm, ⟨3, _⟩ => ⟨S2048x6144, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | .hbm, ⟨10, _⟩ => ⟨S2048x4x1536, .bf16⟩
  | .hbm, ⟨11, _⟩ => ⟨S4x2048x1536, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S2048x2048 : Shape := ⟨2, ![2048, 2048]⟩
abbrev S4x2048x1536 : Shape := ⟨3, ![4, 2048, 1536]⟩
abbrev S2048x6144 : Shape := ⟨2, ![2048, 6144]⟩
abbrev S512x2048 : Shape := ⟨2, ![512, 2048]⟩
abbrev S1x2048x1536 : Shape := ⟨3, ![1, 2048, 1536]⟩
abbrev S512x1536 : Shape := ⟨2, ![512, 1536]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x1536, .bf16⟩
  | .hbm, ⟨2, _⟩ => ⟨S2048x6144, .f32⟩
  | .local _ .vmem, ⟨0, _⟩ => ⟨S512x2048, .bf16⟩
  | .local _ .vmem, ⟨1, _⟩ => ⟨S512x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S512x1536, .f32⟩
  | .local _ .vmem, ⟨5, _⟩ => ⟨S512x1536, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x2048 : Shape := ⟨2, ![2048, 2048]⟩
abbrev S4x2048x1536 : Shape := ⟨3, ![4, 2048, 1536]⟩
abbrev S2048x4x1536 : Shape := ⟨3, ![2048, 4, 1536]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1536, .bf16⟩
  | .hbm, ⟨2, _⟩ => ⟨S2048x4x1536, .bf16⟩
  | .hbm, ⟨3, _⟩ => ⟨S2048x6144, .bf16⟩
  | .hbm, ⟨4, _⟩ => ⟨S2048x2048, .f32⟩
  | .hbm, ⟨5, _⟩ => ⟨S2048x6144, .f32⟩
  | .hbm, ⟨6, _⟩ => ⟨S2048x6144, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S2048x6144 : Shape := ⟨2, ![2048, 6144]⟩
abbrev S2048x2048 : Shape := ⟨2, ![2048, 2048]⟩
abbrev S6144x2048 : Shape := ⟨2, ![6144, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S6144x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x6144 : Shape := ⟨2, ![2048, 6144]⟩
abbrev S2048x2048 : Shape := ⟨2, ![2048, 2048]⟩
abbrev S_ : Shape := ⟨0, ![]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S_, .f32⟩
  | .hbm, ⟨3, _⟩ => ⟨S6144x2048, .f32⟩
  | .hbm, ⟨4, _⟩ => ⟨S2048x6144, .f32⟩
  | .hbm, ⟨5, _⟩ => ⟨S2048x2048, .f32⟩
  | .hbm, ⟨6, _⟩ => ⟨S2048x2048, .f32⟩
  | .hbm, ⟨7, _⟩ => ⟨S2048x6144, .f32⟩
  | .hbm, ⟨8, _⟩ => ⟨S6144x2048, .f32⟩
  | .hbm, ⟨9, _⟩ => ⟨S6144x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x2048 : Shape := ⟨2, ![2048, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2048x2560 : Shape := ⟨2, ![2048, 2560]⟩
abbrev S2048x2048 : Shape := ⟨2, ![2048, 2048]⟩
abbrev S2560x2048 : Shape := ⟨2, ![2560, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2560, .bf16⟩
  | .hbm, ⟨1, _⟩ => ⟨S2048x2048, .bf16⟩
  | .hbm, ⟨2, _⟩ => ⟨S2560x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2560 : Shape := ⟨2, ![2048, 2560]⟩
abbrev S2048x2048 : Shape := ⟨2, ![2048, 2048]⟩
abbrev S_ : Shape := ⟨0, ![]⟩
abbrev S2560x2048 : Shape := ⟨2, ![2560, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2560, .bf16⟩
  | .hbm, ⟨1, _⟩ => ⟨S2048x2048, .bf16⟩
  | .hbm, ⟨2, _⟩ => ⟨S_, .f32⟩
  | .hbm, ⟨3, _⟩ => ⟨S2560x2048, .f32⟩
  | .hbm, ⟨4, _⟩ => ⟨S2048x2560, .f32⟩
  | .hbm, ⟨5, _⟩ => ⟨S2048x2048, .f32⟩
  | .hbm, ⟨6, _⟩ => ⟨S2048x2048, .f32⟩
  | .hbm, ⟨7, _⟩ => ⟨S2048x2560, .f32⟩
  | .hbm, ⟨8, _⟩ => ⟨S2560x2048, .f32⟩
  | .hbm, ⟨9, _⟩ => ⟨S2560x2048, .bf16⟩
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S2048x2560 : Shape := ⟨2, ![2048, 2560]⟩
abbrev S2560x2048 : Shape := ⟨2, ![2560, 2048]⟩
abbrev S2048x2048 : Shape := ⟨2, ![2048, 2048]⟩
abbrev S512x2560 : Shape := ⟨2, ![512, 2560]⟩
abbrev S2560x1024 : Shape := ⟨2, ![2560, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2560, .bf16⟩
  | .hbm, ⟨1, _⟩ => ⟨S2560x2048, .bf16⟩
  | .hbm, ⟨2, _⟩ => ⟨S2048x2048, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S2560x1024, .bf16⟩
  | .local _ .vmem, ⟨4, _⟩ => ⟨S512x1024, .f32⟩
  | .local _ .vmem, ⟨5, _⟩ => ⟨S512x1024, .f32⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2560 : Shape := ⟨2, ![2048, 2560]⟩
abbrev S2560x2048 : Shape := ⟨2, ![2560, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2560, .bf16⟩
  | .hbm, ⟨1, _⟩ => ⟨S2560x2048, .bf16⟩
  | .hbm, ⟨2, _⟩ => ⟨S2048x2560, .f32⟩
  | .hbm, ⟨3, _⟩ => ⟨S2560x2048, .f32⟩
  | .hbm, ⟨4, _⟩ => ⟨S2048x2048, .f32⟩
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S2048x1536 : Shape := ⟨2, ![2048, 1536]⟩
abbrev S128x1536 : Shape := ⟨2, ![128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel10Ideal.lean ====
abbrev S2048x1536 : Shape := ⟨2, ![2048, 1536]⟩
abbrev S128x1536 : Shape := ⟨2, ![128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S2048x2944 : Shape := ⟨2, ![2048, 2944]⟩
abbrev S64x2944 : Shape := ⟨2, ![64, 2944]⟩

abbrev nBuf : Space → Nat
  | .hbm => 8
  | .vmem => 16
  | .smem => 0
  | _ => 0

abbrev bufTy : (tb : Table) → Fin (tcTables nBuf tb) → BufTy
  | .hbm, ⟨0, _⟩ => ⟨S2048x2944, .f32⟩
  | .hbm, ⟨1, _⟩ => ⟨S2048x2944, .f32⟩
  | .hbm, ⟨2, _⟩ => ⟨S2048x2944, .f32⟩
  | .hbm, ⟨3, _⟩ => ⟨S2048x2944, .f32⟩
  | .hbm, ⟨4, _⟩ => ⟨S2048x2944, .f32⟩
  | .hbm, ⟨5, _⟩ => ⟨S2048x2944, .f32⟩
  | .hbm, ⟨6, _⟩ => ⟨S2048x2944, .f32⟩
  | .hbm, ⟨7, _⟩ => ⟨S2048x2944, .f32⟩
  | .local _ .vmem, ⟨0, _⟩ => ⟨S64x2944, .f32⟩
  | .local _ .vmem, ⟨1, _⟩ => ⟨S64x2944, .f32⟩
  | .local _ .vmem, ⟨2, _⟩ => ⟨S64x2944, .f32⟩
  | .local _ .vmem, ⟨3, _⟩ => ⟨S64x2944, .f32⟩
  | .local _ .vmem, ⟨4, _⟩ => ⟨S64x2944, .f32⟩
  | .local _ .vmem, ⟨5, _⟩ => ⟨S64x2944, .f32⟩
  | .local _ .vmem, ⟨6, _⟩ => ⟨S64x2944, .f32⟩
  | .local _ .vmem, ⟨7, _⟩ => ⟨S64x2944, .f32⟩
  | .local _ .vmem, ⟨8, _⟩ => ⟨S64x2944, .f32⟩
  | .local _ .vmem, ⟨9, _⟩ => ⟨S64x2944, .f32⟩
  | .local _ .vmem, ⟨10, _⟩ => ⟨S64x2944, .f32⟩
  | .local _ .vmem, ⟨11, _⟩ => ⟨S64x2944, .f32⟩
  | .local _ .vmem, ⟨12, _⟩ => ⟨S64x2944, .f32⟩
  | .local _ .vmem, ⟨13, _⟩ => ⟨S64x2944, .f32⟩
  | .local _ .vmem, ⟨14, _⟩ => ⟨S64x2944, .f32⟩
  | .local _ .vmem, ⟨15, _⟩ => ⟨S64x2944, .f32⟩
  | _, _ => ⟨S2048x2944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2944 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2944 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2944 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2944 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2944 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2944 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2944 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2944 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel11Ideal.lean ====
abbrev S2048x2944 : Shape := ⟨2, ![2048, 2944]⟩
abbrev S64x2944 : Shape := ⟨2, ![64, 2944]⟩

abbrev nBuf : Space → Nat
  | .hbm => 8
  | .vmem => 16
  | .smem => 0
  | _ => 0

abbrev bufTy : (tb : Table) → Fin (tcTables nBuf tb) → BufTy
  | .hbm, ⟨0, _⟩ => ⟨S2048x2944, .f32⟩
  | .hbm, ⟨1, _⟩ => ⟨S2048x2944, .f32⟩
  | .hbm, ⟨2, _⟩ => ⟨S2048x2944, .f32⟩
  | .hbm, ⟨3, _⟩ => ⟨S2048x2944, .f32⟩
  | .hbm, ⟨4, _⟩ => ⟨S2048x2944, .f32⟩
  | .hbm, ⟨5, _⟩ => ⟨S2048x2944, .f32⟩
  | .hbm, ⟨6, _⟩ => ⟨S2048x2944, .f32⟩
  | .hbm, ⟨7, _⟩ => ⟨S2048x2944, .f32⟩
  | .local _ .vmem, ⟨0, _⟩ => ⟨S64x2944, .f32⟩
  | .local _ .vmem, ⟨1, _⟩ => ⟨S64x2944, .f32⟩
  | .local _ .vmem, ⟨2, _⟩ => ⟨S64x2944, .f32⟩
  | .local _ .vmem, ⟨3, _⟩ => ⟨S64x2944, .f32⟩
  | .local _ .vmem, ⟨4, _⟩ => ⟨S64x2944, .f32⟩
  | .local _ .vmem, ⟨5, _⟩ => ⟨S64x2944, .f32⟩
  | .local _ .vmem, ⟨6, _⟩ => ⟨S64x2944, .f32⟩
  | .local _ .vmem, ⟨7, _⟩ => ⟨S64x2944, .f32⟩
  | .local _ .vmem, ⟨8, _⟩ => ⟨S64x2944, .f32⟩
  | .local _ .vmem, ⟨9, _⟩ => ⟨S64x2944, .f32⟩
  | .local _ .vmem, ⟨10, _⟩ => ⟨S64x2944, .f32⟩
  | .local _ .vmem, ⟨11, _⟩ => ⟨S64x2944, .f32⟩
  | .local _ .vmem, ⟨12, _⟩ => ⟨S64x2944, .f32⟩
  | .local _ .vmem, ⟨13, _⟩ => ⟨S64x2944, .f32⟩
  | .local _ .vmem, ⟨14, _⟩ => ⟨S64x2944, .f32⟩
  | .local _ .vmem, ⟨15, _⟩ => ⟨S64x2944, .f32⟩
  | _, _ => ⟨S2048x2944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2944 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2944 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2944 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2944 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2944 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2944 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2944 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2944 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S2048x2944 : Shape := ⟨2, ![2048, 2944]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2944, .f32⟩
  | .hbm, ⟨1, _⟩ => ⟨S2048x2944, .f32⟩
  | .hbm, ⟨2, _⟩ => ⟨S2048x2944, .f32⟩
  | .hbm, ⟨3, _⟩ => ⟨S2048x2944, .f32⟩
  | .hbm, ⟨4, _⟩ => ⟨S_, .f32⟩
  | .hbm, ⟨5, _⟩ => ⟨S2048x2944, .f32⟩
  | .hbm, ⟨6, _⟩ => ⟨S2048x2944, .f32⟩
  | .hbm, ⟨7, _⟩ => ⟨S_, .f32⟩
  | .hbm, ⟨8, _⟩ => ⟨S2048x2944, .f32⟩
  | .hbm, ⟨9, _⟩ => ⟨S2048x2944, .f32⟩
  | .hbm, ⟨10, _⟩ => ⟨S2048x2944, .f32⟩
  | .hbm, ⟨11, _⟩ => ⟨S_, .f32⟩
  | .hbm, ⟨12, _⟩ => ⟨S2048x2944, .f32⟩
  | .hbm, ⟨13, _⟩ => ⟨S2048x2944, .f32⟩
  | .hbm, ⟨14, _⟩ => ⟨S2048x2944, .f32⟩
  | .hbm, ⟨15, _⟩ => ⟨S_, .f32⟩
  | .hbm, ⟨16, _⟩ => ⟨S2048x2944, .f32⟩
  | .hbm, ⟨17, _⟩ => ⟨S2048x2944, .f32⟩
  | .hbm, ⟨18, _⟩ => ⟨S2048x2944, .f32⟩
  | .hbm, ⟨19, _⟩ => ⟨S_, .f32⟩
  | .hbm, ⟨20, _⟩ => ⟨S2048x2944, .f32⟩
  | .hbm, ⟨21, _⟩ => ⟨S2048x2944, .f32⟩
  | .hbm, ⟨22, _⟩ => ⟨S_, .f32⟩
  | .hbm, ⟨23, _⟩ => ⟨S2048x2944, .f32⟩
  | .hbm, ⟨24, _⟩ => ⟨S2048x2944, .f32⟩
  | .hbm, ⟨25, _⟩ => ⟨S2048x2944, .f32⟩
  | .hbm, ⟨26, _⟩ => ⟨S_, .f32⟩
  | .hbm, ⟨27, _⟩ => ⟨S2048x2944, .f32⟩
  | .hbm, ⟨28, _⟩ => ⟨S2048x2944, .f32⟩
  | .hbm, ⟨29, _⟩ => ⟨S2048x2944, .f32⟩
  | .hbm, ⟨30, _⟩ => ⟨S_, .f32⟩
  | .hbm, ⟨31, _⟩ => ⟨S2048x2944, .f32⟩
  | .hbm, ⟨32, _⟩ => ⟨S2048x2944, .f32⟩
  | .hbm, ⟨33, _⟩ => ⟨S2048x2944, .f32⟩
  | .hbm, ⟨34, _⟩ => ⟨S_, .f32⟩
  | .hbm, ⟨35, _⟩ => ⟨S2048x2944, .f32⟩
  | .hbm, ⟨36, _⟩ => ⟨S2048x2944, .f32⟩
  | _, _ => ⟨S2048x2944, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S512x2048 : Shape := ⟨2, ![512, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel12Ideal.lean ====
abbrev S512x2048 : Shape := ⟨2, ![512, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S640x2048 : Shape := ⟨2, ![640, 2048]⟩
abbrev S160x2048 : Shape := ⟨2, ![160, 2048]⟩

abbrev nBuf : Space → Nat
  | .hbm => 8
  | .vmem => 16
  | .smem => 0
  | _ => 0

abbrev bufTy : (tb : Table) → Fin (tcTables nBuf tb) → BufTy
  | .hbm, ⟨0, _⟩ => ⟨S640x2048, .f32⟩
  | .hbm, ⟨1, _⟩ => ⟨S640x2048, .f32⟩
  | .hbm, ⟨2, _⟩ => ⟨S640x2048, .f32⟩
  | .hbm, ⟨3, _⟩ => ⟨S640x2048, .f32⟩
  | .hbm, ⟨4, _⟩ => ⟨S640x2048, .f32⟩
  | .hbm, ⟨5, _⟩ => ⟨S640x2048, .f32⟩
  | .hbm, ⟨6, _⟩ => ⟨S640x2048, .f32⟩
  | .hbm, ⟨7, _⟩ => ⟨S640x2048, .f32⟩
  | .local _ .vmem, ⟨0, _⟩ => ⟨S160x2048, .f32⟩
  | .local _ .vmem, ⟨1, _⟩ => ⟨S160x2048, .f32⟩
  | .local _ .vmem, ⟨2, _⟩ => ⟨S160x2048, .f32⟩
  | .local _ .vmem, ⟨3, _⟩ => ⟨S160x2048, .f32⟩
  | .local _ .vmem, ⟨4, _⟩ => ⟨S160x2048, .f32⟩
  | .local _ .vmem, ⟨5, _⟩ => ⟨S160x2048, .f32⟩
  | .local _ .vmem, ⟨6, _⟩ => ⟨S160x2048, .f32⟩
  | .local _ .vmem, ⟨7, _⟩ => ⟨S160x2048, .f32⟩
  | .local _ .vmem, ⟨8, _⟩ => ⟨S160x2048, .f32⟩
  | .local _ .vmem, ⟨9, _⟩ => ⟨S160x2048, .f32⟩
  | .local _ .vmem, ⟨10, _⟩ => ⟨S160x2048, .f32⟩
  | .local _ .vmem, ⟨11, _⟩ => ⟨S160x2048, .f32⟩
  | .local _ .vmem, ⟨12, _⟩ => ⟨S160x2048, .f32⟩
  | .local _ .vmem, ⟨13, _⟩ => ⟨S160x2048, .f32⟩
  | .local _ .vmem, ⟨14, _⟩ => ⟨S160x2048, .f32⟩
  | .local _ .vmem, ⟨15, _⟩ => ⟨S160x2048, .f32⟩
  | _, _ => ⟨S640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel13Ideal.lean ====
abbrev S640x2048 : Shape := ⟨2, ![640, 2048]⟩
abbrev S160x2048 : Shape := ⟨2, ![160, 2048]⟩

abbrev nBuf : Space → Nat
  | .hbm => 8
  | .vmem => 16
  | .smem => 0
  | _ => 0

abbrev bufTy : (tb : Table) → Fin (tcTables nBuf tb) → BufTy
  | .hbm, ⟨0, _⟩ => ⟨S640x2048, .f32⟩
  | .hbm, ⟨1, _⟩ => ⟨S640x2048, .f32⟩
  | .hbm, ⟨2, _⟩ => ⟨S640x2048, .f32⟩
  | .hbm, ⟨3, _⟩ => ⟨S640x2048, .f32⟩
  | .hbm, ⟨4, _⟩ => ⟨S640x2048, .f32⟩
  | .hbm, ⟨5, _⟩ => ⟨S640x2048, .f32⟩
  | .hbm, ⟨6, _⟩ => ⟨S640x2048, .f32⟩
  | .hbm, ⟨7, _⟩ => ⟨S640x2048, .f32⟩
  | .local _ .vmem, ⟨0, _⟩ => ⟨S160x2048, .f32⟩
  | .local _ .vmem, ⟨1, _⟩ => ⟨S160x2048, .f32⟩
  | .local _ .vmem, ⟨2, _⟩ => ⟨S160x2048, .f32⟩
  | .local _ .vmem, ⟨3, _⟩ => ⟨S160x2048, .f32⟩
  | .local _ .vmem, ⟨4, _⟩ => ⟨S160x2048, .f32⟩
  | .local _ .vmem, ⟨5, _⟩ => ⟨S160x2048, .f32⟩
  | .local _ .vmem, ⟨6, _⟩ => ⟨S160x2048, .f32⟩
  | .local _ .vmem, ⟨7, _⟩ => ⟨S160x2048, .f32⟩
  | .local _ .vmem, ⟨8, _⟩ => ⟨S160x2048, .f32⟩
  | .local _ .vmem, ⟨9, _⟩ => ⟨S160x2048, .f32⟩
  | .local _ .vmem, ⟨10, _⟩ => ⟨S160x2048, .f32⟩
  | .local _ .vmem, ⟨11, _⟩ => ⟨S160x2048, .f32⟩
  | .local _ .vmem, ⟨12, _⟩ => ⟨S160x2048, .f32⟩
  | .local _ .vmem, ⟨13, _⟩ => ⟨S160x2048, .f32⟩
  | .local _ .vmem, ⟨14, _⟩ => ⟨S160x2048, .f32⟩
  | .local _ .vmem, ⟨15, _⟩ => ⟨S160x2048, .f32⟩
  | _, _ => ⟨S640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S640x2048 : Shape := ⟨2, ![640, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S640x2048, .f32⟩
  | .hbm, ⟨1, _⟩ => ⟨S640x2048, .f32⟩
  | .hbm, ⟨2, _⟩ => ⟨S640x2048, .f32⟩
  | .hbm, ⟨3, _⟩ => ⟨S640x2048, .f32⟩
  | .hbm, ⟨4, _⟩ => ⟨S_, .f32⟩
  | .hbm, ⟨5, _⟩ => ⟨S640x2048, .f32⟩
  | .hbm, ⟨6, _⟩ => ⟨S640x2048, .f32⟩
  | .hbm, ⟨7, _⟩ => ⟨S_, .f32⟩
  | .hbm, ⟨8, _⟩ => ⟨S640x2048, .f32⟩
  | .hbm, ⟨9, _⟩ => ⟨S640x2048, .f32⟩
  | .hbm, ⟨10, _⟩ => ⟨S640x2048, .f32⟩
  | .hbm, ⟨11, _⟩ => ⟨S_, .f32⟩
  | .hbm, ⟨12, _⟩ => ⟨S640x2048, .f32⟩
  | .hbm, ⟨13, _⟩ => ⟨S640x2048, .f32⟩
  | .hbm, ⟨14, _⟩ => ⟨S640x2048, .f32⟩
  | .hbm, ⟨15, _⟩ => ⟨S_, .f32⟩
  | .hbm, ⟨16, _⟩ => ⟨S640x2048, .f32⟩
  | .hbm, ⟨17, _⟩ => ⟨S640x2048, .f32⟩
  | .hbm, ⟨18, _⟩ => ⟨S640x2048, .f32⟩
  | .hbm, ⟨19, _⟩ => ⟨S_, .f32⟩
  | .hbm, ⟨20, _⟩ => ⟨S640x2048, .f32⟩
  | .hbm, ⟨21, _⟩ => ⟨S640x2048, .f32⟩
  | .hbm, ⟨22, _⟩ => ⟨S_, .f32⟩
  | .hbm, ⟨23, _⟩ => ⟨S640x2048, .f32⟩
  | .hbm, ⟨24, _⟩ => ⟨S640x2048, .f32⟩
  | .hbm, ⟨25, _⟩ => ⟨S640x2048, .f32⟩
  | .hbm, ⟨26, _⟩ => ⟨S_, .f32⟩
  | .hbm, ⟨27, _⟩ => ⟨S640x2048, .f32⟩
  | .hbm, ⟨28, _⟩ => ⟨S640x2048, .f32⟩
  | .hbm, ⟨29, _⟩ => ⟨S640x2048, .f32⟩
  | .hbm, ⟨30, _⟩ => ⟨S_, .f32⟩
  | .hbm, ⟨31, _⟩ => ⟨S640x2048, .f32⟩
  | .hbm, ⟨32, _⟩ => ⟨S640x2048, .f32⟩
  | .hbm, ⟨33, _⟩ => ⟨S640x2048, .f32⟩
  | .hbm, ⟨34, _⟩ => ⟨S_, .f32⟩
  | .hbm, ⟨35, _⟩ => ⟨S640x2048, .f32⟩
  | .hbm, ⟨36, _⟩ => ⟨S640x2048, .f32⟩
  | _, _ => ⟨S640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S1536x2048 : Shape := ⟨2, ![1536, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1536x2048, .f32⟩
  | .hbm, ⟨1, _⟩ => ⟨S1536x2048, .f32⟩
  | .hbm, ⟨2, _⟩ => ⟨S1536x2048, .f32⟩
  | .hbm, ⟨3, _⟩ => ⟨S1536x2048, .f32⟩
  | .hbm, ⟨4, _⟩ => ⟨S1536x2048, .f32⟩
  | .hbm, ⟨5, _⟩ => ⟨S1536x2048, .f32⟩
  | .hbm, ⟨6, _⟩ => ⟨S1536x2048, .f32⟩
  | .hbm, ⟨7, _⟩ => ⟨S1536x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel14Ideal.lean ====
abbrev S1536x2048 : Shape := ⟨2, ![1536, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1536x2048, .f32⟩
  | .hbm, ⟨1, _⟩ => ⟨S1536x2048, .f32⟩
  | .hbm, ⟨2, _⟩ => ⟨S1536x2048, .f32⟩
  | .hbm, ⟨3, _⟩ => ⟨S1536x2048, .f32⟩
  | .hbm, ⟨4, _⟩ => ⟨S1536x2048, .f32⟩
  | .hbm, ⟨5, _⟩ => ⟨S1536x2048, .f32⟩
  | .hbm, ⟨6, _⟩ => ⟨S1536x2048, .f32⟩
  | .hbm, ⟨7, _⟩ => ⟨S1536x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S1536x2048 : Shape := ⟨2, ![1536, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1536x2048, .f32⟩
  | .hbm, ⟨1, _⟩ => ⟨S1536x2048, .f32⟩
  | .hbm, ⟨2, _⟩ => ⟨S1536x2048, .f32⟩
  | .hbm, ⟨3, _⟩ => ⟨S1536x2048, .f32⟩
  | .hbm, ⟨4, _⟩ => ⟨S_, .f32⟩
  | .hbm, ⟨5, _⟩ => ⟨S1536x2048, .f32⟩
  | .hbm, ⟨6, _⟩ => ⟨S1536x2048, .f32⟩
  | .hbm, ⟨7, _⟩ => ⟨S_, .f32⟩
  | .hbm, ⟨8, _⟩ => ⟨S1536x2048, .f32⟩
  | .hbm, ⟨9, _⟩ => ⟨S1536x2048, .f32⟩
  | .hbm, ⟨10, _⟩ => ⟨S1536x2048, .f32⟩
  | .hbm, ⟨11, _⟩ => ⟨S_, .f32⟩
  | .hbm, ⟨12, _⟩ => ⟨S1536x2048, .f32⟩
  | .hbm, ⟨13, _⟩ => ⟨S1536x2048, .f32⟩
  | .hbm, ⟨14, _⟩ => ⟨S1536x2048, .f32⟩
  | .hbm, ⟨15, _⟩ => ⟨S_, .f32⟩
  | .hbm, ⟨16, _⟩ => ⟨S1536x2048, .f32⟩
  | .hbm, ⟨17, _⟩ => ⟨S1536x2048, .f32⟩
  | .hbm, ⟨18, _⟩ => ⟨S1536x2048, .f32⟩
  | .hbm, ⟨19, _⟩ => ⟨S_, .f32⟩
  | .hbm, ⟨20, _⟩ => ⟨S1536x2048, .f32⟩
  | .hbm, ⟨21, _⟩ => ⟨S1536x2048, .f32⟩
  | .hbm, ⟨22, _⟩ => ⟨S_, .f32⟩
  | .hbm, ⟨23, _⟩ => ⟨S1536x2048, .f32⟩
  | .hbm, ⟨24, _⟩ => ⟨S1536x2048, .f32⟩
  | .hbm, ⟨25, _⟩ => ⟨S1536x2048, .f32⟩
  | .hbm, ⟨26, _⟩ => ⟨S_, .f32⟩
  | .hbm, ⟨27, _⟩ => ⟨S1536x2048, .f32⟩
  | .hbm, ⟨28, _⟩ => ⟨S1536x2048, .f32⟩
  | .hbm, ⟨29, _⟩ => ⟨S1536x2048, .f32⟩
  | .hbm, ⟨30, _⟩ => ⟨S_, .f32⟩
  | .hbm, ⟨31, _⟩ => ⟨S1536x2048, .f32⟩
  | .hbm, ⟨32, _⟩ => ⟨S1536x2048, .f32⟩
  | .hbm, ⟨33, _⟩ => ⟨S1536x2048, .f32⟩
  | .hbm, ⟨34, _⟩ => ⟨S_, .f32⟩
  | .hbm, ⟨35, _⟩ => ⟨S1536x2048, .f32⟩
  | .hbm, ⟨36, _⟩ => ⟨S1536x2048, .f32⟩
  | _, _ => ⟨S1536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S2560x160 : Shape := ⟨2, ![2560, 160]⟩
abbrev S1280x160 : Shape := ⟨2, ![1280, 160]⟩

abbrev nBuf : Space → Nat
  | .hbm => 8
  | .vmem => 16
  | .smem => 0
  | _ => 0

abbrev bufTy : (tb : Table) → Fin (tcTables nBuf tb) → BufTy
  | .hbm, ⟨0, _⟩ => ⟨S2560x160, .f32⟩
  | .hbm, ⟨1, _⟩ => ⟨S2560x160, .f32⟩
  | .hbm, ⟨2, _⟩ => ⟨S2560x160, .f32⟩
  | .hbm, ⟨3, _⟩ => ⟨S2560x160, .f32⟩
  | .hbm, ⟨4, _⟩ => ⟨S2560x160, .f32⟩
  | .hbm, ⟨5, _⟩ => ⟨S2560x160, .f32⟩
  | .hbm, ⟨6, _⟩ => ⟨S2560x160, .f32⟩
  | .hbm, ⟨7, _⟩ => ⟨S2560x160, .f32⟩
  | .local _ .vmem, ⟨0, _⟩ => ⟨S1280x160, .f32⟩
  | .local _ .vmem, ⟨1, _⟩ => ⟨S1280x160, .f32⟩
  | .local _ .vmem, ⟨2, _⟩ => ⟨S1280x160, .f32⟩
  | .local _ .vmem, ⟨3, _⟩ => ⟨S1280x160, .f32⟩
  | .local _ .vmem, ⟨4, _⟩ => ⟨S1280x160, .f32⟩
  | .local _ .vmem, ⟨5, _⟩ => ⟨S1280x160, .f32⟩
  | .local _ .vmem, ⟨6, _⟩ => ⟨S1280x160, .f32⟩
  | .local _ .vmem, ⟨7, _⟩ => ⟨S1280x160, .f32⟩
  | .local _ .vmem, ⟨8, _⟩ => ⟨S1280x160, .f32⟩
  | .local _ .vmem, ⟨9, _⟩ => ⟨S1280x160, .f32⟩
  | .local _ .vmem, ⟨10, _⟩ => ⟨S1280x160, .f32⟩
  | .local _ .vmem, ⟨11, _⟩ => ⟨S1280x160, .f32⟩
  | .local _ .vmem, ⟨12, _⟩ => ⟨S1280x160, .f32⟩
  | .local _ .vmem, ⟨13, _⟩ => ⟨S1280x160, .f32⟩
  | .local _ .vmem, ⟨14, _⟩ => ⟨S1280x160, .f32⟩
  | .local _ .vmem, ⟨15, _⟩ => ⟨S1280x160, .f32⟩
  | _, _ => ⟨S2560x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1280x160 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x160 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1280x160 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1280x160 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1280x160 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel15Ideal.lean ====
abbrev S2560x160 : Shape := ⟨2, ![2560, 160]⟩
abbrev S1280x160 : Shape := ⟨2, ![1280, 160]⟩

abbrev nBuf : Space → Nat
  | .hbm => 8
  | .vmem => 16
  | .smem => 0
  | _ => 0

abbrev bufTy : (tb : Table) → Fin (tcTables nBuf tb) → BufTy
  | .hbm, ⟨0, _⟩ => ⟨S2560x160, .f32⟩
  | .hbm, ⟨1, _⟩ => ⟨S2560x160, .f32⟩
  | .hbm, ⟨2, _⟩ => ⟨S2560x160, .f32⟩
  | .hbm, ⟨3, _⟩ => ⟨S2560x160, .f32⟩
  | .hbm, ⟨4, _⟩ => ⟨S2560x160, .f32⟩
  | .hbm, ⟨5, _⟩ => ⟨S2560x160, .f32⟩
  | .hbm, ⟨6, _⟩ => ⟨S2560x160, .f32⟩
  | .hbm, ⟨7, _⟩ => ⟨S2560x160, .f32⟩
  | .local _ .vmem, ⟨0, _⟩ => ⟨S1280x160, .f32⟩
  | .local _ .vmem, ⟨1, _⟩ => ⟨S1280x160, .f32⟩
  | .local _ .vmem, ⟨2, _⟩ => ⟨S1280x160, .f32⟩
  | .local _ .vmem, ⟨3, _⟩ => ⟨S1280x160, .f32⟩
  | .local _ .vmem, ⟨4, _⟩ => ⟨S1280x160, .f32⟩
  | .local _ .vmem, ⟨5, _⟩ => ⟨S1280x160, .f32⟩
  | .local _ .vmem, ⟨6, _⟩ => ⟨S1280x160, .f32⟩
  | .local _ .vmem, ⟨7, _⟩ => ⟨S1280x160, .f32⟩
  | .local _ .vmem, ⟨8, _⟩ => ⟨S1280x160, .f32⟩
  | .local _ .vmem, ⟨9, _⟩ => ⟨S1280x160, .f32⟩
  | .local _ .vmem, ⟨10, _⟩ => ⟨S1280x160, .f32⟩
  | .local _ .vmem, ⟨11, _⟩ => ⟨S1280x160, .f32⟩
  | .local _ .vmem, ⟨12, _⟩ => ⟨S1280x160, .f32⟩
  | .local _ .vmem, ⟨13, _⟩ => ⟨S1280x160, .f32⟩
  | .local _ .vmem, ⟨14, _⟩ => ⟨S1280x160, .f32⟩
  | .local _ .vmem, ⟨15, _⟩ => ⟨S1280x160, .f32⟩
  | _, _ => ⟨S2560x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1280x160 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x160 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1280x160 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1280x160 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1280x160 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S2560x160 : Shape := ⟨2, ![2560, 160]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2560x160, .f32⟩
  | .hbm, ⟨1, _⟩ => ⟨S2560x160, .f32⟩
  | .hbm, ⟨2, _⟩ => ⟨S2560x160, .f32⟩
  | .hbm, ⟨3, _⟩ => ⟨S2560x160, .f32⟩
  | .hbm, ⟨4, _⟩ => ⟨S_, .f32⟩
  | .hbm, ⟨5, _⟩ => ⟨S2560x160, .f32⟩
  | .hbm, ⟨6, _⟩ => ⟨S2560x160, .f32⟩
  | .hbm, ⟨7, _⟩ => ⟨S_, .f32⟩
  | .hbm, ⟨8, _⟩ => ⟨S2560x160, .f32⟩
  | .hbm, ⟨9, _⟩ => ⟨S2560x160, .f32⟩
  | .hbm, ⟨10, _⟩ => ⟨S2560x160, .f32⟩
  | .hbm, ⟨11, _⟩ => ⟨S_, .f32⟩
  | .hbm, ⟨12, _⟩ => ⟨S2560x160, .f32⟩
  | .hbm, ⟨13, _⟩ => ⟨S2560x160, .f32⟩
  | .hbm, ⟨14, _⟩ => ⟨S2560x160, .f32⟩
  | .hbm, ⟨15, _⟩ => ⟨S_, .f32⟩
  | .hbm, ⟨16, _⟩ => ⟨S2560x160, .f32⟩
  | .hbm, ⟨17, _⟩ => ⟨S2560x160, .f32⟩
  | .hbm, ⟨18, _⟩ => ⟨S2560x160, .f32⟩
  | .hbm, ⟨19, _⟩ => ⟨S_, .f32⟩
  | .hbm, ⟨20, _⟩ => ⟨S2560x160, .f32⟩
  | .hbm, ⟨21, _⟩ => ⟨S2560x160, .f32⟩
  | .hbm, ⟨22, _⟩ => ⟨S_, .f32⟩
  | .hbm, ⟨23, _⟩ => ⟨S2560x160, .f32⟩
  | .hbm, ⟨24, _⟩ => ⟨S2560x160, .f32⟩
  | .hbm, ⟨25, _⟩ => ⟨S2560x160, .f32⟩
  | .hbm, ⟨26, _⟩ => ⟨S_, .f32⟩
  | .hbm, ⟨27, _⟩ => ⟨S2560x160, .f32⟩
  | .hbm, ⟨28, _⟩ => ⟨S2560x160, .f32⟩
  | .hbm, ⟨29, _⟩ => ⟨S2560x160, .f32⟩
  | .hbm, ⟨30, _⟩ => ⟨S_, .f32⟩
  | .hbm, ⟨31, _⟩ => ⟨S2560x160, .f32⟩
  | .hbm, ⟨32, _⟩ => ⟨S2560x160, .f32⟩
  | .hbm, ⟨33, _⟩ => ⟨S2560x160, .f32⟩
  | .hbm, ⟨34, _⟩ => ⟨S_, .f32⟩
  | .hbm, ⟨35, _⟩ => ⟨S2560x160, .f32⟩
  | .hbm, ⟨36, _⟩ => ⟨S2560x160, .f32⟩
  | _, _ => ⟨S2560x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S1x2560 : Shape := ⟨2, ![1, 2560]⟩

abbrev nBuf : Space → Nat
  | .hbm => 8
  | .vmem => 8
  | .smem => 0
  | _ => 0

abbrev bufTy : (tb : Table) → Fin (tcTables nBuf tb) → BufTy
  | .hbm, ⟨0, _⟩ => ⟨S1x2560, .f32⟩
  | .hbm, ⟨1, _⟩ => ⟨S1x2560, .f32⟩
  | .hbm, ⟨2, _⟩ => ⟨S1x2560, .f32⟩
  | .hbm, ⟨3, _⟩ => ⟨S1x2560, .f32⟩
  | .hbm, ⟨4, _⟩ => ⟨S1x2560, .f32⟩
  | .hbm, ⟨5, _⟩ => ⟨S1x2560, .f32⟩
  | .hbm, ⟨6, _⟩ => ⟨S1x2560, .f32⟩
  | .hbm, ⟨7, _⟩ => ⟨S1x2560, .f32⟩
  | .local _ .vmem, ⟨0, _⟩ => ⟨S1x2560, .f32⟩
  | .local _ .vmem, ⟨1, _⟩ => ⟨S1x2560, .f32⟩
  | .local _ .vmem, ⟨2, _⟩ => ⟨S1x2560, .f32⟩
  | .local _ .vmem, ⟨3, _⟩ => ⟨S1x2560, .f32⟩
  | .local _ .vmem, ⟨4, _⟩ => ⟨S1x2560, .f32⟩
  | .local _ .vmem, ⟨5, _⟩ => ⟨S1x2560, .f32⟩
  | .local _ .vmem, ⟨6, _⟩ => ⟨S1x2560, .f32⟩
  | .local _ .vmem, ⟨7, _⟩ => ⟨S1x2560, .f32⟩
  | _, _ => ⟨S1x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel16Ideal.lean ====
abbrev S1x2560 : Shape := ⟨2, ![1, 2560]⟩

abbrev nBuf : Space → Nat
  | .hbm => 8
  | .vmem => 8
  | .smem => 0
  | _ => 0

abbrev bufTy : (tb : Table) → Fin (tcTables nBuf tb) → BufTy
  | .hbm, ⟨0, _⟩ => ⟨S1x2560, .f32⟩
  | .hbm, ⟨1, _⟩ => ⟨S1x2560, .f32⟩
  | .hbm, ⟨2, _⟩ => ⟨S1x2560, .f32⟩
  | .hbm, ⟨3, _⟩ => ⟨S1x2560, .f32⟩
  | .hbm, ⟨4, _⟩ => ⟨S1x2560, .f32⟩
  | .hbm, ⟨5, _⟩ => ⟨S1x2560, .f32⟩
  | .hbm, ⟨6, _⟩ => ⟨S1x2560, .f32⟩
  | .hbm, ⟨7, _⟩ => ⟨S1x2560, .f32⟩
  | .local _ .vmem, ⟨0, _⟩ => ⟨S1x2560, .f32⟩
  | .local _ .vmem, ⟨1, _⟩ => ⟨S1x2560, .f32⟩
  | .local _ .vmem, ⟨2, _⟩ => ⟨S1x2560, .f32⟩
  | .local _ .vmem, ⟨3, _⟩ => ⟨S1x2560, .f32⟩
  | .local _ .vmem, ⟨4, _⟩ => ⟨S1x2560, .f32⟩
  | .local _ .vmem, ⟨5, _⟩ => ⟨S1x2560, .f32⟩
  | .local _ .vmem, ⟨6, _⟩ => ⟨S1x2560, .f32⟩
  | .local _ .vmem, ⟨7, _⟩ => ⟨S1x2560, .f32⟩
  | _, _ => ⟨S1x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S1x2560 : Shape := ⟨2, ![1, 2560]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2560, .f32⟩
  | .hbm, ⟨1, _⟩ => ⟨S1x2560, .f32⟩
  | .hbm, ⟨2, _⟩ => ⟨S1x2560, .f32⟩
  | .hbm, ⟨3, _⟩ => ⟨S1x2560, .f32⟩
  | .hbm, ⟨4, _⟩ => ⟨S_, .f32⟩
  | .hbm, ⟨5, _⟩ => ⟨S1x2560, .f32⟩
  | .hbm, ⟨6, _⟩ => ⟨S1x2560, .f32⟩
  | .hbm, ⟨7, _⟩ => ⟨S_, .f32⟩
  | .hbm, ⟨8, _⟩ => ⟨S1x2560, .f32⟩
  | .hbm, ⟨9, _⟩ => ⟨S1x2560, .f32⟩
  | .hbm, ⟨10, _⟩ => ⟨S1x2560, .f32⟩
  | .hbm, ⟨11, _⟩ => ⟨S_, .f32⟩
  | .hbm, ⟨12, _⟩ => ⟨S1x2560, .f32⟩
  | .hbm, ⟨13, _⟩ => ⟨S1x2560, .f32⟩
  | .hbm, ⟨14, _⟩ => ⟨S1x2560, .f32⟩
  | .hbm, ⟨15, _⟩ => ⟨S_, .f32⟩
  | .hbm, ⟨16, _⟩ => ⟨S1x2560, .f32⟩
  | .hbm, ⟨17, _⟩ => ⟨S1x2560, .f32⟩
  | .hbm, ⟨18, _⟩ => ⟨S1x2560, .f32⟩
  | .hbm, ⟨19, _⟩ => ⟨S_, .f32⟩
  | .hbm, ⟨20, _⟩ => ⟨S1x2560, .f32⟩
  | .hbm, ⟨21, _⟩ => ⟨S1x2560, .f32⟩
  | .hbm, ⟨22, _⟩ => ⟨S_, .f32⟩
  | .hbm, ⟨23, _⟩ => ⟨S1x2560, .f32⟩
  | .hbm, ⟨24, _⟩ => ⟨S1x2560, .f32⟩
  | .hbm, ⟨25, _⟩ => ⟨S1x2560, .f32⟩
  | .hbm, ⟨26, _⟩ => ⟨S_, .f32⟩
  | .hbm, ⟨27, _⟩ => ⟨S1x2560, .f32⟩
  | .hbm, ⟨28, _⟩ => ⟨S1x2560, .f32⟩
  | .hbm, ⟨29, _⟩ => ⟨S1x2560, .f32⟩
  | .hbm, ⟨30, _⟩ => ⟨S_, .f32⟩
  | .hbm, ⟨31, _⟩ => ⟨S1x2560, .f32⟩
  | .hbm, ⟨32, _⟩ => ⟨S1x2560, .f32⟩
  | .hbm, ⟨33, _⟩ => ⟨S1x2560, .f32⟩
  | .hbm, ⟨34, _⟩ => ⟨S_, .f32⟩
  | .hbm, ⟨35, _⟩ => ⟨S1x2560, .f32⟩
  | .hbm, ⟨36, _⟩ => ⟨S1x2560, .f32⟩
  | _, _ => ⟨S1x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel17Ideal.lean ====
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S1x4096 : Shape := ⟨2, ![1, 4096]⟩

abbrev nBuf : Space → Nat
  | .hbm => 8
  | .vmem => 8
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel18Ideal.lean ====
abbrev S1x4096 : Shape := ⟨2, ![1, 4096]⟩

abbrev nBuf : Space → Nat
  | .hbm => 8
  | .vmem => 8
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference18Ideal.lean ====
abbrev S1x4096 : Shape := ⟨2, ![1, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S_, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S_, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S_, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S_, .f32⟩
  | .hbm, ⟨20, _⟩ => ⟨S1x4096, .f32⟩
  | .hbm, ⟨21, _⟩ => ⟨S1x4096, .f32⟩
  | .hbm, ⟨22, _⟩ => ⟨S_, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S_, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S_, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S_, .f32⟩
  | .hbm, ⟨35, _⟩ => ⟨S1x4096, .f32⟩
  | .hbm, ⟨36, _⟩ => ⟨S1x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S4x640 : Shape := ⟨2, ![4, 640]⟩

abbrev nBuf : Space → Nat
  | .hbm => 8
  | .vmem => 8
  | .smem => 0
  | _ => 0

abbrev bufTy : (tb : Table) → Fin (tcTables nBuf tb) → BufTy
  | .hbm, ⟨0, _⟩ => ⟨S4x640, .f32⟩
  | .hbm, ⟨1, _⟩ => ⟨S4x640, .f32⟩
  | .hbm, ⟨2, _⟩ => ⟨S4x640, .f32⟩
  | .hbm, ⟨3, _⟩ => ⟨S4x640, .f32⟩
  | .hbm, ⟨4, _⟩ => ⟨S4x640, .f32⟩
  | .hbm, ⟨5, _⟩ => ⟨S4x640, .f32⟩
  | .hbm, ⟨6, _⟩ => ⟨S4x640, .f32⟩
  | .hbm, ⟨7, _⟩ => ⟨S4x640, .f32⟩
  | .local _ .vmem, ⟨0, _⟩ => ⟨S4x640, .f32⟩
  | .local _ .vmem, ⟨1, _⟩ => ⟨S4x640, .f32⟩
  | .local _ .vmem, ⟨2, _⟩ => ⟨S4x640, .f32⟩
  | .local _ .vmem, ⟨3, _⟩ => ⟨S4x640, .f32⟩
  | .local _ .vmem, ⟨4, _⟩ => ⟨S4x640, .f32⟩
  | .local _ .vmem, ⟨5, _⟩ => ⟨S4x640, .f32⟩
  | .local _ .vmem, ⟨6, _⟩ => ⟨S4x640, .f32⟩
  | .local _ .vmem, ⟨7, _⟩ => ⟨S4x640, .f32⟩
  | _, _ => ⟨S4x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel19Ideal.lean ====
abbrev S4x640 : Shape := ⟨2, ![4, 640]⟩

abbrev nBuf : Space → Nat
  | .hbm => 8
  | .vmem => 8
  | .smem => 0
  | _ => 0

abbrev bufTy : (tb : Table) → Fin (tcTables nBuf tb) → BufTy
  | .hbm, ⟨0, _⟩ => ⟨S4x640, .f32⟩
  | .hbm, ⟨1, _⟩ => ⟨S4x640, .f32⟩
  | .hbm, ⟨2, _⟩ => ⟨S4x640, .f32⟩
  | .hbm, ⟨3, _⟩ => ⟨S4x640, .f32⟩
  | .hbm, ⟨4, _⟩ => ⟨S4x640, .f32⟩
  | .hbm, ⟨5, _⟩ => ⟨S4x640, .f32⟩
  | .hbm, ⟨6, _⟩ => ⟨S4x640, .f32⟩
  | .hbm, ⟨7, _⟩ => ⟨S4x640, .f32⟩
  | .local _ .vmem, ⟨0, _⟩ => ⟨S4x640, .f32⟩
  | .local _ .vmem, ⟨1, _⟩ => ⟨S4x640, .f32⟩
  | .local _ .vmem, ⟨2, _⟩ => ⟨S4x640, .f32⟩
  | .local _ .vmem, ⟨3, _⟩ => ⟨S4x640, .f32⟩
  | .local _ .vmem, ⟨4, _⟩ => ⟨S4x640, .f32⟩
  | .local _ .vmem, ⟨5, _⟩ => ⟨S4x640, .f32⟩
  | .local _ .vmem, ⟨6, _⟩ => ⟨S4x640, .f32⟩
  | .local _ .vmem, ⟨7, _⟩ => ⟨S4x640, .f32⟩
  | _, _ => ⟨S4x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S4x640 : Shape := ⟨2, ![4, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x640, .f32⟩
  | .hbm, ⟨1, _⟩ => ⟨S4x640, .f32⟩
  | .hbm, ⟨2, _⟩ => ⟨S4x640, .f32⟩
  | .hbm, ⟨3, _⟩ => ⟨S4x640, .f32⟩
  | .hbm, ⟨4, _⟩ => ⟨S_, .f32⟩
  | .hbm, ⟨5, _⟩ => ⟨S4x640, .f32⟩
  | .hbm, ⟨6, _⟩ => ⟨S4x640, .f32⟩
  | .hbm, ⟨7, _⟩ => ⟨S_, .f32⟩
  | .hbm, ⟨8, _⟩ => ⟨S4x640, .f32⟩
  | .hbm, ⟨9, _⟩ => ⟨S4x640, .f32⟩
  | .hbm, ⟨10, _⟩ => ⟨S4x640, .f32⟩
  | .hbm, ⟨11, _⟩ => ⟨S_, .f32⟩
  | .hbm, ⟨12, _⟩ => ⟨S4x640, .f32⟩
  | .hbm, ⟨13, _⟩ => ⟨S4x640, .f32⟩
  | .hbm, ⟨14, _⟩ => ⟨S4x640, .f32⟩
  | .hbm, ⟨15, _⟩ => ⟨S_, .f32⟩
  | .hbm, ⟨16, _⟩ => ⟨S4x640, .f32⟩
  | .hbm, ⟨17, _⟩ => ⟨S4x640, .f32⟩
  | .hbm, ⟨18, _⟩ => ⟨S4x640, .f32⟩
  | .hbm, ⟨19, _⟩ => ⟨S_, .f32⟩
  | .hbm, ⟨20, _⟩ => ⟨S4x640, .f32⟩
  | .hbm, ⟨21, _⟩ => ⟨S4x640, .f32⟩
  | .hbm, ⟨22, _⟩ => ⟨S_, .f32⟩
  | .hbm, ⟨23, _⟩ => ⟨S4x640, .f32⟩
  | .hbm, ⟨24, _⟩ => ⟨S4x640, .f32⟩
  | .hbm, ⟨25, _⟩ => ⟨S4x640, .f32⟩
  | .hbm, ⟨26, _⟩ => ⟨S_, .f32⟩
  | .hbm, ⟨27, _⟩ => ⟨S4x640, .f32⟩
  | .hbm, ⟨28, _⟩ => ⟨S4x640, .f32⟩
  | .hbm, ⟨29, _⟩ => ⟨S4x640, .f32⟩
  | .hbm, ⟨30, _⟩ => ⟨S_, .f32⟩
  | .hbm, ⟨31, _⟩ => ⟨S4x640, .f32⟩
  | .hbm, ⟨32, _⟩ => ⟨S4x640, .f32⟩
  | .hbm, ⟨33, _⟩ => ⟨S4x640, .f32⟩
  | .hbm, ⟨34, _⟩ => ⟨S_, .f32⟩
  | .hbm, ⟨35, _⟩ => ⟨S4x640, .f32⟩
  | .hbm, ⟨36, _⟩ => ⟨S4x640, .f32⟩
  | _, _ => ⟨S4x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S1x32 : Shape := ⟨2, ![1, 32]⟩

abbrev nBuf : Space → Nat
  | .hbm => 8
  | .vmem => 8
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x32, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel20Ideal.lean ====
abbrev S1x32 : Shape := ⟨2, ![1, 32]⟩

abbrev nBuf : Space → Nat
  | .hbm => 8
  | .vmem => 8
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x32, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S1x32 : Shape := ⟨2, ![1, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S_, .f32⟩
  | .hbm, ⟨5, _⟩ => ⟨S1x32, .f32⟩
  | .hbm, ⟨6, _⟩ => ⟨S1x32, .f32⟩
  | .hbm, ⟨7, _⟩ => ⟨S_, .f32⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S_, .f32⟩
  | .hbm, ⟨12, _⟩ => ⟨S1x32, .f32⟩
  | .hbm, ⟨13, _⟩ => ⟨S1x32, .f32⟩
  | .hbm, ⟨14, _⟩ => ⟨S1x32, .f32⟩
  | .hbm, ⟨15, _⟩ => ⟨S_, .f32⟩
  | .hbm, ⟨16, _⟩ => ⟨S1x32, .f32⟩
  | .hbm, ⟨17, _⟩ => ⟨S1x32, .f32⟩
  | .hbm, ⟨18, _⟩ => ⟨S1x32, .f32⟩
  | .hbm, ⟨19, _⟩ => ⟨S_, .f32⟩
  | .hbm, ⟨20, _⟩ => ⟨S1x32, .f32⟩
  | .hbm, ⟨21, _⟩ => ⟨S1x32, .f32⟩
  | .hbm, ⟨22, _⟩ => ⟨S_, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S_, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S_, .f32⟩
  | .hbm, ⟨31, _⟩ => ⟨S1x32, .f32⟩
  | .hbm, ⟨32, _⟩ => ⟨S1x32, .f32⟩
  | .hbm, ⟨33, _⟩ => ⟨S1x32, .f32⟩
  | .hbm, ⟨34, _⟩ => ⟨S_, .f32⟩
  | .hbm, ⟨35, _⟩ => ⟨S1x32, .f32⟩
  | .hbm, ⟨36, _⟩ => ⟨S1x32, .f32⟩
  | _, _ => ⟨S1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S3x1536 : Shape := ⟨2, ![3, 1536]⟩

abbrev nBuf : Space → Nat
  | .hbm => 8
  | .vmem => 8
  | .smem => 0
  | _ => 0

abbrev bufTy : (tb : Table) → Fin (tcTables nBuf tb) → BufTy
  | .hbm, ⟨0, _⟩ => ⟨S3x1536, .f32⟩
  | .hbm, ⟨1, _⟩ => ⟨S3x1536, .f32⟩
  | .hbm, ⟨2, _⟩ => ⟨S3x1536, .f32⟩
  | .hbm, ⟨3, _⟩ => ⟨S3x1536, .f32⟩
  | .hbm, ⟨4, _⟩ => ⟨S3x1536, .f32⟩
  | .hbm, ⟨5, _⟩ => ⟨S3x1536, .f32⟩
  | .hbm, ⟨6, _⟩ => ⟨S3x1536, .f32⟩
  | .hbm, ⟨7, _⟩ => ⟨S3x1536, .f32⟩
  | .local _ .vmem, ⟨0, _⟩ => ⟨S3x1536, .f32⟩
  | .local _ .vmem, ⟨1, _⟩ => ⟨S3x1536, .f32⟩
  | .local _ .vmem, ⟨2, _⟩ => ⟨S3x1536, .f32⟩
  | .local _ .vmem, ⟨3, _⟩ => ⟨S3x1536, .f32⟩
  | .local _ .vmem, ⟨4, _⟩ => ⟨S3x1536, .f32⟩
  | .local _ .vmem, ⟨5, _⟩ => ⟨S3x1536, .f32⟩
  | .local _ .vmem, ⟨6, _⟩ => ⟨S3x1536, .f32⟩
  | .local _ .vmem, ⟨7, _⟩ => ⟨S3x1536, .f32⟩
  | _, _ => ⟨S3x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel21Ideal.lean ====
abbrev S3x1536 : Shape := ⟨2, ![3, 1536]⟩

abbrev nBuf : Space → Nat
  | .hbm => 8
  | .vmem => 8
  | .smem => 0
  | _ => 0

abbrev bufTy : (tb : Table) → Fin (tcTables nBuf tb) → BufTy
  | .hbm, ⟨0, _⟩ => ⟨S3x1536, .f32⟩
  | .hbm, ⟨1, _⟩ => ⟨S3x1536, .f32⟩
  | .hbm, ⟨2, _⟩ => ⟨S3x1536, .f32⟩
  | .hbm, ⟨3, _⟩ => ⟨S3x1536, .f32⟩
  | .hbm, ⟨4, _⟩ => ⟨S3x1536, .f32⟩
  | .hbm, ⟨5, _⟩ => ⟨S3x1536, .f32⟩
  | .hbm, ⟨6, _⟩ => ⟨S3x1536, .f32⟩
  | .hbm, ⟨7, _⟩ => ⟨S3x1536, .f32⟩
  | .local _ .vmem, ⟨0, _⟩ => ⟨S3x1536, .f32⟩
  | .local _ .vmem, ⟨1, _⟩ => ⟨S3x1536, .f32⟩
  | .local _ .vmem, ⟨2, _⟩ => ⟨S3x1536, .f32⟩
  | .local _ .vmem, ⟨3, _⟩ => ⟨S3x1536, .f32⟩
  | .local _ .vmem, ⟨4, _⟩ => ⟨S3x1536, .f32⟩
  | .local _ .vmem, ⟨5, _⟩ => ⟨S3x1536, .f32⟩
  | .local _ .vmem, ⟨6, _⟩ => ⟨S3x1536, .f32⟩
  | .local _ .vmem, ⟨7, _⟩ => ⟨S3x1536, .f32⟩
  | _, _ => ⟨S3x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S3x1536 : Shape := ⟨2, ![3, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x1536, .f32⟩
  | .hbm, ⟨1, _⟩ => ⟨S3x1536, .f32⟩
  | .hbm, ⟨2, _⟩ => ⟨S3x1536, .f32⟩
  | .hbm, ⟨3, _⟩ => ⟨S3x1536, .f32⟩
  | .hbm, ⟨4, _⟩ => ⟨S_, .f32⟩
  | .hbm, ⟨5, _⟩ => ⟨S3x1536, .f32⟩
  | .hbm, ⟨6, _⟩ => ⟨S3x1536, .f32⟩
  | .hbm, ⟨7, _⟩ => ⟨S_, .f32⟩
  | .hbm, ⟨8, _⟩ => ⟨S3x1536, .f32⟩
  | .hbm, ⟨9, _⟩ => ⟨S3x1536, .f32⟩
  | .hbm, ⟨10, _⟩ => ⟨S3x1536, .f32⟩
  | .hbm, ⟨11, _⟩ => ⟨S_, .f32⟩
  | .hbm, ⟨12, _⟩ => ⟨S3x1536, .f32⟩
  | .hbm, ⟨13, _⟩ => ⟨S3x1536, .f32⟩
  | .hbm, ⟨14, _⟩ => ⟨S3x1536, .f32⟩
  | .hbm, ⟨15, _⟩ => ⟨S_, .f32⟩
  | .hbm, ⟨16, _⟩ => ⟨S3x1536, .f32⟩
  | .hbm, ⟨17, _⟩ => ⟨S3x1536, .f32⟩
  | .hbm, ⟨18, _⟩ => ⟨S3x1536, .f32⟩
  | .hbm, ⟨19, _⟩ => ⟨S_, .f32⟩
  | .hbm, ⟨20, _⟩ => ⟨S3x1536, .f32⟩
  | .hbm, ⟨21, _⟩ => ⟨S3x1536, .f32⟩
  | .hbm, ⟨22, _⟩ => ⟨S_, .f32⟩
  | .hbm, ⟨23, _⟩ => ⟨S3x1536, .f32⟩
  | .hbm, ⟨24, _⟩ => ⟨S3x1536, .f32⟩
  | .hbm, ⟨25, _⟩ => ⟨S3x1536, .f32⟩
  | .hbm, ⟨26, _⟩ => ⟨S_, .f32⟩
  | .hbm, ⟨27, _⟩ => ⟨S3x1536, .f32⟩
  | .hbm, ⟨28, _⟩ => ⟨S3x1536, .f32⟩
  | .hbm, ⟨29, _⟩ => ⟨S3x1536, .f32⟩
  | .hbm, ⟨30, _⟩ => ⟨S_, .f32⟩
  | .hbm, ⟨31, _⟩ => ⟨S3x1536, .f32⟩
  | .hbm, ⟨32, _⟩ => ⟨S3x1536, .f32⟩
  | .hbm, ⟨33, _⟩ => ⟨S3x1536, .f32⟩
  | .hbm, ⟨34, _⟩ => ⟨S_, .f32⟩
  | .hbm, ⟨35, _⟩ => ⟨S3x1536, .f32⟩
  | .hbm, ⟨36, _⟩ => ⟨S3x1536, .f32⟩
  | _, _ => ⟨S3x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S1x6144 : Shape := ⟨2, ![1, 6144]⟩

abbrev nBuf : Space → Nat
  | .hbm => 8
  | .vmem => 8
  | .smem => 0
  | _ => 0

abbrev bufTy : (tb : Table) → Fin (tcTables nBuf tb) → BufTy
  | .hbm, ⟨0, _⟩ => ⟨S1x6144, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S1x6144, .f32⟩
  | .hbm, ⟨5, _⟩ => ⟨S1x6144, .f32⟩
  | .hbm, ⟨6, _⟩ => ⟨S1x6144, .f32⟩
  | .hbm, ⟨7, _⟩ => ⟨S1x6144, .f32⟩
  | .local _ .vmem, ⟨0, _⟩ => ⟨S1x6144, .f32⟩
  | .local _ .vmem, ⟨1, _⟩ => ⟨S1x6144, .f32⟩
  | .local _ .vmem, ⟨2, _⟩ => ⟨S1x6144, .f32⟩
  | .local _ .vmem, ⟨3, _⟩ => ⟨S1x6144, .f32⟩
  | .local _ .vmem, ⟨4, _⟩ => ⟨S1x6144, .f32⟩
  | .local _ .vmem, ⟨5, _⟩ => ⟨S1x6144, .f32⟩
  | .local _ .vmem, ⟨6, _⟩ => ⟨S1x6144, .f32⟩
  | .local _ .vmem, ⟨7, _⟩ => ⟨S1x6144, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel22Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference22Ideal.lean ====
abbrev S1x6144 : Shape := ⟨2, ![1, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x6144, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S_, .f32⟩
  | .hbm, ⟨5, _⟩ => ⟨S1x6144, .f32⟩
  | .hbm, ⟨6, _⟩ => ⟨S1x6144, .f32⟩
  | .hbm, ⟨7, _⟩ => ⟨S_, .f32⟩
  | .hbm, ⟨8, _⟩ => ⟨S1x6144, .f32⟩
  | .hbm, ⟨9, _⟩ => ⟨S1x6144, .f32⟩
  | .hbm, ⟨10, _⟩ => ⟨S1x6144, .f32⟩
  | .hbm, ⟨11, _⟩ => ⟨S_, .f32⟩
  | .hbm, ⟨12, _⟩ => ⟨S1x6144, .f32⟩
  | .hbm, ⟨13, _⟩ => ⟨S1x6144, .f32⟩
  | .hbm, ⟨14, _⟩ => ⟨S1x6144, .f32⟩
  | .hbm, ⟨15, _⟩ => ⟨S_, .f32⟩
  | .hbm, ⟨16, _⟩ => ⟨S1x6144, .f32⟩
  | .hbm, ⟨17, _⟩ => ⟨S1x6144, .f32⟩
  | .hbm, ⟨18, _⟩ => ⟨S1x6144, .f32⟩
  | .hbm, ⟨19, _⟩ => ⟨S_, .f32⟩
  | .hbm, ⟨20, _⟩ => ⟨S1x6144, .f32⟩
  | .hbm, ⟨21, _⟩ => ⟨S1x6144, .f32⟩
  | .hbm, ⟨22, _⟩ => ⟨S_, .f32⟩
  | .hbm, ⟨23, _⟩ => ⟨S1x6144, .f32⟩
  | .hbm, ⟨24, _⟩ => ⟨S1x6144, .f32⟩
  | .hbm, ⟨25, _⟩ => ⟨S1x6144, .f32⟩
  | .hbm, ⟨26, _⟩ => ⟨S_, .f32⟩
  | .hbm, ⟨27, _⟩ => ⟨S1x6144, .f32⟩
  | .hbm, ⟨28, _⟩ => ⟨S1x6144, .f32⟩
  | .hbm, ⟨29, _⟩ => ⟨S1x6144, .f32⟩
  | .hbm, ⟨30, _⟩ => ⟨S_, .f32⟩
  | .hbm, ⟨31, _⟩ => ⟨S1x6144, .f32⟩
  | .hbm, ⟨32, _⟩ => ⟨S1x6144, .f32⟩
  | .hbm, ⟨33, _⟩ => ⟨S1x6144, .f32⟩
  | .hbm, ⟨34, _⟩ => ⟨S_, .f32⟩
  | .hbm, ⟨35, _⟩ => ⟨S1x6144, .f32⟩
  | .hbm, ⟨36, _⟩ => ⟨S1x6144, .f32⟩
  | _, _ => ⟨S1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2048x6144 : Shape := ⟨2, ![2048, 6144]⟩
abbrev S6144x2048 : Shape := ⟨2, ![6144, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S6144x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S2048x6144 : Shape := ⟨2, ![2048, 6144]⟩
abbrev S6144x2048 : Shape := ⟨2, ![6144, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S6144x2048, .bf16⟩
  | .hbm, ⟨2, _⟩ => ⟨S2048x6144, .f32⟩
  | .hbm, ⟨3, _⟩ => ⟨S6144x2048, .f32⟩
  | .hbm, ⟨4, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel24.lean ====
abbrev S2048x6144 : Shape := ⟨2, ![2048, 6144]⟩
abbrev S4x2048x1536 : Shape := ⟨3, ![4, 2048, 1536]⟩
abbrev S2048x2048 : Shape := ⟨2, ![2048, 2048]⟩
abbrev S1024x1536 : Shape := ⟨2, ![1024, 1536]⟩
abbrev S1x1024x1536 : Shape := ⟨3, ![1, 1024, 1536]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x6144, .bf16⟩
  | .hbm, ⟨1, _⟩ => ⟨S4x2048x1536, .bf16⟩
  | .hbm, ⟨2, _⟩ => ⟨S2048x2048, .f32⟩
  | .hbm, ⟨3, _⟩ => ⟨S2048x2048, .f32⟩
  | .local _ .vmem, ⟨0, _⟩ => ⟨S1024x1536, .bf16⟩
  | .local _ .vmem, ⟨1, _⟩ => ⟨S1024x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference24Ideal.lean ====
abbrev S2048x6144 : Shape := ⟨2, ![2048, 6144]⟩
abbrev S4x2048x1536 : Shape := ⟨3, ![4, 2048, 1536]⟩
abbrev S2048x2048 : Shape := ⟨2, ![2048, 2048]⟩
abbrev S2048x4x1536 : Shape := ⟨3, ![2048, 4, 1536]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S4x2048x1536, .bf16⟩
  | .hbm, ⟨2, _⟩ => ⟨S2048x2048, .f32⟩
  | .hbm, ⟨3, _⟩ => ⟨S2048x4x1536, .bf16⟩
  | .hbm, ⟨4, _⟩ => ⟨S2048x6144, .bf16⟩
  | .hbm, ⟨5, _⟩ => ⟨S_, .f32⟩
  | .hbm, ⟨6, _⟩ => ⟨S2048x2048, .f32⟩
  | .hbm, ⟨7, _⟩ => ⟨S2048x6144, .f32⟩
  | .hbm, ⟨8, _⟩ => ⟨S2048x6144, .f32⟩
  | .hbm, ⟨9, _⟩ => ⟨S2048x6144, .f32⟩
  | .hbm, ⟨10, _⟩ => ⟨S2048x2048, .f32⟩
  | .hbm, ⟨11, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel25.lean ====
abbrev S2048x2048 : Shape := ⟨2, ![2048, 2048]⟩
abbrev S4x2048x2944 : Shape := ⟨3, ![4, 2048, 2944]⟩
abbrev S4 : Shape := ⟨1, ![4]⟩
abbrev S8x128 : Shape := ⟨2, ![8, 128]⟩
abbrev S2048x11776 : Shape := ⟨2, ![2048, 11776]⟩
abbrev S512x2048 : Shape := ⟨2, ![512, 2048]⟩
abbrev S1x2048x2944 : Shape := ⟨3, ![1, 2048, 2944]⟩
abbrev S1 : Shape := ⟨1, ![1]⟩
abbrev S512x2944 : Shape := ⟨2, ![512, 2944]⟩
abbrev S2048x2944 : Shape := ⟨2, ![2048, 2944]⟩

abbrev nBuf : Space → Nat
  | .hbm => 5
  | .vmem => 6
  | .smem => 1
  | _ => 0

abbrev bufTy : (tb : Table) → Fin (tcTables nBuf tb) → BufTy
  | .hbm, ⟨0, _⟩ => ⟨S2048x2048, .bf16⟩
  | .hbm, ⟨1, _⟩ => ⟨S4x2048x2944, .bf16⟩
  | .hbm, ⟨2, _⟩ => ⟨S8x128, .f32⟩
  | .hbm, ⟨3, _⟩ => ⟨S2048x11776, .f32⟩
  | .hbm, ⟨4, _⟩ => ⟨S2048x11776, .f32⟩
  | .local _ .vmem, ⟨0, _⟩ => ⟨S512x2048, .bf16⟩
  | .local _ .vmem, ⟨1, _⟩ => ⟨S512x2048, .bf16⟩
  | .local _ .vmem, ⟨2, _⟩ => ⟨S1x2048x2944, .bf16⟩
  | .local _ .vmem, ⟨3, _⟩ => ⟨S1x2048x2944, .bf16⟩
  | .local _ .vmem, ⟨4, _⟩ => ⟨S512x2944, .f32⟩
  | .local _ .vmem, ⟨5, _⟩ => ⟨S512x2944, .f32⟩
  | .local _ .smem, ⟨0, _⟩ => ⟨S4, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c1_i32 : BitVec 32 := 1#32
  let arg0 : BitVec 32 := BitVec.ofNat 32 (i 0).val
  let v0 : BitVec 32 := Scalar.addi c1_i32 arg0
  let v1 : Index := Scalar.indexCast v0
  ![v1.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_4 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0_i32 : BitVec 32 := 0#32
  ![arg1.toNat, v2.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2944 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference25Ideal.lean ====
abbrev S2048x2048 : Shape := ⟨2, ![2048, 2048]⟩
abbrev S4x2048x2944 : Shape := ⟨3, ![4, 2048, 2944]⟩
abbrev S4 : Shape := ⟨1, ![4]⟩
abbrev S8x128 : Shape := ⟨2, ![8, 128]⟩
abbrev S2048x11776 : Shape := ⟨2, ![2048, 11776]⟩
abbrev S2048x4x2944 : Shape := ⟨3, ![2048, 4, 2944]⟩
abbrev S1 : Shape := ⟨1, ![1]⟩
abbrev S_ : Shape := ⟨0, ![]⟩
abbrev S1x4x1 : Shape := ⟨3, ![1, 4, 1]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2944, .bf16⟩
  | .hbm, ⟨2, _⟩ => ⟨S4, .i32⟩
  | .hbm, ⟨3, _⟩ => ⟨S8x128, .f32⟩
  | .hbm, ⟨4, _⟩ => ⟨S2048x11776, .f32⟩
  | .hbm, ⟨5, _⟩ => ⟨S2048x2048, .f32⟩
  | .hbm, ⟨6, _⟩ => ⟨S4x2048x2944, .f32⟩
  | .hbm, ⟨7, _⟩ => ⟨S2048x4x2944, .f32⟩
  | .hbm, ⟨8, _⟩ => ⟨S4, .i32⟩
  | .hbm, ⟨9, _⟩ => ⟨S1, .i32⟩
  | .hbm, ⟨10, _⟩ => ⟨S_, .i32⟩
  | .hbm, ⟨11, _⟩ => ⟨S4, .i32⟩
  | .hbm, ⟨12, _⟩ => ⟨S4, .i1⟩
  | .hbm, ⟨13, _⟩ => ⟨S1, .i32⟩
  | .hbm, ⟨14, _⟩ => ⟨S_, .i32⟩
  | .hbm, ⟨15, _⟩ => ⟨S4, .i32⟩
  | .hbm, ⟨16, _⟩ => ⟨S4, .i1⟩
  | .hbm, ⟨17, _⟩ => ⟨S4, .i1⟩
  | .hbm, ⟨18, _⟩ => ⟨S1x4x1, .i1⟩
  | .hbm, ⟨19, _⟩ => ⟨S2048x4x2944, .f32⟩
  | .hbm, ⟨20, _⟩ => ⟨S2048x4x2944, .i1⟩
  | .hbm, ⟨21, _⟩ => ⟨S2048x4x2944, .f32⟩
  | .hbm, ⟨22, _⟩ => ⟨S2048x11776, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel26.lean ====
abbrev S2048x2048 : Shape := ⟨2, ![2048, 2048]⟩
abbrev S4x2048x2944 : Shape := ⟨3, ![4, 2048, 2944]⟩
abbrev S4 : Shape := ⟨1, ![4]⟩
abbrev S8x128 : Shape := ⟨2, ![8, 128]⟩
abbrev S2048x11776 : Shape := ⟨2, ![2048, 11776]⟩
abbrev S512x2048 : Shape := ⟨2, ![512, 2048]⟩
abbrev S1x2048x2944 : Shape := ⟨3, ![1, 2048, 2944]⟩
abbrev S1 : Shape := ⟨1, ![1]⟩
abbrev S512x2944 : Shape := ⟨2, ![512, 2944]⟩
abbrev S2048x2944 : Shape := ⟨2, ![2048, 2944]⟩

abbrev nBuf : Space → Nat
  | .hbm => 5
  | .vmem => 5
  | .smem => 1
  | _ => 0

abbrev bufTy : (tb : Table) → Fin (tcTables nBuf tb) → BufTy
  | .hbm, ⟨0, _⟩ => ⟨S2048x2048, .bf16⟩
  | .hbm, ⟨1, _⟩ => ⟨S4x2048x2944, .bf16⟩
  | .hbm, ⟨2, _⟩ => ⟨S8x128, .f32⟩
  | .hbm, ⟨3, _⟩ => ⟨S2048x11776, .f32⟩
  | .hbm, ⟨4, _⟩ => ⟨S2048x11776, .f32⟩
  | .local _ .vmem, ⟨0, _⟩ => ⟨S512x2048, .bf16⟩
  | .local _ .vmem, ⟨1, _⟩ => ⟨S512x2048, .bf16⟩
  | .local _ .vmem, ⟨2, _⟩ => ⟨S1x2048x2944, .bf16⟩
  | .local _ .vmem, ⟨3, _⟩ => ⟨S512x2944, .f32⟩
  | .local _ .vmem, ⟨4, _⟩ => ⟨S512x2944, .f32⟩
  | .local _ .smem, ⟨0, _⟩ => ⟨S4, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c3_i32 : BitVec 32 := 3#32
  let arg0 : BitVec 32 := BitVec.ofNat 32 (i 0).val
  let v0 : BitVec 32 := Scalar.addi c3_i32 arg0
  let v1 : Index := Scalar.indexCast v0
  ![v1.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_4 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let v1 : Index := Scalar.indexCast v0
  let v2 : BitVec 32 := pf.at 0 (Rect.unit (s := S4) ![v1.toNat] S1.size (k0_off1_inb i)) numel1_S1
  let c0_i32 : BitVec 32 := 0#32
  ![arg1.toNat, v2.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x2944 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2944 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference26Ideal.lean ====
abbrev S2048x2048 : Shape := ⟨2, ![2048, 2048]⟩
abbrev S4x2048x2944 : Shape := ⟨3, ![4, 2048, 2944]⟩
abbrev S4 : Shape := ⟨1, ![4]⟩
abbrev S8x128 : Shape := ⟨2, ![8, 128]⟩
abbrev S2048x11776 : Shape := ⟨2, ![2048, 11776]⟩
abbrev S2048x4x2944 : Shape := ⟨3, ![2048, 4, 2944]⟩
abbrev S1 : Shape := ⟨1, ![1]⟩
abbrev S_ : Shape := ⟨0, ![]⟩
abbrev S1x4x1 : Shape := ⟨3, ![1, 4, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2944, .bf16⟩
  | .hbm, ⟨2, _⟩ => ⟨S4, .i32⟩
  | .hbm, ⟨3, _⟩ => ⟨S8x128, .f32⟩
  | .hbm, ⟨4, _⟩ => ⟨S2048x11776, .f32⟩
  | .hbm, ⟨5, _⟩ => ⟨S2048x2048, .f32⟩
  | .hbm, ⟨6, _⟩ => ⟨S4x2048x2944, .f32⟩
  | .hbm, ⟨7, _⟩ => ⟨S2048x4x2944, .f32⟩
  | .hbm, ⟨8, _⟩ => ⟨S4, .i32⟩
  | .hbm, ⟨9, _⟩ => ⟨S1, .i32⟩
  | .hbm, ⟨10, _⟩ => ⟨S_, .i32⟩
  | .hbm, ⟨11, _⟩ => ⟨S4, .i32⟩
  | .hbm, ⟨12, _⟩ => ⟨S4, .i1⟩
  | .hbm, ⟨13, _⟩ => ⟨S1x4x1, .i1⟩
  | .hbm, ⟨14, _⟩ => ⟨S2048x4x2944, .f32⟩
  | .hbm, ⟨15, _⟩ => ⟨S2048x4x2944, .i1⟩
  | .hbm, ⟨16, _⟩ => ⟨S2048x4x2944, .f32⟩
  | .hbm, ⟨17, _⟩ => ⟨S2048x11776, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel27.lean ====
abbrev S2048x11776 : Shape := ⟨2, ![2048, 11776]⟩
abbrev S1x4096 : Shape := ⟨2, ![1, 4096]⟩
abbrev S2048x2048 : Shape := ⟨2, ![2048, 2048]⟩
abbrev S1x2048 : Shape := ⟨2, ![1, 2048]⟩
abbrev S256x512 : Shape := ⟨2, ![256, 512]⟩
abbrev S1x512 : Shape := ⟨2, ![1, 512]⟩
abbrev S512 : Shape := ⟨1, ![512]⟩

abbrev nBuf : Space → Nat
  | .hbm => 11
  | .vmem => 26
  | .smem => 0
  | _ => 0

abbrev bufTy : (tb : Table) → Fin (tcTables nBuf tb) → BufTy
  | .hbm, ⟨0, _⟩ => ⟨S2048x11776, .f32⟩
  | .hbm, ⟨1, _⟩ => ⟨S1x4096, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S1x2048, .f32⟩
  | .hbm, ⟨10, _⟩ => ⟨S1x2048, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | _, _ => ⟨S2048x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference27Ideal.lean ====
abbrev S2048x11776 : Shape := ⟨2, ![2048, 11776]⟩
abbrev S1x4096 : Shape := ⟨2, ![1, 4096]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩

abbrev nBuf : Space → Nat
  | .hbm => 58
  | .vmem => 0
  | .smem => 0
  | _ => 0

abbrev bufTy : (tb : Table) → Fin (tcTables nBuf tb) → BufTy
  | .hbm, ⟨0, _⟩ => ⟨S2048x11776, .f32⟩
  | .hbm, ⟨1, _⟩ => ⟨S1x4096, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S2048x2048, .bf16⟩
  | .hbm, ⟨55, _⟩ => ⟨S2048x2048, .bf16⟩
  | .hbm, ⟨56, _⟩ => ⟨S2048x2048, .bf16⟩
  | .hbm, ⟨57, _⟩ => ⟨S2048x2048, .bf16⟩
  | _, _ => ⟨S2048x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel28.lean ====
abbrev S2048x11776 : Shape := ⟨2, ![2048, 11776]⟩
abbrev S1x4096 : Shape := ⟨2, ![1, 4096]⟩
abbrev S2048x2048 : Shape := ⟨2, ![2048, 2048]⟩
abbrev S256x512 : Shape := ⟨2, ![256, 512]⟩
abbrev S1x512 : Shape := ⟨2, ![1, 512]⟩

abbrev nBuf : Space → Nat
  | .hbm => 5
  | .vmem => 14
  | .smem => 0
  | _ => 0

abbrev bufTy : (tb : Table) → Fin (tcTables nBuf tb) → BufTy
  | .hbm, ⟨0, _⟩ => ⟨S2048x11776, .f32⟩
  | .hbm, ⟨1, _⟩ => ⟨S1x4096, .f32⟩
  | .hbm, ⟨2, _⟩ => ⟨S2048x2048, .f32⟩
  | .hbm, ⟨3, _⟩ => ⟨S2048x2048, .f32⟩
  | .hbm, ⟨4, _⟩ => ⟨S2048x2048, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .bf16⟩
  | .local _ .vmem, ⟨13, _⟩ => ⟨S256x512, .bf16⟩
  | _, _ => ⟨S2048x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference28Ideal.lean ====
abbrev S2048x11776 : Shape := ⟨2, ![2048, 11776]⟩
abbrev S1x4096 : Shape := ⟨2, ![1, 4096]⟩
abbrev S2048x2048 : Shape := ⟨2, ![2048, 2048]⟩
abbrev S1x2048 : Shape := ⟨2, ![1, 2048]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2048x11776, .f32⟩
  | .hbm, ⟨1, _⟩ => ⟨S1x4096, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S1x2048, .f32⟩
  | .hbm, ⟨7, _⟩ => ⟨S1x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .bf16⟩
  | _, _ => ⟨S2048x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel29.lean ====
abbrev S2048x2048 : Shape := ⟨2, ![2048, 2048]⟩
abbrev S2048x1 : Shape := ⟨2, ![2048, 1]⟩
abbrev S1x2048 : Shape := ⟨2, ![1, 2048]⟩
abbrev S256x2048 : Shape := ⟨2, ![256, 2048]⟩
abbrev S256x1 : Shape := ⟨2, ![256, 1]⟩
abbrev S2048 : Shape := ⟨1, ![2048]⟩
abbrev S256 : Shape := ⟨1, ![256]⟩

abbrev nBuf : Space → Nat
  | .hbm => 8
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x1, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference29Ideal.lean ====
abbrev S2048x2048 : Shape := ⟨2, ![2048, 2048]⟩
abbrev S2048x1 : Shape := ⟨2, ![2048, 1]⟩
abbrev S1x2048 : Shape := ⟨2, ![1, 2048]⟩
abbrev S_ : Shape := ⟨0, ![]⟩
abbrev S2048 : Shape := ⟨1, ![2048]⟩

abbrev nBuf : Space → Nat
  | .hbm => 34
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x1, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .bf16⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S_, .f32⟩
  | .hbm, ⟨32, _⟩ => ⟨S2048, .f32⟩
  | .hbm, ⟨33, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel30.lean ====
abbrev S2048x2048 : Shape := ⟨2, ![2048, 2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 8
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S2048x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x1, .f32⟩
  | .local _ .vmem, ⟨13, _⟩ => ⟨S256x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference30Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel31.lean ====
abbrev S2048x2048 : Shape := ⟨2, ![2048, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S8x128, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S8x128, .f32⟩
  | .local _ .vmem, ⟨13, _⟩ => ⟨S1x2048, .f32⟩
  | .local _ .vmem, ⟨14, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference31Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S8x128 : Shape := ⟨2, ![8, 128]⟩

abbrev nBuf : Space → Nat
  | .hbm => 81
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .bf16⟩
  | .hbm, ⟨73, _⟩ => ⟨S8x128, .f32⟩
  | .hbm, ⟨74, _⟩ => ⟨S2048x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S_, .f32⟩
  | .hbm, ⟨79, _⟩ => ⟨S2048, .f32⟩
  | .hbm, ⟨80, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel32.lean ====
abbrev S2048x6144 : Shape := ⟨2, ![2048, 6144]⟩
abbrev S3x6144 : Shape := ⟨2, ![3, 6144]⟩
abbrev S1x6144 : Shape := ⟨2, ![1, 6144]⟩
abbrev S2048x256 : Shape := ⟨2, ![2048, 256]⟩
abbrev S3x256 : Shape := ⟨2, ![3, 256]⟩
abbrev S1x256 : Shape := ⟨2, ![1, 256]⟩

abbrev nBuf : Space → Nat
  | .hbm => 5
  | .vmem => 10
  | .smem => 0
  | _ => 0

abbrev bufTy : (tb : Table) → Fin (tcTables nBuf tb) → BufTy
  | .hbm, ⟨0, _⟩ => ⟨S2048x6144, .f32⟩
  | .hbm, ⟨1, _⟩ => ⟨S2048x6144, .f32⟩
  | .hbm, ⟨2, _⟩ => ⟨S3x6144, .f32⟩
  | .hbm, ⟨3, _⟩ => ⟨S1x6144, .f32⟩
  | .hbm, ⟨4, _⟩ => ⟨S2048x6144, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference32Ideal.lean ====
abbrev S2048x6144 : Shape := ⟨2, ![2048, 6144]⟩
abbrev S3x6144 : Shape := ⟨2, ![3, 6144]⟩
abbrev S1x6144 : Shape := ⟨2, ![1, 6144]⟩
abbrev S_ : Shape := ⟨0, ![]⟩
abbrev S2x6144 : Shape := ⟨2, ![2, 6144]⟩
abbrev S2050x6144 : Shape := ⟨2, ![2050, 6144]⟩

abbrev nBuf : Space → Nat
  | .hbm => 42
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S2048x6144, .f32⟩
  | .hbm, ⟨2, _⟩ => ⟨S3x6144, .f32⟩
  | .hbm, ⟨3, _⟩ => ⟨S1x6144, .f32⟩
  | .hbm, ⟨4, _⟩ => ⟨S_, .f32⟩
  | .hbm, ⟨5, _⟩ => ⟨S2x6144, .f32⟩
  | .hbm, ⟨6, _⟩ => ⟨S2050x6144, .f32⟩
  | .hbm, ⟨7, _⟩ => ⟨S2048x6144, .f32⟩
  | .hbm, ⟨8, _⟩ => ⟨S1x6144, .f32⟩
  | .hbm, ⟨9, _⟩ => ⟨S2048x6144, .f32⟩
  | .hbm, ⟨10, _⟩ => ⟨S2048x6144, .f32⟩
  | .hbm, ⟨11, _⟩ => ⟨S2048x6144, .f32⟩
  | .hbm, ⟨12, _⟩ => ⟨S2048x6144, .f32⟩
  | .hbm, ⟨13, _⟩ => ⟨S2048x6144, .f32⟩
  | .hbm, ⟨14, _⟩ => ⟨S1x6144, .f32⟩
  | .hbm, ⟨15, _⟩ => ⟨S2048x6144, .f32⟩
  | .hbm, ⟨16, _⟩ => ⟨S2048x6144, .f32⟩
  | .hbm, ⟨17, _⟩ => ⟨S2048x6144, .f32⟩
  | .hbm, ⟨18, _⟩ => ⟨S2048x6144, .f32⟩
  | .hbm, ⟨19, _⟩ => ⟨S1x6144, .f32⟩
  | .hbm, ⟨20, _⟩ => ⟨S2048x6144, .f32⟩
  | .hbm, ⟨21, _⟩ => ⟨S2048x6144, .f32⟩
  | .hbm, ⟨22, _⟩ => ⟨S2048x6144, .f32⟩
  | .hbm, ⟨23, _⟩ => ⟨S2048x6144, .f32⟩
  | .hbm, ⟨24, _⟩ => ⟨S2048x6144, .f32⟩
  | .hbm, ⟨25, _⟩ => ⟨S_, .f32⟩
  | .hbm, ⟨26, _⟩ => ⟨S2048x6144, .f32⟩
  | .hbm, ⟨27, _⟩ => ⟨S2048x6144, .f32⟩
  | .hbm, ⟨28, _⟩ => ⟨S2048x6144, .f32⟩
  | .hbm, ⟨29, _⟩ => ⟨S_, .f32⟩
  | .hbm, ⟨30, _⟩ => ⟨S2048x6144, .f32⟩
  | .hbm, ⟨31, _⟩ => ⟨S2048x6144, .f32⟩
  | .hbm, ⟨32, _⟩ => ⟨S2048x6144, .f32⟩
  | .hbm, ⟨33, _⟩ => ⟨S_, .f32⟩
  | .hbm, ⟨34, _⟩ => ⟨S2048x6144, .f32⟩
  | .hbm, ⟨35, _⟩ => ⟨S2048x6144, .f32⟩
  | .hbm, ⟨36, _⟩ => ⟨S_, .f32⟩
  | .hbm, ⟨37, _⟩ => ⟨S2048x6144, .f32⟩
  | .hbm, ⟨38, _⟩ => ⟨S2048x6144, .f32⟩
  | .hbm, ⟨39, _⟩ => ⟨S2048x6144, .f32⟩
  | .hbm, ⟨40, _⟩ => ⟨S2048x6144, .f32⟩
  | .hbm, ⟨41, _⟩ => ⟨S2048x6144, .bf16⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Proof.Body.lean ====
/-
  The attention gradient's body, run once at symbolic operands: from the eleven staging buffers held whole it returns
  with the inputs as they were and the four results at contents the run finds, at the first grid point (where the
  accumulators are cleared) and at a later one.
-/
module

public import proofs.«01_k».proof.Proof.Gen.KernelIdeal.Frame
public import proofs.«01_k».proof.Proof.Gen.KernelIdeal.Skeleton

@[expose] public section

set_option maxRecDepth 65536

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The contents of the buffer under a memref on one core. -/
abbrev Ct (c : Dev nD) {sp : Space} {S : Shape} {e : EltTy} (M : Memref sig .tc sp S e) : Type := Buf (Elt F) (M.view.loc (c : Thread nD τ))
/-- That buffer held whole at contents `f`. -/
abbrev at_ (c : Dev nD) {sp : Space} {S : Shape} {e : EltTy} (M : Memref sig .tc sp S e) (f : Ct (F := F) c M) : sProp 𝕄 :=
  M.view.loc (c : Thread nD τ) ↦[M.view.set]{fullShare} f

/-- The first row of the block before point `i`'s, point 0 having its own block for it: the four printed chains of offsets
    in closed form. -/
theorem off1_eq : ∀ i : grid0.Coords, k0_off1 i = ![128 * ((i 0).val - 1), 0] := by decide +kernel
theorem off3_eq : ∀ i : grid0.Coords, k0_off3 i = ![128 * ((i 0).val - 1), 64] := by decide +kernel
theorem off5_eq : ∀ i : grid0.Coords, k0_off5 i = ![128 * ((i 0).val - 1), 128] := by decide +kernel
theorem off7_eq : ∀ i : grid0.Coords, k0_off7 i = ![128 * ((i 0).val - 1), 192] := by decide +kernel
instance (i : grid0.Coords) : ClosedOff (k0_off1 i) := ⟨![128 * ((i 0).val - 1), 0], off1_eq i⟩
instance (i : grid0.Coords) : ClosedOff (k0_off3 i) := ⟨![128 * ((i 0).val - 1), 64], off3_eq i⟩
instance (i : grid0.Coords) : ClosedOff (k0_off5 i) := ⟨![128 * ((i 0).val - 1), 128], off5_eq i⟩
instance (i : grid0.Coords) : ClosedOff (k0_off7 i) := ⟨![128 * ((i 0).val - 1), 192], off7_eq i⟩

/-- The body's test for the first grid point. -/
abbrev isFirst (i : grid0.Coords) : Prop :=
  Scalar.cmpi .ne (Scalar.extui (Scalar.cmpi .eq (BitVec.ofNat 32 (i 0).val) 0#32) : BitVec 32) 0#32 = 1#1

/-- The run: the contents the body leaves in the four results' buffers, and the triple that says so. -/
def bodyRun (c : Dev nD) (i : grid0.Coords) (first : Bool)
    (hi : if first then (i 0).val = 0 ∧ isFirst i else 0 < (i 0).val ∧ ¬ isFirst i)
    (M1 : Memref sig .tc .smem S1x32 .f32) (h1 : M1.IsWhole) (M2 : Memref sig .tc .vmem S128x2048 .f32) (h2 : M2.IsWhole)
    (M3 : Memref sig .tc .vmem S128x256 .f32) (h3 : M3.IsWhole) (M4 : Memref sig .tc .vmem S128x256 .f32) (h4 : M4.IsWhole)
    (M5 : Memref sig .tc .vmem S128x256 .f32) (h5 : M5.IsWhole) (M6 : Memref sig .tc .vmem S128x256 .f32) (h6 : M6.IsWhole)
    (M7 : Memref sig .tc .vmem S128x2048 .f32) (h7 : M7.IsWhole) (M8 : Memref sig .tc .vmem S128x2048 .bf16) (h8 : M8.IsWhole)
    (M9 : Memref sig .tc .vmem S2048x256 .f32) (h9 : M9.IsWhole) (M10 : Memref sig .tc .vmem S2048x256 .f32) (h10 : M10.IsWhole)
    (M11 : Memref sig .tc .vmem S8x128 .f32) (h11 : M11.IsWhole)
    (f1 : Ct (F := F) c M1) (f2 : Ct (F := F) c M2) (f3 : Ct (F := F) c M3) (f4 : Ct (F := F) c M4) (f5 : Ct (F := F) c M5)
    (f6 : Ct (F := F) c M6) (f7 : Ct (F := F) c M7) (f9 : Ct (F := F) c M9) (f10 : Ct (F := F) c M10) (f11 : Ct (F := F) c M11) :
    { W : Ct (F := F) c M8 × Ct (F := F) c M9 × Ct (F := F) c M10 × Ct (F := F) c M11 //
      ∀ (f8 : Ct (F := F) c M8) (E : Set ℕ) (Q : PUnit → sProp 𝕄),
        iprop(at_ c M1 f1 ∗ at_ c M2 f2 ∗ at_ c M3 f3 ∗ at_ c M4 f4 ∗ at_ c M5 f5 ∗ at_ c M6 f6 ∗ at_ c M7 f7 ∗ at_ c M8 f8
          ∗ at_ c M9 f9 ∗ at_ c M10 f10 ∗ at_ c M11 f11
          ∗ (iprop(at_ c M1 f1 ∗ at_ c M2 f2 ∗ at_ c M3 f3 ∗ at_ c M4 f4 ∗ at_ c M5 f5 ∗ at_ c M6 f6 ∗ at_ c M7 f7
                ∗ at_ c M8 W.1 ∗ at_ c M9 W.2.1 ∗ at_ c M10 W.2.2.1 ∗ at_ c M11 W.2.2.2) -∗ Q ⟨⟩))
        ⊢ wp frame (wpE (defs₀ (F := F)) Variants.none c none) E
            (cc0_attn_bwd i M1 h1 M2 h2 M3 h3 M4 h4 M5 h5 M6 h6 M7 h7 M8 h8 M9 h9 M10 h10 M11 h11) Q } := by
  match first, hi with
  | true, hi | false, hi =>
    refine ⟨⟨?_, ?_, ?_, ?_⟩, fun f8 E Q => ?run⟩
    case run =>
      simp only [if_true, if_false, Bool.false_eq_true] at hi
      have hf := hi.right
      have hi := hi.left
      iintro ⟨H1, H2, H3, H4, H5, H6, H7, H8, H9, H10, H11, Hk⟩
      sl_exec_parts! (disch := first | sl_exact hf | omega)
      sl_step
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11

section
variable (c : Dev nD) (i : grid0.Coords) (first : Bool) (hi : if first then (i 0).val = 0 ∧ isFirst i else 0 < (i 0).val ∧ ¬ isFirst i)
    (M1 : Memref sig .tc .smem S1x32 .f32) (h1 : M1.IsWhole)
    (M2 : Memref sig .tc .vmem S128x2048 .f32) (h2 : M2.IsWhole)
    (M3 : Memref sig .tc .vmem S128x256 .f32) (h3 : M3.IsWhole)
    (M4 : Memref sig .tc .vmem S128x256 .f32) (h4 : M4.IsWhole)
    (M5 : Memref sig .tc .vmem S128x256 .f32) (h5 : M5.IsWhole)
    (M6 : Memref sig .tc .vmem S128x256 .f32) (h6 : M6.IsWhole)
    (M7 : Memref sig .tc .vmem S128x2048 .f32) (h7 : M7.IsWhole)
    (M8 : Memref sig .tc .vmem S128x2048 .bf16) (h8 : M8.IsWhole)
    (M9 : Memref sig .tc .vmem S2048x256 .f32) (h9 : M9.IsWhole)
    (M10 : Memref sig .tc .vmem S2048x256 .f32) (h10 : M10.IsWhole)
    (M11 : Memref sig .tc .vmem S8x128 .f32) (h11 : M11.IsWhole)

/-- What the four results' buffers hold after a point, block by block: d_q's block, and the three accumulators. -/
abbrev Res : Type := Vec F S128x2048 .bf16 × Vec F S2048x256 .f32 × Vec F S2048x256 .f32 × Vec F S8x128 .f32

variable (x1 : Vec F S1x32 .f32) (x2 : Vec F S128x2048 .f32) (x3 : Vec F S128x256 .f32) (x4 : Vec F S128x256 .f32) (x5 : Vec F S128x256 .f32) (x6 : Vec F S128x256 .f32) (x7 : Vec F S128x2048 .f32) (p : Res (F := F))

/-- The four blocks the body leaves on inputs' blocks `x1 … x7` and accumulators at `p`. -/
def bodyRes : Res (F := F) :=
  let W := (bodyRun (F := F) c i first hi M1 h1 M2 h2 M3 h3 M4 h4 M5 h5 M6 h6 M7 h7 M8 h8 M9 h9 M10 h10 M11 h11
    (h1.unread x1) (h2.unread x2) (h3.unread x3) (h4.unread x4) (h5.unread x5) (h6.unread x6) (h7.unread x7) (h9.unread p.2.1) (h10.unread p.2.2.1) (h11.unread p.2.2.2)).1
  (M8.view.read (Elt F) W.1, M9.view.read (Elt F) W.2.1, M10.view.read (Elt F) W.2.2.1, M11.view.read (Elt F) W.2.2.2)

/-- The body's triple on whole buffers held at blocks. -/
theorem bodyRes_sound (d8 : Vec F S128x2048 .bf16) (E : Set ℕ) (Q : PUnit → sProp 𝕄) :
    iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7
      ∗ owns (c : Thread nD τ) M8 fullShare d8 ∗ owns (c : Thread nD τ) M9 fullShare p.2.1 ∗ owns (c : Thread nD τ) M10 fullShare p.2.2.1 ∗ owns (c : Thread nD τ) M11 fullShare p.2.2.2
      ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7
        ∗ owns (c : Thread nD τ) M8 fullShare (bodyRes c i first hi M1 h1 M2 h2 M3 h3 M4 h4 M5 h5 M6 h6 M7 h7 M8 h8 M9 h9 M10 h10 M11 h11 x1 x2 x3 x4 x5 x6 x7 p).1
        ∗ owns (c : Thread nD τ) M9 fullShare (bodyRes c i first hi M1 h1 M2 h2 M3 h3 M4 h4 M5 h5 M6 h6 M7 h7 M8 h8 M9 h9 M10 h10 M11 h11 x1 x2 x3 x4 x5 x6 x7 p).2.1
        ∗ owns (c : Thread nD τ) M10 fullShare (bodyRes c i first hi M1 h1 M2 h2 M3 h3 M4 h4 M5 h5 M6 h6 M7 h7 M8 h8 M9 h9 M10 h10 M11 h11 x1 x2 x3 x4 x5 x6 x7 p).2.2.1
        ∗ owns (c : Thread nD τ) M11 fullShare (bodyRes c i first hi M1 h1 M2 h2 M3 h3 M4 h4 M5 h5 M6 h6 M7 h7 M8 h8 M9 h9 M10 h10 M11 h11 x1 x2 x3 x4 x5 x6 x7 p).2.2.2) -∗ Q ⟨⟩))
    ⊢ wp frame (wpE (defs₀ (F := F)) Variants.none c none) E (cc0_attn_bwd i M1 h1 M2 h2 M3 h3 M4 h4 M5 h5 M6 h6 M7 h7 M8 h8 M9 h9 M10 h10 M11 h11) Q := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, Hk⟩
  obtain rfl := h1.eq_unread e1
  obtain rfl := h2.eq_unread e2
  obtain rfl := h3.eq_unread e3
  obtain rfl := h4.eq_unread e4
  obtain rfl := h5.eq_unread e5
  obtain rfl := h6.eq_unread e6
  obtain rfl := h7.eq_unread e7
  obtain rfl := h9.eq_unread e9
  obtain rfl := h10.eq_unread e10
  obtain rfl := h11.eq_unread e11
  iapply ((bodyRun (F := F) c i first hi M1 h1 M2 h2 M3 h3 M4 h4 M5 h5 M6 h6 M7 h7 M8 h8 M9 h9 M10 h10 M11 h11 (h1.unread x1) (h2.unread x2) (h3.unread x3) (h4.unread x4) (h5.unread x5) (h6.unread x6) (h7.unread x7) (h9.unread p.2.1) (h10.unread p.2.2.1) (h11.unread p.2.2.2)).2 f8 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, H7, H8, H9, H10, H11⟩
  iapply Hk
  isplitl [H1]
  · iexists _; isplitr; swap; · iexact H1
    ipureintro; exact h1.read_unread _
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  iexists _; isplitr; swap; · iexact H11
  ipureintro; exact rfl
end

end Cert.KernelIdeal.Body

end
-- ==== Proof.Run.lean ====
/-
  The attention gradient's call over its whole grid: what each staging buffer holds after each point (the accumulators by
  recursion on the point), the pipeline's proof data, the body's obligation, and the run.
-/
module

public import proofs.«01_k».proof.Proof.Body
public import proofs.«01_k».proof.Proof.Gen.KernelIdeal.Points

@[expose] public section

set_option maxRecDepth 65536

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A point is the first exactly where the body's own test says so. -/
theorem first_of (t : Fin grid0.N) : if decide (t.val = 0) then (grid0.coords t 0).val = 0 ∧ isFirst (grid0.coords t)
    else 0 < (grid0.coords t 0).val ∧ ¬ isFirst (grid0.coords t) := by
  revert t; decide +kernel

/-- The four blocks the body leaves at point `t`, on the blocks the inputs' buffers hold there and accumulators at `p`. -/
def res (c : Dev nD) (t : Fin cfg0.N) (p : Res (F := F)) : Res (F := F) :=
  bodyRes (F := F) c (grid0.coords t) (decide (t.val = 0)) (first_of t)
    (st0_0 t) (hstage0_0 ((cfg0.slots t 0).cast nbuf0_0))
    (st0_1 t) (hstage0_1 ((cfg0.slots t 1).cast nbuf0_1))
    (st0_2 t) (hstage0_2 ((cfg0.slots t 2).cast nbuf0_2))
    (st0_3 t) (hstage0_3 ((cfg0.slots t 3).cast nbuf0_3))
    (st0_4 t) (hstage0_4 ((cfg0.slots t 4).cast nbuf0_4))
    (st0_5 t) (hstage0_5 ((cfg0.slots t 5).cast nbuf0_5))
    (st0_6 t) (hstage0_6 ((cfg0.slots t 6).cast nbuf0_6))
    (st0_7 t) (hstage0_7 ((cfg0.slots t 7).cast nbuf0_7))
    (st0_8 t) (hstage0_8 ((cfg0.slots t 8).cast nbuf0_8))
    (st0_9 t) (hstage0_9 ((cfg0.slots t 9).cast nbuf0_9))
    (st0_10 t) (hstage0_10 ((cfg0.slots t 10).cast nbuf0_10))
    (iblk m c 0 t) (X0_1 m c t) (iblk m c 2 t) (iblk m c 3 t) (iblk m c 4 t) (iblk m c 5 t) (iblk m c 6 t) p

/-- Contents to start from, which the first point does not read. -/
def res₀ : Res (F := F) := (fun _ => FloatOps.ofBits _ 0, fun _ => FloatOps.ofBits _ 0, fun _ => FloatOps.ofBits _ 0, fun _ => FloatOps.ofBits _ 0)

/-- The four blocks after point `n`, by recursion on it. -/
def outs (c : Dev nD) : (n : ℕ) → n < cfg0.N → Res (F := F)
  | 0, h => res m c ⟨0, h⟩ res₀
  | n + 1, h => res m c ⟨n + 1, h⟩ (outs c n (Nat.lt_of_succ_lt h))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outs m c t.val t.isLt).1
    | ⟨8, _⟩ => (outs m c t.val t.isLt).2.1
    | ⟨9, _⟩ => (outs m c t.val t.isLt).2.2.1
    | ⟨10, _⟩ => (outs m c t.val t.isLt).2.2.2
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (outs m c t.val t.isLt).1 := by dsimp only [dats]
theorem after_8 (c : Dev nD) (t : Fin cfg0.N) : (dats m 0 c).after 8 t = (outs m c t.val t.isLt).2.1 := by dsimp only [dats]
theorem after_9 (c : Dev nD) (t : Fin cfg0.N) : (dats m 0 c).after 9 t = (outs m c t.val t.isLt).2.2.1 := by dsimp only [dats]
theorem after_10 (c : Dev nD) (t : Fin cfg0.N) : (dats m 0 c).after 10 t = (outs m c t.val t.isLt).2.2.2 := by dsimp only [dats]

/-- At a later point the accumulators hold what the point before left; at the first, whatever they hold is not read. -/
theorem before_acc (c : Dev nD) (n : ℕ) (h : n + 1 < cfg0.N) (d8 d9 d10) :
    (dats m 0 c).before 8 ⟨n + 1, h⟩ d8 = (outs m c n (Nat.lt_of_succ_lt h)).2.1
    ∧ (dats m 0 c).before 9 ⟨n + 1, h⟩ d9 = (outs m c n (Nat.lt_of_succ_lt h)).2.2.1
    ∧ (dats m 0 c).before 10 ⟨n + 1, h⟩ d10 = (outs m c n (Nat.lt_of_succ_lt h)).2.2.2 := by
  have hN : n + 1 < 16 := lt_of_lt_of_eq h N_0
  have hf : ¬ (n % 16 = 15) := by omega
  refine ⟨?_, ?_, ?_⟩
  · rw [(dats m 0 c).before_out_kept 8 rfl ⟨n + 1, h⟩ (Nat.succ_ne_zero n)
      (Bool.eq_false_iff.mpr fun hh => hf ((flush0_8 _).mp hh)) (fun _ => rfl) (fun _ _ => rfl), after_8]; rfl
  · rw [(dats m 0 c).before_out_kept 9 rfl ⟨n + 1, h⟩ (Nat.succ_ne_zero n)
      (Bool.eq_false_iff.mpr fun hh => hf ((flush0_9 _).mp hh)) (fun _ => rfl) (fun _ _ => rfl), after_9]; rfl
  · rw [(dats m 0 c).before_out_kept 10 rfl ⟨n + 1, h⟩ (Nat.succ_ne_zero n)
      (Bool.eq_false_iff.mpr fun hh => hf ((flush0_10 _).mp hh)) (fun _ => rfl) (fun _ _ => rfl), after_10]; rfl

/-- The blocks a point leaves, over what its accumulators held before: at the first point any contents. -/
theorem outs_eq (c : Dev nD) (t : Fin cfg0.N) (d7 : (S128x2048).Idx → Elt F .bf16) (d8 d9 d10) :
    outs m c t.val t.isLt = res m c t (d7, (dats m 0 c).before 8 t d8, (dats m 0 c).before 9 t d9, (dats m 0 c).before 10 t d10) := by
  obtain ⟨n, h⟩ := t
  cases n with
  | zero => rfl
  | succ n =>
    obtain ⟨e8, e9, e10⟩ := before_acc m c n h d8 d9 d10
    rw [e8, e9, e10]; rfl

theorem before_in (c : Dev nD) (t : Fin cfg0.N) :
    (∀ d, (dats m 0 c).before 0 t d = iblk m c 0 t) ∧ (∀ d, (dats m 0 c).before 1 t d = X0_1 m c t)
    ∧ (∀ d, (dats m 0 c).before 2 t d = iblk m c 2 t) ∧ (∀ d, (dats m 0 c).before 3 t d = iblk m c 3 t)
    ∧ (∀ d, (dats m 0 c).before 4 t d = iblk m c 4 t) ∧ (∀ d, (dats m 0 c).before 5 t d = iblk m c 5 t)
    ∧ (∀ d, (dats m 0 c).before 6 t d = iblk m c 6 t) :=
  ⟨before0_0_of m (dats m 0 c) (A_eq m c 0) (after_0 m c) t, before0_1_of m (dats m 0 c) (A_eq m c 1) (after_1 m c) t,
    before0_2_of m (dats m 0 c) (A_eq m c 2) (after_2 m c) t, before0_3_of m (dats m 0 c) (A_eq m c 3) (after_3 m c) t,
    before0_4_of m (dats m 0 c) (A_eq m c 4) (after_4 m c) t, before0_5_of m (dats m 0 c) (A_eq m c 5) (after_5 m c) t,
    before0_6_of m (dats m 0 c) (A_eq m c 6) (after_6 m c) t⟩

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem sound_body (c : Dev nD) (t : Fin cfg0.N) :
    bodyPre m c t ⊢ wp frame (wpE (defs₀ (F := F)) Variants.none c none) Set.univ (bodyAt0 t) (fun _ => bodyPost m c t) := by
  obtain ⟨b0, b1, b2, b3, b4, b5, b6⟩ := before_in m c t
  unfold bodyPre bodyPost bodyAt0
  simp only [b0, b1, b2, b3, b4, b5, b6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [outs_eq m c t d7 d8 d9 d10]
  generalize (dats m 0 c).before 8 t d8 = p8
  generalize (dats m 0 c).before 9 t d9 = p9
  generalize (dats m 0 c).before 10 t d10 = p10
  generalize (dats m 0 c).before 7 t d7 = p7
  unfold res
  iapply (bodyRes_sound (F := F) c (grid0.coords t) (decide (t.val = 0)) (first_of t)
    (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10))
    (iblk m c 0 t) (X0_1 m c t) (iblk m c 2 t) (iblk m c 3 t) (iblk m c 4 t) (iblk m c 5 t) (iblk m c 6 t) (d7, p8, p9, p10) p7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole call: every array of the pipeline ends at what the proof data say, and the counters at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := fun _ _ => rfl) (hΦ := fun _ _ => rfl)

/-- The frame: the arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end Cert.KernelIdeal.Body

end
-- ==== Proof.FrameBits.lean ====
/-
  The kernel's own frame, at the machine's formats: the run of the idealized text read at the bit-exact instance, a named
  constant there the word it was written as.
-/
module

public import proofs.«01_k».proof.Defs
public import proofs.«01_k».proof.Proof.Gen.Kernel
public import proofs.«01_k».proof.Proof.Run

@[expose] public section

set_option maxRecDepth 65536

noncomputable section

namespace Cert.Proof

open Idealize.ShloMosaic Idealize.SL.Sem

/-- At the machine's formats a named constant is its word. -/
@[instance_reducible] def namedBits : Named Bits := ⟨fun _ _ {_} b => FloatOps.ofBits _ b⟩

attribute [local instance] namedBits Cert.Kernel.Gen.facts Cert.KernelIdeal.Gen.facts

/-- The two bodies are one text there, -/
theorem body_eq : @Cert.Kernel.cc0_attn_bwd Bits _ _ = @Cert.KernelIdeal.cc0_attn_bwd Bits _ _ _ := rfl

/-- and so the two body tables are one. -/
theorem defs₀_eq : @Cert.Kernel.defs₀ Bits _ _ = @Cert.KernelIdeal.defs₀ Bits _ _ _ := by
  unfold Cert.Kernel.defs₀ Cert.KernelIdeal.defs₀
  refine congrArg Defs.onTc ?_
  rw [body_eq]
  funext l x
  match l, x with
  | 0, (t, s) => rfl

theorem defs_eq : @Cert.Kernel.defs Bits _ _ = @Cert.KernelIdeal.defs Bits _ _ _ := by
  unfold Cert.Kernel.defs Cert.KernelIdeal.defs
  exact congrArg _ defs₀_eq

theorem frame_kernel : Cert.quiescent_Kernel (hKernel := Cert.Kernel.Gen.facts) := fun m ρ _ => by
  rw [defs_eq]
  exact Cert.KernelIdeal.Body.frame (F := Bits) m ρ

theorem frame_ideal : Cert.quiescent_KernelIdeal (hKernelIdeal := Cert.KernelIdeal.Gen.facts) := fun m ρ _ =>
  Cert.KernelIdeal.Body.frame (F := Ideal) m ρ

end Cert.Proof

end
-- ==== Proof.Ref.lean ====
/-
  The reference's run with its counters, and its frame.
-/
module

public import proofs.«01_k».proof.Defs
public import proofs.«01_k».proof.Proof.Gen.ReferenceIdeal.Run
public import Idealize.ShloMosaic.Lib.Pipeline.Quiescent

@[expose] public section

noncomputable section

namespace Cert.Proof

open Idealize.ShloMosaic Idealize.SL.Sem

theorem frame_ref : Cert.quiescent_ReferenceIdeal (hReferenceIdeal := Cert.ReferenceIdeal.Gen.facts) := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

end Cert.Proof

end
-- ==== Proof.Group.lean ====
/-
  What the kernel computes for one group of eight query heads that share a key head, as a function of the group's
  operands: the heads' queries and cotangents stacked in 1024 rows, the two blocks of keys and values under them.
-/
module

public import proofs.«01_k».proof.Proof.Gen.KernelIdeal.Skeleton
public import Idealize.ShloMosaic.Lib.Pointwise

@[expose] public section

set_option maxRecDepth 16384

noncomputable section

namespace Cert.KernelIdeal.Group

open Cert.KernelIdeal Cert.KernelIdeal.Gen
open Idealize.ShloMosaic

variable {F : FTy → Type} [FloatOps F] [Named F]

section Ops
variable (V : IVec S1024x256 1) (D : FVec F S1024x256 .f32) (K W : FVec F S256x64 .bf16) (sl sk : FVec F S1024x1 .f32)
  (q o : FVec F S1024x64 .bf16)

/-- The masked scores. -/
def gS : FVec F S1024x256 .f32 :=
  select V (subf (mulf (matmul dot_S1024x64_S256x64_S1024x256_1_1_0_0_n_n none q K (constant S1024x256 .f32 0x00000000#32))
      (broadcast S1024x256 (Scalar.ofBits .f32 0x3E000000#32)))
    (mulf (broadcastTo S1024x256 sl broadcasts_S1024x1_S1024x256) D)) (broadcast S1024x256 (Named.named κ "mask" 0xF149F2CA#32))
/-- The row maxima, the sink among them. -/
def gM : FVec F S1024x1 .f32 :=
  maximumf (shapeCast S1024x1 (multiReduction .maximumf [1] S1024 (gS V D K sl q) 0xFF800000#32 reduces_S1024x256_S1024 (.inl rfl) rfl)
    shapeCasts_S1024_S1024x1) sk
def gE : FVec F S1024x256 .f32 :=
  exp (subf (gS V D K sl q) (broadcastTo S1024x256 (gM V D K sl sk q) broadcasts_S1024x1_S1024x256))
def gEs : FVec F S1024x1 .f32 := exp (subf sk (gM V D K sl sk q))
def gInv : FVec F S1024x1 .f32 :=
  divf (broadcast S1024x1 (Scalar.ofBits .f32 0x3F800000#32))
    (addf (shapeCast S1024x1 (multiReduction .add [1] S1024 (gE V D K sl sk q) 0x00000000#32 reduces_S1024x256_S1024 (.inl rfl) rfl)
      shapeCasts_S1024_S1024x1) (gEs V D K sl sk q))
/-- The probabilities. -/
def gP : FVec F S1024x256 .f32 :=
  mulf (gE V D K sl sk q) (broadcastTo S1024x256 (gInv V D K sl sk q) broadcasts_S1024x1_S1024x256)
/-- Their cotangents. -/
def gDp : FVec F S1024x256 .f32 :=
  matmul dot_S1024x64_S256x64_S1024x256_1_1_0_0_n_n none o W (constant S1024x256 .f32 0x00000000#32)
def gDelta : FVec F S1024x1 .f32 :=
  shapeCast S1024x1 (multiReduction .add [1] S1024 (mulf (gP V D K sl sk q) (gDp W o)) 0x00000000#32 reduces_S1024x256_S1024 (.inl rfl) rfl)
    shapeCasts_S1024_S1024x1
/-- The scores' gradients. -/
def gDs : FVec F S1024x256 .bf16 :=
  truncf .bf16 (mulf (gP V D K sl sk q)
    (subf (gDp W o) (broadcastTo S1024x256 (gDelta V D K W sl sk q o) broadcasts_S1024x1_S1024x256))) bitsLt_bf16_f32
/-- The sink's share of each row. -/
def gPart : FVec F S1024x1 .f32 := mulf (mulf (gEs V D K sl sk q) (gInv V D K sl sk q)) (gDelta V D K W sl sk q o)
def gDq : FVec F S1024x64 .bf16 :=
  truncf .bf16 (mulf (matmul dot_S1024x256_S256x64_S1024x64_1_0_0_1_n_n none (gDs V D K W sl sk q o) K (constant S1024x64 .f32 0x00000000#32))
    (broadcast S1024x64 (Scalar.ofBits .f32 0x3E000000#32))) bitsLt_bf16_f32
def gDk : FVec F S256x64 .f32 :=
  mulf (matmul dot_S1024x256_S1024x64_S256x64_0_0_1_1_n_n none (gDs V D K W sl sk q o) q (constant S256x64 .f32 0x00000000#32))
    (broadcast S256x64 (Scalar.ofBits .f32 0x3E000000#32))
def gDv : FVec F S256x64 .f32 :=
  matmul dot_S1024x256_S1024x64_S256x64_0_0_1_1_n_n none (truncf .bf16 (gP V D K sl sk q) bitsLt_bf16_f32) o (constant S256x64 .f32 0x00000000#32)
end Ops

end Cert.KernelIdeal.Group
-- ==== Proof.Model.lean ====
/-
  What the body leaves in its four results, spelt over the groups: the operands of a group, the pieces it stores.
-/
module

public import proofs.«01_k».proof.Proof.Body
import all proofs.«01_k».proof.Proof.Body
public import proofs.«01_k».proof.Proof.Group

@[expose] public section

set_option maxRecDepth 65536

noncomputable section

namespace Cert.KernelIdeal.Model

open Cert.KernelIdeal Cert.KernelIdeal.Gen Cert.KernelIdeal.Body Cert.KernelIdeal.Group
open Idealize.ShloMosaic
open Idealize.ShloMosaic.TcCoe

variable {F : FTy → Type} [FloatOps F] [Named F]

/-- The words of the 32 heads' slopes. -/
def slopeW : Fin 32 → BitVec 32 := ![
  0x3F5744FD#32, 0x3F3504F3#32, 0x3F1837F0#32, 0x3F000000#32, 0x3ED744FD#32, 0x3EB504F3#32, 0x3E9837F0#32, 0x3E800000#32,
  0x3E5744FD#32, 0x3E3504F3#32, 0x3E1837F0#32, 0x3E000000#32, 0x3DD744FD#32, 0x3DB504F3#32, 0x3D9837F0#32, 0x3D800000#32,
  0x3D5744FD#32, 0x3D3504F3#32, 0x3D1837F0#32, 0x3D000000#32, 0x3CD744FD#32, 0x3CB504F3#32, 0x3C9837F0#32, 0x3C800000#32,
  0x3C5744FD#32, 0x3C3504F3#32, 0x3C1837F0#32, 0x3C000000#32, 0x3BD744FD#32, 0x3BB504F3#32, 0x3B9837F0#32, 0x3B800000#32]

/-- Head `hh` of group `g`. -/
def head (g : Fin 4) (hh : Fin 8) : Fin 32 := ⟨8 * g.val + hh.val, by omega⟩

/-- A column holding one value per stacked head. -/
def col8 (a : Fin 8 → F .f32) : FVec F S1024x1 .f32 :=
  (List.finRange 8).foldl (fun y h => select (cmpi .eq k0_pay10 (broadcast S1024x1 (BitVec.ofNat 32 h.val))) (broadcast S1024x1 (a h)) y)
    (broadcast S1024x1 (Scalar.ofBits .f32 0x00000000#32))

theorem inb_k (g : Fin 4) : ∀ a, (![0, 64 * g.val] : Fin 2 → Nat) a + S128x64.size a ≤ S128x256.size a := by revert g; decide
theorem inb_q (h : Fin 32) : ∀ a, (![0, 64 * h.val] : Fin 2 → Nat) a + S128x64.size a ≤ S128x2048.size a := by revert h; decide
theorem inb_s (h : Fin 32) : ∀ a, (![0, h.val] : Fin 2 → Nat) a + S1x1.size a ≤ S1x32.size a := by revert h; decide

section
variable (c : Dev nD)

/-- The group's columns of two blocks of keys (or values), one under the other. -/
def two (M M' : Memref sig .tc .vmem S128x256 .f32) (f : Ct (F := F) c M) (f' : Ct (F := F) c M') (g : Fin 4) : FVec F S256x64 .bf16 :=
  truncf .bf16 (concatenate S256x64 0 [⟨S128x64, View.readAt (Elt F) M.view (Rect.unit (s := S128x256) ![0, 64 * g.val] S128x64.size (inb_k g)).toLoadRect f⟩,
    ⟨S128x64, View.readAt (Elt F) M'.view (Rect.unit (s := S128x256) ![0, 64 * g.val] S128x64.size (inb_k g)).toLoadRect f'⟩]
    concatenates_S128x64_S128x64_S256x64_d0) bitsLt_bf16_f32
/-- One head's columns of a block of queries (or cotangents). -/
def one (M : Memref sig .tc .vmem S128x2048 .f32) (f : Ct (F := F) c M) (h : Fin 32) : FVec F S128x64 .bf16 :=
  truncf .bf16 (View.readAt (Elt F) M.view (Rect.unit (s := S128x2048) ![0, 64 * h.val] S128x64.size (inb_q h)).toLoadRect f) bitsLt_bf16_f32
/-- The group's heads stacked. -/
def eight (M : Memref sig .tc .vmem S128x2048 .f32) (f : Ct (F := F) c M) (g : Fin 4) : FVec F S1024x64 .bf16 :=
  concatenate S1024x64 0 [⟨S128x64, one c M f (head g 0)⟩, ⟨S128x64, one c M f (head g 1)⟩, ⟨S128x64, one c M f (head g 2)⟩,
    ⟨S128x64, one c M f (head g 3)⟩, ⟨S128x64, one c M f (head g 4)⟩, ⟨S128x64, one c M f (head g 5)⟩, ⟨S128x64, one c M f (head g 6)⟩,
    ⟨S128x64, one c M f (head g 7)⟩]
    concatenates_S128x64_S128x64_S128x64_S128x64_S128x64_S128x64_S128x64_S128x64_S1024x64_d0
/-- The slopes' column and the sinks'. -/
def slc (g : Fin 4) : FVec F S1024x1 .f32 := col8 fun hh => Scalar.ofBits .f32 (slopeW (head g hh))
def skc (M : Memref sig .tc .smem S1x32 .f32) (f : Ct (F := F) c M) (g : Fin 4) : FVec F S1024x1 .f32 :=
  col8 fun hh => View.readAt (Elt F) M.view (Rect.unit (s := S1x32) ![0, (head g hh).val] S1x1.size (inb_s (head g hh))).toLoadRect f (Shape.Idx.first (Nat.lt_of_lt_of_eq Nat.one_pos numel1_S1x1.symm))

variable (i : grid0.Coords) (M1 : Memref sig .tc .smem S1x32 .f32) (M2 : Memref sig .tc .vmem S128x2048 .f32)
  (M3 M4 M5 M6 : Memref sig .tc .vmem S128x256 .f32) (M7 : Memref sig .tc .vmem S128x2048 .f32)
  (f1 : Ct (F := F) c M1) (f2 : Ct (F := F) c M2) (f3 : Ct (F := F) c M3) (f4 : Ct (F := F) c M4) (f5 : Ct (F := F) c M5)
  (f6 : Ct (F := F) c M6) (f7 : Ct (F := F) c M7) (g : Fin 4)

def mDq : FVec F S1024x64 .bf16 :=
  gDq (k0_pay5 i) k0_pay6 (two c M3 M4 f3 f4 g) (two c M5 M6 f5 f6 g) (slc g) (skc c M1 f1 g) (eight c M2 f2 g) (eight c M7 f7 g)
def mDk : FVec F S256x64 .f32 :=
  gDk (k0_pay5 i) k0_pay6 (two c M3 M4 f3 f4 g) (two c M5 M6 f5 f6 g) (slc g) (skc c M1 f1 g) (eight c M2 f2 g) (eight c M7 f7 g)
def mDv : FVec F S256x64 .f32 :=
  gDv (k0_pay5 i) k0_pay6 (two c M3 M4 f3 f4 g) (slc g) (skc c M1 f1 g) (eight c M2 f2 g) (eight c M7 f7 g)
def mPart : FVec F S1024x1 .f32 :=
  gPart (k0_pay5 i) k0_pay6 (two c M3 M4 f3 f4 g) (two c M5 M6 f5 f6 g) (slc g) (skc c M1 f1 g) (eight c M2 f2 g) (eight c M7 f7 g)

theorem inb_d (h : Fin 8) : S1024x64.Slices ![128 * h.val, 0] S128x64 := by revert h; decide
theorem inb_p (h : Fin 8) : S1024x1.Slices ![128 * h.val, 0] S128x1 := by revert h; decide
/-- One head's number within its group, and its group. -/
def sub8 (h : Fin 32) : Fin 8 := ⟨h.val % 8, Nat.mod_lt _ (by decide)⟩
def grp (h : Fin 32) : Fin 4 := ⟨h.val / 8, by omega⟩

end

/-- The heads from 31 down to 0. -/
def heads : List (Fin 32) := [31, 30, 29, 28, 27, 26, 25, 24, 23, 22, 21, 20, 19, 18, 17, 16, 15, 14, 13, 12, 11, 10, 9, 8, 7, 6, 5, 4, 3, 2, 1, 0]

/-- The queries' gradient: one store per head, `T` the groups' stacked ones. -/
def dqPiece (T : Fin 4 → FVec F S1024x64 .bf16) (h : Fin 32) : View.Piece (Elt F) S128x2048 .bf16 :=
  ⟨Rect.unit (s := S128x2048) ![0, 64 * h.val] S128x64.size (inb_q h),
    extractStridedSlice S128x64 ![128 * (sub8 h).val, 0] (T (grp h)) (inb_d (sub8 h))⟩
def dqList (T : Fin 4 → FVec F S1024x64 .bf16) : List (View.Piece (Elt F) S128x2048 .bf16) := heads.map (dqPiece T)

/-- One head's sum over the rows, negated, at lane `h` of row 0. -/
def dsTerm (T : Fin 4 → FVec F S1024x1 .f32) (h : Fin 32) : FVec F S8x128 .f32 :=
  select (andi (cmpi .eq (iota .tc S8x128 32 [1] iota_S8x128_d1_w32) (broadcast S8x128 (BitVec.ofNat 32 h.val))) (cmpi .eq (iota .tc S8x128 32 [0] iota_S8x128_d0_w32) (broadcast S8x128 0#32)))
    (broadcast S8x128 (Scalar.subf (Scalar.ofBits .f32 0x00000000#32) (extractAt ![0, 0, 0] (shapeCast S1x1x1 (multiReduction .add [1, 2] S1
      (shapeCast S1x128x1 (extractStridedSlice S128x1 ![128 * (sub8 h).val, 0] (T (grp h)) (inb_p (sub8 h)))
        shapeCasts_S128x1_S1x128x1) 0x00000000#32 reduces_S1x128x1_S1 (.inl rfl) rfl) shapeCasts_S1_S1x1x1) inpos_S1x1x1_p0_0_0)))
    (broadcast S8x128 (Scalar.ofBits .f32 0x00000000#32))
def dsSum (T : Fin 4 → FVec F S1024x1 .f32) : FVec F S8x128 .f32 :=
  heads.foldr (fun h y => addf y (dsTerm T h)) (broadcast S8x128 (Scalar.ofBits .f32 0x00000000#32))

/-- The two adds of one group's block to an accumulator: its upper half at the block of keys before, whose rows are `X`,
    and its lower half at the point's own, read after. -/
def pair (c : Dev nD) (M : Memref sig .tc .vmem S2048x256 .f32) (f : Ct (F := F) c M) (op oc : Fin 2 → Nat)
    (hp : ∀ a, op a + S128x64.size a ≤ S2048x256.size a) (hc : ∀ a, oc a + S128x64.size a ≤ S2048x256.size a)
    (T : FVec F S256x64 .f32) (X : Vec F S128x64 .f32) (L : List (View.Piece (Elt F) S2048x256 .f32)) :
    List (View.Piece (Elt F) S2048x256 .f32) :=
  have L1 : List (View.Piece (Elt F) S2048x256 .f32) := ⟨Rect.unit (s := S2048x256) op S128x64.size hp, addf (shapeCast S128x64 X shapeCasts_S128x64_S128x64)
    (extractStridedSlice S128x64 ![0, 0] T slices_S256x64_o0_0_S128x64)⟩ :: L
  ⟨Rect.unit (s := S2048x256) oc S128x64.size hc, addf (shapeCast S128x64 (View.readAt (Elt F) M.view (Rect.unit (s := S2048x256) oc S128x64.size hc).toLoadRect
      (M.view.writes (Elt F) f L1)) shapeCasts_S128x64_S128x64)
    (extractStridedSlice S128x64 ![128, 0] T slices_S256x64_o128_0_S128x64)⟩ :: L1

/-- All four groups' adds, the accumulator holding `f` written with `L` before. -/
def accList (c : Dev nD) (i : grid0.Coords) (M : Memref sig .tc .vmem S2048x256 .f32) (f : Ct (F := F) c M) (T : Fin 4 → FVec F S256x64 .f32)
    (rd : List (View.Piece (Elt F) S2048x256 .f32) → Ct (F := F) c M) (L : List (View.Piece (Elt F) S2048x256 .f32)) :
    List (View.Piece (Elt F) S2048x256 .f32) :=
  have L0 := pair c M f (k0_off1 i) (k0_off2 i) (Gen.k0_off1_inb i) (Gen.k0_off2_inb i) (T 0)
    (View.readAt (Elt F) M.view (Rect.unit (s := S2048x256) (k0_off1 i) S128x64.size (Gen.k0_off1_inb i)).toLoadRect (rd L)) L
  have L1 := pair c M f (k0_off3 i) (k0_off4 i) (Gen.k0_off3_inb i) (Gen.k0_off4_inb i) (T 1)
    (View.readAt (Elt F) M.view (Rect.unit (s := S2048x256) (k0_off3 i) S128x64.size (Gen.k0_off3_inb i)).toLoadRect (rd L0)) L0
  have L2 := pair c M f (k0_off5 i) (k0_off6 i) (Gen.k0_off5_inb i) (Gen.k0_off6_inb i) (T 2)
    (View.readAt (Elt F) M.view (Rect.unit (s := S2048x256) (k0_off5 i) S128x64.size (Gen.k0_off5_inb i)).toLoadRect (rd L1)) L1
  pair c M f (k0_off7 i) (k0_off8 i) (Gen.k0_off7_inb i) (Gen.k0_off8_inb i) (T 3)
    (View.readAt (Elt F) M.view (Rect.unit (s := S2048x256) (k0_off7 i) S128x64.size (Gen.k0_off7_inb i)).toLoadRect (rd L2)) L2

/-- The sinks' accumulator: the point's sums added to what it holds. -/
def sumList (c : Dev nD) (M : Memref sig .tc .vmem S8x128 .f32) (f : Ct (F := F) c M) (T : FVec F S8x128 .f32)
    (L : List (View.Piece (Elt F) S8x128 .f32)) : List (View.Piece (Elt F) S8x128 .f32) :=
  ⟨Rect.unit (s := S8x128) ![0, 0] S8x128.size Gen.inb_S8x128_S8x128_0_0, addf (shapeCast S8x128 (View.readAt (Elt F) M.view
    (Rect.unit (s := S8x128) ![0, 0] S8x128.size Gen.inb_S8x128_S8x128_0_0).toLoadRect (M.view.writes (Elt F) f L)) shapeCasts_S8x128_S8x128) T⟩ :: L
/-- The stores of zeros at the first point. -/
def zeroAcc : List (View.Piece (Elt F) S2048x256 .f32) :=
  [⟨Rect.unit (s := S2048x256) ![0, 0] S2048x256.size Gen.inb_S2048x256_S2048x256_0_0, broadcast S2048x256 (Scalar.ofBits .f32 0x00000000#32)⟩]
def zeroSum : List (View.Piece (Elt F) S8x128 .f32) :=
  [⟨Rect.unit (s := S8x128) ![0, 0] S8x128.size Gen.inb_S8x128_S8x128_0_0, broadcast S8x128 (Scalar.ofBits .f32 0x00000000#32)⟩]

section
variable (c : Dev nD) (i : grid0.Coords)
  (M1 : Memref sig .tc .smem S1x32 .f32) (h1 : M1.IsWhole)
  (M2 : Memref sig .tc .vmem S128x2048 .f32) (h2 : M2.IsWhole)
  (M3 : Memref sig .tc .vmem S128x256 .f32) (h3 : M3.IsWhole)
  (M4 : Memref sig .tc .vmem S128x256 .f32) (h4 : M4.IsWhole)
  (M5 : Memref sig .tc .vmem S128x256 .f32) (h5 : M5.IsWhole)
  (M6 : Memref sig .tc .vmem S128x256 .f32) (h6 : M6.IsWhole)
  (M7 : Memref sig .tc .vmem S128x2048 .f32) (h7 : M7.IsWhole)
  (M8 : Memref sig .tc .vmem S128x2048 .bf16) (h8 : M8.IsWhole)
  (M9 : Memref sig .tc .vmem S2048x256 .f32) (h9 : M9.IsWhole)
  (M10 : Memref sig .tc .vmem S2048x256 .f32) (h10 : M10.IsWhole)
  (M11 : Memref sig .tc .vmem S8x128 .f32) (h11 : M11.IsWhole)
  (x1 : Vec F S1x32 .f32) (x2 : Vec F S128x2048 .f32) (x3 : Vec F S128x256 .f32) (x4 : Vec F S128x256 .f32) (x5 : Vec F S128x256 .f32) (x6 : Vec F S128x256 .f32) (x7 : Vec F S128x2048 .f32) (p : Res (F := F))

/-! What the two runs name their groups' results, against the one spelling of them. -/

section
variable (f1 : Ct (F := F) c M1) (f2 : Ct (F := F) c M2) (f3 : Ct (F := F) c M3) (f4 : Ct (F := F) c M4) (f5 : Ct (F := F) c M5)
  (f6 : Ct (F := F) c M6) (f7 : Ct (F := F) c M7)
theorem first_dk : ![bodyRun.sl.v372 c i M1 M2 M3 M4 M5 M6 M7 f1 f2 f3 f4 f5 f6 f7, bodyRun.sl.v744 c i M1 M2 M3 M4 M5 M6 M7 f1 f2 f3 f4 f5 f6 f7, bodyRun.sl.v1116 c i M1 M2 M3 M4 M5 M6 M7 f1 f2 f3 f4 f5 f6 f7, bodyRun.sl.v1488 c i M1 M2 M3 M4 M5 M6 M7 f1 f2 f3 f4 f5 f6 f7] = mDk c i M1 M2 M3 M4 M5 M6 M7 f1 f2 f3 f4 f5 f6 f7 := by
  funext g; match g with | 0 => rfl | 1 => rfl | 2 => rfl | 3 => rfl
theorem first_dv : ![bodyRun.sl.v374 c i M1 M2 M3 M4 M7 f1 f2 f3 f4 f7, bodyRun.sl.v746 c i M1 M2 M3 M4 M7 f1 f2 f3 f4 f7, bodyRun.sl.v1118 c i M1 M2 M3 M4 M7 f1 f2 f3 f4 f7, bodyRun.sl.v1490 c i M1 M2 M3 M4 M7 f1 f2 f3 f4 f7] = mDv c i M1 M2 M3 M4 M7 f1 f2 f3 f4 f7 := by
  funext g; match g with | 0 => rfl | 1 => rfl | 2 => rfl | 3 => rfl
theorem first_dq : ![bodyRun.sl.r_14 c i M1 M2 M3 M4 M5 M6 M7 f1 f2 f3 f4 f5 f6 f7, bodyRun.sl.v605 c i M1 M2 M3 M4 M5 M6 M7 f1 f2 f3 f4 f5 f6 f7, bodyRun.sl.v977 c i M1 M2 M3 M4 M5 M6 M7 f1 f2 f3 f4 f5 f6 f7, bodyRun.sl.r_53 c i M1 M2 M3 M4 M5 M6 M7 f1 f2 f3 f4 f5 f6 f7] = mDq c i M1 M2 M3 M4 M5 M6 M7 f1 f2 f3 f4 f5 f6 f7 := by
  funext g; match g with | 0 => rfl | 1 => rfl | 2 => rfl | 3 => rfl
theorem first_part : ![bodyRun.sl.r_13 c i M1 M2 M3 M4 M5 M6 M7 f1 f2 f3 f4 f5 f6 f7, bodyRun.sl.v601 c i M1 M2 M3 M4 M5 M6 M7 f1 f2 f3 f4 f5 f6 f7, bodyRun.sl.v973 c i M1 M2 M3 M4 M5 M6 M7 f1 f2 f3 f4 f5 f6 f7, bodyRun.sl.r_52 c i M1 M2 M3 M4 M5 M6 M7 f1 f2 f3 f4 f5 f6 f7] = mPart c i M1 M2 M3 M4 M5 M6 M7 f1 f2 f3 f4 f5 f6 f7 := by
  funext g; match g with | 0 => rfl | 1 => rfl | 2 => rfl | 3 => rfl
theorem later_dk : ![bodyRun.sl.v372_1 c i M1 M2 M3 M4 M5 M6 M7 f1 f2 f3 f4 f5 f6 f7, bodyRun.sl.v744_1 c i M1 M2 M3 M4 M5 M6 M7 f1 f2 f3 f4 f5 f6 f7, bodyRun.sl.v1116_1 c i M1 M2 M3 M4 M5 M6 M7 f1 f2 f3 f4 f5 f6 f7, bodyRun.sl.v1488_1 c i M1 M2 M3 M4 M5 M6 M7 f1 f2 f3 f4 f5 f6 f7] = mDk c i M1 M2 M3 M4 M5 M6 M7 f1 f2 f3 f4 f5 f6 f7 := by
  funext g; match g with | 0 => rfl | 1 => rfl | 2 => rfl | 3 => rfl
theorem later_dv : ![bodyRun.sl.v374_1 c i M1 M2 M3 M4 M7 f1 f2 f3 f4 f7, bodyRun.sl.v746_1 c i M1 M2 M3 M4 M7 f1 f2 f3 f4 f7, bodyRun.sl.v1118_1 c i M1 M2 M3 M4 M7 f1 f2 f3 f4 f7, bodyRun.sl.v1490_1 c i M1 M2 M3 M4 M7 f1 f2 f3 f4 f7] = mDv c i M1 M2 M3 M4 M7 f1 f2 f3 f4 f7 := by
  funext g; match g with | 0 => rfl | 1 => rfl | 2 => rfl | 3 => rfl
theorem later_dq : ![bodyRun.sl.r_69 c i M1 M2 M3 M4 M5 M6 M7 f1 f2 f3 f4 f5 f6 f7, bodyRun.sl.v605_1 c i M1 M2 M3 M4 M5 M6 M7 f1 f2 f3 f4 f5 f6 f7, bodyRun.sl.v977_1 c i M1 M2 M3 M4 M5 M6 M7 f1 f2 f3 f4 f5 f6 f7, bodyRun.sl.r_107 c i M1 M2 M3 M4 M5 M6 M7 f1 f2 f3 f4 f5 f6 f7] = mDq c i M1 M2 M3 M4 M5 M6 M7 f1 f2 f3 f4 f5 f6 f7 := by
  funext g; match g with | 0 => rfl | 1 => rfl | 2 => rfl | 3 => rfl
theorem later_part : ![bodyRun.sl.r_68 c i M1 M2 M3 M4 M5 M6 M7 f1 f2 f3 f4 f5 f6 f7, bodyRun.sl.v601_1 c i M1 M2 M3 M4 M5 M6 M7 f1 f2 f3 f4 f5 f6 f7, bodyRun.sl.v973_1 c i M1 M2 M3 M4 M5 M6 M7 f1 f2 f3 f4 f5 f6 f7, bodyRun.sl.r_106 c i M1 M2 M3 M4 M5 M6 M7 f1 f2 f3 f4 f5 f6 f7] = mPart c i M1 M2 M3 M4 M5 M6 M7 f1 f2 f3 f4 f5 f6 f7 := by
  funext g; match g with | 0 => rfl | 1 => rfl | 2 => rfl | 3 => rfl
end

set_option maxHeartbeats 4000000 in
/-- The four blocks a later point leaves. -/
theorem bodyRes_later (hi) : bodyRes (F := F) c i false hi M1 h1 M2 h2 M3 h3 M4 h4 M5 h5 M6 h6 M7 h7 M8 h8 M9 h9 M10 h10 M11 h11 x1 x2 x3 x4 x5 x6 x7 p =
    (M8.view.read (Elt F) (M8.view.writes (Elt F) M8.view.junk (dqList (mDq c i M1 M2 M3 M4 M5 M6 M7 (h1.unread x1) (h2.unread x2) (h3.unread x3) (h4.unread x4) (h5.unread x5) (h6.unread x6) (h7.unread x7)))),
     M9.view.read (Elt F) (M9.view.writes (Elt F) (h9.unread p.2.1) (accList c i M9 (h9.unread p.2.1) (mDk c i M1 M2 M3 M4 M5 M6 M7 (h1.unread x1) (h2.unread x2) (h3.unread x3) (h4.unread x4) (h5.unread x5) (h6.unread x6) (h7.unread x7)) (fun _ => h9.unread p.2.1) [])),
     M10.view.read (Elt F) (M10.view.writes (Elt F) (h10.unread p.2.2.1) (accList c i M10 (h10.unread p.2.2.1) (mDv c i M1 M2 M3 M4 M7 (h1.unread x1) (h2.unread x2) (h3.unread x3) (h4.unread x4) (h7.unread x7)) (fun _ => h10.unread p.2.2.1) [])),
     M11.view.read (Elt F) (M11.view.writes (Elt F) M11.view.junk (sumList c M11 (h11.unread p.2.2.2) (dsSum (mPart c i M1 M2 M3 M4 M5 M6 M7 (h1.unread x1) (h2.unread x2) (h3.unread x3) (h4.unread x4) (h5.unread x5) (h6.unread x6) (h7.unread x7))) []))) := by
  rw [← later_dk, ← later_dv, ← later_dq, ← later_part]
  rfl

set_option maxHeartbeats 4000000 in
/-- The four blocks the first point leaves. -/
theorem bodyRes_first (hi) : bodyRes (F := F) c i true hi M1 h1 M2 h2 M3 h3 M4 h4 M5 h5 M6 h6 M7 h7 M8 h8 M9 h9 M10 h10 M11 h11 x1 x2 x3 x4 x5 x6 x7 p =
    (M8.view.read (Elt F) (M8.view.writes (Elt F) M8.view.junk (dqList (mDq c i M1 M2 M3 M4 M5 M6 M7 (h1.unread x1) (h2.unread x2) (h3.unread x3) (h4.unread x4) (h5.unread x5) (h6.unread x6) (h7.unread x7)))),
     M9.view.read (Elt F) (M9.view.writes (Elt F) M9.view.junk (accList c i M9 M9.view.junk (mDk c i M1 M2 M3 M4 M5 M6 M7 (h1.unread x1) (h2.unread x2) (h3.unread x3) (h4.unread x4) (h5.unread x5) (h6.unread x6) (h7.unread x7)) (fun L => M9.view.writes (Elt F) M9.view.junk L) zeroAcc)),
     M10.view.read (Elt F) (M10.view.writes (Elt F) M10.view.junk (accList c i M10 M10.view.junk (mDv c i M1 M2 M3 M4 M7 (h1.unread x1) (h2.unread x2) (h3.unread x3) (h4.unread x4) (h7.unread x7)) (fun L => M10.view.writes (Elt F) M10.view.junk L) zeroAcc)),
     M11.view.read (Elt F) (M11.view.writes (Elt F) M11.view.junk (sumList c M11 M11.view.junk (dsSum (mPart c i M1 M2 M3 M4 M5 M6 M7 (h1.unread x1) (h2.unread x2) (h3.unread x3) (h4.unread x4) (h5.unread x5) (h6.unread x6) (h7.unread x7))) zeroSum))) := by
  rw [← first_dk, ← first_dv, ← first_dq, ← first_part]
  rfl
end

end Cert.KernelIdeal.Model
-- ==== Proof.Oper.lean ====
/-
  A group's operands, element by element: the mask and the distances by their row and column, the stacked blocks by the
  arrays' columns, the slopes and the sinks by the head.
-/
module

public import proofs.«01_k».proof.Proof.Model
public import Idealize.ShloMosaic.Lib.Tactic.WordOmega

@[expose] public section

set_option maxRecDepth 16384

noncomputable section

namespace Cert.KernelIdeal.Model

open Cert.KernelIdeal Cert.KernelIdeal.Gen Cert.KernelIdeal.Body Cert.KernelIdeal.Group
open Idealize.ShloMosaic
open Idealize.ShloMosaic.TcCoe

/-- Key `j` of the two blocks under a point is one of row `a`'s: at most 127 before it, and not before the sequence. -/
def Valid (b a j : ℕ) : Prop := a < j ∧ j ≤ 128 + a ∧ (128 ≤ j ∨ 0 < b)
instance (b a j : ℕ) : Decidable (Valid b a j) := by unfold Valid; infer_instance

theorem and127 : ∀ r : Fin 1024, BitVec.ofNat 32 r.val &&& 127#32 = BitVec.ofNat 32 (r.val % 128) := by decide +kernel
/-- The distance as the kernel computes it. -/
def dw (a j : ℕ) : BitVec 32 := 128#32 + BitVec.ofNat 32 a - BitVec.ofNat 32 j
theorem dw_toInt (a j : ℕ) (ha : a < 128) (hj : j < 256) : (dw a j).toInt = 128 + (a : ℤ) - (j : ℤ) := by
  unfold dw
  word_omega
theorem pay4_val (r : Fin 1024) (j : Fin 256) : k0_pay4 (ix2 r j) = dw (r.val % 128) j.val := by
  unfold dw
  rw [← and127]
  pointwise [k0_pay4]
  rfl
theorem pay6_val (r : Fin 1024) (j : Fin 256) :
    k0_pay6 (F := Ideal) (ix2 r j) = (((128 + (r.val % 128 : ℕ) - (j.val : ℕ) : ℝ) : ℝ) : EReal) := by
  pointwise [k0_pay6]
  rw [pay4_val]
  show (((dw (r.val % 128) j.val).toInt : ℝ) : EReal) = _
  rw [dw_toInt _ _ (Nat.mod_lt _ (by decide)) j.isLt]
  push_cast
  rfl
theorem later_word : ∀ i : grid0.Coords, Scalar.cmpi .sgt (BitVec.ofNat 32 (i 0).val) 0#32 = BitVec.ofBool (decide (0 < (i 0).val)) := by decide +kernel
theorem pay5_iff (i : grid0.Coords) (r : Fin 1024) (j : Fin 256) : k0_pay5 i (ix2 r j) = 1#1 ↔ Valid (i 0).val (r.val % 128) j.val := by
  have hd := dw_toInt (r.val % 128) j.val (Nat.mod_lt _ (by decide)) j.isLt
  pointwise [k0_pay5]
  rw [pay4_val, later_word]
  have hj : (BitVec.ofNat 32 j.val).toInt = j.val := by
    have := j.isLt
    word_omega
  have e0 : (0#32).toInt = 0 := rfl
  have e1 : (128#32).toInt = 128 := rfl
  have h1 : IntOp.cmpi .sge (dw (r.val % 128) j.val) 0#32 = BitVec.ofBool (decide (j.val ≤ 128 + r.val % 128)) := by
    refine congrArg BitVec.ofBool ?_
    simp only [BitVec.sle, hd, e0]
    exact decide_eq_decide.mpr (by omega)
  have h2 : IntOp.cmpi .slt (dw (r.val % 128) j.val) 128#32 = BitVec.ofBool (decide (r.val % 128 < j.val)) := by
    refine congrArg BitVec.ofBool ?_
    simp only [BitVec.slt, hd, e1]
    exact decide_eq_decide.mpr (by omega)
  have h3 : IntOp.cmpi .sge (BitVec.ofNat 32 j.val) 128#32 = BitVec.ofBool (decide (128 ≤ j.val)) := by
    refine congrArg BitVec.ofBool ?_
    simp only [BitVec.sle, hj, e1]
    exact decide_eq_decide.mpr (by omega)
  rw [h1, h2, h3]
  unfold Valid
  by_cases p1 : j.val ≤ 128 + r.val % 128 <;> by_cases p2 : r.val % 128 < j.val <;> by_cases p3 : 128 ≤ j.val <;> by_cases p4 : 0 < (i 0).val <;>
    simp only [p1, p2, p3, p4, decide_true, decide_false] <;> decide
theorem pay10_val : ∀ r : Fin 1024, k0_pay10 (ix2 r 0) = BitVec.ofNat 32 (r.val / 128) := by decide +kernel

section
variable {F : FTy → Type} [FloatOps F] [Named F]
/-- A column of one value per head, at a row of head `r / 128`. -/
theorem col8_val (a : Fin 8 → F .f32) (r : Fin 1024) : col8 a (ix2 r 0) = a ⟨r.val / 128, by omega⟩ := by
  have hr : r.val / 128 < 8 := by omega
  generalize hh : (⟨r.val / 128, hr⟩ : Fin 8) = h
  have hw : k0_pay10 (ix2 r 0) = BitVec.ofNat 32 h.val := by rw [pay10_val, ← hh]
  have step : ∀ (y : FVec F S1024x1 .f32) (h' : Fin 8), select (cmpi .eq k0_pay10 (broadcast S1024x1 (BitVec.ofNat 32 h'.val))) (broadcast S1024x1 (a h')) y (ix2 r 0)
      = if h' = h then a h' else y (ix2 r 0) := fun y h' => by
    show Scalar.select (Scalar.cmpi .eq (k0_pay10 (ix2 r 0)) (BitVec.ofNat 32 h'.val)) (a h') (y (ix2 r 0)) = _
    rw [hw]
    by_cases e : h' = h
    · subst e; rw [if_pos rfl]; simp [Scalar.select, Scalar.cmpi, IntOp.cmpi]
    · rw [if_neg e]
      have : ¬ (BitVec.ofNat 32 h'.val = BitVec.ofNat 32 h.val) := by revert e; clear hw hh; revert h h'; decide
      simp [Scalar.select, Scalar.cmpi, IntOp.cmpi, beq_eq_false_iff_ne.mpr (Ne.symm this)]
  have all : ∀ (l : List (Fin 8)) (y : FVec F S1024x1 .f32), l.foldl (fun y h => select (cmpi .eq k0_pay10 (broadcast S1024x1 (BitVec.ofNat 32 h.val))) (broadcast S1024x1 (a h)) y) y (ix2 r 0)
      = if h ∈ l then a h else y (ix2 r 0) := by
    intro l
    induction l with
    | nil => intro y; simp
    | cons b l ih =>
      intro y
      rw [List.foldl_cons, ih, step]
      by_cases hl : h ∈ l
      · rw [if_pos hl, if_pos (List.mem_cons_of_mem _ hl)]
      · rw [if_neg hl]
        by_cases hb : b = h
        · subst hb; rw [if_pos rfl, if_pos List.mem_cons_self]
        · rw [if_neg hb, if_neg (by simp [hl, Ne.symm hb])]
  unfold col8
  rw [all, if_pos (List.mem_finRange h)]

variable (c : Dev nD)

theorem two_val (M M' : Memref sig .tc .vmem S128x256 .f32) (h : M.IsWhole) (h' : M'.IsWhole) (x x' : Vec Ideal S128x256 .f32) (g : Fin 4) (j : Fin 256) (d : Fin 64) :
    two (F := Ideal) c M M' (h.unread x) (h'.unread x') g (ix2 j d)
      = if hj : j.val < 128 then x (ix2 ⟨j.val, hj⟩ ⟨64 * g.val + d.val, by omega⟩) else x' (ix2 ⟨j.val - 128, by omega⟩ ⟨64 * g.val + d.val, by omega⟩) := by
  unfold two
  simp only [View.readAt_eq_ld, h.read_unread, h'.read_unread]
  pointwise []
  simp only [h.read_unread, h'.read_unread]

theorem one_val (M : Memref sig .tc .vmem S128x2048 .f32) (h : M.IsWhole) (x : Vec Ideal S128x2048 .f32) (n : Fin 32) (r : Fin 128) (d : Fin 64) :
    one (F := Ideal) c M (h.unread x) n (ix2 r d) = x (ix2 r ⟨64 * n.val + d.val, by omega⟩) := by
  unfold one
  simp only [View.readAt_eq_ld, h.read_unread]
  pointwise []

theorem eight_val (M : Memref sig .tc .vmem S128x2048 .f32) (h : M.IsWhole) (x : Vec Ideal S128x2048 .f32) (g : Fin 4) (r : Fin 1024) (d : Fin 64) :
    eight (F := Ideal) c M (h.unread x) g (ix2 r d) = x (ix2 ⟨r.val % 128, by omega⟩ ⟨64 * (8 * g.val + r.val / 128) + d.val, by omega⟩) := by
  unfold eight
  pointwise []
  simp only [one_val]
  repeat' split
  all_goals
    refine congrArg x (congrArg₂ ix2 (Fin.ext ?_) (Fin.ext ?_)) <;> simp [head] <;> omega

theorem skc_val (M : Memref sig .tc .smem S1x32 .f32) (h : M.IsWhole) (x : Vec Ideal S1x32 .f32) (g : Fin 4) (r : Fin 1024) :
    skc (F := Ideal) c M (h.unread x) g (ix2 r 0) = x (ix2 0 ⟨8 * g.val + r.val / 128, by omega⟩) := by
  unfold skc
  rw [col8_val]
  simp only [View.readAt_eq_ld, h.read_unread]
  pointwise []
  rfl
theorem slc_val (g : Fin 4) (r : Fin 1024) : slc (F := Ideal) g (ix2 r 0) = Ideal.ofBits .f32 (slopeW ⟨8 * g.val + r.val / 128, by omega⟩) := by
  unfold slc
  rw [col8_val]; rfl
end

end Cert.KernelIdeal.Model
-- ==== Proof.Acc.lean ====
/-
  What the lists of stores leave: the accumulators' adds, group by group, the queries' gradient's 32 tiles, and the sum over
  the heads in the sinks' row.
-/
module

public import proofs.«01_k».proof.Proof.Oper
public import Idealize.ShloMosaic.Lib.WritesUnit

@[expose] public section

set_option maxRecDepth 16384

noncomputable section

namespace Cert.KernelIdeal.Model

open Cert.KernelIdeal Cert.KernelIdeal.Gen Cert.KernelIdeal.Body Cert.KernelIdeal.Group
open Idealize.ShloMosaic
open Idealize.ShloMosaic.TcCoe

theorem off2_eq : ∀ i : grid0.Coords, k0_off2 i = ![128 * (i 0).val, 0] := by decide +kernel
theorem off4_eq : ∀ i : grid0.Coords, k0_off4 i = ![128 * (i 0).val, 64] := by decide +kernel
theorem off6_eq : ∀ i : grid0.Coords, k0_off6 i = ![128 * (i 0).val, 128] := by decide +kernel
theorem off8_eq : ∀ i : grid0.Coords, k0_off8 i = ![128 * (i 0).val, 192] := by decide +kernel

section
variable (c : Dev nD) (M : Memref sig .tc .vmem S2048x256 .f32)

/-- One add to an accumulator: rows `128 p …`, columns `64 g …`, of the half of `T` that begins at row `o`. -/
theorem add_read (f : Ct (F := Ideal) c M) {off : Fin 2 → ℕ} (inb : ∀ a, off a + S128x64.size a ≤ S2048x256.size a) (X : Vec Ideal S128x64 .f32) (T : FVec Ideal S256x64 .f32)
    (o : ℕ) (ho : o ≤ 128) (hs : S256x64.Slices ![o, 0] S128x64) (L : List (View.Piece (Elt Ideal) S2048x256 .f32)) (p g : ℕ) (e : off = ![128 * p, 64 * g])
    (hp : p < 16) (hg : g < 4)
    (hX : ∀ (r : Fin 128) (d : Fin 64), X (ix2 r d) = M.view.read (Elt Ideal) (M.view.writes (Elt Ideal) f L) (ix2 ⟨128 * p + r.val, by omega⟩ ⟨64 * g + d.val, by omega⟩))
    (a : Fin 2048) (b : Fin 256) :
    M.view.read (Elt Ideal) (M.view.writes (Elt Ideal) f (⟨Rect.unit (s := S2048x256) off S128x64.size inb,
        addf (shapeCast S128x64 X shapeCasts_S128x64_S128x64) (extractStridedSlice S128x64 ![o, 0] T hs)⟩ :: L)) (ix2 a b)
      = M.view.read (Elt Ideal) (M.view.writes (Elt Ideal) f L) (ix2 a b)
        + (if b.val / 64 = g ∧ a.val / 128 = p then T (ix2 ⟨o + a.val % 128, by omega⟩ ⟨b.val % 64, by omega⟩) else 0) := by
  by_cases h : b.val / 64 = g ∧ a.val / 128 = p
  · rw [if_pos h]
    obtain ⟨h1, h2⟩ := h
    rw [View.read_writes_cons_unit_of_mem M.view f inb _ L (ix2 a b) (ix2 ⟨a.val % 128, Nat.mod_lt _ (by decide)⟩ ⟨b.val % 64, Nat.mod_lt _ (by decide)⟩) e
      (Fin.forall_fin_two.mpr ⟨by show a.val = 128 * p + a.val % 128; omega, by show b.val = 64 * g + b.val % 64; omega⟩)]
    pointwise []
    rw [hX]
    congr 3
    · refine Fin.ext ?_
      show 128 * p + a.val % 128 = a.val; omega
    · refine Fin.ext ?_
      show 64 * g + b.val % 64 = b.val; omega
  · rw [if_neg h, add_zero]
    by_cases h2 : a.val / 128 = p
    · refine View.read_writes_cons_unit_of_not_mem M.view f inb _ L (ix2 a b) e 1 ?_
      show b.val < 64 * g ∨ 64 * g + 64 ≤ b.val
      omega
    · refine View.read_writes_cons_unit_of_not_mem M.view f inb _ L (ix2 a b) e 0 ?_
      show a.val < 128 * p ∨ 128 * p + 128 ≤ a.val
      omega

/-- What the group over column `b` adds at row `a`. -/
def contrib (p q : ℕ) (T : Fin 4 → FVec Ideal S256x64 .f32) (a : Fin 2048) (b : Fin 256) : EReal :=
  (if a.val / 128 = p then T ⟨b.val / 64, by omega⟩ (ix2 ⟨0 + a.val % 128, by omega⟩ ⟨b.val % 64, by omega⟩) else 0)
    + (if a.val / 128 = q then T ⟨b.val / 64, by omega⟩ (ix2 ⟨128 + a.val % 128, by omega⟩ ⟨b.val % 64, by omega⟩) else 0)

theorem readAt_tile (f : Ct (F := Ideal) c M) {off : Fin 2 → ℕ} (inb : ∀ a, off a + S128x64.size a ≤ S2048x256.size a) (p g : ℕ) (e : off = ![128 * p, 64 * g])
    (hp : p < 16) (hg : g < 4) (r : Fin 128) (d : Fin 64) :
    View.readAt (Elt Ideal) M.view (Rect.unit (s := S2048x256) off S128x64.size inb).toLoadRect f (ix2 r d)
      = M.view.read (Elt Ideal) f (ix2 ⟨128 * p + r.val, by omega⟩ ⟨64 * g + d.val, by omega⟩) := by
  subst e
  rw [View.readAt_eq_ld]
  pointwise []

/-- One group's two adds. -/
theorem pair_read (f : Ct (F := Ideal) c M) {op oc : Fin 2 → ℕ} (hp : ∀ a, op a + S128x64.size a ≤ S2048x256.size a) (hc : ∀ a, oc a + S128x64.size a ≤ S2048x256.size a)
    (T : Fin 4 → FVec Ideal S256x64 .f32) (f' : Ct (F := Ideal) c M) (L : List (View.Piece (Elt Ideal) S2048x256 .f32)) (p q g : ℕ)
    (ep : op = ![128 * p, 64 * g]) (eq : oc = ![128 * q, 64 * g]) (lp : p < 16) (lq : q < 16) (lg : g < 4)
    (v : Fin 2048 → Fin 256 → EReal)
    (hv : ∀ a b, M.view.read (Elt Ideal) (M.view.writes (Elt Ideal) f L) (ix2 a b) = v a b + if b.val / 64 < g then contrib p q T a b else 0)
    (hf : f' = M.view.writes (Elt Ideal) f L ∨ ∀ a b, M.view.read (Elt Ideal) f' (ix2 a b) = v a b)
    (a : Fin 2048) (b : Fin 256) :
    M.view.read (Elt Ideal) (M.view.writes (Elt Ideal) f (pair c M f op oc hp hc (T ⟨g, lg⟩)
        (View.readAt (Elt Ideal) M.view (Rect.unit (s := S2048x256) op S128x64.size hp).toLoadRect f') L)) (ix2 a b)
      = v a b + if b.val / 64 < g + 1 then contrib p q T a b else 0 := by
  unfold pair
  rw [add_read c M f hc _ _ 128 (le_refl _) _ _ q g eq lq lg (fun r d => readAt_tile c M _ hc q g eq lq lg r d),
    add_read c M f hp _ _ 0 (by decide) _ L p g ep lp lg (fun r d => ?_), hv]
  · unfold contrib
    by_cases hb : b.val / 64 = g
    · subst hb
      simp only [lt_irrefl, if_false, Nat.lt_succ_self, if_true, true_and, add_zero, add_assoc]
    · have : (b.val / 64 < g + 1) = (b.val / 64 < g) := propext (by omega)
      simp only [hb, false_and, if_false, add_zero, this]
  · rw [readAt_tile c M f' hp p g ep lp lg r d]
    rcases hf with rfl | hf
    · rfl
    · rw [hf, hv]
      have : ¬ ((64 * g + d.val) / 64 < g) := by omega
      simp only [this, if_false, add_zero]

/-- All four groups' adds. -/
theorem accList_read (i : grid0.Coords) (f : Ct (F := Ideal) c M) (T : Fin 4 → FVec Ideal S256x64 .f32)
    (rd : List (View.Piece (Elt Ideal) S2048x256 .f32) → Ct (F := Ideal) c M) (L : List (View.Piece (Elt Ideal) S2048x256 .f32))
    (hrd : (∀ L, rd L = M.view.writes (Elt Ideal) f L) ∨ ∀ L' a b, M.view.read (Elt Ideal) (rd L') (ix2 a b) = M.view.read (Elt Ideal) (M.view.writes (Elt Ideal) f L) (ix2 a b))
    (a : Fin 2048) (b : Fin 256) :
    M.view.read (Elt Ideal) (M.view.writes (Elt Ideal) f (accList c i M f T rd L)) (ix2 a b)
      = M.view.read (Elt Ideal) (M.view.writes (Elt Ideal) f L) (ix2 a b) + contrib ((i 0).val - 1) (i 0).val T a b := by
  have hi : (i 0).val < 16 := (i 0).isLt
  have hi' : (i 0).val - 1 < 16 := by omega
  have hr : ∀ L', rd L' = M.view.writes (Elt Ideal) f L' ∨ ∀ a b, M.view.read (Elt Ideal) (rd L') (ix2 a b) = M.view.read (Elt Ideal) (M.view.writes (Elt Ideal) f L) (ix2 a b) :=
    fun L' => hrd.imp (fun h => h L') (fun h => h L')
  unfold accList
  have s0 := pair_read c M f (k0_off1_inb i) (k0_off2_inb i) T (rd L) L ((i 0).val - 1) (i 0).val 0 (off1_eq i) (off2_eq i) hi' hi (by decide)
    (fun a b => M.view.read (Elt Ideal) (M.view.writes (Elt Ideal) f L) (ix2 a b)) (fun a b => by simp) (hr L)
  have s1 := pair_read c M f (k0_off3_inb i) (k0_off4_inb i) T (rd _) _ ((i 0).val - 1) (i 0).val 1 (off3_eq i) (off4_eq i) hi' hi (by decide) _ s0 (hr _)
  have s2 := pair_read c M f (k0_off5_inb i) (k0_off6_inb i) T (rd _) _ ((i 0).val - 1) (i 0).val 2 (off5_eq i) (off6_eq i) hi' hi (by decide) _ s1 (hr _)
  have s3 := pair_read c M f (k0_off7_inb i) (k0_off8_inb i) T (rd _) _ ((i 0).val - 1) (i 0).val 3 (off7_eq i) (off8_eq i) hi' hi (by decide) _ s2 (hr _) a b
  rw [if_pos (by omega)] at s3
  exact s3
end

/-! ## The queries' gradient's tiles -/

theorem dqPieces_read {c : Dev nD} (M : Memref sig .tc .vmem S128x2048 .bf16) (f : Ct (F := Ideal) c M) (T : Fin 4 → FVec Ideal S1024x64 .bf16) (r : Fin 128) (b : Fin 2048) :
    ∀ l : List (Fin 32), (⟨b.val / 64, by omega⟩ : Fin 32) ∈ l →
      M.view.read (Elt Ideal) (M.view.writes (Elt Ideal) f (l.map (dqPiece T))) (ix2 r b)
        = T ⟨b.val / 512, by omega⟩ (ix2 ⟨128 * (b.val / 64 % 8) + r.val, by omega⟩ ⟨b.val % 64, by omega⟩)
  | [], h => absurd h (List.not_mem_nil)
  | h :: l, hm => by
    rw [List.map_cons]
    unfold dqPiece
    by_cases e : b.val / 64 = h.val
    · rw [View.read_writes_cons_unit_of_mem M.view f (inb_q h) _ _ (ix2 r b)
        ((ix2 r ⟨b.val % 64, Nat.mod_lt _ (by decide)⟩ : S128x64.Idx)) (rfl : (![0, 64 * h.val] : Fin 2 → ℕ) = ![0, 64 * h.val])
        (Fin.forall_fin_two.mpr ⟨by show r.val = 0 + r.val; omega, by show b.val = 64 * h.val + b.val % 64; omega⟩)]
      pointwise []
      have e1 : grp h = ⟨b.val / 512, by omega⟩ := Fin.ext (by show h.val / 8 = b.val / 512; omega)
      rw [e1]
      refine congrArg (fun n => T _ (ix2 n _)) (Fin.ext ?_)
      show 128 * (h.val % 8) + r.val = 128 * (b.val / 64 % 8) + r.val
      omega
    · rw [View.read_writes_cons_unit_of_not_mem M.view f (inb_q h) _ _ (ix2 r b) (rfl : (![0, 64 * h.val] : Fin 2 → ℕ) = ![0, 64 * h.val]) 1
        (by show b.val < 64 * h.val ∨ 64 * h.val + 64 ≤ b.val; omega)]
      refine dqPieces_read M f T r b l ((List.mem_cons.mp hm).resolve_left fun e' => e ?_)
      exact congrArg Fin.val e'

theorem mem_heads : ∀ h : Fin 32, h ∈ heads := by decide
theorem nodup_heads : heads.Nodup := by decide

theorem dqList_read {c : Dev nD} (M : Memref sig .tc .vmem S128x2048 .bf16) (f : Ct (F := Ideal) c M) (T : Fin 4 → FVec Ideal S1024x64 .bf16) (r : Fin 128) (b : Fin 2048) :
    M.view.read (Elt Ideal) (M.view.writes (Elt Ideal) f (dqList T)) (ix2 r b)
      = T ⟨b.val / 512, by omega⟩ (ix2 ⟨128 * (b.val / 64 % 8) + r.val, by omega⟩ ⟨b.val % 64, by omega⟩) :=
  dqPieces_read M f T r b heads (mem_heads _)

/-! ## The sinks' row -/

/-- What a head adds to the sinks' row. -/
def dsHead (T : Fin 4 → FVec Ideal S1024x1 .f32) (h : Fin 32) : EReal :=
  0 - ∑ r : Fin 128, T (grp h) (ix2 ⟨128 * (h.val % 8) + r.val, by omega⟩ 0)

theorem lane_eq (l : Fin 128) (n : ℕ) (hn : n < 128) : (BitVec.ofNat 32 l.val = BitVec.ofNat 32 n) ↔ l.val = n := by
  constructor
  · intro h
    have := congrArg BitVec.toNat h
    simp only [BitVec.toNat_ofNat] at this
    omega
  · intro h; rw [h]

theorem dsTerm_val (T : Fin 4 → FVec Ideal S1024x1 .f32) (h : Fin 32) (a : Fin 8) (l : Fin 128) :
    dsTerm T h (ix2 a l) = if l.val = h.val ∧ a.val = 0 then dsHead T h else 0 := by
  pointwise [dsTerm]
  unfold dsHead
  simp only [Fin.sum_univ_one, Fin.sum_univ_zero, Finset.univ_unique, Finset.sum_singleton]
  by_cases e : l.val = h.val ∧ a.val = 0
  · have e1 : IntOp.cmpi .eq (BitVec.ofNat 32 l.val) (BitVec.ofNat 32 h.val) = 1#1 := by rw [e.1]; simp [IntOp.cmpi]
    have e2 : IntOp.cmpi .eq (BitVec.ofNat 32 a.val) 0#32 = 1#1 := by rw [e.2]; rfl
    rw [e1, e2, if_pos e]
    rfl
  · rw [if_neg e]
    rcases not_and_or.mp e with h1 | h1
    · have e1 : IntOp.cmpi .eq (BitVec.ofNat 32 l.val) (BitVec.ofNat 32 h.val) = 0#1 := by
        have := (not_congr (lane_eq l h.val (by omega))).mpr h1
        simp only [IntOp.cmpi, beq_eq_false_iff_ne.mpr this]; rfl
      rw [e1]
      generalize IntOp.cmpi .eq (BitVec.ofNat 32 a.val) 0#32 = z
      have : IntOp.andi 0#1 z = 0#1 := by revert z; decide
      rw [this]; rfl
    · have e1 : IntOp.cmpi .eq (BitVec.ofNat 32 a.val) 0#32 = 0#1 := by
        clear e
        revert h1; revert a; decide
      rw [e1]
      generalize IntOp.cmpi .eq (BitVec.ofNat 32 l.val) (BitVec.ofNat 32 h.val) = z
      have : IntOp.andi z 0#1 = 0#1 := by revert z; decide
      rw [this]; rfl

theorem dsFold_val (T : Fin 4 → FVec Ideal S1024x1 .f32) (a : Fin 8) (l : Fin 128) : ∀ L : List (Fin 32), L.Nodup →
    L.foldr (fun h y => addf y (dsTerm T h)) (broadcast S8x128 (Scalar.ofBits .f32 0x00000000#32)) (ix2 a l)
      = if h : l.val < 32 then (if (⟨l.val, h⟩ : Fin 32) ∈ L ∧ a.val = 0 then dsHead T ⟨l.val, h⟩ else 0) else 0
  | [], _ => by
    rw [List.foldr_nil]
    pointwise []
    simp
  | h :: L, nd => by
    rw [List.foldr_cons]
    show (L.foldr (fun h y => addf y (dsTerm T h)) (broadcast S8x128 (Scalar.ofBits .f32 0x00000000#32)) (ix2 a l)) + dsTerm T h (ix2 a l) = _
    rw [dsFold_val T a l L (List.nodup_cons.mp nd).2, dsTerm_val]
    by_cases hl : l.val < 32
    · rw [dif_pos hl, dif_pos hl]
      by_cases e : l.val = h.val
      · have eh : (⟨l.val, hl⟩ : Fin 32) = h := Fin.ext e
        have := (List.nodup_cons.mp nd).1
        rw [eh]
        simp only [this, false_and, if_false, zero_add, e, true_and, List.mem_cons, true_or]
      · have eh : (⟨l.val, hl⟩ : Fin 32) ≠ h := fun h' => e (congrArg Fin.val h')
        simp only [e, false_and, if_false, add_zero, List.mem_cons, eh, false_or]
    · rw [dif_neg hl, dif_neg hl, if_neg (fun h' => hl (by omega)), add_zero]

/-- The sinks' row, at its lanes. -/
def dsRow (T : Fin 4 → FVec Ideal S1024x1 .f32) (a : Fin 8) (l : Fin 128) : EReal :=
  if h : l.val < 32 then (if a.val = 0 then dsHead T ⟨l.val, h⟩ else 0) else 0

theorem dsSum_val (T : Fin 4 → FVec Ideal S1024x1 .f32) (a : Fin 8) (l : Fin 128) : dsSum T (ix2 a l) = dsRow T a l := by
  unfold dsSum
  rw [dsFold_val T a l heads nodup_heads]
  simp only [mem_heads, true_and]
  rfl

theorem sumList_read {c : Dev nD} (M : Memref sig .tc .vmem S8x128 .f32) (f f' : Ct (F := Ideal) c M) (T : FVec Ideal S8x128 .f32)
    (L : List (View.Piece (Elt Ideal) S8x128 .f32)) (a : Fin 8) (l : Fin 128) :
    M.view.read (Elt Ideal) (M.view.writes (Elt Ideal) f' (sumList c M f T L)) (ix2 a l)
      = M.view.read (Elt Ideal) (M.view.writes (Elt Ideal) f L) (ix2 a l) + T (ix2 a l) := by
  unfold sumList
  rw [View.read_writes_cons_unit_of_mem M.view f' inb_S8x128_S8x128_0_0 _ _ (ix2 a l) (ix2 a l) (rfl : (![0, 0] : Fin 2 → ℕ) = ![0, 0])
    (Fin.forall_fin_two.mpr ⟨by show a.val = 0 + a.val; omega, by show l.val = 0 + l.val; omega⟩), View.readAt_eq_ld]
  pointwise []

theorem zeroAcc_read {c : Dev nD} (M : Memref sig .tc .vmem S2048x256 .f32) (f : Ct (F := Ideal) c M) (a : Fin 2048) (b : Fin 256) :
    M.view.read (Elt Ideal) (M.view.writes (Elt Ideal) f zeroAcc) (ix2 a b) = 0 := by
  unfold zeroAcc
  rw [View.read_writes_cons_unit_of_mem M.view f inb_S2048x256_S2048x256_0_0 _ _ (ix2 a b) (ix2 a b) (rfl : (![0, 0] : Fin 2 → ℕ) = ![0, 0])
    (Fin.forall_fin_two.mpr ⟨by show a.val = 0 + a.val; omega, by show b.val = 0 + b.val; omega⟩)]
  pointwise []

theorem zeroSum_read {c : Dev nD} (M : Memref sig .tc .vmem S8x128 .f32) (f : Ct (F := Ideal) c M) (a : Fin 8) (b : Fin 128) :
    M.view.read (Elt Ideal) (M.view.writes (Elt Ideal) f zeroSum) (ix2 a b) = 0 := by
  unfold zeroSum
  rw [View.read_writes_cons_unit_of_mem M.view f inb_S8x128_S8x128_0_0 _ _ (ix2 a b) (ix2 a b) (rfl : (![0, 0] : Fin 2 → ℕ) = ![0, 0])
    (Fin.forall_fin_two.mpr ⟨by show a.val = 0 + a.val; omega, by show b.val = 0 + b.val; omega⟩)]
  pointwise []

end Cert.KernelIdeal.Model
-- ==== Proof.Blocks.lean ====
/-
  The blocks the body reads, at an index, as elements of the three arguments.
-/
module

public import proofs.«01_k».proof.Proof.Run
public import Idealize.ShloMosaic.Lib.Pointwise
public import Idealize.ShloMosaic.Lib.Pipeline.ValueKit.Point

@[expose] public section

set_option maxRecDepth 16384

noncomputable section

namespace Cert.KernelIdeal.Body

open Cert.KernelIdeal Cert.KernelIdeal.Gen
open Idealize.ShloMosaic
open Idealize.ShloMosaic.TcCoe

theorem coord : ∀ t : Fin cfg0.N, (grid0.coords t 0).val = t.val := by decide +kernel

theorem index_in : ∀ t : Fin cfg0.N, win0_0.index t = ![0, 0] ∧ win0_1.index t = ![t.val, 0] ∧ win0_2.index t = ![t.val - 1, 8]
    ∧ win0_3.index t = ![t.val, 8] ∧ win0_4.index t = ![t.val - 1, 9] ∧ win0_5.index t = ![t.val, 9] ∧ win0_6.index t = ![t.val, 0] := by decide +kernel

theorem index_out : ∀ t : Fin cfg0.N, win0_7.index t = ![t.val, 0] ∧ win0_8.index t = ![0, 0] ∧ win0_9.index t = ![0, 0] ∧ win0_10.index t = ![0, 0] := by decide +kernel

section
variable (m : (ℓ : Loc nD τ sig) → Buf (Elt Ideal) ℓ) (c : Dev nD)

theorem t_lt (t : Fin cfg0.N) : t.val < 16 := lt_of_lt_of_eq t.isLt N_0

theorem blk_sinks (t : Fin cfg0.N) (h : Fin 32) : iblk m c 0 t (ix2 0 h) = m ((c : Thread nD τ).loc main_arg2) (ix2 0 h) := by
  obtain ⟨e0, -⟩ := index_in t
  blk_ext [iblk, V, e0]

theorem blk_q (t : Fin cfg0.N) (r : Fin 128) (k : Fin 2048) :
    X0_1 m c t (ix2 r k) = m ((c : Thread nD τ).loc main_arg0) (ix2 ⟨128 * t.val + r.val, by have := t_lt t; omega⟩ ⟨k.val, by omega⟩) := by
  have ht := t_lt t
  obtain ⟨-, e1, -⟩ := index_in t
  unfold X0_1 Pipeline.Window.fill
  rw [dif_pos (moved0_1 t _)]
  blk_ext [iblk, V, e1]

theorem blk_kp (t : Fin cfg0.N) (r : Fin 128) (k : Fin 256) :
    iblk m c 2 t (ix2 r k) = m ((c : Thread nD τ).loc main_arg0) (ix2 ⟨128 * (t.val - 1) + r.val, by have := t_lt t; omega⟩ ⟨2048 + k.val, by omega⟩) := by
  have ht := t_lt t
  obtain ⟨-, -, e, -⟩ := index_in t
  blk_ext [iblk, V, e]

theorem blk_kc (t : Fin cfg0.N) (r : Fin 128) (k : Fin 256) :
    iblk m c 3 t (ix2 r k) = m ((c : Thread nD τ).loc main_arg0) (ix2 ⟨128 * t.val + r.val, by have := t_lt t; omega⟩ ⟨2048 + k.val, by omega⟩) := by
  have ht := t_lt t
  obtain ⟨-, -, -, e, -⟩ := index_in t
  blk_ext [iblk, V, e]

theorem blk_vp (t : Fin cfg0.N) (r : Fin 128) (k : Fin 256) :
    iblk m c 4 t (ix2 r k) = m ((c : Thread nD τ).loc main_arg0) (ix2 ⟨128 * (t.val - 1) + r.val, by have := t_lt t; omega⟩ ⟨2304 + k.val, by omega⟩) := by
  have ht := t_lt t
  obtain ⟨-, -, -, -, e, -⟩ := index_in t
  blk_ext [iblk, V, e]

theorem blk_vc (t : Fin cfg0.N) (r : Fin 128) (k : Fin 256) :
    iblk m c 5 t (ix2 r k) = m ((c : Thread nD τ).loc main_arg0) (ix2 ⟨128 * t.val + r.val, by have := t_lt t; omega⟩ ⟨2304 + k.val, by omega⟩) := by
  have ht := t_lt t
  obtain ⟨-, -, -, -, -, e, -⟩ := index_in t
  blk_ext [iblk, V, e]

theorem blk_o (t : Fin cfg0.N) (r : Fin 128) (k : Fin 2048) :
    iblk m c 6 t (ix2 r k) = m ((c : Thread nD τ).loc main_arg1) (ix2 ⟨128 * t.val + r.val, by have := t_lt t; omega⟩ k) := by
  have ht := t_lt t
  obtain ⟨-, -, -, -, -, -, e⟩ := index_in t
  blk_ext [iblk, V, e]
end

end Cert.KernelIdeal.Body
-- ==== Proof.Row.lean ====
/-
  One row of the attention and its gradient over the reals, and the same row in extended reals as a program computes it:
  scores with the masked ones at −∞, shifted by a maximum that drops out.
-/
module

public import Idealize.ShloMosaic.PureOps.Ideal
public import Idealize.ShloMosaic.PureOps.Ideal.Laws

@[expose] public section

noncomputable section

namespace Cert.Row

open Idealize.ShloMosaic
open scoped Classical

/-- The unshifted weight of key `j`: the exponential of its score, nothing where it is masked. -/
def wE {n : ℕ} (v : Fin n → Prop) (s : Fin n → ℝ) (j : Fin n) : ℝ := if v j then Real.exp (s j) else 0
/-- The weights' sum and the sink's. -/
def wDen {n : ℕ} (v : Fin n → Prop) (s : Fin n → ℝ) (k : ℝ) : ℝ := ∑ j, wE v s j + Real.exp k
/-- The probability of key `j`, and the sink's. -/
def wP {n : ℕ} (v : Fin n → Prop) (s : Fin n → ℝ) (k : ℝ) (j : Fin n) : ℝ := wE v s j / wDen v s k
def wS {n : ℕ} (v : Fin n → Prop) (s : Fin n → ℝ) (k : ℝ) : ℝ := Real.exp k / wDen v s k
/-- The mean of the probabilities' cotangents. -/
def wDelta {n : ℕ} (v : Fin n → Prop) (s : Fin n → ℝ) (k : ℝ) (d : Fin n → ℝ) : ℝ := ∑ j, wP v s k j * d j
/-- The gradient of the score of key `j`. -/
def wDs {n : ℕ} (v : Fin n → Prop) (s : Fin n → ℝ) (k : ℝ) (d : Fin n → ℝ) (j : Fin n) : ℝ :=
  wP v s k j * (d j - wDelta v s k d)

variable {n : ℕ} {v : Fin n → Prop} {s s' : Fin n → ℝ} {k : ℝ} {d d' : Fin n → ℝ}

theorem wE_congr (h : ∀ j, v j → s j = s' j) : wE v s = wE v s' := by
  funext j; unfold wE; split
  · rename_i hv; rw [h j hv]
  · rfl
theorem wDen_congr (h : ∀ j, v j → s j = s' j) : wDen v s k = wDen v s' k := by unfold wDen; rw [wE_congr h]
theorem wP_congr (h : ∀ j, v j → s j = s' j) : wP v s k = wP v s' k := by
  funext j; unfold wP; rw [wE_congr h, wDen_congr h]
theorem wS_congr (h : ∀ j, v j → s j = s' j) : wS v s k = wS v s' k := by unfold wS; rw [wDen_congr h]
theorem wP_masked {j : Fin n} (h : ¬ v j) : wP v s k j = 0 := by unfold wP wE; rw [if_neg h, zero_div]
theorem wDelta_congr (h : ∀ j, v j → s j = s' j) (hd : ∀ j, v j → d j = d' j) : wDelta v s k d = wDelta v s' k d' := by
  unfold wDelta; rw [wP_congr h]
  refine Finset.sum_congr rfl fun j _ => ?_
  by_cases hv : v j
  · rw [hd j hv]
  · rw [wP_masked hv, zero_mul, zero_mul]
theorem wDs_congr (h : ∀ j, v j → s j = s' j) (hd : ∀ j, v j → d j = d' j) : wDs v s k d = wDs v s' k d' := by
  funext j; unfold wDs; rw [wDelta_congr h hd, wP_congr h]
  by_cases hv : v j
  · rw [hd j hv]
  · rw [wP_masked hv, zero_mul, zero_mul]
theorem wDs_masked {j : Fin n} (h : ¬ v j) : wDs v s k d j = 0 := by unfold wDs; rw [wP_masked h, zero_mul]

theorem wE_nonneg (j : Fin n) : 0 ≤ wE v s j := by unfold wE; split <;> positivity
theorem wDen_pos : 0 < wDen v s k :=
  add_pos_of_nonneg_of_pos (Finset.sum_nonneg fun j _ => wE_nonneg j) (Real.exp_pos k)
theorem wP_sum : ∑ j, wP v s k j + wS v s k = 1 := by
  unfold wP wS; rw [← Finset.sum_div, ← add_div]; exact div_self wDen_pos.ne'

/-! ### In extended reals -/

theorem coe_sum {ι : Type*} (t : Finset ι) (f : ι → ℝ) : ∑ i ∈ t, (f i : EReal) = ((∑ i ∈ t, f i : ℝ) : EReal) := by
  induction t using Finset.induction with
  | empty => simp
  | insert a t ha ih => rw [Finset.sum_insert ha, Finset.sum_insert ha, ih, EReal.coe_add]

theorem div_coe' {a b : ℝ} (h : b ≠ 0) : Ideal.div (a : EReal) (b : EReal) = ((a / b : ℝ) : EReal) := by
  rw [Ideal.div_coe h, ← EReal.coe_mul, mul_one_div]

/-- A score as the programs hold it. -/
def sc (v : Fin n → Prop) (s : Fin n → ℝ) (j : Fin n) : EReal := if v j then (s j : EReal) else ⊥

theorem sc_lt_top (j : Fin n) : sc v s j < ⊤ := by
  unfold sc; split
  · exact EReal.coe_lt_top _
  · exact bot_lt_top

/-- The maximum of the scores and the sink is a real number. -/
theorem max_real (v : Fin n → Prop) (s : Fin n → ℝ) (k : ℝ) (b : EReal) (hb : b < ⊤) :
    ∃ M : ℝ, max (Finset.univ.fold max b fun j => sc v s j) (k : EReal) = (M : EReal) := by
  have h1 : Finset.univ.fold max b (fun j => sc v s j) < ⊤ := by
    rw [Finset.fold_max_lt]; exact ⟨hb, fun j _ => sc_lt_top j⟩
  have h2 : max (Finset.univ.fold max b fun j => sc v s j) (k : EReal) ≠ ⊤ :=
    (max_lt h1 (EReal.coe_lt_top k)).ne
  have h3 : max (Finset.univ.fold max b fun j => sc v s j) (k : EReal) ≠ ⊥ :=
    (lt_of_lt_of_le (EReal.bot_lt_coe k) (le_max_right _ _)).ne'
  exact ⟨_, (EReal.coe_toReal h2 h3).symm⟩

variable (M : ℝ)

theorem exp_sc (j : Fin n) : Ideal.exp (sc v s j - (M : EReal)) = ((Real.exp (-M) * wE v s j : ℝ) : EReal) := by
  unfold sc wE; split
  · rw [← EReal.coe_sub, Ideal.exp_coe, ← Real.exp_add, neg_add_eq_sub]
  · rw [EReal.bot_sub, mul_zero]; rfl

theorem exp_sink : Ideal.exp ((k : EReal) - (M : EReal)) = ((Real.exp (-M) * Real.exp k : ℝ) : EReal) := by
  rw [← EReal.coe_sub, Ideal.exp_coe, ← Real.exp_add, neg_add_eq_sub]

/-- The shifted weights' sum and the shifted sink's. -/
theorem den_coe : (∑ j, ((Real.exp (-M) * wE v s j : ℝ) : EReal)) + ((Real.exp (-M) * Real.exp k : ℝ) : EReal)
    = ((Real.exp (-M) * wDen v s k : ℝ) : EReal) := by
  rw [coe_sum, ← EReal.coe_add, ← Finset.mul_sum, ← mul_add]; rfl

theorem den_ne : Real.exp (-M) * wDen v s k ≠ 0 := (mul_pos (Real.exp_pos _) wDen_pos).ne'

end Cert.Row
-- ==== Proof.Val.lean ====
/-
  One group of the kernel at the ideal values, over real operands: each quantity is the row function of Row.lean.
-/
module

public import proofs.«01_k».proof.Proof.Group
public import proofs.«01_k».proof.Proof.Row
public import Idealize.ShloMosaic.Lib.IdealHost

@[expose] public section

set_option maxRecDepth 16384

noncomputable section

namespace Cert.KernelIdeal.Group

open Cert.KernelIdeal Cert.KernelIdeal.Gen Cert.Row
open Idealize.ShloMosaic
open scoped Classical

theorem eighth : Ideal.ofBits .f32 0x3E000000#32 = (((1 / 8 : ℝ)) : EReal) := by
  simp [Ideal.ofBits, Ideal.ieee, -EReal.coe_mul]; norm_num
theorem neg_inf : Ideal.ofBits .f32 0xFF800000#32 = ⊥ := by
  simp [Ideal.ofBits, Ideal.ieee]

/-- The operands are real: masks, distances, keys, values, slopes, sinks, queries, cotangents. -/
structure Real (V : IVec S1024x256 1) (D : FVec Ideal S1024x256 .f32) (K W : FVec Ideal S256x64 .bf16) (sl sk : FVec Ideal S1024x1 .f32)
    (q o : FVec Ideal S1024x64 .bf16) (v : Fin 1024 → Fin 256 → Prop) (δ : Fin 1024 → Fin 256 → ℝ) (k w : Fin 256 → Fin 64 → ℝ)
    (a b : Fin 1024 → ℝ) (x y : Fin 1024 → Fin 64 → ℝ) : Prop where
  V : ∀ r j, V (ix2 r j) = 1#1 ↔ v r j
  D : ∀ r j, D (ix2 r j) = ((δ r j : ℝ) : EReal)
  K : ∀ j d, K (ix2 j d) = ((k j d : ℝ) : EReal)
  W : ∀ j d, W (ix2 j d) = ((w j d : ℝ) : EReal)
  sl : ∀ r, sl (ix2 r 0) = ((a r : ℝ) : EReal)
  sk : ∀ r, sk (ix2 r 0) = ((b r : ℝ) : EReal)
  q : ∀ r d, q (ix2 r d) = ((x r d : ℝ) : EReal)
  o : ∀ r d, o (ix2 r d) = ((y r d : ℝ) : EReal)

section
variable {V : IVec S1024x256 1} {D : FVec Ideal S1024x256 .f32} {K W : FVec Ideal S256x64 .bf16} {sl sk : FVec Ideal S1024x1 .f32}
  {q o : FVec Ideal S1024x64 .bf16} {v : Fin 1024 → Fin 256 → Prop} {δ : Fin 1024 → Fin 256 → ℝ} {k w : Fin 256 → Fin 64 → ℝ}
  {a b : Fin 1024 → ℝ} {x y : Fin 1024 → Fin 64 → ℝ}

/-- The scores and the probabilities' cotangents over the reals. -/
def score (δ : Fin 1024 → Fin 256 → ℝ) (k : Fin 256 → Fin 64 → ℝ) (a : Fin 1024 → ℝ) (x : Fin 1024 → Fin 64 → ℝ) (r : Fin 1024) (j : Fin 256) : ℝ :=
  (∑ d, x r d * k j d) * (1 / 8) - a r * δ r j
def cot (w : Fin 256 → Fin 64 → ℝ) (y : Fin 1024 → Fin 64 → ℝ) (r : Fin 1024) (j : Fin 256) : ℝ := ∑ d, y r d * w j d

variable (h : Real V D K W sl sk q o v δ k w a b x y)
include h

theorem gS_val (r : Fin 1024) (j : Fin 256) : gS V D K sl q (ix2 r j) = sc (v r) (score δ k a x r) j := by
  pointwise [gS]
  have e : (Named.named κ "mask" 0xF149F2CA#32 : Ideal .f32) = ⊥ := IdealRules.named_const.ideal_named_scalar _ _ _ _ rfl
  simp only [h.D, h.K, h.q, h.sl, e, eighth, ← EReal.coe_mul, coe_sum, ← EReal.coe_sub]
  unfold sc score
  by_cases hv : v r j
  · rw [if_pos hv]
    simp only [(h.V r j).mpr hv]
    rfl
  · rw [if_neg hv]
    rw [(BitVec.eq_zero_or_eq_one (V (ix2 r j))).resolve_right (mt (h.V r j).mp hv)]
    rfl

theorem gM_val : ∃ M : Fin 1024 → ℝ, ∀ r, gM V D K sl sk q (ix2 r 0) = (M r : EReal) := by
  have hm : ∀ r, ∃ M : ℝ, gM V D K sl sk q (ix2 r 0) = (M : EReal) := fun r => by
    pointwise [gM]
    simp only [gS_val h, h.sk]
    exact max_real _ _ _ _ (by rw [neg_inf]; exact bot_lt_top)
  exact ⟨fun r => (hm r).choose, fun r => (hm r).choose_spec⟩

section
variable {M : Fin 1024 → ℝ} (hM : ∀ r, gM V D K sl sk q (ix2 r 0) = (M r : EReal))
include hM

theorem gE_val (r : Fin 1024) (j : Fin 256) : gE V D K sl sk q (ix2 r j) = ((Real.exp (-M r) * wE (v r) (score δ k a x r) j : ℝ) : EReal) := by
  pointwise [gE]
  rw [gS_val h, hM]
  exact exp_sc _ _
theorem gEs_val (r : Fin 1024) : gEs V D K sl sk q (ix2 r 0) = ((Real.exp (-M r) * Real.exp (b r) : ℝ) : EReal) := by
  pointwise [gEs]
  rw [h.sk, hM]
  exact exp_sink _
theorem gInv_val (r : Fin 1024) : gInv V D K sl sk q (ix2 r 0) = ((1 / (Real.exp (-M r) * wDen (v r) (score δ k a x r) (b r)) : ℝ) : EReal) := by
  pointwise [gInv]
  simp only [gE_val h hM, gEs_val h hM]
  rw [den_coe, ← EReal.coe_one]
  exact div_coe' (den_ne _)
end

theorem gP_val (r : Fin 1024) (j : Fin 256) : gP V D K sl sk q (ix2 r j) = ((wP (v r) (score δ k a x r) (b r) j : ℝ) : EReal) := by
  obtain ⟨M, hM⟩ := gM_val h
  pointwise [gP]
  rw [gE_val h hM, gInv_val h hM, ← EReal.coe_mul]
  congr 1
  unfold wP
  have := (Real.exp_pos (-M r)).ne'
  have := (wDen_pos (v := v r) (s := score δ k a x r) (k := b r)).ne'
  field_simp
theorem gSink_val (r : Fin 1024) : mulf (gEs V D K sl sk q) (gInv V D K sl sk q) (ix2 r 0) = ((wS (v r) (score δ k a x r) (b r) : ℝ) : EReal) := by
  obtain ⟨M, hM⟩ := gM_val h
  pointwise []
  rw [gEs_val h hM, gInv_val h hM, ← EReal.coe_mul]
  congr 1
  unfold wS
  have := (Real.exp_pos (-M r)).ne'
  have := (wDen_pos (v := v r) (s := score δ k a x r) (k := b r)).ne'
  field_simp
theorem gDp_val (r : Fin 1024) (j : Fin 256) : gDp W o (ix2 r j) = ((cot w y r j : ℝ) : EReal) := by
  pointwise [gDp]
  simp only [h.o, h.W, ← EReal.coe_mul, coe_sum]
  rfl
theorem gDelta_val (r : Fin 1024) : gDelta V D K W sl sk q o (ix2 r 0) = ((wDelta (v r) (score δ k a x r) (b r) (cot w y r) : ℝ) : EReal) := by
  pointwise [gDelta]
  simp only [gP_val h, gDp_val h, ← EReal.coe_mul, coe_sum]
  rfl
theorem gDs_val (r : Fin 1024) (j : Fin 256) :
    gDs V D K W sl sk q o (ix2 r j) = ((wDs (v r) (score δ k a x r) (b r) (cot w y r) j : ℝ) : EReal) := by
  pointwise [gDs]
  simp only [gP_val h, gDp_val h, gDelta_val h, ← EReal.coe_mul, ← EReal.coe_sub]
  rfl
theorem gPart_val (r : Fin 1024) : gPart V D K W sl sk q o (ix2 r 0)
    = ((wS (v r) (score δ k a x r) (b r) * wDelta (v r) (score δ k a x r) (b r) (cot w y r) : ℝ) : EReal) := by
  have e := gSink_val h r
  have e2 := gDelta_val h r
  unfold gPart
  rw [EReal.coe_mul, ← e, ← e2]
  rfl
theorem gDq_val (r : Fin 1024) (d : Fin 64) : gDq V D K W sl sk q o (ix2 r d)
    = (((∑ j, wDs (v r) (score δ k a x r) (b r) (cot w y r) j * k j d) * (1 / 8) : ℝ) : EReal) := by
  pointwise [gDq]
  simp only [gDs_val h, h.K, eighth, ← EReal.coe_mul, coe_sum]
theorem gDk_val (j : Fin 256) (d : Fin 64) : gDk V D K W sl sk q o (ix2 j d)
    = (((∑ r, wDs (v r) (score δ k a x r) (b r) (cot w y r) j * x r d) * (1 / 8) : ℝ) : EReal) := by
  pointwise [gDk]
  simp only [gDs_val h, h.q, eighth, ← EReal.coe_mul, coe_sum]
theorem gDv_val (j : Fin 256) (d : Fin 64) : gDv V D K sl sk q o (ix2 j d)
    = ((∑ r, wP (v r) (score δ k a x r) (b r) j * y r d : ℝ) : EReal) := by
  pointwise [gDv]
  simp only [gP_val h, h.o, ← EReal.coe_mul, coe_sum]
end

end Cert.KernelIdeal.Group
-- ==== Proof.Spec.lean ====
/-
  The attention gradient over the reals, in blocks of 128 rows: a query of block `b` sees the 256 keys of blocks `b - 1` and
  `b`. And what one grid point's groups compute, as these.
-/
module

public import proofs.«01_k».proof.Proof.Acc
public import proofs.«01_k».proof.Proof.Blocks
public import proofs.«01_k».proof.Proof.Val

@[expose] public section

set_option maxRecDepth 16384

noncomputable section

namespace Cert.Spec

open Cert.Row Cert.KernelIdeal.Model

/-- The keys a query sees. -/
def valid (b a : ℕ) (j : Fin 256) : Prop := Valid b a j.val
/-- Key `j`'s row in the whole array. -/
def row (b : ℕ) (j : Fin 256) : ℕ := if j.val < 128 then 128 * (b - 1) + j.val else 128 * b + (j.val - 128)

section
variable (X G : ℕ → ℕ → ℝ) (sk sl : ℕ → ℝ)

def kk (b g : ℕ) (j : Fin 256) (d : Fin 64) : ℝ := X (row b j) (2048 + (64 * g + d.val))
def vv (b g : ℕ) (j : Fin 256) (d : Fin 64) : ℝ := X (row b j) (2304 + (64 * g + d.val))
def qq (b h r : ℕ) (d : Fin 64) : ℝ := X (128 * b + r) (64 * h + d.val)
/-- Head `h`'s score of query `r` of block `b` at key `j`, and the probabilities' cotangent there. -/
def score (b h r : ℕ) (j : Fin 256) : ℝ := (∑ d, qq X b h r d * kk X b (h / 8) j d) * (1 / 8) - sl h * ((128 + (r : ℝ)) - j.val)
def cot (b h r : ℕ) (j : Fin 256) : ℝ := ∑ d, qq G b h r d * vv X b (h / 8) j d
def prob (b h r : ℕ) (j : Fin 256) : ℝ := wP (valid b r) (score X sl b h r) (sk h) j
def ds (b h r : ℕ) (j : Fin 256) : ℝ := wDs (valid b r) (score X sl b h r) (sk h) (cot X G b h r) j
def Dq (b h r : ℕ) (d : Fin 64) : ℝ := (∑ j, ds X G sk sl b h r j * kk X b (h / 8) j d) * (1 / 8)
def Dk (b g : ℕ) (j : Fin 256) (d : Fin 64) : ℝ :=
  (∑ r : Fin 1024, ds X G sk sl b (8 * g + r.val / 128) (r.val % 128) j * qq X b (8 * g + r.val / 128) (r.val % 128) d) * (1 / 8)
def Dv (b g : ℕ) (j : Fin 256) (d : Fin 64) : ℝ :=
  ∑ r : Fin 1024, prob X sk sl b (8 * g + r.val / 128) (r.val % 128) j * qq G b (8 * g + r.val / 128) (r.val % 128) d
def part (b h r : ℕ) : ℝ := wS (valid b r) (score X sl b h r) (sk h) * wDelta (valid b r) (score X sl b h r) (sk h) (cot X G b h r)

/-- The four results. -/
def rDq (a : Fin 2048) (n : Fin 2048) : ℝ := Dq X G sk sl (a.val / 128) (n.val / 64) (a.val % 128) ⟨n.val % 64, by omega⟩
/-- A row of keys is the later half of its own block's keys and the earlier half of the next block's. -/
def rKey (D : ℕ → ℕ → Fin 256 → Fin 64 → ℝ) (a : Fin 2048) (n : Fin 256) : ℝ :=
  D (a.val / 128) (n.val / 64) ⟨128 + a.val % 128, by omega⟩ ⟨n.val % 64, by omega⟩
    + if a.val / 128 + 1 < 16 then D (a.val / 128 + 1) (n.val / 64) ⟨a.val % 128, by omega⟩ ⟨n.val % 64, by omega⟩ else 0
def rSink (h : ℕ) : ℝ := -∑ b : Fin 16, ∑ r : Fin 128, part X G sk sl b.val h r.val
def rDs (a : Fin 8) (l : Fin 128) : ℝ := if l.val < 32 ∧ a.val = 0 then rSink X G sk sl l.val else 0
end

/-- The heads' slopes are real. -/
theorem word_real {w : BitVec 32} (h : (w.extractLsb' 23 8).toNat ≠ 255) : ∃ x : ℝ, Idealize.ShloMosaic.Ideal.ofBits .f32 w = (x : EReal) := by
  show ∃ x : ℝ, Idealize.ShloMosaic.Ideal.ieee 8 23 w = (x : EReal)
  unfold Idealize.ShloMosaic.Ideal.ieee
  simp only []
  rw [if_neg (by simpa using h)]
  split_ifs <;> exact ⟨_, rfl⟩
theorem slopeW_exp : ∀ h : Fin 32, ((slopeW h).extractLsb' 23 8).toNat ≠ 255 := by decide
def slopeR (h : ℕ) : ℝ := if hh : h < 32 then (Idealize.ShloMosaic.Ideal.ofBits .f32 (slopeW ⟨h, hh⟩)).toReal else 0
theorem slopeR_coe (h : Fin 32) : Idealize.ShloMosaic.Ideal.ofBits .f32 (slopeW h) = (slopeR h.val : EReal) := by
  obtain ⟨x, e⟩ := word_real (slopeW_exp h)
  unfold slopeR
  rw [dif_pos h.isLt, e, EReal.toReal_coe]

end Cert.Spec

namespace Cert.KernelIdeal.Model

open Cert.KernelIdeal Cert.KernelIdeal.Gen Cert.KernelIdeal.Body Cert.KernelIdeal.Group Cert.Spec
open Idealize.ShloMosaic
open Idealize.ShloMosaic.TcCoe

/-- The arguments' elements that the call reads are real. -/
structure Inputs (m : (ℓ : Loc nD τ sig) → Buf (Elt Ideal) ℓ) (c : Dev nD) (X G : ℕ → ℕ → ℝ) (sk : ℕ → ℝ) : Prop where
  proj : ∀ (a : Fin 2048) (n : Fin 11776), n.val < 2560 → m ((c : Thread nD τ).loc main_arg0) (ix2 a n) = (X a.val n.val : EReal)
  cot : ∀ (a : Fin 2048) (n : Fin 2048), m ((c : Thread nD τ).loc main_arg1) (ix2 a n) = (G a.val n.val : EReal)
  sinks : ∀ h : Fin 32, m ((c : Thread nD τ).loc main_arg2) (ix2 0 h) = (sk h.val : EReal)

section
variable {m : (ℓ : Loc nD τ sig) → Buf (Elt Ideal) ℓ} {c : Dev nD} {X G : ℕ → ℕ → ℝ} {sk : ℕ → ℝ} (H : Inputs m c X G sk)
  (M1 : Memref sig .tc .smem S1x32 .f32) (h1 : M1.IsWhole)
  (M2 : Memref sig .tc .vmem S128x2048 .f32) (h2 : M2.IsWhole)
  (M3 : Memref sig .tc .vmem S128x256 .f32) (h3 : M3.IsWhole)
  (M4 : Memref sig .tc .vmem S128x256 .f32) (h4 : M4.IsWhole)
  (M5 : Memref sig .tc .vmem S128x256 .f32) (h5 : M5.IsWhole)
  (M6 : Memref sig .tc .vmem S128x256 .f32) (h6 : M6.IsWhole)
  (M7 : Memref sig .tc .vmem S128x2048 .f32) (h7 : M7.IsWhole)
  (t : Fin cfg0.N) (g : Fin 4)
include H

/-- A group's operands at point `t`. -/
theorem operands : Real (k0_pay5 (grid0.coords t)) k0_pay6
    (two c M3 M4 (h3.unread (iblk m c 2 t)) (h4.unread (iblk m c 3 t)) g) (two c M5 M6 (h5.unread (iblk m c 4 t)) (h6.unread (iblk m c 5 t)) g)
    (slc g) (skc c M1 (h1.unread (iblk m c 0 t)) g) (eight c M2 (h2.unread (X0_1 m c t)) g) (eight c M7 (h7.unread (iblk m c 6 t)) g)
    (fun r => valid t.val (r.val % 128)) (fun r j => (128 + ((r.val % 128 : ℕ) : ℝ)) - j.val) (kk X t.val g.val) (vv X t.val g.val)
    (fun r => slopeR (8 * g.val + r.val / 128)) (fun r => sk (8 * g.val + r.val / 128))
    (fun r => qq X t.val (8 * g.val + r.val / 128) (r.val % 128)) (fun r => qq G t.val (8 * g.val + r.val / 128) (r.val % 128)) where
  V r j := by rw [pay5_iff, coord]; rfl
  D r j := pay6_val r j
  K j d := by
    rw [two_val]
    unfold kk row
    split_ifs with hj
    · rw [blk_kp, H.proj _ _ (by show 2048 + (64 * g.val + d.val) < 2560; omega)]
    · rw [blk_kc, H.proj _ _ (by show 2048 + (64 * g.val + d.val) < 2560; omega)]
  W j d := by
    rw [two_val]
    unfold vv row
    split_ifs with hj
    · rw [blk_vp, H.proj _ _ (by show 2304 + (64 * g.val + d.val) < 2560; omega)]
    · rw [blk_vc, H.proj _ _ (by show 2304 + (64 * g.val + d.val) < 2560; omega)]
  sl r := by rw [slc_val, slopeR_coe]
  sk r := by rw [skc_val, blk_sinks, H.sinks]
  q r d := by
    rw [eight_val, blk_q, H.proj _ _ (by show 64 * (8 * g.val + r.val / 128) + d.val < 2560; omega)]
    rfl
  o r d := by
    rw [eight_val, blk_o, H.cot]
    rfl

theorem mDq_val (r : Fin 1024) (d : Fin 64) :
    mDq c (grid0.coords t) M1 M2 M3 M4 M5 M6 M7 (h1.unread (iblk m c 0 t)) (h2.unread (X0_1 m c t)) (h3.unread (iblk m c 2 t)) (h4.unread (iblk m c 3 t))
      (h5.unread (iblk m c 4 t)) (h6.unread (iblk m c 5 t)) (h7.unread (iblk m c 6 t)) g (ix2 r d)
      = (Dq X G sk slopeR t.val (8 * g.val + r.val / 128) (r.val % 128) d : EReal) := by
  have e : (8 * g.val + r.val / 128) / 8 = g.val := by omega
  unfold mDq
  rw [gDq_val (operands H M1 h1 M2 h2 M3 h3 M4 h4 M5 h5 M6 h6 M7 h7 t g)]
  unfold Dq ds Spec.score Spec.cot
  rw [e]
  rfl

theorem mDk_val (j : Fin 256) (d : Fin 64) :
    mDk c (grid0.coords t) M1 M2 M3 M4 M5 M6 M7 (h1.unread (iblk m c 0 t)) (h2.unread (X0_1 m c t)) (h3.unread (iblk m c 2 t)) (h4.unread (iblk m c 3 t))
      (h5.unread (iblk m c 4 t)) (h6.unread (iblk m c 5 t)) (h7.unread (iblk m c 6 t)) g (ix2 j d)
      = (Dk X G sk slopeR t.val g.val j d : EReal) := by
  have e : ∀ r : Fin 1024, (8 * g.val + r.val / 128) / 8 = g.val := fun r => by omega
  unfold mDk
  rw [gDk_val (operands H M1 h1 M2 h2 M3 h3 M4 h4 M5 h5 M6 h6 M7 h7 t g)]
  unfold Dk ds Spec.score Spec.cot
  simp only [e]
  rfl

theorem mDv_val (j : Fin 256) (d : Fin 64) :
    mDv c (grid0.coords t) M1 M2 M3 M4 M7 (h1.unread (iblk m c 0 t)) (h2.unread (X0_1 m c t)) (h3.unread (iblk m c 2 t)) (h4.unread (iblk m c 3 t))
      (h7.unread (iblk m c 6 t)) g (ix2 j d)
      = (Dv X G sk slopeR t.val g.val j d : EReal) := by
  have e : ∀ r : Fin 1024, (8 * g.val + r.val / 128) / 8 = g.val := fun r => by omega
  unfold mDv
  rw [gDv_val (operands H M1 h1 M2 h2 M3 h3 M4 h4 M3 h3 M4 h4 M7 h7 t g)]
  unfold Dv prob Spec.score
  simp only [e]
  rfl

theorem mPart_val (r : Fin 1024) :
    mPart c (grid0.coords t) M1 M2 M3 M4 M5 M6 M7 (h1.unread (iblk m c 0 t)) (h2.unread (X0_1 m c t)) (h3.unread (iblk m c 2 t)) (h4.unread (iblk m c 3 t))
      (h5.unread (iblk m c 4 t)) (h6.unread (iblk m c 5 t)) (h7.unread (iblk m c 6 t)) g (ix2 r 0)
      = (part X G sk slopeR t.val (8 * g.val + r.val / 128) (r.val % 128) : EReal) := by
  have e : (8 * g.val + r.val / 128) / 8 = g.val := by omega
  unfold mPart
  rw [gPart_val (operands H M1 h1 M2 h2 M3 h3 M4 h4 M5 h5 M6 h6 M7 h7 t g)]
  unfold part Spec.score Spec.cot
  rw [e]
  rfl
end

end Cert.KernelIdeal.Model
-- ==== Proof.Points.lean ====
/-
  What the four results' buffers hold after each grid point, over the reals.
-/
module

public import proofs.«01_k».proof.Proof.Spec

@[expose] public section

set_option maxRecDepth 16384

noncomputable section

namespace Cert.KernelIdeal.Model

open Cert.KernelIdeal Cert.KernelIdeal.Gen Cert.KernelIdeal.Body Cert.KernelIdeal.Group Cert.Spec
open Idealize.ShloMosaic
open Idealize.ShloMosaic.TcCoe

/-- What a block's gradient `D` adds to the accumulator's element, its upper half at block `p` and its lower half at `q`. -/
def adds (D : ℕ → Fin 256 → Fin 64 → ℝ) (p q : ℕ) (a : Fin 2048) (b : Fin 256) : ℝ :=
  (if a.val / 128 = p then D (b.val / 64) ⟨a.val % 128, by omega⟩ ⟨b.val % 64, by omega⟩ else 0)
    + (if a.val / 128 = q then D (b.val / 64) ⟨128 + a.val % 128, by omega⟩ ⟨b.val % 64, by omega⟩ else 0)

theorem contrib_coe {T : Fin 4 → FVec Ideal S256x64 .f32} {D : ℕ → Fin 256 → Fin 64 → ℝ} (hT : ∀ g j d, T g (ix2 j d) = (D g.val j d : EReal)) (p q : ℕ)
    (a : Fin 2048) (b : Fin 256) : contrib p q T a b = (adds D p q a b : EReal) := by
  unfold contrib adds
  rw [EReal.coe_add]
  simp only [zero_add, hT]
  congr 1 <;> split_ifs <;> simp

theorem dsRow_coe {T : Fin 4 → FVec Ideal S1024x1 .f32} {D : ℕ → ℕ → ℝ} (hT : ∀ g (r : Fin 1024), T g (ix2 r 0) = (D (8 * g.val + r.val / 128) (r.val % 128) : EReal))
    (a : Fin 8) (l : Fin 128) : dsRow T a l = ((if l.val < 32 ∧ a.val = 0 then -∑ r : Fin 128, D l.val r.val else 0 : ℝ) : EReal) := by
  unfold dsRow dsHead
  by_cases hl : l.val < 32
  · by_cases ha : a.val = 0
    · rw [dif_pos hl, if_pos ha, if_pos ⟨hl, ha⟩]
      rw [Finset.sum_congr rfl (fun r _ => hT (grp ⟨l.val, hl⟩) ⟨128 * (l.val % 8) + r.val, by omega⟩), Row.coe_sum, ← EReal.coe_zero, ← EReal.coe_sub, zero_sub]
      refine congrArg (fun x : ℝ => ((-x : ℝ) : EReal)) (Finset.sum_congr rfl fun r _ => ?_)
      have e1 : 8 * (grp ⟨l.val, hl⟩).val + (128 * (l.val % 8) + r.val) / 128 = l.val := by
        show 8 * (l.val / 8) + _ = _; omega
      have e2 : (128 * (l.val % 8) + r.val) % 128 = r.val := by omega
      rw [e1, e2]
    · rw [dif_pos hl, if_neg ha, if_neg (fun h => ha h.2)]; rfl
  · rw [dif_neg hl, if_neg (fun h => hl h.1)]; rfl

section
variable {m : (ℓ : Loc nD τ sig) → Buf (Elt Ideal) ℓ} {c : Dev nD} {X G : ℕ → ℕ → ℝ} {sk : ℕ → ℝ} (H : Inputs m c X G sk)
  (t : Fin cfg0.N) (p : Res (F := Ideal))
include H

/-- The sinks' row a point adds. -/
def sinkAt (X G : ℕ → ℕ → ℝ) (sk : ℕ → ℝ) (t : ℕ) (a : Fin 8) (l : Fin 128) : ℝ :=
  if l.val < 32 ∧ a.val = 0 then -∑ r : Fin 128, part X G sk slopeR t l.val r.val else 0

omit H in
theorem tile_coe {T : Fin 4 → FVec Ideal S1024x64 .bf16} {D : ℕ → ℕ → Fin 64 → ℝ}
    (hT : ∀ g (r : Fin 1024) d, T g (ix2 r d) = (D (8 * g.val + r.val / 128) (r.val % 128) d : EReal)) (r : Fin 128) (n : Fin 2048) :
    T ⟨n.val / 512, by omega⟩ (ix2 ⟨128 * (n.val / 64 % 8) + r.val, by omega⟩ ⟨n.val % 64, by omega⟩)
      = (D (n.val / 64) r.val ⟨n.val % 64, by omega⟩ : EReal) := by
  rw [hT]
  have e1 : 8 * (n.val / 512) + (128 * (n.val / 64 % 8) + r.val) / 128 = n.val / 64 := by omega
  have e2 : (128 * (n.val / 64 % 8) + r.val) % 128 = r.val := by omega
  rw [e1, e2]

section
variable
  (M1 : Memref sig .tc .smem S1x32 .f32) (h1 : M1.IsWhole)
  (M2 : Memref sig .tc .vmem S128x2048 .f32) (h2 : M2.IsWhole)
  (M3 : Memref sig .tc .vmem S128x256 .f32) (h3 : M3.IsWhole)
  (M4 : Memref sig .tc .vmem S128x256 .f32) (h4 : M4.IsWhole)
  (M5 : Memref sig .tc .vmem S128x256 .f32) (h5 : M5.IsWhole)
  (M6 : Memref sig .tc .vmem S128x256 .f32) (h6 : M6.IsWhole)
  (M7 : Memref sig .tc .vmem S128x2048 .f32) (h7 : M7.IsWhole)
  (M8 : Memref sig .tc .vmem S128x2048 .bf16) (h8 : M8.IsWhole)
  (M9 : Memref sig .tc .vmem S2048x256 .f32) (h9 : M9.IsWhole)
  (M10 : Memref sig .tc .vmem S2048x256 .f32) (h10 : M10.IsWhole)
  (M11 : Memref sig .tc .vmem S8x128 .f32) (h11 : M11.IsWhole)
set_option maxHeartbeats 1000000 in
theorem body_first (hi) (ht : t.val = 0) :
    (∀ r n, (bodyRes (F := Ideal) c (grid0.coords t) true hi M1 h1 M2 h2 M3 h3 M4 h4 M5 h5 M6 h6 M7 h7 M8 h8 M9 h9 M10 h10 M11 h11 (iblk m c 0 t) (X0_1 m c t) (iblk m c 2 t) (iblk m c 3 t) (iblk m c 4 t) (iblk m c 5 t) (iblk m c 6 t) p).1 (ix2 r n) = (Dq X G sk slopeR t.val (n.val / 64) r.val ⟨n.val % 64, by omega⟩ : EReal))
    ∧ (∀ a b, (bodyRes (F := Ideal) c (grid0.coords t) true hi M1 h1 M2 h2 M3 h3 M4 h4 M5 h5 M6 h6 M7 h7 M8 h8 M9 h9 M10 h10 M11 h11 (iblk m c 0 t) (X0_1 m c t) (iblk m c 2 t) (iblk m c 3 t) (iblk m c 4 t) (iblk m c 5 t) (iblk m c 6 t) p).2.1 (ix2 a b) = (adds (Dk X G sk slopeR t.val) 0 0 a b : EReal))
    ∧ (∀ a b, (bodyRes (F := Ideal) c (grid0.coords t) true hi M1 h1 M2 h2 M3 h3 M4 h4 M5 h5 M6 h6 M7 h7 M8 h8 M9 h9 M10 h10 M11 h11 (iblk m c 0 t) (X0_1 m c t) (iblk m c 2 t) (iblk m c 3 t) (iblk m c 4 t) (iblk m c 5 t) (iblk m c 6 t) p).2.2.1 (ix2 a b) = (adds (Dv X G sk slopeR t.val) 0 0 a b : EReal))
    ∧ (∀ a l, (bodyRes (F := Ideal) c (grid0.coords t) true hi M1 h1 M2 h2 M3 h3 M4 h4 M5 h5 M6 h6 M7 h7 M8 h8 M9 h9 M10 h10 M11 h11 (iblk m c 0 t) (X0_1 m c t) (iblk m c 2 t) (iblk m c 3 t) (iblk m c 4 t) (iblk m c 5 t) (iblk m c 6 t) p).2.2.2 (ix2 a l) = (sinkAt X G sk t.val a l : EReal)) := by
  rw [bodyRes_first]
  dsimp only
  have hc : (grid0.coords t 0).val = 0 := (coord t).trans ht
  refine ⟨fun r n => ?_, fun a b => ?_, fun a b => ?_, fun a l => ?_⟩
  · exact (dqList_read (c := c) M8 _ _ r n).trans (tile_coe (D := Dq X G sk slopeR t.val) (fun g r d => mDq_val H M1 h1 M2 h2 M3 h3 M4 h4 M5 h5 M6 h6 M7 h7 t g r d) r n)
  · refine (accList_read c M9 (grid0.coords t) M9.view.junk _ _ _ (.inl fun _ => rfl) a b).trans ?_
    rw [zeroAcc_read (c := c), zero_add, contrib_coe (D := Dk X G sk slopeR t.val) (fun g j d => mDk_val H M1 h1 M2 h2 M3 h3 M4 h4 M5 h5 M6 h6 M7 h7 t g j d), hc]
  · refine (accList_read c M10 (grid0.coords t) M10.view.junk _ _ _ (.inl fun _ => rfl) a b).trans ?_
    rw [zeroAcc_read (c := c), zero_add, contrib_coe (D := Dv X G sk slopeR t.val) (fun g j d => mDv_val H M1 h1 M2 h2 M3 h3 M4 h4 M7 h7 t g j d), hc]
  · refine (sumList_read (c := c) M11 M11.view.junk _ _ _ a l).trans ?_
    rw [zeroSum_read (c := c), zero_add, dsSum_val, dsRow_coe (D := part X G sk slopeR t.val) (fun g r => mPart_val H M1 h1 M2 h2 M3 h3 M4 h4 M5 h5 M6 h6 M7 h7 t g r)]
    rfl

set_option maxHeartbeats 1000000 in
theorem body_later (hi) (ht : t.val ≠ 0) :
    (∀ r n, (bodyRes (F := Ideal) c (grid0.coords t) false hi M1 h1 M2 h2 M3 h3 M4 h4 M5 h5 M6 h6 M7 h7 M8 h8 M9 h9 M10 h10 M11 h11 (iblk m c 0 t) (X0_1 m c t) (iblk m c 2 t) (iblk m c 3 t) (iblk m c 4 t) (iblk m c 5 t) (iblk m c 6 t) p).1 (ix2 r n) = (Dq X G sk slopeR t.val (n.val / 64) r.val ⟨n.val % 64, by omega⟩ : EReal))
    ∧ (∀ a b, (bodyRes (F := Ideal) c (grid0.coords t) false hi M1 h1 M2 h2 M3 h3 M4 h4 M5 h5 M6 h6 M7 h7 M8 h8 M9 h9 M10 h10 M11 h11 (iblk m c 0 t) (X0_1 m c t) (iblk m c 2 t) (iblk m c 3 t) (iblk m c 4 t) (iblk m c 5 t) (iblk m c 6 t) p).2.1 (ix2 a b) = p.2.1 (ix2 a b) + (adds (Dk X G sk slopeR t.val) (t.val - 1) t.val a b : EReal))
    ∧ (∀ a b, (bodyRes (F := Ideal) c (grid0.coords t) false hi M1 h1 M2 h2 M3 h3 M4 h4 M5 h5 M6 h6 M7 h7 M8 h8 M9 h9 M10 h10 M11 h11 (iblk m c 0 t) (X0_1 m c t) (iblk m c 2 t) (iblk m c 3 t) (iblk m c 4 t) (iblk m c 5 t) (iblk m c 6 t) p).2.2.1 (ix2 a b) = p.2.2.1 (ix2 a b) + (adds (Dv X G sk slopeR t.val) (t.val - 1) t.val a b : EReal))
    ∧ (∀ a l, (bodyRes (F := Ideal) c (grid0.coords t) false hi M1 h1 M2 h2 M3 h3 M4 h4 M5 h5 M6 h6 M7 h7 M8 h8 M9 h9 M10 h10 M11 h11 (iblk m c 0 t) (X0_1 m c t) (iblk m c 2 t) (iblk m c 3 t) (iblk m c 4 t) (iblk m c 5 t) (iblk m c 6 t) p).2.2.2 (ix2 a l) = p.2.2.2 (ix2 a l) + (sinkAt X G sk t.val a l : EReal)) := by
  rw [bodyRes_later]
  dsimp only
  have hc : (grid0.coords t 0).val = t.val := coord t
  refine ⟨fun r n => ?_, fun a b => ?_, fun a b => ?_, fun a l => ?_⟩
  · exact (dqList_read (c := c) M8 _ _ r n).trans (tile_coe (D := Dq X G sk slopeR t.val) (fun g r d => mDq_val H M1 h1 M2 h2 M3 h3 M4 h4 M5 h5 M6 h6 M7 h7 t g r d) r n)
  · refine (accList_read c M9 (grid0.coords t) (h9.unread p.2.1) _ _ _ (.inr fun _ _ _ => rfl) a b).trans ?_
    rw [View.writes_nil, Memref.IsWhole.read_unread, contrib_coe (D := Dk X G sk slopeR t.val) (fun g j d => mDk_val H M1 h1 M2 h2 M3 h3 M4 h4 M5 h5 M6 h6 M7 h7 t g j d), hc]
  · refine (accList_read c M10 (grid0.coords t) (h10.unread p.2.2.1) _ _ _ (.inr fun _ _ _ => rfl) a b).trans ?_
    rw [View.writes_nil, Memref.IsWhole.read_unread, contrib_coe (D := Dv X G sk slopeR t.val) (fun g j d => mDv_val H M1 h1 M2 h2 M3 h3 M4 h4 M7 h7 t g j d), hc]
  · refine (sumList_read (c := c) M11 (h11.unread p.2.2.2) _ _ _ a l).trans ?_
    rw [View.writes_nil, Memref.IsWhole.read_unread, dsSum_val, dsRow_coe (D := part X G sk slopeR t.val) (fun g r => mPart_val H M1 h1 M2 h2 M3 h3 M4 h4 M5 h5 M6 h6 M7 h7 t g r)]
    rfl

end

theorem point_first (ht : t.val = 0) :
    (∀ r n, (res m c t p).1 (ix2 r n) = (Dq X G sk slopeR t.val (n.val / 64) r.val ⟨n.val % 64, by omega⟩ : EReal))
    ∧ (∀ a b, (res m c t p).2.1 (ix2 a b) = (adds (Dk X G sk slopeR t.val) 0 0 a b : EReal))
    ∧ (∀ a b, (res m c t p).2.2.1 (ix2 a b) = (adds (Dv X G sk slopeR t.val) 0 0 a b : EReal))
    ∧ (∀ a l, (res m c t p).2.2.2 (ix2 a l) = (sinkAt X G sk t.val a l : EReal)) := by
  unfold res
  generalize first_of t = hi
  revert hi
  rw [decide_eq_true ht]
  intro hi
  exact body_first H t p _ _ _ _ _ _ _ _ _ _ _ _ _ _ _ _ _ _ _ _ _ _ hi ht

theorem point_later (ht : t.val ≠ 0) :
    (∀ r n, (res m c t p).1 (ix2 r n) = (Dq X G sk slopeR t.val (n.val / 64) r.val ⟨n.val % 64, by omega⟩ : EReal))
    ∧ (∀ a b, (res m c t p).2.1 (ix2 a b) = p.2.1 (ix2 a b) + (adds (Dk X G sk slopeR t.val) (t.val - 1) t.val a b : EReal))
    ∧ (∀ a b, (res m c t p).2.2.1 (ix2 a b) = p.2.2.1 (ix2 a b) + (adds (Dv X G sk slopeR t.val) (t.val - 1) t.val a b : EReal))
    ∧ (∀ a l, (res m c t p).2.2.2 (ix2 a l) = p.2.2.2 (ix2 a l) + (sinkAt X G sk t.val a l : EReal)) := by
  unfold res
  generalize first_of t = hi
  revert hi
  rw [decide_eq_false ht]
  intro hi
  exact body_later H t p _ _ _ _ _ _ _ _ _ _ _ _ _ _ _ _ _ _ _ _ _ _ hi ht

end

/-- A keys' accumulator after point `n`. -/
def accR (D : ℕ → ℕ → Fin 256 → Fin 64 → ℝ) (n : ℕ) (a : Fin 2048) (b : Fin 256) : ℝ :=
  (if a.val / 128 ≤ n then D (a.val / 128) (b.val / 64) ⟨128 + a.val % 128, by omega⟩ ⟨b.val % 64, by omega⟩ else 0)
    + if a.val / 128 + 1 ≤ n then D (a.val / 128 + 1) (b.val / 64) ⟨a.val % 128, by omega⟩ ⟨b.val % 64, by omega⟩ else 0

theorem accR_zero (D : ℕ → ℕ → Fin 256 → Fin 64 → ℝ) (h0 : ∀ g (j : Fin 256) d, j.val < 128 → D 0 g j d = 0) (a : Fin 2048) (b : Fin 256) :
    accR D 0 a b = adds (D 0) 0 0 a b := by
  unfold accR adds
  by_cases h : a.val / 128 = 0
  · have h' : a.val / 128 ≤ 0 := by omega
    rw [if_pos h', if_neg (by omega), if_pos h, if_pos h, h, h0 _ ⟨a.val % 128, _⟩ _ (by show a.val % 128 < 128; omega)]
    ring
  · rw [if_neg (by omega), if_neg (by omega), if_neg h, if_neg h]

theorem accR_succ (D : ℕ → ℕ → Fin 256 → Fin 64 → ℝ) (n : ℕ) (a : Fin 2048) (b : Fin 256) :
    accR D (n + 1) a b = accR D n a b + adds (D (n + 1)) n (n + 1) a b := by
  unfold accR adds
  rcases lt_trichotomy (a.val / 128) (n + 1) with h | h | h
  · by_cases h' : a.val / 128 = n
    · rw [if_pos (by omega), if_pos (by omega), if_pos (by omega), if_neg (by omega), if_pos h', if_neg (by omega), h']
      ring
    · rw [if_pos (by omega), if_pos (by omega), if_pos (by omega), if_pos (by omega), if_neg h', if_neg (by omega)]
      ring
  · rw [if_pos (by omega), if_neg (by omega), if_neg (by omega), if_neg (by omega), if_neg (by omega), if_pos h, h]
    ring
  · rw [if_neg (by omega), if_neg (by omega), if_neg (by omega), if_neg (by omega), if_neg (by omega), if_neg (by omega)]
    ring

theorem masked_block (r : ℕ) (j : Fin 256) (h : j.val < 128) : ¬ valid 0 r j := by
  unfold valid Valid; omega
theorem Dk_zero (X G : ℕ → ℕ → ℝ) (sk sl : ℕ → ℝ) (g : ℕ) (j : Fin 256) (d : Fin 64) (h : j.val < 128) : Dk X G sk sl 0 g j d = 0 := by
  unfold Dk ds
  rw [Finset.sum_eq_zero fun r _ => by rw [Row.wDs_masked (masked_block _ _ h), zero_mul], zero_mul]
theorem Dv_zero (X G : ℕ → ℕ → ℝ) (sk sl : ℕ → ℝ) (g : ℕ) (j : Fin 256) (d : Fin 64) (h : j.val < 128) : Dv X G sk sl 0 g j d = 0 := by
  unfold Dv prob
  exact Finset.sum_eq_zero fun r _ => by rw [Row.wP_masked (masked_block _ _ h), zero_mul]

/-- The sinks' row after point `n`. -/
def sinkR (X G : ℕ → ℕ → ℝ) (sk : ℕ → ℝ) (n : ℕ) (a : Fin 8) (l : Fin 128) : ℝ := ∑ t ∈ Finset.range (n + 1), sinkAt X G sk t a l

theorem outs_val {m : (ℓ : Loc nD τ sig) → Buf (Elt Ideal) ℓ} {c : Dev nD} {X G : ℕ → ℕ → ℝ} {sk : ℕ → ℝ} (H : Inputs m c X G sk) :
    ∀ (n : ℕ) (h : n < cfg0.N),
      (∀ r k, (outs m c n h).1 (ix2 r k) = (Dq X G sk slopeR n (k.val / 64) r.val ⟨k.val % 64, by omega⟩ : EReal))
      ∧ (∀ a b, (outs m c n h).2.1 (ix2 a b) = (accR (Dk X G sk slopeR) n a b : EReal))
      ∧ (∀ a b, (outs m c n h).2.2.1 (ix2 a b) = (accR (Dv X G sk slopeR) n a b : EReal))
      ∧ (∀ a l, (outs m c n h).2.2.2 (ix2 a l) = (sinkR X G sk n a l : EReal))
  | 0, h => by
    obtain ⟨p1, p2, p3, p4⟩ := point_first H ⟨0, h⟩ res₀ rfl
    refine ⟨p1, fun a b => (p2 a b).trans ?_, fun a b => (p3 a b).trans ?_, fun a l => (p4 a l).trans ?_⟩
    · rw [accR_zero _ (fun g j d => Dk_zero X G sk slopeR g j d)]
    · rw [accR_zero _ (fun g j d => Dv_zero X G sk slopeR g j d)]
    · unfold sinkR; rw [Finset.sum_range_one]
  | n + 1, h => by
    obtain ⟨-, i2, i3, i4⟩ := outs_val H n (Nat.lt_of_succ_lt h)
    obtain ⟨p1, p2, p3, p4⟩ := point_later H ⟨n + 1, h⟩ (outs m c n (Nat.lt_of_succ_lt h)) (Nat.succ_ne_zero n)
    refine ⟨p1, fun a b => (p2 a b).trans ?_, fun a b => (p3 a b).trans ?_, fun a l => (p4 a l).trans ?_⟩
    · rw [i2, accR_succ, EReal.coe_add]; rfl
    · rw [i3, accR_succ, EReal.coe_add]; rfl
    · rw [i4]; unfold sinkR; rw [Finset.sum_range_succ _ (n + 1), EReal.coe_add]

theorem accR_last (D : ℕ → ℕ → Fin 256 → Fin 64 → ℝ) (a : Fin 2048) (b : Fin 256) : accR D 15 a b = rKey D a b := by
  unfold accR rKey
  rw [if_pos (by omega)]
  congr 1
  exact if_congr (by omega) rfl rfl

theorem sinkR_last (X G : ℕ → ℕ → ℝ) (sk : ℕ → ℝ) (a : Fin 8) (l : Fin 128) : sinkR X G sk 15 a l = rDs X G sk slopeR a l := by
  unfold sinkR sinkAt rDs rSink
  split_ifs with h
  · rw [Finset.sum_neg_distrib, Finset.sum_range]
  · exact Finset.sum_const_zero

end Cert.KernelIdeal.Model
-- ==== Proof.Arrays.lean ====
/-
  The kernel's four results, over the reals: the windows' arrays after the run.
-/
module

public import proofs.«01_k».proof.Proof.Points
public import Idealize.ShloMosaic.Lib.Claim

@[expose] public section

set_option maxRecDepth 16384

noncomputable section

namespace Cert.KernelIdeal.Model

open Cert.KernelIdeal Cert.KernelIdeal.Gen Cert.KernelIdeal.Body Cert.KernelIdeal.Group Cert.Spec
open Idealize.ShloMosaic Idealize.SL.Sem
open Idealize.ShloMosaic.TcCoe

section
variable {m : (ℓ : Loc nD τ sig) → Buf (Elt Ideal) ℓ} {c : Dev nD} {X G : ℕ → ℕ → ℝ} {sk : ℕ → ℝ} (H : Inputs m c X G sk)
include H

theorem arr_dq : (dats m 0 c).arrAt 7 cfg0.N = fun i : S2048x2048.Idx => ((rDq X G sk slopeR (i 0) (i 1) : ℝ) : EReal) := by
  refine (dats m 0 c).arrAt_eq_of_covers 7 _ (by decide +kernel) fun t hf y => ?_
  have ht := t_lt t
  obtain ⟨e, -⟩ := index_out t
  obtain ⟨r, k, rfl⟩ : ∃ (r : Fin 128) (k : Fin 2048), y = ix2 r k := ⟨y 0, y 1, ValueIdx.eq_ix2 y⟩
  have ea : (win0_7.blk t).view.emb (ix2 r k) 0 = (⟨128 * t.val + r.val, by omega⟩ : Fin 2048) := Fin.ext (by blk_simp [e]; simp; omega)
  have eb : (win0_7.blk t).view.emb (ix2 r k) 1 = k := Fin.ext (by blk_simp [e])
  blk_simp [e]
  rw [after_7, (outs_val H t.val t.isLt).1 r k, ea, eb]
  unfold rDq
  have e1 : (128 * t.val + r.val) / 128 = t.val := by omega
  have e2 : (128 * t.val + r.val) % 128 = r.val := by omega
  simp only [e1, e2]

theorem arr_dk : (dats m 0 c).arrAt 8 cfg0.N = fun i : S2048x256.Idx => ((rKey (Dk X G sk slopeR) (i 0) (i 1) : ℝ) : EReal) := by
  refine (dats m 0 c).arrAt_eq_of_covers 8 _ (by decide +kernel) fun t hf y => ?_
  have ht : t.val = 15 := by have := (flush0_8 t).mp hf; have := t_lt t; omega
  obtain ⟨-, e, -⟩ := index_out t
  obtain ⟨r, k, rfl⟩ : ∃ (r : Fin 2048) (k : Fin 256), y = ix2 r k := ⟨y 0, y 1, ValueIdx.eq_ix2 y⟩
  have ea : (win0_8.blk t).view.emb (ix2 r k) 0 = r := Fin.ext (by blk_simp [e])
  have eb : (win0_8.blk t).view.emb (ix2 r k) 1 = k := Fin.ext (by blk_simp [e])
  blk_simp [e]
  rw [after_8, (outs_val H t.val t.isLt).2.1 r k, ea, eb, ← accR_last, ht]

theorem arr_dv : (dats m 0 c).arrAt 9 cfg0.N = fun i : S2048x256.Idx => ((rKey (Dv X G sk slopeR) (i 0) (i 1) : ℝ) : EReal) := by
  refine (dats m 0 c).arrAt_eq_of_covers 9 _ (by decide +kernel) fun t hf y => ?_
  have ht : t.val = 15 := by have := (flush0_9 t).mp hf; have := t_lt t; omega
  obtain ⟨-, -, e, -⟩ := index_out t
  obtain ⟨r, k, rfl⟩ : ∃ (r : Fin 2048) (k : Fin 256), y = ix2 r k := ⟨y 0, y 1, ValueIdx.eq_ix2 y⟩
  have ea : (win0_9.blk t).view.emb (ix2 r k) 0 = r := Fin.ext (by blk_simp [e])
  have eb : (win0_9.blk t).view.emb (ix2 r k) 1 = k := Fin.ext (by blk_simp [e])
  blk_simp [e]
  rw [after_9, (outs_val H t.val t.isLt).2.2.1 r k, ea, eb, ← accR_last, ht]

theorem arr_ds : (dats m 0 c).arrAt 10 cfg0.N = fun i : S8x128.Idx => ((rDs X G sk slopeR (i 0) (i 1) : ℝ) : EReal) := by
  refine (dats m 0 c).arrAt_eq_of_covers 10 _ (by decide +kernel) fun t hf y => ?_
  have ht : t.val = 15 := by have := (flush0_10 t).mp hf; have := t_lt t; omega
  obtain ⟨-, -, -, e⟩ := index_out t
  obtain ⟨r, k, rfl⟩ : ∃ (r : Fin 8) (k : Fin 128), y = ix2 r k := ⟨y 0, y 1, ValueIdx.eq_ix2 y⟩
  have ea : (win0_10.blk t).view.emb (ix2 r k) 0 = r := Fin.ext (by blk_simp [e])
  have eb : (win0_10.blk t).view.emb (ix2 r k) 1 = k := Fin.ext (by blk_simp [e])
  blk_simp [e]
  rw [after_10, (outs_val H t.val t.isLt).2.2.2 r k, ea, eb, ← sinkR_last, ht]

end

/-- The run: each result is its closed form, and the arguments end as they began. -/
theorem kernel_run {m : (ℓ : Loc nD τ sig) → Buf (Elt Ideal) ℓ} {X G : Dev nD → ℕ → ℕ → ℝ} {sk : Dev nD → ℕ → ℝ} (H : ∀ c, Inputs m c (X c) (G c) (sk c))
    (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = (fun i : S2048x2048.Idx => ((rDq (X c) (G c) (sk c) slopeR (i 0) (i 1) : ℝ) : EReal))
      ∧ r.2.mem ((c.tc : Thread nD τ).loc main_v0_1) = (fun i : S2048x256.Idx => ((rKey (Dk (X c) (G c) (sk c) slopeR) (i 0) (i 1) : ℝ) : EReal))
      ∧ r.2.mem ((c.tc : Thread nD τ).loc main_v0_2) = (fun i : S2048x256.Idx => ((rKey (Dv (X c) (G c) (sk c) slopeR) (i 0) (i 1) : ℝ) : EReal))
      ∧ r.2.mem ((c.tc : Thread nD τ).loc main_v0_3) = (fun i : S8x128.Idx => ((rDs (X c) (G c) (sk c) slopeR (i 0) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have h : θ_run (defs (F := Ideal)) (onTc (τ := τ) (main (F := Ideal))) ⟨m, fun _ => 0, g⟩ (fun r => Pipeline.FramePost cfgs (dats m) 0 (V m) r) :=
    (θ_run defs _ _).mono (fun _ h => h.1) (run_main m g)
  run_from h
  · exact arr_dq (H c)
  · exact arr_dk (H c)
  · exact arr_dv (H c)
  · exact arr_ds (H c)

end Cert.KernelIdeal.Model
-- ==== Proof.RefIn.lean ====
/-
  The reference at the ideal values, element by element, up to the masked scores: the blocks of queries, keys and
  cotangents, the mask, the slopes.
-/
module

public import proofs.«01_k».proof.Proof.Spec
public import proofs.«01_k».proof.Proof.Gen.ReferenceIdeal.Read

@[expose] public section

set_option maxRecDepth 16384

noncomputable section

namespace Cert.RefVal

open Cert.ReferenceIdeal Cert.ReferenceIdeal.Gen Cert.ReferenceIdeal.Read Cert.Spec Cert.Row Cert.KernelIdeal.Model Cert.KernelIdeal.Group
open Idealize.ShloMosaic
open Idealize.ShloMosaic.TcCoe
open scoped Classical

/-- The three arguments are real where they are read. -/
structure Arr (x0 : (⟨S2048x11776, .f32⟩ : BufTy).Contents (Elt Ideal)) (x1 : (⟨S2048x2048, .f32⟩ : BufTy).Contents (Elt Ideal))
    (x2 : (⟨S1x32, .f32⟩ : BufTy).Contents (Elt Ideal)) (X G : ℕ → ℕ → ℝ) (sk : ℕ → ℝ) : Prop where
  proj : ∀ (a : Fin 2048) (n : Fin 11776), n.val < 2560 → x0 (ix2 a n) = (X a.val n.val : EReal)
  cot : ∀ (a : Fin 2048) (n : Fin 2048), x1 (ix2 a n) = (G a.val n.val : EReal)
  sinks : ∀ h : Fin 32, x2 (ix2 0 h) = (sk h.val : EReal)

/-- Nothing where the mask of the first block hides everything, a real elsewhere. -/
def shown (f : ℕ → ℕ → Fin 256 → Fin 64 → ℝ) (b g : ℕ) (j : Fin 256) (d : Fin 64) : ℝ := if j.val < 128 ∧ b < 1 then 0 else f b g j d
theorem eq_zero_of_ne_one {w : BitVec 1} (h : w ≠ 1#1) : w = 0#1 := (BitVec.eq_zero_or_eq_one w).resolve_right h
theorem shown_pos {f : ℕ → ℕ → Fin 256 → Fin 64 → ℝ} {b g : ℕ} {j : Fin 256} {d : Fin 64} (h : j.val < 128 ∧ b < 1) : shown f b g j d = 0 := if_pos h
theorem shown_neg {f : ℕ → ℕ → Fin 256 → Fin 64 → ℝ} {b g : ℕ} {j : Fin 256} {d : Fin 64} (h : ¬ (j.val < 128 ∧ b < 1)) : shown f b g j d = f b g j d := if_neg h
theorem shown_of_valid {f : ℕ → ℕ → Fin 256 → Fin 64 → ℝ} {b r : ℕ} {j : Fin 256} (h : valid b r j) (g : ℕ) (d : Fin 64) :
    shown f b g j d = f b g j d := by
  unfold shown
  rw [if_neg (by unfold valid Valid at h; omega)]

theorem coe_at (f : ℕ → ℕ → ℝ) {a a' n n' : ℕ} (h : a = a') (h' : n = n') : (f a n : EReal) = (f a' n' : EReal) := by rw [h, h']

/-! ### Reductions of arrays of rank 6 -/

theorem fiber_last {t : Shape} (ht : t = S1x4x8x16x128) (h : S1x4x8x16x128x256.ReducesTo [5] S1x4x8x16x128) (a : Fin 1) (g : Fin 4) (e : Fin 8)
    (b : Fin 16) (r : Fin 128) (i : S1x4x8x16x128x256.Idx) : h.drop i = ix5 a g e b r ↔ ∃ k : Fin 256, ix6 a g e b r k = i := by
  constructor
  · intro q
    refine ⟨i 5, ?_⟩
    funext x; apply Fin.ext
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl
/-- The largest along the last axis. -/
theorem fold_last (h : S1x4x8x16x128x256.ReducesTo [5] S1x4x8x16x128) (a : Fin 1) (g : Fin 4) (e : Fin 8) (b : Fin 16) (r : Fin 128)
    (z : EReal) (v : S1x4x8x16x128x256.Idx → EReal) :
    (Finset.univ.filter fun i => h.drop i = ix5 a g e b r).fold max z v = Finset.univ.fold max z fun k : Fin 256 => v (ix6 a g e b r k) :=
  Finset.fold_filter_eq_fold_of_fiber _ _ (fun k : Fin 256 => ix6 a g e b r k) (fun _ _ q => congrFun q 5) (fiber_last rfl h a g e b r) z v
theorem sum_last (h : S1x4x8x16x128x256.ReducesTo [5] S1x4x8x16x128) (a : Fin 1) (g : Fin 4) (e : Fin 8) (b : Fin 16) (r : Fin 128)
    (z : EReal) (v : S1x4x8x16x128x256.Idx → EReal) :
    Ideal.hostReduceAdd h v z (ix5 a g e b r) = z + ∑ k : Fin 256, v (ix6 a g e b r k) := by
  unfold Ideal.hostReduceAdd
  exact congrArg _ (Finset.sum_filter_eq_sum_of_fiber _ (fun k : Fin 256 => ix6 a g e b r k) (fun _ _ q => congrFun q 5) (fiber_last rfl h a g e b r) v)
/-- A sum along axes of extent 1. -/
theorem sum_units {s t : Shape} {axes : List (Fin s.rank)} (h : s.ReducesTo axes t) (j : t.Idx) (i : s.Idx) (hi : ∀ i', h.drop i' = j ↔ i = i')
    (z : EReal) (v : s.Idx → EReal) : Ideal.hostReduceAdd h v z j = z + v i := by
  unfold Ideal.hostReduceAdd
  refine congrArg _ ((Finset.sum_filter_eq_sum_of_fiber _ (fun _ : Fin 1 => i) (fun _ _ _ => Subsingleton.elim _ _) (fun i' => (hi i').trans ⟨fun q => ⟨0, q⟩, fun ⟨_, q⟩ => q⟩) v).trans ?_)
  simp
theorem units_row (h : S1x4x8x16x128x1.ReducesTo [0, 5] S4x8x16x128) (g : Fin 4) (e : Fin 8) (b : Fin 16) (r : Fin 128) (z : EReal)
    (v : S1x4x8x16x128x1.Idx → EReal) : Ideal.hostReduceAdd h v z (ix4 g e b r) = z + v (ix6 0 g e b r 0) := by
  refine sum_units h _ _ (fun i => ⟨fun q => ?_, ?_⟩) z v
  · funext x; apply Fin.ext
    match x with
    | ⟨0, _⟩ => have := (i 0).isLt; exact (Nat.lt_one_iff.mp this).symm
    | ⟨1, _⟩ => exact (congrArg Fin.val (congrFun q 0)).symm
    | ⟨2, _⟩ => exact (congrArg Fin.val (congrFun q 1)).symm
    | ⟨3, _⟩ => exact (congrArg Fin.val (congrFun q 2)).symm
    | ⟨4, _⟩ => exact (congrArg Fin.val (congrFun q 3)).symm
    | ⟨5, _⟩ => have := (i 5).isLt; exact (Nat.lt_one_iff.mp this).symm
  · rintro rfl
    funext x; apply Fin.ext
    match x with
    | ⟨0, _⟩ => rfl
    | ⟨1, _⟩ => rfl
    | ⟨2, _⟩ => rfl
    | ⟨3, _⟩ => rfl
theorem units_head (h : S1x4x8x1x1x1.ReducesTo [0, 3, 4, 5] S4x8) (g : Fin 4) (e : Fin 8) (z : EReal)
    (v : S1x4x8x1x1x1.Idx → EReal) : Ideal.hostReduceAdd h v z (ix2 g e) = z + v (ix6 0 g e 0 0 0) := by
  refine sum_units h _ _ (fun i => ⟨fun q => ?_, ?_⟩) z v
  · funext x; apply Fin.ext
    match x with
    | ⟨0, _⟩ => have := (i 0).isLt; exact (Nat.lt_one_iff.mp this).symm
    | ⟨1, _⟩ => exact (congrArg Fin.val (congrFun q 0)).symm
    | ⟨2, _⟩ => exact (congrArg Fin.val (congrFun q 1)).symm
    | ⟨3, _⟩ => have := (i 3).isLt; exact (Nat.lt_one_iff.mp this).symm
    | ⟨4, _⟩ => have := (i 4).isLt; exact (Nat.lt_one_iff.mp this).symm
    | ⟨5, _⟩ => have := (i 5).isLt; exact (Nat.lt_one_iff.mp this).symm
  · rintro rfl
    funext x; apply Fin.ext
    match x with
    | ⟨0, _⟩ => rfl
    | ⟨1, _⟩ => rfl

/-! ### The mask and the slopes -/

theorem block_word : ∀ (b : Fin 16) (j : Fin 256), IntOp.cmpi .sge ((BitVec.ofNat 32 b.val - 1#32) * 128#32 + BitVec.ofNat 32 j.val) 0#32
    = BitVec.ofBool (decide (128 ≤ j.val ∨ 0 < b.val)) := by decide +kernel
theorem v34_val (r : Fin 128) (j : Fin 256) : val_main_v34 (F := Ideal) (ix2 r j) = dw r.val j.val := by
  pointwise [val_main_v34, val_main_v33, val_main_v32, val_main_v31, val_main_v30, val_main_c, val_main_v29, val_main_v28, val_main_v27, val_main_v26]
  rfl
theorem v55_iff (b : Fin 16) (r : Fin 128) (j : Fin 256) : val_main_v55 (F := Ideal) (ix3 b r j) = 1#1 ↔ valid b.val r.val j := by
  have hd := dw_toInt r.val j.val r.isLt j.isLt
  have e0 : (0#32).toInt = 0 := rfl
  have e1 : (128#32).toInt = 128 := rfl
  have h1 : IntOp.cmpi .sge (dw r.val j.val) 0#32 = BitVec.ofBool (decide (j.val ≤ 128 + r.val)) := by
    refine congrArg BitVec.ofBool ?_
    simp only [BitVec.sle, hd, e0]
    exact decide_eq_decide.mpr (by omega)
  have h2 : IntOp.cmpi .slt (dw r.val j.val) 128#32 = BitVec.ofBool (decide (r.val < j.val)) := by
    refine congrArg BitVec.ofBool ?_
    simp only [BitVec.slt, hd, e1]
    exact decide_eq_decide.mpr (by omega)
  have e : val_main_v55 (F := Ideal) (ix3 b r j) = IntOp.andi (IntOp.andi (IntOp.cmpi .sge (dw r.val j.val) 0#32) (IntOp.cmpi .slt (dw r.val j.val) 128#32))
      (IntOp.cmpi .sge ((BitVec.ofNat 32 b.val - 1#32) * 128#32 + BitVec.ofNat 32 j.val) 0#32) := by
    pointwise [val_main_v55, val_main_v54, val_main_v53, val_main_v52, val_main_v51, val_main_v50, val_main_c_8, val_main_v49, val_main_v48, val_main_v47, val_main_c_7,
      val_main_v46, val_main_v45, val_main_c_6, val_main_v44, val_main_v43, val_main_v42, val_main_v41, val_main_v40, val_main_v39, val_main_c_5, val_main_v38, val_main_v37,
      val_main_c_4, val_main_v36, val_main_v35]
    simp only [v34_val]
    rfl
  rw [e, h1, h2, block_word]
  unfold valid Valid
  by_cases p1 : j.val ≤ 128 + r.val <;> by_cases p2 : r.val < j.val <;> by_cases p3 : 128 ≤ j.val ∨ 0 < b.val <;>
    simp only [p1, p2, p3, decide_true, decide_false] <;> decide

theorem v88_val (h : Fin 16) : val_main_v88 (F := Ideal) (ix1 h) = Ideal.ofBits .f32 (slopeW ⟨h.val, by omega⟩) := by
  fin_cases h <;> rfl
theorem v89_val (h : Fin 16) : val_main_v89 (F := Ideal) (ix1 h) = Ideal.ofBits .f32 (slopeW ⟨16 + h.val, by omega⟩) := by
  fin_cases h <;> rfl
theorem v90_val (h : Fin 32) : val_main_v90 (F := Ideal) (ix1 h) = Ideal.ofBits .f32 (slopeW h) := by
  pointwise [val_main_v90]
  split_ifs with hh
  · rw [v88_val]
  · rw [v89_val]
    exact congrArg (fun n => Ideal.ofBits .f32 (slopeW n)) (Fin.ext (by show 16 + (h.val - 16) = h.val; omega))
  · exact absurd rfl ‹_›
theorem v91_val (g : Fin 4) (e : Fin 8) : val_main_v91 (F := Ideal) (ix5 g e 0 0 0) = (slopeR (8 * g.val + e.val) : EReal) := by
  pointwise [val_main_v91]
  rw [v90_val, slopeR_coe]
  exact congrArg (fun n => ((slopeR n : ℝ) : EReal)) (by show g.val * 8 + e.val = _; omega)

section
variable {x0 : (⟨S2048x11776, .f32⟩ : BufTy).Contents (Elt Ideal)} {x1 : (⟨S2048x2048, .f32⟩ : BufTy).Contents (Elt Ideal)}
  {x2 : (⟨S1x32, .f32⟩ : BufTy).Contents (Elt Ideal)} {X G : ℕ → ℕ → ℝ} {sk : ℕ → ℝ} (H : Arr x0 x1 x2 X G sk)
  (g : Fin 4) (e : Fin 8) (b : Fin 16) (r : Fin 128) (j : Fin 256) (d : Fin 64)
include H

theorem v7_val : val_main_v7 x0 (ix6 0 b r g e d) = (qq X b.val (8 * g.val + e.val) r.val d : EReal) := by
  pointwise [val_main_v7, val_main_v4, val_main_v0]
  rw [H.proj _ _ (by show (g.val * 8 + e.val) * 64 + d.val < 2560; omega)]
  unfold qq
  refine coe_at _ ?_ ?_ <;> simp only <;> omega
theorem v14_val : val_main_v14 x0 (ix5 0 b j g d) = (shown (kk X) b.val g.val j d : EReal) := by
  pointwise [val_main_v14, val_main_v12, val_main_v11, val_main_v10, val_main_cst, val_main_v8, val_main_v5, val_main_v1]
  split_ifs with h1 h2
  · exact (congrArg (fun y : ℝ => (y : EReal)) (shown_pos ⟨h1, h2⟩)).symm
  · refine (H.proj _ _ (by show 2048 + (g.val * 64 + d.val) < 2560; omega)).trans ((coe_at X ?_ ?_).trans (congrArg (fun y : ℝ => (y : EReal)) (shown_neg (f := kk X) (g := g.val) (d := d) (fun q => h2 q.2))).symm)
    · show (b.val - 1) * 128 + j.val = row b.val j
      unfold row
      rw [if_pos h1]; omega
    · show 2048 + (g.val * 64 + d.val) = 2048 + (64 * g.val + d.val); omega
  · exact absurd rfl ‹_›
  · refine (H.proj _ _ (by show 2048 + (g.val * 64 + d.val) < 2560; omega)).trans ((coe_at X ?_ ?_).trans (congrArg (fun y : ℝ => (y : EReal)) (shown_neg (f := kk X) (g := g.val) (d := d) (fun q => h1 q.1))).symm)
    · show b.val * 128 + (j.val - 128) = row b.val j
      unfold row
      rw [if_neg h1]; omega
    · show 2048 + (g.val * 64 + d.val) = 2048 + (64 * g.val + d.val); omega
  · exact absurd rfl ‹_›
theorem v21_val : val_main_v21 x0 (ix5 0 b j g d) = (shown (vv X) b.val g.val j d : EReal) := by
  pointwise [val_main_v21, val_main_v19, val_main_v18, val_main_v17, val_main_cst_1, val_main_v15, val_main_v6, val_main_v2]
  split_ifs with h1 h2
  · exact (congrArg (fun y : ℝ => (y : EReal)) (shown_pos ⟨h1, h2⟩)).symm
  · refine (H.proj _ _ (by show 2304 + (g.val * 64 + d.val) < 2560; omega)).trans ((coe_at X ?_ ?_).trans (congrArg (fun y : ℝ => (y : EReal)) (shown_neg (f := vv X) (g := g.val) (d := d) (fun q => h2 q.2))).symm)
    · show (b.val - 1) * 128 + j.val = row b.val j
      unfold row
      rw [if_pos h1]; omega
    · show 2304 + (g.val * 64 + d.val) = 2304 + (64 * g.val + d.val); omega
  · exact absurd rfl ‹_›
  · refine (H.proj _ _ (by show 2304 + (g.val * 64 + d.val) < 2560; omega)).trans ((coe_at X ?_ ?_).trans (congrArg (fun y : ℝ => (y : EReal)) (shown_neg (f := vv X) (g := g.val) (d := d) (fun q => h1 q.1))).symm)
    · show b.val * 128 + (j.val - 128) = row b.val j
      unfold row
      rw [if_neg h1]; omega
    · show 2304 + (g.val * 64 + d.val) = 2304 + (64 * g.val + d.val); omega
  · exact absurd rfl ‹_›
theorem v150_val : val_main_v150 x1 (ix6 0 b r g e d) = (qq G b.val (8 * g.val + e.val) r.val d : EReal) := by
  pointwise [val_main_v150, val_main_v149]
  rw [H.cot]
  unfold qq
  refine coe_at _ ?_ ?_ <;> simp only <;> omega
theorem v101_val : val_main_v101 x2 (ix5 g e 0 0 0) = (sk (8 * g.val + e.val) : EReal) := by
  pointwise [val_main_v101, val_main_v3]
  rw [H.sinks]
  exact congrArg (fun n => ((sk n : ℝ) : EReal)) (by show g.val * 8 + e.val = _; omega)
theorem v25_val : val_main_v25 x0 (ix6 0 g e b r j)
    = (((∑ d, qq X b.val (8 * g.val + e.val) r.val d * shown (kk X) b.val g.val j d) * (1 / 8) : ℝ) : EReal) := by
  pointwise [val_main_v25, val_main_v24, val_main_cst_3, val_main_v23, val_main_v22]
  simp only [v14_val H, v7_val H, eighth, ← EReal.coe_mul, coe_sum, mul_comm (shown _ _ _ _ _)]
theorem v100_val : val_main_v100_0 x0 (ix6 0 g e b r j)
    = sc (valid b.val r.val) (Spec.score X slopeR b.val (8 * g.val + e.val) r.val) j := by
  pointwise [val_main_v100_0, val_main_v100_1, val_main_call0_v2, val_main_call0_v0, val_main_cst_41, val_main_v99, val_main_v98, val_main_v97, val_main_v96, val_main_v95, val_main_v94,
    val_main_v93, val_main_v92]
  simp only [v25_val H, v91_val, v34_val, neg_inf]
  unfold sc
  by_cases hv : valid b.val r.val j
  · rw [if_pos hv, (v55_iff b r j).mpr hv]
    have ed : FloatOps.sitofp (F := Ideal) .f32 (dw r.val j.val) = (((128 + (r.val : ℝ)) - (j.val : ℝ) : ℝ) : EReal) := by
      show (((dw r.val j.val).toInt : ℝ) : EReal) = _
      rw [dw_toInt _ _ r.isLt j.isLt]
      push_cast
      rfl
    rw [ed, ← EReal.coe_mul, ← EReal.coe_sub]
    show ((_ : ℝ) : EReal) = _
    refine congrArg _ ?_
    unfold Spec.score
    simp only [shown_of_valid hv, show (8 * g.val + e.val) / 8 = g.val by omega]
  · rw [if_neg hv, eq_zero_of_ne_one (fun q => hv ((v55_iff b r j).mp q))]
    exact neg_inf
end
end Cert.RefVal
-- ==== Proof.RefRow.lean ====
/-
  One row of the reference at the ideal values: the exponentials up to a common factor, the probabilities, the gradients of
  the scores. The gradient through the row's maximum vanishes, since probabilities and sink sum to one.
-/
module

public import proofs.«01_k».proof.Proof.RefIn

@[expose] public section

set_option maxRecDepth 16384

noncomputable section

namespace Cert.RefVal

open Cert.ReferenceIdeal Cert.ReferenceIdeal.Gen Cert.ReferenceIdeal.Read Cert.Spec Cert.Row Cert.KernelIdeal.Model Cert.KernelIdeal.Group
open Idealize.ShloMosaic
open Idealize.ShloMosaic.TcCoe
open scoped Classical

theorem count_ne {n : ℕ} [NeZero n] (f : Fin n → EReal) (m : EReal) (h : ∃ j, f j = m) :
    ∑ j, (((Ideal.cmp .oeq (f j) m).toNat : ℝ) : EReal) ≠ 0 := by
  obtain ⟨j, hj⟩ := h
  rw [coe_sum]
  refine fun q => ?_
  have := (Finset.sum_eq_zero_iff_of_nonneg (fun i _ => Nat.cast_nonneg _)).mp (EReal.coe_eq_zero.mp q) j (Finset.mem_univ j)
  rw [hj] at this
  simp [Ideal.cmp] at this
/-- A largest element is attained. -/
theorem fold_attained {n : ℕ} (h : 0 < n) (f : Fin n → EReal) : ∃ j, f j = Finset.univ.fold max ⊥ f := by
  obtain ⟨j, -, hj⟩ := Finset.exists_max_image Finset.univ f ⟨⟨0, h⟩, Finset.mem_univ _⟩
  exact ⟨j, le_antisymm (Finset.le_fold_max _ |>.mpr (Or.inr ⟨j, Finset.mem_univ j, le_rfl⟩)) (Finset.fold_max_le _ |>.mpr ⟨bot_le, hj⟩)⟩

/-- The probabilities' cotangent as the reference has it. -/
def ct (X G : ℕ → ℕ → ℝ) (b g h r : ℕ) (j : Fin 256) : ℝ := ∑ d, qq G b h r d * shown (vv X) b g j d

/-- The row's exponentials, with a common factor `c`. -/
structure Exps (x0 : (⟨S2048x11776, .f32⟩ : BufTy).Contents (Elt Ideal)) (x2 : (⟨S1x32, .f32⟩ : BufTy).Contents (Elt Ideal)) (X : ℕ → ℕ → ℝ) (sk : ℕ → ℝ)
    (g : Fin 4) (e : Fin 8) (b : Fin 16) (r : Fin 128) (c : ℝ) : Prop where
  ne : c ≠ 0
  key : ∀ j, val_main_v132 x0 x2 (ix6 0 g e b r j) = ((c * wE (valid b.val r.val) (Spec.score X slopeR b.val (8 * g.val + e.val) r.val) j : ℝ) : EReal)
  sink : val_main_v138 x0 x2 (ix6 0 g e b r 0) = ((c * Real.exp (sk (8 * g.val + e.val)) : ℝ) : EReal)

section
variable {x0 : (⟨S2048x11776, .f32⟩ : BufTy).Contents (Elt Ideal)} {x1 : (⟨S2048x2048, .f32⟩ : BufTy).Contents (Elt Ideal)}
  {x2 : (⟨S1x32, .f32⟩ : BufTy).Contents (Elt Ideal)} {X G : ℕ → ℕ → ℝ} {sk : ℕ → ℝ} (H : Arr x0 x1 x2 X G sk)
  (g : Fin 4) (e : Fin 8) (b : Fin 16) (r : Fin 128) (j : Fin 256) (d : Fin 64)

include H

theorem v102_val : val_main_v102 x0 (ix5 0 g e b r) = Finset.univ.fold max ⊥ fun j => sc (valid b.val r.val) (Spec.score X slopeR b.val (8 * g.val + e.val) r.val) j := by
  pointwise [val_main_v102, val_main_cst_42]
  rw [fold_last, neg_inf]
  simp only [v100_val H]
theorem v106_val : val_main_v106 x0 (ix6 0 g e b r j)
    = (((Ideal.cmp .oeq (sc (valid b.val r.val) (Spec.score X slopeR b.val (8 * g.val + e.val) r.val) j) (Finset.univ.fold max ⊥ fun j => sc (valid b.val r.val) (Spec.score X slopeR b.val (8 * g.val + e.val) r.val) j)).toNat : ℝ) : EReal) := by
  pointwise [val_main_v106, val_main_v105, val_main_v104, val_main_v103]
  rw [v100_val H, v102_val H]
  rfl
theorem v107_val : val_main_v107 x0 (ix5 0 g e b r) = ∑ j : Fin 256, val_main_v106 x0 (ix6 0 g e b r j) := by
  pointwise [val_main_v107, val_main_cst_43]
  rw [sum_last, zero_add]
theorem v106_sum : (∑ j : Fin 256, val_main_v106 x0 (ix6 0 g e b r j)) = ∑ j : Fin 256, (((Ideal.cmp .oeq (sc (valid b.val r.val) (Spec.score X slopeR b.val (8 * g.val + e.val) r.val) j) (Finset.univ.fold max ⊥ fun j => sc (valid b.val r.val) (Spec.score X slopeR b.val (8 * g.val + e.val) r.val) j)).toNat : ℝ) : EReal) :=
  Finset.sum_congr rfl fun j _ => v106_val H g e b r j
theorem v107_ne : ¬ (val_main_v107 x0 (ix5 0 g e b r) : EReal) = (0 : EReal) := by
  rw [v107_val H, v106_sum H]
  exact count_ne _ _ (fold_attained (by omega) _)

omit H in
theorem v108_val : val_main_v108 x0 (ix6 0 g e b r 0) = val_main_v102 x0 (ix5 0 g e b r) := by
  pointwise [val_main_v108]
omit H in
theorem v110_val : val_main_v110 x2 (ix6 0 g e b r 0) = val_main_v101 x2 (ix5 g e 0 0 0) := by
  pointwise [val_main_v110, val_main_v109]
theorem exps : ∃ c, Exps x0 x2 X sk g e b r c := by
  obtain ⟨M, hM⟩ := max_real (valid b.val r.val) (Spec.score X slopeR b.val (8 * g.val + e.val) r.val) (sk (8 * g.val + e.val)) ⊥ bot_lt_top
  have h111 : val_main_v111 x0 x2 (ix6 0 g e b r 0) = (M : EReal) := by
    rw [val_main_v111_apply, v108_val, v110_val, v102_val H, v101_val H, Ideal.maximumf_def, hM]
  refine ⟨Real.exp (-M), (Real.exp_pos _).ne', fun j => ?_, ?_⟩
  · pointwise [val_main_v132, val_main_v131, val_main_v130]
    rw [v100_val H, h111]
    exact exp_sc M j
  · pointwise [val_main_v138, val_main_v137, val_main_v136, val_main_v135]
    rw [v101_val H, h111]
    exact exp_sink M

theorem v153_val : val_main_v153 x0 x1 (ix6 0 g e b r j) = ((ct X G b.val g.val (8 * g.val + e.val) r.val) j : EReal) := by
  pointwise [val_main_v153, val_main_v152, val_main_v151]
  simp only [v150_val H, v21_val H, ← EReal.coe_mul, coe_sum]
  rfl

variable {c : ℝ} (E : Exps x0 x2 X sk g e b r c)
include E
omit H

theorem v139_val : val_main_v139 x0 x2 (ix6 0 g e b r 0) = ((c * wDen (valid b.val r.val) (Spec.score X slopeR b.val (8 * g.val + e.val) r.val) (sk (8 * g.val + e.val)) : ℝ) : EReal) := by
  have e1 : val_main_v139 x0 x2 (ix6 0 g e b r 0) = Ideal.hostReduceAdd reducesTo_S1x4x8x16x128x256_S1x4x8x16x128_d5 (val_main_v132 x0 x2) (Ideal.ofBits .f32 0x00000000#32) (ix5 0 g e b r)
      + val_main_v138 x0 x2 (ix6 0 g e b r 0) := by
    pointwise [val_main_v139, val_main_v134, val_main_v133, val_main_cst_50]
  rw [e1, sum_last, Ideal.ofBits_zero_f32, zero_add, E.sink]
  simp only [E.key]
  rw [coe_sum, ← EReal.coe_add, ← Finset.mul_sum, ← mul_add]
  rfl
theorem den_ne0 : c * wDen (valid b.val r.val) (Spec.score X slopeR b.val (8 * g.val + e.val) r.val) (sk (8 * g.val + e.val)) ≠ 0 := mul_ne_zero E.ne wDen_pos.ne'
theorem v141_val : val_main_v141 x0 x2 (ix6 0 g e b r j) = ((wP (valid b.val r.val) (Spec.score X slopeR b.val (8 * g.val + e.val) r.val) (sk (8 * g.val + e.val)) j : ℝ) : EReal) := by
  pointwise [val_main_v141, val_main_v140]
  rw [E.key, v139_val g e b r E]
  refine (div_coe' (den_ne0 g e b r E)).trans (congrArg _ ?_)
  exact mul_div_mul_left _ _ E.ne
include H
theorem v161_val : val_main_v161 x0 x1 x2 (ix6 0 g e b r 0) = ((-(wDelta (valid b.val r.val) (Spec.score X slopeR b.val (8 * g.val + e.val) r.val) (sk (8 * g.val + e.val)) (ct X G b.val g.val (8 * g.val + e.val) r.val) / (c * wDen (valid b.val r.val) (Spec.score X slopeR b.val (8 * g.val + e.val) r.val) (sk (8 * g.val + e.val)))) : ℝ) : EReal) := by
  have e1 : val_main_v161 x0 x1 x2 (ix6 0 g e b r 0) = -(Ideal.hostReduceAdd reducesTo_S1x4x8x16x128x256_S1x4x8x16x128_d5 (val_main_v158 x0 x1 x2) (Ideal.ofBits .f32 0x00000000#32) (ix5 0 g e b r)) := by
    pointwise [val_main_v161, val_main_v160, val_main_v159, val_main_cst_52]
  have h144 : val_main_v144 x0 x2 (ix6 0 g e b r 0) = ((1 / ((c * wDen (valid b.val r.val) (Spec.score X slopeR b.val (8 * g.val + e.val) r.val) (sk (8 * g.val + e.val))) * (c * wDen (valid b.val r.val) (Spec.score X slopeR b.val (8 * g.val + e.val) r.val) (sk (8 * g.val + e.val)))) : ℝ) : EReal) := by
    pointwise [val_main_v144, val_main_v143, val_main_cst_51, val_main_v142]
    rw [v139_val g e b r E, ← EReal.coe_mul]
    exact div_coe' (a := 1) (mul_ne_zero (den_ne0 g e b r E) (den_ne0 g e b r E))
  have h158 : ∀ j, val_main_v158 x0 x1 x2 (ix6 0 g e b r j) = ((wP (valid b.val r.val) (Spec.score X slopeR b.val (8 * g.val + e.val) r.val) (sk (8 * g.val + e.val)) j * (ct X G b.val g.val (8 * g.val + e.val) r.val) j / (c * wDen (valid b.val r.val) (Spec.score X slopeR b.val (8 * g.val + e.val) r.val) (sk (8 * g.val + e.val))) : ℝ) : EReal) := fun j => by
    pointwise [val_main_v158, val_main_v157, val_main_v156]
    rw [v153_val H, h144, E.key, ← EReal.coe_mul, ← EReal.coe_mul]
    refine congrArg _ ?_
    have h1 := E.ne
    have h2 : wDen (valid b.val r.val) (Spec.score X slopeR b.val (8 * g.val + e.val) r.val) (sk (8 * g.val + e.val)) ≠ 0 := wDen_pos.ne'
    unfold wP
    field_simp
  rw [e1, sum_last, Ideal.ofBits_zero_f32, zero_add]
  simp only [h158]
  rw [coe_sum, ← EReal.coe_neg, ← Finset.sum_div]
  rfl
theorem v164_val : val_main_v164 x0 x1 x2 (ix6 0 g e b r 0) = ((-(wS (valid b.val r.val) (Spec.score X slopeR b.val (8 * g.val + e.val) r.val) (sk (8 * g.val + e.val)) * wDelta (valid b.val r.val) (Spec.score X slopeR b.val (8 * g.val + e.val) r.val) (sk (8 * g.val + e.val)) (ct X G b.val g.val (8 * g.val + e.val) r.val)) : ℝ) : EReal) := by
  pointwise [val_main_v164]
  rw [v161_val H g e b r E, E.sink, ← EReal.coe_mul]
  refine congrArg _ ?_
  have h1 := E.ne
  have h2 : wDen (valid b.val r.val) (Spec.score X slopeR b.val (8 * g.val + e.val) r.val) (sk (8 * g.val + e.val)) ≠ 0 := wDen_pos.ne'
  unfold wS
  field_simp
theorem v174_val : val_main_v174 x0 x1 x2 (ix6 0 g e b r j) = ((wDs (valid b.val r.val) (Spec.score X slopeR b.val (8 * g.val + e.val) r.val) (sk (8 * g.val + e.val)) (ct X G b.val g.val (8 * g.val + e.val) r.val) j : ℝ) : EReal) := by
  have h171 : val_main_v171 x0 x1 x2 (ix5 0 g e b r) = ((-(wDelta (valid b.val r.val) (Spec.score X slopeR b.val (8 * g.val + e.val) r.val) (sk (8 * g.val + e.val)) (ct X G b.val g.val (8 * g.val + e.val) r.val) / (c * wDen (valid b.val r.val) (Spec.score X slopeR b.val (8 * g.val + e.val) r.val) (sk (8 * g.val + e.val)))) : ℝ) : EReal) := by
    pointwise [val_main_v171, val_main_v170, val_main_cst_55]
    rw [units_row, v161_val H g e b r E, zero_add]
  pointwise [val_main_v174, val_main_v173, val_main_v163, val_main_v172, val_main_v162]
  rw [v153_val H, v139_val g e b r E, h171, E.key]
  rw [show Ideal.div (((ct X G b.val g.val (8 * g.val + e.val) r.val) j : ℝ) : EReal) ((c * wDen (valid b.val r.val) (Spec.score X slopeR b.val (8 * g.val + e.val) r.val) (sk (8 * g.val + e.val)) : ℝ) : EReal) = _ from div_coe' (den_ne0 g e b r E), ← EReal.coe_add, ← EReal.coe_mul]
  refine congrArg _ ?_
  have h1 := E.ne
  have h2 : wDen (valid b.val r.val) (Spec.score X slopeR b.val (8 * g.val + e.val) r.val) (sk (8 * g.val + e.val)) ≠ 0 := wDen_pos.ne'
  unfold wDs wP
  field_simp
  ring
omit E
/-- Nothing goes through the maximum. -/
theorem v178_val : val_main_v178 x0 x1 x2 (ix6 0 g e b r 0) = 0 := by
  obtain ⟨c, E⟩ := exps H g e b r
  have e1 : val_main_v178 x0 x1 x2 (ix6 0 g e b r 0) = -(val_main_v164 x0 x1 x2 (ix6 0 g e b r 0))
      + Ideal.hostReduceAdd reducesTo_S1x4x8x16x128x256_S1x4x8x16x128_d5 (val_main_v175 x0 x1 x2) (Ideal.ofBits .f32 0x00000000#32) (ix5 0 g e b r) := by
    pointwise [val_main_v178, val_main_v167, val_main_v177, val_main_v176, val_main_cst_56]
  have h175 : ∀ j, val_main_v175 x0 x1 x2 (ix6 0 g e b r j) = ((-wDs (valid b.val r.val) (Spec.score X slopeR b.val (8 * g.val + e.val) r.val) (sk (8 * g.val + e.val)) (ct X G b.val g.val (8 * g.val + e.val) r.val) j : ℝ) : EReal) := fun j => by
    pointwise [val_main_v175]
    rw [v174_val H g e b r j E, ← EReal.coe_neg]
  rw [e1, sum_last, Ideal.ofBits_zero_f32, zero_add, v164_val H g e b r E]
  simp only [h175]
  rw [coe_sum, ← EReal.coe_neg, ← EReal.coe_add]
  refine EReal.coe_eq_zero.mpr ?_
  have h1 := wP_sum (v := (valid b.val r.val)) (s := (Spec.score X slopeR b.val (8 * g.val + e.val) r.val)) (k := (sk (8 * g.val + e.val)))
  have h2 : ∑ j, wDs (valid b.val r.val) (Spec.score X slopeR b.val (8 * g.val + e.val) r.val) (sk (8 * g.val + e.val)) (ct X G b.val g.val (8 * g.val + e.val) r.val) j = wDelta (valid b.val r.val) (Spec.score X slopeR b.val (8 * g.val + e.val) r.val) (sk (8 * g.val + e.val)) (ct X G b.val g.val (8 * g.val + e.val) r.val) - (∑ j, wP (valid b.val r.val) (Spec.score X slopeR b.val (8 * g.val + e.val) r.val) (sk (8 * g.val + e.val)) j) * wDelta (valid b.val r.val) (Spec.score X slopeR b.val (8 * g.val + e.val) r.val) (sk (8 * g.val + e.val)) (ct X G b.val g.val (8 * g.val + e.val) r.val) := by
    unfold wDs
    simp only [mul_sub]
    rw [Finset.sum_sub_distrib, ← Finset.sum_mul]
    rfl
  rw [Finset.sum_neg_distrib, h2, eq_sub_of_add_eq h1]
  ring
theorem v188_val : val_main_v188 x0 x1 x2 (ix5 0 g e b r) = 0 := by
  have h182 : val_main_v182 x0 x1 x2 (ix6 0 g e b r 0) = 0 := by
    pointwise [val_main_v182]
    rw [v178_val H, zero_mul]
  have h187 : val_main_v187 x0 x1 x2 (ix5 0 g e b r) = 0 := by
    pointwise [val_main_v187, val_main_v186, val_main_cst_59]
    rw [units_row, h182, add_zero]
  have e1 : val_main_v188 x0 x1 x2 (ix5 0 g e b r) = Ideal.div (val_main_v187 x0 x1 x2 (ix5 0 g e b r)) (val_main_v107 x0 (ix5 0 g e b r)) := rfl
  rw [e1, h187]
  unfold Ideal.div
  rw [if_neg (v107_ne H g e b r), zero_mul]
/-- The gradient of the scores. -/
theorem v193_val : val_main_v193 x0 x1 x2 (ix6 0 g e b r j) = (ds X G sk slopeR b.val (8 * g.val + e.val) r.val j : EReal) := by
  obtain ⟨c, E⟩ := exps H g e b r
  have h191 : val_main_v191 x0 x1 x2 (ix6 0 g e b r j) = ((wDs (valid b.val r.val) (Spec.score X slopeR b.val (8 * g.val + e.val) r.val) (sk (8 * g.val + e.val)) (ct X G b.val g.val (8 * g.val + e.val) r.val) j : ℝ) : EReal) := by
    pointwise [val_main_v191, val_main_v190, val_main_v189]
    rw [v174_val H g e b r j E, v188_val H, zero_mul, add_zero]
  have hc : wDs (valid b.val r.val) (Spec.score X slopeR b.val (8 * g.val + e.val) r.val) (sk (8 * g.val + e.val)) (ct X G b.val g.val (8 * g.val + e.val) r.val) = wDs (valid b.val r.val) (Spec.score X slopeR b.val (8 * g.val + e.val) r.val) (sk (8 * g.val + e.val)) (Spec.cot X G b.val (8 * g.val + e.val) r.val) := wDs_congr (fun _ _ => rfl) fun j hv => by
    unfold ct Spec.cot
    simp only [shown_of_valid hv, show (8 * g.val + e.val) / 8 = g.val by omega]
  pointwise [val_main_v193, val_main_v100_1, val_main_call1_v0, val_main_call1_cst]
  rw [h191]
  by_cases hv : valid b.val r.val j
  · rw [(v55_iff b r j).mpr hv, hc]
    rfl
  · rw [eq_zero_of_ne_one (fun q => hv ((v55_iff b r j).mp q))]
    refine Eq.trans ?_ (congrArg (fun y : ℝ => (y : EReal)) (wDs_masked hv)).symm
    rfl
end
end Cert.RefVal
-- ==== Proof.RefOut.lean ====
/-
  The reference's four results at the ideal values: the gradients of the queries, the keys, the values and the sinks as
  sums over the blocks.
-/
module

public import proofs.«01_k».proof.Proof.RefRow
public import Idealize.ShloMosaic.Lib.ValueIdxRank6

@[expose] public section

set_option maxRecDepth 16384

noncomputable section

namespace Cert.RefVal

open Cert.ReferenceIdeal Cert.ReferenceIdeal.Gen Cert.ReferenceIdeal.Read Cert.Spec Cert.Row Cert.KernelIdeal.Model Cert.KernelIdeal.Group
open Idealize.ShloMosaic
open Idealize.ShloMosaic.TcCoe
open scoped Classical

/-- The sum over blocks and rows. -/
theorem sum_rows (h : S1x4x8x16x128x1.ReducesTo [3, 4] S1x4x8x1) (g : Fin 4) (e : Fin 8) (z : EReal) (v : S1x4x8x16x128x1.Idx → EReal) :
    Ideal.hostReduceAdd h v z (ix4 0 g e 0) = z + ∑ b : Fin 16, ∑ r : Fin 128, v (ix6 0 g e b r 0) := by
  unfold Ideal.hostReduceAdd
  refine congrArg _ ((Finset.sum_filter_eq_sum_of_fiber _ (fun k : Fin 16 × Fin 128 => (ix6 0 g e k.1 k.2 0 : S1x4x8x16x128x1.Idx))
    (fun _ _ q => Prod.ext (congrFun q 3) (congrFun q 4)) (fun i => ⟨fun q => ⟨(i 3, i 4), ?_⟩, ?_⟩) v).trans (Fintype.sum_prod_type _))
  · funext x; apply Fin.ext
    match x with
    | ⟨0, _⟩ => have := (i 0).isLt; exact (Nat.lt_one_iff.mp this).symm
    | ⟨1, _⟩ => exact (congrArg Fin.val (congrFun q 1)).symm
    | ⟨2, _⟩ => exact (congrArg Fin.val (congrFun q 2)).symm
    | ⟨3, _⟩ => rfl
    | ⟨4, _⟩ => rfl
    | ⟨5, _⟩ => have := (i 5).isLt; exact (Nat.lt_one_iff.mp this).symm
  · rintro ⟨k, rfl⟩
    funext x; apply Fin.ext
    match x with
    | ⟨0, _⟩ => rfl
    | ⟨1, _⟩ => rfl
    | ⟨2, _⟩ => rfl
    | ⟨3, _⟩ => rfl

/-- A sum over the 1024 rows of eight stacked heads, head by head. -/
theorem sum_heads (f : ℕ → ℕ → ℝ) : ∑ n : Fin 1024, f (n.val / 128) (n.val % 128) = ∑ e : Fin 8, ∑ r : Fin 128, f e.val r.val := by
  rw [← Fintype.sum_prod_type' (fun (e : Fin 8) (r : Fin 128) => f e.val r.val)]
  refine (Fintype.sum_equiv (finProdFinEquiv : Fin 8 × Fin 128 ≃ Fin (8 * 128)) _ _ fun x => ?_).symm
  have h1 := x.1.isLt
  have h2 := x.2.isLt
  show f x.1.val x.2.val = f ((x.2.val + 128 * x.1.val) / 128) ((x.2.val + 128 * x.1.val) % 128)
  congr 1 <;> omega

section
variable {x0 : (⟨S2048x11776, .f32⟩ : BufTy).Contents (Elt Ideal)} {x1 : (⟨S2048x2048, .f32⟩ : BufTy).Contents (Elt Ideal)}
  {x2 : (⟨S1x32, .f32⟩ : BufTy).Contents (Elt Ideal)} {X G : ℕ → ℕ → ℝ} {sk : ℕ → ℝ} (H : Arr x0 x1 x2 X G sk)
  (g : Fin 4) (e : Fin 8) (b : Fin 16) (r : Fin 128) (j : Fin 256) (d : Fin 64)
include H

theorem v141_prob : val_main_v141 x0 x2 (ix6 0 g e b r j) = (prob X sk slopeR b.val (8 * g.val + e.val) r.val j : EReal) := by
  obtain ⟨c, E⟩ := exps H g e b r
  exact v141_val g e b r j E
theorem v195_val : val_main_v195 x0 x1 x2 (ix6 0 g e b r j) = ((ds X G sk slopeR b.val (8 * g.val + e.val) r.val j * (1 / 8) : ℝ) : EReal) := by
  pointwise [val_main_v195, val_main_v194, val_main_cst_60]
  rw [v193_val H, eighth, ← EReal.coe_mul]
theorem v154_val : val_main_v154 x0 x1 x2 (ix5 0 b g d j) = (Dv X G sk slopeR b.val g.val j d : EReal) := by
  pointwise [val_main_v154, val_main_v151]
  simp only [v150_val H, v141_prob H, ← EReal.coe_mul, coe_sum]
  refine congrArg _ ?_
  unfold Dv
  rw [sum_heads fun e r => prob X sk slopeR b.val (8 * g.val + e) r j * qq G b.val (8 * g.val + e) r d]
  simp only [mul_comm (qq _ _ _ _ _)]
theorem v199_val : val_main_v199 x0 x1 x2 (ix5 0 g b j d) = (Dk X G sk slopeR b.val g.val j d : EReal) := by
  pointwise [val_main_v199, val_main_v196]
  simp only [v195_val H, v7_val H, ← EReal.coe_mul, coe_sum]
  refine congrArg _ ?_
  unfold Dk
  rw [sum_heads fun e r => ds X G sk slopeR b.val (8 * g.val + e) r j * qq X b.val (8 * g.val + e) r d, Finset.sum_comm]
  simp only [Finset.sum_mul, mul_right_comm _ (1 / 8 : ℝ)]
theorem v217_val (a : Fin 2048) (n : Fin 256) : val_main_v217 x0 x1 x2 (ix2 a n) = (rKey (Dk X G sk slopeR) a n : EReal) := by
  pointwise [val_main_v217, val_main_v214, val_main_v213, val_main_v212, val_main_v211, val_main_v209, val_main_v208, val_main_v200, val_main_cst_62]
  unfold rKey
  refine (congrArg₂ (fun y z : EReal => y + z) (v199_val H ⟨n.val / 64, by omega⟩ ⟨a.val / 128, by omega⟩ ⟨128 + a.val % 128, by omega⟩ ⟨n.val % 64, by omega⟩) ?_).trans (EReal.coe_add _ _).symm
  have key : ∀ b' : Fin 16, b'.val = a.val / 128 + 1 → val_main_v199 x0 x1 x2 (ix5 0 ⟨n.val / 64, by omega⟩ b' ⟨a.val % 128, by omega⟩ ⟨n.val % 64, by omega⟩)
      = (Dk X G sk slopeR (a.val / 128 + 1) (n.val / 64) ⟨a.val % 128, by omega⟩ ⟨n.val % 64, by omega⟩ : EReal) := fun b' h' => by
    rw [v199_val H, h']
  by_cases hb : a.val / 128 + 1 < 16
  · exact (dif_pos ⟨by omega, by omega, by omega, by omega⟩).trans ((key _ (by show 1 + a.val / 128 = _; omega)).trans (congrArg (fun y : ℝ => (y : EReal)) (if_pos hb)).symm)
  · refine (dif_neg fun q => hb (by have := q.1; omega)).trans (Eq.trans ?_ (congrArg (fun y : ℝ => (y : EReal)) (if_neg hb)).symm)
    exact EReal.coe_zero.symm
theorem v216_val (a : Fin 2048) (n : Fin 256) : val_main_v216 x0 x1 x2 (ix2 a n) = (rKey (Dv X G sk slopeR) a n : EReal) := by
  pointwise [val_main_v216, val_main_v207, val_main_v206, val_main_v205, val_main_v204, val_main_v202, val_main_v201, val_main_v155, val_main_cst_61]
  unfold rKey
  refine (congrArg₂ (fun y z : EReal => y + z) (v154_val H ⟨n.val / 64, by omega⟩ ⟨a.val / 128, by omega⟩ ⟨128 + a.val % 128, by omega⟩ ⟨n.val % 64, by omega⟩) ?_).trans (EReal.coe_add _ _).symm
  have key : ∀ b' : Fin 16, b'.val = a.val / 128 + 1 → val_main_v154 x0 x1 x2 (ix5 0 b' ⟨n.val / 64, by omega⟩ ⟨n.val % 64, by omega⟩ ⟨a.val % 128, by omega⟩)
      = (Dv X G sk slopeR (a.val / 128 + 1) (n.val / 64) ⟨a.val % 128, by omega⟩ ⟨n.val % 64, by omega⟩ : EReal) := fun b' h' => by
    rw [v154_val H, h']
  by_cases hb : a.val / 128 + 1 < 16
  · exact (dif_pos ⟨by omega, by omega, by omega, by omega⟩).trans ((key _ (by show 1 + a.val / 128 = _; omega)).trans (congrArg (fun y : ℝ => (y : EReal)) (if_pos hb)).symm)
  · refine (dif_neg fun q => hb (by have := q.1; omega)).trans (Eq.trans ?_ (congrArg (fun y : ℝ => (y : EReal)) (if_neg hb)).symm)
    exact EReal.coe_zero.symm
theorem v219_val (a : Fin 2048) (n : Fin 2048) : val_main_v219 x0 x1 x2 (ix2 a n) = (rDq X G sk slopeR a n : EReal) := by
  pointwise [val_main_v219, val_main_v218, val_main_v215, val_main_v198, val_main_v197, val_main_v196]
  simp only [v195_val H, v14_val H, ← EReal.coe_mul, coe_sum]
  refine congrArg _ ?_
  unfold rDq Dq
  rw [Finset.sum_mul]
  refine Finset.sum_congr rfl fun j _ => ?_
  have e1 : 8 * (n.val / 512) + n.val / 64 % 8 = n.val / 64 := by omega
  have e2 : n.val / 64 / 8 = n.val / 512 := by omega
  simp only [e1, e2]
  by_cases hv : valid (a.val / 128) (a.val % 128) j
  · rw [shown_of_valid hv]; ring
  · have : ds X G sk slopeR (a.val / 128) (n.val / 64) (a.val % 128) j = 0 := wDs_masked hv
    rw [this]; ring
theorem v185_val : val_main_v185 x0 x1 x2 (ix5 g e 0 0 0) = (rSink X G sk slopeR (8 * g.val + e.val) : EReal) := by
  have h179 : ∀ b r, val_main_v179 x0 x1 x2 (ix6 0 g e b r 0) = 0 := fun b r => by
    pointwise [val_main_v179]
    rw [v178_val H, zero_mul]
  have h164 : ∀ b r, val_main_v164 x0 x1 x2 (ix6 0 g e b r 0) = ((-part X G sk slopeR b.val (8 * g.val + e.val) r.val : ℝ) : EReal) := fun b r => by
    obtain ⟨c, E⟩ := exps H g e b r
    rw [v164_val H g e b r E]
    refine congrArg (fun y : ℝ => ((-y : ℝ) : EReal)) (congrArg _ (wDelta_congr (fun _ _ => rfl) fun j hv => ?_))
    unfold ct Spec.cot
    simp only [shown_of_valid hv, show (8 * g.val + e.val) / 8 = g.val by omega]
  pointwise [val_main_v185, val_main_v169, val_main_v168, val_main_v166, val_main_v165, val_main_v184, val_main_v183, val_main_v181, val_main_v180, val_main_cst_53, val_main_cst_54, val_main_cst_57, val_main_cst_58]
  rw [units_head, units_head]
  pointwise []
  rw [sum_rows, sum_rows]
  simp only [h179, h164, Finset.sum_const_zero, add_zero, zero_add, coe_sum]
  refine congrArg _ ?_
  unfold rSink
  simp only [Finset.sum_neg_distrib]
theorem v221_val (a : Fin 8) (n : Fin 128) : val_main_v221 x0 x1 x2 (ix2 a n) = (rDs X G sk slopeR a n : EReal) := by
  pointwise [val_main_v221, val_main_v220, val_main_v192, val_main_call2_v0, val_main_c_63]
  unfold rDs
  split_ifs with h1 h2
  · rw [v185_val H]
    exact congrArg (fun m => ((rSink X G sk slopeR m : ℝ) : EReal)) (by show 8 * (n.val / 8) + n.val % 8 = n.val; omega)
  · omega
  · omega
  · show (((0#32).toInt : ℝ) : EReal) = _
    simp
end
end Cert.RefVal
-- ==== Proof.Alg.lean ====
/-
  The two runs side by side: from memories that agree and are finite where they are read, the kernel and the reference end
  with the same four closed forms.
-/
module

public import proofs.«01_k».proof.Defs
public import proofs.«01_k».proof.Proof.Arrays
public import proofs.«01_k».proof.Proof.RefOut
public import proofs.«01_k».proof.Proof.Gen.ReferenceIdeal.Run
public import proofs.«01_k».proof.Proof.Gen.ReferenceIdeal.Read
public import Idealize.ShloMosaic.Lib.Claim

@[expose] public section

set_option maxRecDepth 16384

noncomputable section

namespace Cert.Proof

open Idealize.ShloMosaic Idealize.SL.Sem Idealize.ShloMosaic.StableHlo
open Idealize.ShloMosaic.TcCoe
open Cert.Spec Cert.Row Cert.KernelIdeal.Model Cert.KernelIdeal.Group

/-- The shape relations of the precondition. -/
theorem facts_finite : Cert.Pre_finite.Facts where
  slices_S2048x11776_S2048x2560_0_0 := by decide
  bcast_S_S2048x2560 := by decide
  bcast_S_S2048x2048 := by decide
  bcast_S_S1x32 := by decide

attribute [local instance] facts_finite Cert.KernelIdeal.Gen.facts Cert.ReferenceIdeal.Gen.facts

/-- A value whose absolute value is below infinity is a real. -/
theorem real_of_lt (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  induction x with
  | bot => rw [htop] at h; simp [Ideal.cmp] at h
  | coe r => rfl
  | top => rw [htop] at h; simp [Ideal.cmp] at h

/-- The reals an array of the memory holds, by position; nothing outside it. -/
def realsOf {p q : ℕ} (x : Fin p → Fin q → EReal) (a n : ℕ) : ℝ := if h : a < p ∧ n < q then (x ⟨a, h.1⟩ ⟨n, h.2⟩).toReal else 0

theorem realsOf_eq {p q : ℕ} (x : Fin p → Fin q → EReal) (a : Fin p) (n : Fin q)
    (h : Ideal.cmp .olt (max (x a n) (-(x a n))) (Ideal.ofBits .f32 0x7F800000#32) = 1#1) : x a n = (realsOf x a n : EReal) := by
  have e : realsOf x a n = (x a n).toReal := by
    unfold realsOf
    rw [dif_pos (⟨a.isLt, n.isLt⟩ : a.val < p ∧ n.val < q)]
  rw [e]
  exact real_of_lt _ h

section
variable (m : (ℓ : Loc Cert.KernelIdeal.nD Cert.KernelIdeal.τ Cert.KernelIdeal.sig) → Buf (Elt Ideal) ℓ) (c : Dev Cert.KernelIdeal.nD)

def projR : ℕ → ℕ → ℝ := realsOf fun (a : Fin 2048) (n : Fin 11776) => m ((c : Thread Cert.KernelIdeal.nD Cert.KernelIdeal.τ).loc Cert.KernelIdeal.main_arg0) (ix2 a n)
def cotR : ℕ → ℕ → ℝ := realsOf fun (a : Fin 2048) (n : Fin 2048) => m ((c : Thread Cert.KernelIdeal.nD Cert.KernelIdeal.τ).loc Cert.KernelIdeal.main_arg1) (ix2 a n)
def sinkR' : ℕ → ℝ := realsOf (fun (a : Fin 1) (n : Fin 32) => m ((c : Thread Cert.KernelIdeal.nD Cert.KernelIdeal.τ).loc Cert.KernelIdeal.main_arg2) (ix2 a n)) 0

/-- What the precondition says of the three arguments. -/
theorem inputs (h : Cert.Pre_KernelIdeal_finite m) : Inputs m c (projR m c) (cotR m c) (sinkR' m c) where
  proj a n hn := realsOf_eq (fun (a : Fin 2048) (n : Fin 11776) => m ((c : Thread Cert.KernelIdeal.nD Cert.KernelIdeal.τ).loc Cert.KernelIdeal.main_arg0) (ix2 a n)) a n (by
    have e := congrFun (h c).1 (ix2 a ⟨n.val, hn⟩)
    dsimp only [Cert.Pre_finite.fn] at e
    pointwise [Ideal.cmpf_def, Ideal.absf_def] at e
    exact e)
  cot a n := realsOf_eq (fun (a : Fin 2048) (n : Fin 2048) => m ((c : Thread Cert.KernelIdeal.nD Cert.KernelIdeal.τ).loc Cert.KernelIdeal.main_arg1) (ix2 a n)) a n
    (congrFun (h c).2.1 (ix2 a n))
  sinks k := realsOf_eq (fun (a : Fin 1) (n : Fin 32) => m ((c : Thread Cert.KernelIdeal.nD Cert.KernelIdeal.τ).loc Cert.KernelIdeal.main_arg2) (ix2 a n)) 0 k
    (congrFun (h c).2.2 (ix2 0 k))
end

/-- The reference's run: each result is its closed form, and the arguments end as they began. -/
theorem ref_run {m : (ℓ : Loc Cert.ReferenceIdeal.nD Cert.ReferenceIdeal.τ Cert.ReferenceIdeal.sig) → Buf (Elt Ideal) ℓ}
    {X G : Dev Cert.ReferenceIdeal.nD → ℕ → ℕ → ℝ} {sk : Dev Cert.ReferenceIdeal.nD → ℕ → ℝ}
    (H : ∀ c : Dev Cert.ReferenceIdeal.nD, Cert.RefVal.Arr (m ((c : Thread Cert.ReferenceIdeal.nD Cert.ReferenceIdeal.τ).loc Cert.ReferenceIdeal.main_arg0))
      (m ((c : Thread Cert.ReferenceIdeal.nD Cert.ReferenceIdeal.τ).loc Cert.ReferenceIdeal.main_arg1))
      (m ((c : Thread Cert.ReferenceIdeal.nD Cert.ReferenceIdeal.τ).loc Cert.ReferenceIdeal.main_arg2)) (X c) (G c) (sk c))
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c : Thread Cert.ReferenceIdeal.nD Cert.ReferenceIdeal.τ).loc Cert.ReferenceIdeal.main_v219)
          = (fun i : Cert.ReferenceIdeal.S2048x2048.Idx => ((rDq (X c) (G c) (sk c) slopeR (i 0) (i 1) : ℝ) : EReal))
        ∧ r.2.mem ((c : Thread Cert.ReferenceIdeal.nD Cert.ReferenceIdeal.τ).loc Cert.ReferenceIdeal.main_v217)
          = (fun i : Cert.ReferenceIdeal.S2048x256.Idx => ((rKey (Dk (X c) (G c) (sk c) slopeR) (i 0) (i 1) : ℝ) : EReal))
        ∧ r.2.mem ((c : Thread Cert.ReferenceIdeal.nD Cert.ReferenceIdeal.τ).loc Cert.ReferenceIdeal.main_v216)
          = (fun i : Cert.ReferenceIdeal.S2048x256.Idx => ((rKey (Dv (X c) (G c) (sk c) slopeR) (i 0) (i 1) : ℝ) : EReal))
        ∧ r.2.mem ((c : Thread Cert.ReferenceIdeal.nD Cert.ReferenceIdeal.τ).loc Cert.ReferenceIdeal.main_v221)
          = (fun i : Cert.ReferenceIdeal.S8x128.Idx => ((rDs (X c) (G c) (sk c) slopeR (i 0) (i 1) : ℝ) : EReal))
        ∧ r.2.mem ((c : Thread Cert.ReferenceIdeal.nD Cert.ReferenceIdeal.τ).loc Cert.ReferenceIdeal.main_arg0) = m ((c : Thread Cert.ReferenceIdeal.nD Cert.ReferenceIdeal.τ).loc Cert.ReferenceIdeal.main_arg0)
        ∧ r.2.mem ((c : Thread Cert.ReferenceIdeal.nD Cert.ReferenceIdeal.τ).loc Cert.ReferenceIdeal.main_arg1) = m ((c : Thread Cert.ReferenceIdeal.nD Cert.ReferenceIdeal.τ).loc Cert.ReferenceIdeal.main_arg1)
        ∧ r.2.mem ((c : Thread Cert.ReferenceIdeal.nD Cert.ReferenceIdeal.τ).loc Cert.ReferenceIdeal.main_arg2) = m ((c : Thread Cert.ReferenceIdeal.nD Cert.ReferenceIdeal.τ).loc Cert.ReferenceIdeal.main_arg2)) := by
  refine (θ_run Cert.ReferenceIdeal.defs _ _).mono (fun r h c => ?_) (Cert.ReferenceIdeal.Value.run (F := Ideal) m g)
  obtain ⟨e0, e1, e2, e3, ea⟩ := h c
  refine ⟨?_, ?_, ?_, ?_, ea⟩
  · refine (e0.trans (Cert.ReferenceIdeal.Read.val_main_v219_eq (launchContents m c))).trans (funext fun i => ?_)
    exact (congrArg _ (ValueIdx.eq_ix2 i)).trans (Cert.RefVal.v219_val (H c) (i 0) (i 1))
  · refine (e1.trans (Cert.ReferenceIdeal.Read.val_main_v217_eq (launchContents m c))).trans (funext fun i => ?_)
    exact (congrArg _ (ValueIdx.eq_ix2 i)).trans (Cert.RefVal.v217_val (H c) (i 0) (i 1))
  · refine (e2.trans (Cert.ReferenceIdeal.Read.val_main_v216_eq (launchContents m c))).trans (funext fun i => ?_)
    exact (congrArg _ (ValueIdx.eq_ix2 i)).trans (Cert.RefVal.v216_val (H c) (i 0) (i 1))
  · refine (e3.trans (Cert.ReferenceIdeal.Read.val_main_v221_eq (launchContents m c))).trans (funext fun i => ?_)
    exact (congrArg _ (ValueIdx.eq_ix2 i)).trans (Cert.RefVal.v221_val (H c) (i 0) (i 1))

theorem algebraic : Cert.algebraic_KernelIdeal_ReferenceIdeal_pre_finite (hKernelIdeal := Cert.KernelIdeal.Gen.facts)
    (hReferenceIdeal := Cert.ReferenceIdeal.Gen.facts) (hPre_finite := facts_finite) := by
  intro m g m' g' h e
  have H := fun c => inputs m c h
  refine ⟨_, _, _, _, kernel_run H g, ref_run (fun c => ?_) g'⟩
  obtain ⟨e0, e1, e2⟩ := e c
  exact ⟨fun a n hn => (congrFun e0 (ix2 a n)).trans ((H c).proj a n hn), fun a n => (congrFun e1 (ix2 a n)).trans ((H c).cot a n),
    fun k => (congrFun e2 (ix2 0 k)).trans ((H c).sinks k)⟩

end Cert.Proof

end
-- ==== Proof.DwUp.lean ====
/-
  The gradient of the two wide weights of the feed-forward part, both the same call: the sum over the tokens, tile by tile,
  against the gradient of the product.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Claim
public import Idealize.ShloMosaic.Lib.Pointwise
public import Idealize.ShloMosaic.Lib.Pipeline.Quiescent
public import Idealize.ShloMosaic.Lib.Pipeline.ValueKit.Point

@[expose] public section

set_option maxRecDepth 16384

noncomputable section

namespace Cert.DwUp

open Idealize.ShloMosaic Idealize.SL.Sem Idealize.ShloMosaic.StableHlo
open Idealize.ShloMosaic.TcCoe

/-- The product over the tokens, at the columns of one device. -/
def prod (x : (⟨2, ![2048, 2048]⟩ : Shape).Idx → EReal) (d : (⟨2, ![2048, 6144]⟩ : Shape).Idx → EReal) (s : Fin 4) (r : Fin 2048) (n : Fin 1536) : EReal :=
  ∑ k : Fin 2048, x (ix2 k r) * d (ix2 k ⟨s.val * 1536 + n.val, by omega⟩)

section
open Cert.Kernel2Ideal Cert.Kernel2Ideal.Gen
variable (m : (ℓ : Loc nD τ sig) → Buf (Elt Ideal) ℓ) (c : Dev nD)

theorem t_lt (t : Fin cfg0.N) : t.val < 16 := lt_of_lt_of_eq t.isLt N_0

theorem index_all : ∀ t : Fin cfg0.N, win0_0.index t = ![0, t.val % 4] ∧ win0_1.index t = ![0, t.val / 4] ∧ win0_2.index t = ![t.val / 4, t.val % 4, 0] := by
  decide +kernel

theorem blk_x (t : Fin cfg0.N) (k : Fin 2048) (r : Fin 512) :
    iblk m c 0 t (ix2 k r) = m ((c : Thread nD τ).loc main_arg0) (ix2 k ⟨t.val % 4 * 512 + r.val, by omega⟩) := by
  have ht := t_lt t
  obtain ⟨e, -⟩ := index_all t
  blk_ext [iblk, V, e]

theorem blk_d (t : Fin cfg0.N) (k : Fin 2048) (n : Fin 1536) :
    iblk m c 1 t (ix2 k n) = m ((c : Thread nD τ).loc main_arg1) (ix2 k ⟨t.val / 4 * 1536 + n.val, by have := t_lt t; omega⟩) := by
  have ht := t_lt t
  obtain ⟨-, e, -⟩ := index_all t
  blk_ext [iblk, V, e]

theorem pay (x : Vec Ideal S2048x512 .bf16) (d : Vec Ideal S2048x1536 .bf16) (r : Fin 512) (n : Fin 1536) :
    k0_pay1 x d (ix3 0 r n) = ∑ k : Fin 2048, x (ix2 k r) * d (ix2 k n) := by
  pointwise [k0_pay1]

theorem out_val (x : Vec Ideal S2048x512 .bf16) (d : Vec Ideal S2048x1536 .bf16) (z : Fin 1) (r : Fin 512) (n : Fin 1536) :
    out0_2 x d (ix3 z r n) = ∑ k : Fin 2048, x (ix2 k r) * d (ix2 k n) := by
  unfold out0_2
  rw [View.canon_unit_zero (by funext a; fin_cases a <;> rfl), View.ld_unit_zero (by funext a; fin_cases a <;> rfl),
    View.ld_unit_zero (by funext a; fin_cases a <;> rfl), Subsingleton.elim z 0, pay]

theorem arr : (dats m 0 c).arrAt 2 cfg0.N
    = fun i : S4x2048x1536.Idx => prod (m ((c : Thread nD τ).loc main_arg0)) (m ((c : Thread nD τ).loc main_arg1)) (i 0) (i 1) (i 2) := by
  refine (dats m 0 c).arrAt_eq_of_covers 2 _ (by decide +kernel) fun t hf y => ?_
  have ht := t_lt t
  obtain ⟨-, -, e⟩ := index_all t
  obtain ⟨z, r, n, rfl⟩ : ∃ (z : Fin 1) (r : Fin 512) (n : Fin 1536), y = ix3 z r n := ⟨y 0, y 1, y 2, ValueIdx.eq_ix3 y⟩
  have e0 : (win0_2.blk t).view.emb (ix3 z r n) 0 = (⟨t.val / 4, by omega⟩ : Fin 4) := Fin.ext (by blk_simp [e])
  have e1 : (win0_2.blk t).view.emb (ix3 z r n) 1 = (⟨t.val % 4 * 512 + r.val, by omega⟩ : Fin 2048) := Fin.ext (by blk_simp [e])
  have e2 : (win0_2.blk t).view.emb (ix3 z r n) 2 = n := Fin.ext (by blk_simp [e])
  blk_simp [e]
  rw [after0_2, e0, e1, e2, out_val]
  simp only [blk_x, blk_d]
  rfl

end

/-- The reference's result. -/
theorem ref (x : (⟨Cert.Reference2Ideal.S2048x2048, .bf16⟩ : BufTy).Contents (Elt Ideal)) (d : (⟨Cert.Reference2Ideal.S2048x6144, .bf16⟩ : BufTy).Contents (Elt Ideal))
    (s : Fin 4) (r : Fin 2048) (n : Fin 1536) : Cert.Reference2Ideal.Read.val_main_v8 (F := Ideal) x d (ix3 s r n) = prod x d s r n := by
  pointwise [Cert.Reference2Ideal.Read.val_main_v8, Cert.Reference2Ideal.Read.val_main_v7, Cert.Reference2Ideal.Read.val_main_v6, Cert.Reference2Ideal.Read.val_main_v5,
    Cert.Reference2Ideal.Read.val_main_v4, Cert.Reference2Ideal.Read.val_main_v3, Cert.Reference2Ideal.Read.val_main_v1]
  exact Finset.sum_congr rfl fun k _ => mul_comm _ _

theorem algebraic : Cert.algebraic_Kernel2Ideal_Reference2Ideal (hKernel2Ideal := Cert.Kernel2Ideal.Gen.facts) (hReference2Ideal := Cert.Reference2Ideal.Gen.facts) := by
  intro m g m' g' _ e
  refine ⟨fun c i => prod (m ((c.tc : Thread _ _).loc Cert.Kernel2Ideal.main_arg0)) (m ((c.tc : Thread _ _).loc Cert.Kernel2Ideal.main_arg1)) (i 0) (i 1) (i 2),
    (θ_run _ _ _).mono (fun r h c => ⟨(h c).1.trans (arr m c), (h c).2⟩) (Cert.Kernel2Ideal.Value.run_blocks (F := Ideal) m g),
    (θ_run _ _ _).mono (fun r h c => ⟨(h c).1.trans ((Cert.Reference2Ideal.Read.val_main_v8_eq _ _).trans (funext fun i => ?_)), (h c).2⟩)
      (Cert.Reference2Ideal.Value.run (F := Ideal) m' g')⟩
  obtain ⟨e0, e1⟩ := e c
  rw [e0, e1]
  exact (congrArg _ (ValueIdx.eq_ix3 i)).trans (ref _ _ (i 0) (i 1) (i 2))

theorem frame_ref : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

end Cert.DwUp

end
-- ==== Proof.Prod.lean ====
/-
  The entries of a product: of two matrices, of a transposed one with another, of one with a transposed one.
-/
module

public import Idealize.ShloMosaic.PureOps.Ideal
public import Idealize.ShloMosaic.Lib.Pointwise

@[expose] public section

noncomputable section

namespace Cert.Prod

open Idealize.ShloMosaic

/-- The indices of a matrix of `a` rows and `b` columns. -/
abbrev Ix (a b : ℕ) : Type := (⟨2, ![a, b]⟩ : Shape).Idx

/-- An entry of `x · w`. -/
def nn {M K N : ℕ} (x : Ix M K → EReal) (w : Ix K N → EReal) (r : Fin M) (n : Fin N) : EReal := ∑ k : Fin K, x (ix2 r k) * w (ix2 k n)

/-- An entry of `xᵀ · d`. -/
def tn {M K N : ℕ} (x : Ix K M → EReal) (d : Ix K N → EReal) (r : Fin M) (n : Fin N) : EReal := ∑ k : Fin K, x (ix2 k r) * d (ix2 k n)

/-- An entry of `d · wᵀ`. -/
def nt {M K N : ℕ} (d : Ix M K → EReal) (w : Ix N K → EReal) (r : Fin M) (n : Fin N) : EReal := ∑ k : Fin K, d (ix2 r k) * w (ix2 n k)

end Cert.Prod

end
-- ==== Proof.Forward.lean ====
/-
  The products of the forward pass, tile by tile.
-/
module

public import proofs.«01_k».proof.Defs
public import proofs.«01_k».proof.Proof.Prod
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import Idealize.ShloMosaic.Lib.Claim
public import Idealize.ShloMosaic.Lib.Pointwise
public import Idealize.ShloMosaic.Lib.Pipeline.Quiescent
public import Idealize.ShloMosaic.Lib.Pipeline.ValueKit.Point

@[expose] public section

set_option maxRecDepth 16384

noncomputable section

namespace Cert

open Idealize.ShloMosaic Idealize.SL.Sem Idealize.ShloMosaic.StableHlo
open Idealize.ShloMosaic.TcCoe
open Cert.Prod

/-! ### The weights of the attention and of the output -/

namespace AttnProj

section
open Cert.Kernel8Ideal Cert.Kernel8Ideal.Gen

theorem out_val (x : Vec Ideal S512x2048 .bf16) (w : Vec Ideal S2048x1024 .bf16) (r : Fin 512) (n : Fin 1024) :
    out0_2 x w (ix2 r n) = nn x w r n := by
  unfold out0_2
  rw [View.canon_unit_zero (by funext a; fin_cases a <;> rfl), View.ld_unit_zero (by funext a; fin_cases a <;> rfl),
    View.ld_unit_zero (by funext a; fin_cases a <;> rfl)]
  pointwise [k0_pay1]
  rfl

theorem index_all : ∀ t : Fin cfg0.N, win0_0.index t = ![t.val % 4, 0] ∧ win0_1.index t = ![0, t.val / 4] ∧ win0_2.index t = ![t.val % 4, t.val / 4] := by
  decide +kernel

theorem arr (m : (ℓ : Loc nD τ sig) → Buf (Elt Ideal) ℓ) (c : Dev nD) : (dats m 0 c).arrAt 2 cfg0.N
    = fun i : S2048x2048.Idx => nn (m ((c : Thread nD τ).loc main_arg0)) (m ((c : Thread nD τ).loc main_arg1)) (i 0) (i 1) := by
  refine (dats m 0 c).arrAt_eq_of_covers 2 _ (by decide +kernel) fun t hf y => ?_
  have ht : t.val < 8 := lt_of_lt_of_eq t.isLt N_0
  obtain ⟨ex, ew, e⟩ := index_all t
  obtain ⟨r, n, rfl⟩ : ∃ (r : Fin 512) (n : Fin 1024), y = ix2 r n := ⟨y 0, y 1, ValueIdx.eq_ix2 y⟩
  have b0 (k : Fin 2048) : iblk m c 0 t (ix2 r k) = m ((c : Thread nD τ).loc main_arg0) (ix2 ⟨t.val % 4 * 512 + r.val, by omega⟩ k) := by blk_ext [iblk, V, ex]
  have b1 (k : Fin 2048) : iblk m c 1 t (ix2 k n) = m ((c : Thread nD τ).loc main_arg1) (ix2 k ⟨t.val / 4 * 1024 + n.val, by omega⟩) := by blk_ext [iblk, V, ew]
  have e0 : (win0_2.blk t).view.emb (ix2 r n) 0 = (⟨t.val % 4 * 512 + r.val, by omega⟩ : Fin 2048) := Fin.ext (by blk_simp [e])
  have e1 : (win0_2.blk t).view.emb (ix2 r n) 1 = (⟨t.val / 4 * 1024 + n.val, by omega⟩ : Fin 2048) := Fin.ext (by blk_simp [e])
  blk_simp [e]
  rw [after0_2, e0, e1, out_val]
  simp only [nn, b0, b1]

end

theorem ref (x : Ix 2048 2048 → EReal) (w : Ix 2048 2048 → EReal) (r : Fin 2048) (n : Fin 2048) :
    Cert.Reference8Ideal.Read.val_main_v2 (F := Ideal) x w (ix2 r n) = nn x w r n := by
  pointwise [Cert.Reference8Ideal.Read.val_main_v2, Cert.Reference8Ideal.Read.val_main_v1, Cert.Reference8Ideal.Read.val_main_v0]
  rfl

theorem algebraic : Cert.algebraic_Kernel8Ideal_Reference8Ideal (hKernel8Ideal := Cert.Kernel8Ideal.Gen.facts) (hReference8Ideal := Cert.Reference8Ideal.Gen.facts) := by
  intro m g m' g' _ e
  refine ⟨fun c i => nn (m ((c.tc : Thread _ _).loc Cert.Kernel8Ideal.main_arg0)) (m ((c.tc : Thread _ _).loc Cert.Kernel8Ideal.main_arg1)) (i 0) (i 1),
    (θ_run _ _ _).mono (fun r h c => ⟨(h c).1.trans (arr m c), (h c).2⟩) (Cert.Kernel8Ideal.Value.run_blocks (F := Ideal) m g),
    (θ_run _ _ _).mono (fun r h c => ⟨(h c).1.trans ((Cert.Reference8Ideal.Read.val_main_v2_eq _ _).trans (funext fun i => ?_)), (h c).2⟩)
      (Cert.Reference8Ideal.Value.run (F := Ideal) m' g')⟩
  obtain ⟨e0, e1⟩ := e c
  rw [e0, e1]
  exact (congrArg _ (ValueIdx.eq_ix2 i)).trans (ref _ _ (i 0) (i 1))

theorem frame_ref : Cert.quiescent_Reference8Ideal (hReference8Ideal := Cert.Reference8Ideal.Gen.facts) := fun m g _ =>
  (θ_run Cert.Reference8Ideal.defs _ _).mono (fun r h => ⟨fun c => (h c).2, sem_eq_zero_of_no_sems (by decide) r.2⟩)
    (Cert.Reference8Ideal.Value.run (F := Ideal) m g)

end AttnProj

/-! ### The weight of the recurrence -/

namespace RnnProj

section
open Cert.Kernel9Ideal Cert.Kernel9Ideal.Gen

theorem out_val (x : Vec Ideal S512x2560 .bf16) (w : Vec Ideal S2560x1024 .bf16) (r : Fin 512) (n : Fin 1024) :
    out0_2 x w (ix2 r n) = nn x w r n := by
  unfold out0_2
  rw [View.canon_unit_zero (by funext a; fin_cases a <;> rfl), View.ld_unit_zero (by funext a; fin_cases a <;> rfl),
    View.ld_unit_zero (by funext a; fin_cases a <;> rfl)]
  pointwise [k0_pay1]
  rfl

theorem index_all : ∀ t : Fin cfg0.N, win0_0.index t = ![t.val % 4, 0] ∧ win0_1.index t = ![0, t.val / 4] ∧ win0_2.index t = ![t.val % 4, t.val / 4] := by
  decide +kernel

theorem arr (m : (ℓ : Loc nD τ sig) → Buf (Elt Ideal) ℓ) (c : Dev nD) : (dats m 0 c).arrAt 2 cfg0.N
    = fun i : S2048x2048.Idx => nn (m ((c : Thread nD τ).loc main_arg0)) (m ((c : Thread nD τ).loc main_arg1)) (i 0) (i 1) := by
  refine (dats m 0 c).arrAt_eq_of_covers 2 _ (by decide +kernel) fun t hf y => ?_
  have ht : t.val < 8 := lt_of_lt_of_eq t.isLt N_0
  obtain ⟨ex, ew, e⟩ := index_all t
  obtain ⟨r, n, rfl⟩ : ∃ (r : Fin 512) (n : Fin 1024), y = ix2 r n := ⟨y 0, y 1, ValueIdx.eq_ix2 y⟩
  have b0 (k : Fin 2560) : iblk m c 0 t (ix2 r k) = m ((c : Thread nD τ).loc main_arg0) (ix2 ⟨t.val % 4 * 512 + r.val, by omega⟩ k) := by blk_ext [iblk, V, ex]
  have b1 (k : Fin 2560) : iblk m c 1 t (ix2 k n) = m ((c : Thread nD τ).loc main_arg1) (ix2 k ⟨t.val / 4 * 1024 + n.val, by omega⟩) := by blk_ext [iblk, V, ew]
  have e0 : (win0_2.blk t).view.emb (ix2 r n) 0 = (⟨t.val % 4 * 512 + r.val, by omega⟩ : Fin 2048) := Fin.ext (by blk_simp [e])
  have e1 : (win0_2.blk t).view.emb (ix2 r n) 1 = (⟨t.val / 4 * 1024 + n.val, by omega⟩ : Fin 2048) := Fin.ext (by blk_simp [e])
  blk_simp [e]
  rw [after0_2, e0, e1, out_val]
  simp only [nn, b0, b1]

end

theorem ref (x : Ix 2048 2560 → EReal) (w : Ix 2560 2048 → EReal) (r : Fin 2048) (n : Fin 2048) :
    Cert.Reference9Ideal.Read.val_main_v2 (F := Ideal) x w (ix2 r n) = nn x w r n := by
  pointwise [Cert.Reference9Ideal.Read.val_main_v2, Cert.Reference9Ideal.Read.val_main_v1, Cert.Reference9Ideal.Read.val_main_v0]
  rfl

theorem algebraic : Cert.algebraic_Kernel9Ideal_Reference9Ideal (hKernel9Ideal := Cert.Kernel9Ideal.Gen.facts) (hReference9Ideal := Cert.Reference9Ideal.Gen.facts) := by
  intro m g m' g' _ e
  refine ⟨fun c i => nn (m ((c.tc : Thread _ _).loc Cert.Kernel9Ideal.main_arg0)) (m ((c.tc : Thread _ _).loc Cert.Kernel9Ideal.main_arg1)) (i 0) (i 1),
    (θ_run _ _ _).mono (fun r h c => ⟨(h c).1.trans (arr m c), (h c).2⟩) (Cert.Kernel9Ideal.Value.run_blocks (F := Ideal) m g),
    (θ_run _ _ _).mono (fun r h c => ⟨(h c).1.trans ((Cert.Reference9Ideal.Read.val_main_v2_eq _ _).trans (funext fun i => ?_)), (h c).2⟩)
      (Cert.Reference9Ideal.Value.run (F := Ideal) m' g')⟩
  obtain ⟨e0, e1⟩ := e c
  rw [e0, e1]
  exact (congrArg _ (ValueIdx.eq_ix2 i)).trans (ref _ _ (i 0) (i 1))

theorem frame_ref : Cert.quiescent_Reference9Ideal (hReference9Ideal := Cert.Reference9Ideal.Gen.facts) := fun m g _ =>
  (θ_run Cert.Reference9Ideal.defs _ _).mono (fun r h => ⟨fun c => (h c).2, sem_eq_zero_of_no_sems (by decide) r.2⟩)
    (Cert.Reference9Ideal.Value.run (F := Ideal) m g)

end RnnProj

/-! ### The two wide weights, whose columns come as the devices hold them -/

namespace Wide

/-- An entry of the product with the weight in blocks of columns. -/
def nb (x : Ix 2048 2048 → EReal) (w : (⟨3, ![4, 2048, 1536]⟩ : Shape).Idx → EReal) (r : Fin 2048) (n : Fin 6144) : EReal :=
  ∑ k : Fin 2048, x (ix2 r k) * w (ix3 ⟨n.val / 1536, by omega⟩ k ⟨n.val % 1536, by omega⟩)

section
open Cert.Kernel3Ideal Cert.Kernel3Ideal.Gen

theorem out_val (x : Vec Ideal S512x2048 .bf16) (w : Vec Ideal S1x2048x1536 .bf16) (r : Fin 512) (n : Fin 1536) :
    out0_2 x w (ix2 r n) = ∑ k : Fin 2048, x (ix2 r k) * w (ix3 0 k n) := by
  unfold out0_2
  rw [View.canon_unit_zero (by funext a; fin_cases a <;> rfl), View.ld_unit_zero (by funext a; fin_cases a <;> rfl),
    View.ld_unit_zero (by funext a; fin_cases a <;> rfl)]
  pointwise [k0_pay1]

theorem index_all : ∀ t : Fin cfg0.N, win0_0.index t = ![t.val % 4, 0] ∧ win0_1.index t = ![t.val / 4, 0, 0] ∧ win0_2.index t = ![t.val % 4, t.val / 4] := by
  decide +kernel

theorem arr (m : (ℓ : Loc nD τ sig) → Buf (Elt Ideal) ℓ) (c : Dev nD) : (dats m 0 c).arrAt 2 cfg0.N
    = fun i : S2048x6144.Idx => nb (m ((c : Thread nD τ).loc main_arg0)) (m ((c : Thread nD τ).loc main_arg1)) (i 0) (i 1) := by
  refine (dats m 0 c).arrAt_eq_of_covers 2 _ (by decide +kernel) fun t hf y => ?_
  have ht : t.val < 16 := lt_of_lt_of_eq t.isLt N_0
  obtain ⟨ex, ew, e⟩ := index_all t
  obtain ⟨r, n, rfl⟩ : ∃ (r : Fin 512) (n : Fin 1536), y = ix2 r n := ⟨y 0, y 1, ValueIdx.eq_ix2 y⟩
  have b0 (k : Fin 2048) : iblk m c 0 t (ix2 r k) = m ((c : Thread nD τ).loc main_arg0) (ix2 ⟨t.val % 4 * 512 + r.val, by omega⟩ k) := by
    blk_ext [iblk, V, ex]
  have b1 (k : Fin 2048) : iblk m c 1 t (ix3 0 k n) = m ((c : Thread nD τ).loc main_arg1) (ix3 ⟨t.val / 4, by omega⟩ k n) := by
    blk_ext [iblk, V, ew]
  have e0 : (win0_2.blk t).view.emb (ix2 r n) 0 = (⟨t.val % 4 * 512 + r.val, by omega⟩ : Fin 2048) := Fin.ext (by blk_simp [e])
  have e1 : (win0_2.blk t).view.emb (ix2 r n) 1 = (⟨t.val / 4 * 1536 + n.val, by omega⟩ : Fin 6144) := Fin.ext (by blk_simp [e])
  have q : (⟨(t.val / 4 * 1536 + n.val) / 1536, by omega⟩ : Fin 4) = ⟨t.val / 4, by omega⟩ := Fin.ext (show (t.val / 4 * 1536 + n.val) / 1536 = t.val / 4 by omega)
  have p : (⟨(t.val / 4 * 1536 + n.val) % 1536, by omega⟩ : Fin 1536) = n := Fin.ext (show (t.val / 4 * 1536 + n.val) % 1536 = n.val by omega)
  blk_simp [e]
  rw [after0_2, e0, e1, out_val]
  simp only [nb, b0, b1, q, p]

end

theorem ref (x : Ix 2048 2048 → EReal) (w : (⟨3, ![4, 2048, 1536]⟩ : Shape).Idx → EReal) (r : Fin 2048) (n : Fin 6144) :
    Cert.Reference3Ideal.Read.val_main_v4 (F := Ideal) x w (ix2 r n) = nb x w r n := by
  pointwise [Cert.Reference3Ideal.Read.val_main_v4, Cert.Reference3Ideal.Read.val_main_v3, Cert.Reference3Ideal.Read.val_main_v2,
    Cert.Reference3Ideal.Read.val_main_v1, Cert.Reference3Ideal.Read.val_main_v0]
  rfl

theorem algebraic : Cert.algebraic_Kernel3Ideal_Reference3Ideal (hKernel3Ideal := Cert.Kernel3Ideal.Gen.facts) (hReference3Ideal := Cert.Reference3Ideal.Gen.facts) := by
  intro m g m' g' _ e
  refine ⟨fun c i => nb (m ((c.tc : Thread _ _).loc Cert.Kernel3Ideal.main_arg0)) (m ((c.tc : Thread _ _).loc Cert.Kernel3Ideal.main_arg1)) (i 0) (i 1),
    (θ_run _ _ _).mono (fun r h c => ⟨(h c).1.trans (arr m c), (h c).2⟩) (Cert.Kernel3Ideal.Value.run_blocks (F := Ideal) m g),
    (θ_run _ _ _).mono (fun r h c => ⟨(h c).1.trans ((Cert.Reference3Ideal.Read.val_main_v4_eq _ _).trans (funext fun i => ?_)), (h c).2⟩)
      (Cert.Reference3Ideal.Value.run (F := Ideal) m' g')⟩
  obtain ⟨e0, e1⟩ := e c
  rw [e0, e1]
  exact (congrArg _ (ValueIdx.eq_ix2 i)).trans (ref _ _ (i 0) (i 1))

theorem frame_ref : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

end Wide

end Cert

end
-- ==== Proof.WeightGrad.lean ====
/-
  The gradients of the other weights: the sum over the tokens, tile by tile, against the gradient of the product.
-/
module

public import proofs.«01_k».proof.Defs
public import proofs.«01_k».proof.Proof.Prod
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import Idealize.ShloMosaic.Lib.Claim
public import Idealize.ShloMosaic.Lib.Pointwise
public import Idealize.ShloMosaic.Lib.Pipeline.Quiescent
public import Idealize.ShloMosaic.Lib.Pipeline.ValueKit.Point

@[expose] public section

set_option maxRecDepth 16384

noncomputable section

namespace Cert

open Idealize.ShloMosaic Idealize.SL.Sem Idealize.ShloMosaic.StableHlo
open Idealize.ShloMosaic.TcCoe
open Cert.Prod

/-! ### The weight of the way down -/

namespace DwDown

section
open Cert.Kernel4Ideal Cert.Kernel4Ideal.Gen

theorem out_val (x : Vec Ideal S2048x512 .bf16) (d : Vec Ideal S2048x1024 .bf16) (r : Fin 512) (n : Fin 1024) :
    out0_2 x d (ix2 r n) = tn x d r n := by
  unfold out0_2
  rw [View.canon_unit_zero (by funext a; fin_cases a <;> rfl), View.ld_unit_zero (by funext a; fin_cases a <;> rfl),
    View.ld_unit_zero (by funext a; fin_cases a <;> rfl)]
  pointwise [k0_pay1]
  rfl

theorem index_all : ∀ t : Fin cfg0.N, win0_0.index t = ![0, t.val / 2] ∧ win0_1.index t = ![0, t.val % 2] ∧ win0_2.index t = ![t.val / 2, t.val % 2] := by
  decide +kernel

theorem arr (m : (ℓ : Loc nD τ sig) → Buf (Elt Ideal) ℓ) (c : Dev nD) : (dats m 0 c).arrAt 2 cfg0.N
    = fun i : S6144x2048.Idx => tn (m ((c : Thread nD τ).loc main_arg0)) (m ((c : Thread nD τ).loc main_arg1)) (i 0) (i 1) := by
  refine (dats m 0 c).arrAt_eq_of_covers 2 _ (by decide +kernel) fun t hf y => ?_
  have ht : t.val < 24 := lt_of_lt_of_eq t.isLt N_0
  obtain ⟨ex, ew, e⟩ := index_all t
  obtain ⟨r, n, rfl⟩ : ∃ (r : Fin 512) (n : Fin 1024), y = ix2 r n := ⟨y 0, y 1, ValueIdx.eq_ix2 y⟩
  have b0 (k : Fin 2048) : iblk m c 0 t (ix2 k r) = m ((c : Thread nD τ).loc main_arg0) (ix2 k ⟨t.val / 2 * 512 + r.val, by omega⟩) := by blk_ext [iblk, V, ex]
  have b1 (k : Fin 2048) : iblk m c 1 t (ix2 k n) = m ((c : Thread nD τ).loc main_arg1) (ix2 k ⟨t.val % 2 * 1024 + n.val, by omega⟩) := by blk_ext [iblk, V, ew]
  have e0 : (win0_2.blk t).view.emb (ix2 r n) 0 = (⟨t.val / 2 * 512 + r.val, by omega⟩ : Fin 6144) := Fin.ext (by blk_simp [e])
  have e1 : (win0_2.blk t).view.emb (ix2 r n) 1 = (⟨t.val % 2 * 1024 + n.val, by omega⟩ : Fin 2048) := Fin.ext (by blk_simp [e])
  blk_simp [e]
  rw [after0_2, e0, e1, out_val]
  simp only [tn, b0, b1]

end

theorem ref (x : Ix 2048 6144 → EReal) (d : Ix 2048 2048 → EReal) (r : Fin 6144) (n : Fin 2048) :
    Cert.Reference4Ideal.Read.val_main_v6 (F := Ideal) x d (ix2 r n) = tn x d r n := by
  pointwise [Cert.Reference4Ideal.Read.val_main_v6, Cert.Reference4Ideal.Read.val_main_v5, Cert.Reference4Ideal.Read.val_main_v4, Cert.Reference4Ideal.Read.val_main_v3, Cert.Reference4Ideal.Read.val_main_v1]
  exact Finset.sum_congr rfl fun k _ => mul_comm _ _

theorem algebraic : Cert.algebraic_Kernel4Ideal_Reference4Ideal (hKernel4Ideal := Cert.Kernel4Ideal.Gen.facts) (hReference4Ideal := Cert.Reference4Ideal.Gen.facts) := by
  intro m g m' g' _ e
  refine ⟨fun c i => tn (m ((c.tc : Thread _ _).loc Cert.Kernel4Ideal.main_arg0)) (m ((c.tc : Thread _ _).loc Cert.Kernel4Ideal.main_arg1)) (i 0) (i 1),
    (θ_run _ _ _).mono (fun r h c => ⟨(h c).1.trans (arr m c), (h c).2⟩) (Cert.Kernel4Ideal.Value.run_blocks (F := Ideal) m g),
    (θ_run _ _ _).mono (fun r h c => ⟨(h c).1.trans ((Cert.Reference4Ideal.Read.val_main_v6_eq _ _).trans (funext fun i => ?_)), (h c).2⟩)
      (Cert.Reference4Ideal.Value.run (F := Ideal) m' g')⟩
  obtain ⟨e0, e1⟩ := e c
  rw [e0, e1]
  exact (congrArg _ (ValueIdx.eq_ix2 i)).trans (ref _ _ (i 0) (i 1))

theorem frame_ref : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run (F := Ideal) m g)

end DwDown

/-! ### The weights of the output and of the attention -/

namespace DwOut

section
open Cert.Kernel5Ideal Cert.Kernel5Ideal.Gen

theorem out_val (x : Vec Ideal S2048x512 .bf16) (d : Vec Ideal S2048x1024 .bf16) (r : Fin 512) (n : Fin 1024) :
    out0_2 x d (ix2 r n) = tn x d r n := by
  unfold out0_2
  rw [View.canon_unit_zero (by funext a; fin_cases a <;> rfl), View.ld_unit_zero (by funext a; fin_cases a <;> rfl),
    View.ld_unit_zero (by funext a; fin_cases a <;> rfl)]
  pointwise [k0_pay1]
  rfl

theorem index_all : ∀ t : Fin cfg0.N, win0_0.index t = ![0, t.val % 4] ∧ win0_1.index t = ![0, t.val / 4] ∧ win0_2.index t = ![t.val % 4, t.val / 4] := by
  decide +kernel

theorem arr (m : (ℓ : Loc nD τ sig) → Buf (Elt Ideal) ℓ) (c : Dev nD) : (dats m 0 c).arrAt 2 cfg0.N
    = fun i : S2048x2048.Idx => tn (m ((c : Thread nD τ).loc main_arg0)) (m ((c : Thread nD τ).loc main_arg1)) (i 0) (i 1) := by
  refine (dats m 0 c).arrAt_eq_of_covers 2 _ (by decide +kernel) fun t hf y => ?_
  have ht : t.val < 8 := lt_of_lt_of_eq t.isLt N_0
  obtain ⟨ex, ew, e⟩ := index_all t
  obtain ⟨r, n, rfl⟩ : ∃ (r : Fin 512) (n : Fin 1024), y = ix2 r n := ⟨y 0, y 1, ValueIdx.eq_ix2 y⟩
  have b0 (k : Fin 2048) : iblk m c 0 t (ix2 k r) = m ((c : Thread nD τ).loc main_arg0) (ix2 k ⟨t.val % 4 * 512 + r.val, by omega⟩) := by blk_ext [iblk, V, ex]
  have b1 (k : Fin 2048) : iblk m c 1 t (ix2 k n) = m ((c : Thread nD τ).loc main_arg1) (ix2 k ⟨t.val / 4 * 1024 + n.val, by omega⟩) := by blk_ext [iblk, V, ew]
  have e0 : (win0_2.blk t).view.emb (ix2 r n) 0 = (⟨t.val % 4 * 512 + r.val, by omega⟩ : Fin 2048) := Fin.ext (by blk_simp [e])
  have e1 : (win0_2.blk t).view.emb (ix2 r n) 1 = (⟨t.val / 4 * 1024 + n.val, by omega⟩ : Fin 2048) := Fin.ext (by blk_simp [e])
  blk_simp [e]
  rw [after0_2, e0, e1, out_val]
  simp only [tn, b0, b1]

end

theorem ref (x : Ix 2048 2048 → EReal) (d : Ix 2048 2048 → EReal) (r : Fin 2048) (n : Fin 2048) :
    Cert.Reference5Ideal.Read.val_main_v6 (F := Ideal) x d (ix2 r n) = tn x d r n := by
  pointwise [Cert.Reference5Ideal.Read.val_main_v6, Cert.Reference5Ideal.Read.val_main_v5, Cert.Reference5Ideal.Read.val_main_v4, Cert.Reference5Ideal.Read.val_main_v3, Cert.Reference5Ideal.Read.val_main_v1]
  exact Finset.sum_congr rfl fun k _ => mul_comm _ _

theorem algebraic : Cert.algebraic_Kernel5Ideal_Reference5Ideal (hKernel5Ideal := Cert.Kernel5Ideal.Gen.facts) (hReference5Ideal := Cert.Reference5Ideal.Gen.facts) := by
  intro m g m' g' _ e
  refine ⟨fun c i => tn (m ((c.tc : Thread _ _).loc Cert.Kernel5Ideal.main_arg0)) (m ((c.tc : Thread _ _).loc Cert.Kernel5Ideal.main_arg1)) (i 0) (i 1),
    (θ_run _ _ _).mono (fun r h c => ⟨(h c).1.trans (arr m c), (h c).2⟩) (Cert.Kernel5Ideal.Value.run_blocks (F := Ideal) m g),
    (θ_run _ _ _).mono (fun r h c => ⟨(h c).1.trans ((Cert.Reference5Ideal.Read.val_main_v6_eq _ _).trans (funext fun i => ?_)), (h c).2⟩)
      (Cert.Reference5Ideal.Value.run (F := Ideal) m' g')⟩
  obtain ⟨e0, e1⟩ := e c
  rw [e0, e1]
  exact (congrArg _ (ValueIdx.eq_ix2 i)).trans (ref _ _ (i 0) (i 1))

theorem frame_ref : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run (F := Ideal) m g)

end DwOut

/-! ### The weight of the recurrence -/

namespace DwRnn

section
open Cert.Kernel6Ideal Cert.Kernel6Ideal.Gen

theorem out_val (x : Vec Ideal S2048x512 .bf16) (d : Vec Ideal S2048x1024 .bf16) (r : Fin 512) (n : Fin 1024) :
    out0_2 x d (ix2 r n) = tn x d r n := by
  unfold out0_2
  rw [View.canon_unit_zero (by funext a; fin_cases a <;> rfl), View.ld_unit_zero (by funext a; fin_cases a <;> rfl),
    View.ld_unit_zero (by funext a; fin_cases a <;> rfl)]
  pointwise [k0_pay1]
  rfl

theorem index_all : ∀ t : Fin cfg0.N, win0_0.index t = ![0, t.val / 2] ∧ win0_1.index t = ![0, t.val % 2] ∧ win0_2.index t = ![t.val / 2, t.val % 2] := by
  decide +kernel

theorem arr (m : (ℓ : Loc nD τ sig) → Buf (Elt Ideal) ℓ) (c : Dev nD) : (dats m 0 c).arrAt 2 cfg0.N
    = fun i : S2560x2048.Idx => tn (m ((c : Thread nD τ).loc main_arg0)) (m ((c : Thread nD τ).loc main_arg1)) (i 0) (i 1) := by
  refine (dats m 0 c).arrAt_eq_of_covers 2 _ (by decide +kernel) fun t hf y => ?_
  have ht : t.val < 10 := lt_of_lt_of_eq t.isLt N_0
  obtain ⟨ex, ew, e⟩ := index_all t
  obtain ⟨r, n, rfl⟩ : ∃ (r : Fin 512) (n : Fin 1024), y = ix2 r n := ⟨y 0, y 1, ValueIdx.eq_ix2 y⟩
  have b0 (k : Fin 2048) : iblk m c 0 t (ix2 k r) = m ((c : Thread nD τ).loc main_arg0) (ix2 k ⟨t.val / 2 * 512 + r.val, by omega⟩) := by blk_ext [iblk, V, ex]
  have b1 (k : Fin 2048) : iblk m c 1 t (ix2 k n) = m ((c : Thread nD τ).loc main_arg1) (ix2 k ⟨t.val % 2 * 1024 + n.val, by omega⟩) := by blk_ext [iblk, V, ew]
  have e0 : (win0_2.blk t).view.emb (ix2 r n) 0 = (⟨t.val / 2 * 512 + r.val, by omega⟩ : Fin 2560) := Fin.ext (by blk_simp [e])
  have e1 : (win0_2.blk t).view.emb (ix2 r n) 1 = (⟨t.val % 2 * 1024 + n.val, by omega⟩ : Fin 2048) := Fin.ext (by blk_simp [e])
  blk_simp [e]
  rw [after0_2, e0, e1, out_val]
  simp only [tn, b0, b1]

end

theorem ref (x : Ix 2048 2560 → EReal) (d : Ix 2048 2048 → EReal) (r : Fin 2560) (n : Fin 2048) :
    Cert.Reference6Ideal.Read.val_main_v6 (F := Ideal) x d (ix2 r n) = tn x d r n := by
  pointwise [Cert.Reference6Ideal.Read.val_main_v6, Cert.Reference6Ideal.Read.val_main_v5, Cert.Reference6Ideal.Read.val_main_v4, Cert.Reference6Ideal.Read.val_main_v3, Cert.Reference6Ideal.Read.val_main_v1]
  exact Finset.sum_congr rfl fun k _ => mul_comm _ _

theorem algebraic : Cert.algebraic_Kernel6Ideal_Reference6Ideal (hKernel6Ideal := Cert.Kernel6Ideal.Gen.facts) (hReference6Ideal := Cert.Reference6Ideal.Gen.facts) := by
  intro m g m' g' _ e
  refine ⟨fun c i => tn (m ((c.tc : Thread _ _).loc Cert.Kernel6Ideal.main_arg0)) (m ((c.tc : Thread _ _).loc Cert.Kernel6Ideal.main_arg1)) (i 0) (i 1),
    (θ_run _ _ _).mono (fun r h c => ⟨(h c).1.trans (arr m c), (h c).2⟩) (Cert.Kernel6Ideal.Value.run_blocks (F := Ideal) m g),
    (θ_run _ _ _).mono (fun r h c => ⟨(h c).1.trans ((Cert.Reference6Ideal.Read.val_main_v6_eq _ _).trans (funext fun i => ?_)), (h c).2⟩)
      (Cert.Reference6Ideal.Value.run (F := Ideal) m' g')⟩
  obtain ⟨e0, e1⟩ := e c
  rw [e0, e1]
  exact (congrArg _ (ValueIdx.eq_ix2 i)).trans (ref _ _ (i 0) (i 1))

theorem frame_ref : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Value.run (F := Ideal) m g)

end DwRnn

end Cert

end
-- ==== Proof.InputGrad.lean ====
/-
  The gradient of a product in its left factor, tile by tile.
-/
module

public import proofs.«01_k».proof.Defs
public import proofs.«01_k».proof.Proof.Prod
public import proofs.«01_k».proof.Proof.Gen.Kernel7Ideal.Value
public import proofs.«01_k».proof.Proof.Gen.Reference7Ideal.Run
public import proofs.«01_k».proof.Proof.Gen.Reference7Ideal.Read
public import Idealize.ShloMosaic.Lib.Claim
public import Idealize.ShloMosaic.Lib.Pointwise
public import Idealize.ShloMosaic.Lib.Pipeline.Quiescent
public import Idealize.ShloMosaic.Lib.Pipeline.ValueKit.Point

@[expose] public section

set_option maxRecDepth 16384

noncomputable section

namespace Cert

open Idealize.ShloMosaic Idealize.SL.Sem Idealize.ShloMosaic.StableHlo
open Idealize.ShloMosaic.TcCoe
open Cert.Prod

/-! ### The gradients of the merged rows and of the attention -/

namespace DMerged

section
open Cert.Kernel7Ideal Cert.Kernel7Ideal.Gen

theorem out_val (d : Vec Ideal S512x2048 .bf16) (w : Vec Ideal S1024x2048 .bf16) (r : Fin 512) (n : Fin 1024) :
    out0_2 d w (ix2 r n) = nt d w r n := by
  unfold out0_2
  rw [View.canon_unit_zero (by funext a; fin_cases a <;> rfl), View.ld_unit_zero (by funext a; fin_cases a <;> rfl),
    View.ld_unit_zero (by funext a; fin_cases a <;> rfl)]
  pointwise [k0_pay1]
  rfl

theorem index_all : ∀ t : Fin cfg0.N, win0_0.index t = ![t.val % 4, 0] ∧ win0_1.index t = ![t.val / 4, 0] ∧ win0_2.index t = ![t.val % 4, t.val / 4] := by
  decide +kernel

theorem arr (m : (ℓ : Loc nD τ sig) → Buf (Elt Ideal) ℓ) (c : Dev nD) : (dats m 0 c).arrAt 2 cfg0.N
    = fun i : S2048x2048.Idx => nt (m ((c : Thread nD τ).loc main_arg0)) (m ((c : Thread nD τ).loc main_arg1)) (i 0) (i 1) := by
  refine (dats m 0 c).arrAt_eq_of_covers 2 _ (by decide +kernel) fun t hf y => ?_
  have ht : t.val < 8 := lt_of_lt_of_eq t.isLt N_0
  obtain ⟨ex, ew, e⟩ := index_all t
  obtain ⟨r, n, rfl⟩ : ∃ (r : Fin 512) (n : Fin 1024), y = ix2 r n := ⟨y 0, y 1, ValueIdx.eq_ix2 y⟩
  have b0 (k : Fin 2048) : iblk m c 0 t (ix2 r k) = m ((c : Thread nD τ).loc main_arg0) (ix2 ⟨t.val % 4 * 512 + r.val, by omega⟩ k) := by blk_ext [iblk, V, ex]
  have b1 (k : Fin 2048) : iblk m c 1 t (ix2 n k) = m ((c : Thread nD τ).loc main_arg1) (ix2 ⟨t.val / 4 * 1024 + n.val, by omega⟩ k) := by blk_ext [iblk, V, ew]
  have e0 : (win0_2.blk t).view.emb (ix2 r n) 0 = (⟨t.val % 4 * 512 + r.val, by omega⟩ : Fin 2048) := Fin.ext (by blk_simp [e])
  have e1 : (win0_2.blk t).view.emb (ix2 r n) 1 = (⟨t.val / 4 * 1024 + n.val, by omega⟩ : Fin 2048) := Fin.ext (by blk_simp [e])
  blk_simp [e]
  rw [after0_2, e0, e1, out_val]
  simp only [nt, b0, b1]

end

theorem ref (d : Ix 2048 2048 → EReal) (w : Ix 2048 2048 → EReal) (r : Fin 2048) (n : Fin 2048) :
    Cert.Reference7Ideal.Read.val_main_v4 (F := Ideal) d w (ix2 r n) = nt d w r n := by
  pointwise [Cert.Reference7Ideal.Read.val_main_v4, Cert.Reference7Ideal.Read.val_main_v3, Cert.Reference7Ideal.Read.val_main_v1]
  rfl

theorem algebraic : Cert.algebraic_Kernel7Ideal_Reference7Ideal (hKernel7Ideal := Cert.Kernel7Ideal.Gen.facts) (hReference7Ideal := Cert.Reference7Ideal.Gen.facts) := by
  intro m g m' g' _ e
  refine ⟨fun c i => nt (m ((c.tc : Thread _ _).loc Cert.Kernel7Ideal.main_arg0)) (m ((c.tc : Thread _ _).loc Cert.Kernel7Ideal.main_arg1)) (i 0) (i 1),
    (θ_run _ _ _).mono (fun r h c => ⟨(h c).1.trans (arr m c), (h c).2⟩) (Cert.Kernel7Ideal.Value.run_blocks (F := Ideal) m g),
    (θ_run _ _ _).mono (fun r h c => ⟨(h c).1.trans ((Cert.Reference7Ideal.Read.val_main_v4_eq _ _).trans (funext fun i => ?_)), (h c).2⟩)
      (Cert.Reference7Ideal.Value.run (F := Ideal) m' g')⟩
  obtain ⟨e0, e1⟩ := e c
  rw [e0, e1]
  exact (congrArg _ (ValueIdx.eq_ix2 i)).trans (ref _ _ (i 0) (i 1))

theorem frame_ref : Cert.quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩)
    (Cert.Reference7Ideal.Value.run (F := Ideal) m g)

end DMerged

end Cert

end
-- ==== Proof.Adam.lean ====
/-
  One step of AdamW at one entry of a weight, as the reference writes it; and the two places where the
  kernel multiplies by a reciprocal instead.
-/
module

public import proofs.«01_k».proof.Defs
public import proofs.«01_k».proof.Proof.Alg
public import Idealize.ShloMosaic.Lib.Claim
public import Idealize.ShloMosaic.Lib.Pointwise

@[expose] public section

noncomputable section

namespace Cert.Adam

open Idealize.ShloMosaic

/-- The new first moment. -/
def newM (g m : EReal) : EReal := Ideal.ofBits .f32 0x3F666666#32 * m + Ideal.ofBits .f32 0x3DCCCCCD#32 * g

/-- The new second moment. -/
def newV (g v : EReal) : EReal := Ideal.ofBits .f32 0x3F7FBE77#32 * v + Ideal.ofBits .f32 0x3A83126F#32 * (g * g)

/-- The step of the weight: the corrected first moment over the root of the corrected second one, with the decay. -/
def delta (w g m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

/-- The new first moments of an array, entry by entry; then the new second moments and the steps. -/
def firstOf {ι : Type} (g m : ι → EReal) : ι → EReal := fun i => newM (g i) (m i)
def secondOf {ι : Type} (g v : ι → EReal) : ι → EReal := fun i => newV (g i) (v i)
def stepOf {ι : Type} (w g m v : ι → EReal) : ι → EReal := fun i => delta (w i) (g i) (m i) (v i)

/-- The correction of the first moment: to divide by it is to multiply by the first named constant. -/
theorem div_first (x : EReal) : Ideal.div x (Ideal.ofBits .f32 0x3F26BD02#32) = x * ((8388608 / 5463681 : ℝ) : EReal) := by
  have h : Ideal.ofBits .f32 0x3F26BD02#32 = ((10927362 / 16777216 : ℝ) : EReal) := by
    simp [Ideal.ofBits, Ideal.ieee, -EReal.coe_mul]; norm_num
  rw [h, Ideal.div_coe (by norm_num)]
  norm_num

/-- The correction of the second moment, likewise with the second named constant. -/
theorem div_second (x : EReal) : Ideal.div x (Ideal.ofBits .f32 0x3C231ACC#32) = x * ((268435456 / 2672307 : ℝ) : EReal) := by
  have h : Ideal.ofBits .f32 0x3C231ACC#32 = ((2672307 / 268435456 : ℝ) : EReal) := by
    simp [Ideal.ofBits, Ideal.ieee, -EReal.coe_mul]; norm_num
  rw [h, Ideal.div_coe (by norm_num)]
  norm_num

end Cert.Adam

end
-- ==== Proof.AdamLarge.lean ====
/-
  The optimiser's call at the shapes of the weights: the matrices.
-/
module

public import proofs.«01_k».proof.Defs
public import proofs.«01_k».proof.Proof.Adam
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import Idealize.ShloMosaic.Lib.Claim
public import Idealize.ShloMosaic.Lib.Pipeline.Quiescent
public import Idealize.ShloMosaic.Lib.Pipeline.ValueKit.Point

@[expose] public section

set_option maxRecDepth 16384

noncomputable section

namespace Cert

open Idealize.ShloMosaic Idealize.SL.Sem Idealize.ShloMosaic.StableHlo
open Idealize.ShloMosaic.TcCoe
open Cert.Adam

/-! ### Weights of shape 2048 × 1536 -/

namespace Adam10

section
open Cert.Kernel10Ideal Cert.Kernel10Ideal.Gen

theorem delta_val (w g m v : Vec Ideal S128x1536 .f32) (y : S128x1536.Idx) : out0_5 w g m v y = delta (w y) (g y) (m y) (v y) := by
  have h₁ : (Named.named κ "c1" 0x3FC48605#32 : Ideal .f32) = ((8388608 / 5463681 : ℝ) : EReal) := IdealRules.named_const.ideal_named_scalar _ _ _ _ rfl
  have h₂ : (Named.named κ "c2" 0x42C8E6D3#32 : Ideal .f32) = ((268435456 / 2672307 : ℝ) : EReal) := IdealRules.named_const.ideal_named_scalar _ _ _ _ rfl
  unfold out0_5 delta
  rw [View.canon_unit_zero (by funext a; fin_cases a <;> rfl)]
  iterate 4 rw [View.ld_unit_zero (by funext a; fin_cases a <;> rfl)]
  rw [div_first, div_second, ← h₁, ← h₂]
  rfl

theorem moments_val (w g m v : Vec Ideal S128x1536 .f32) (y : S128x1536.Idx) :
    out0_4 w g m v y = g y ∧ out0_6 w g m v y = newM (g y) (m y) ∧ out0_7 w g m v y = newV (g y) (v y) := by
  unfold out0_4 out0_6 out0_7
  iterate 3 rw [View.canon_unit_zero (by funext a; fin_cases a <;> rfl)]
  iterate 3 rw [View.ld_unit_zero (by funext a; fin_cases a <;> rfl)]
  exact ⟨rfl, rfl, rfl⟩

theorem arr (m : (ℓ : Loc nD τ sig) → Buf (Elt Ideal) ℓ) (c : Dev nD) :
    (dats m 0 c).arrAt 4 cfg0.N = m ((c : Thread nD τ).loc main_arg1)
    ∧ (dats m 0 c).arrAt 5 cfg0.N = stepOf (m ((c : Thread nD τ).loc main_arg0)) (m ((c : Thread nD τ).loc main_arg1))
      (m ((c : Thread nD τ).loc main_arg2)) (m ((c : Thread nD τ).loc main_arg3))
    ∧ (dats m 0 c).arrAt 6 cfg0.N = firstOf (m ((c : Thread nD τ).loc main_arg1)) (m ((c : Thread nD τ).loc main_arg2))
    ∧ (dats m 0 c).arrAt 7 cfg0.N = secondOf (m ((c : Thread nD τ).loc main_arg1)) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · blk_simp
    rw [after0_4]
    exact (moments_val (iblk m c 0 t) (iblk m c 1 t) (iblk m c 2 t) (iblk m c 3 t) y).1
  · have b : delta (iblk m c 0 t y) (iblk m c 1 t y) (iblk m c 2 t y) (iblk m c 3 t y) = stepOf (m ((c : Thread nD τ).loc main_arg0)) (m ((c : Thread nD τ).loc main_arg1))
      (m ((c : Thread nD τ).loc main_arg2)) (m ((c : Thread nD τ).loc main_arg3)) ((win0_5.blk t).view.emb y) := rfl
    blk_simp
    rw [after0_5]
    exact (delta_val (iblk m c 0 t) (iblk m c 1 t) (iblk m c 2 t) (iblk m c 3 t) y).trans b
  · blk_simp
    rw [after0_6]
    exact (moments_val (iblk m c 0 t) (iblk m c 1 t) (iblk m c 2 t) (iblk m c 3 t) y).2.1
  · blk_simp
    rw [after0_7]
    exact (moments_val (iblk m c 0 t) (iblk m c 1 t) (iblk m c 2 t) (iblk m c 3 t) y).2.2

end

open Cert.Reference10Ideal.Read in
theorem algebraic : Cert.algebraic_Kernel10Ideal_Reference10Ideal (hKernel10Ideal := Cert.Kernel10Ideal.Gen.facts) (hReference10Ideal := Cert.Reference10Ideal.Gen.facts) := by
  intro m k m' k' _ e
  refine ⟨fun _ => _, fun _ => _, fun _ => _, fun _ => _,
    (θ_run _ _ _).mono (fun r h c => ⟨(h c).1.trans (arr m c).1, (h c).2.1.trans (arr m c).2.1, (h c).2.2.1.trans (arr m c).2.2.1,
      (h c).2.2.2.1.trans (arr m c).2.2.2, (h c).2.2.2.2⟩) (Cert.Kernel10Ideal.Value.run_blocks (F := Ideal) m k),
    (θ_run _ _ _).mono (fun r h c => ?_) (Cert.Reference10Ideal.Value.run (F := Ideal) m' k')⟩
  obtain ⟨e0, e1, e2, e3⟩ := e c
  beta_reduce
  rw [← e0, ← e1, ← e2, ← e3]
  exact ⟨(h c).1, (h c).2.1.trans (val_main_v23_eq _ _ _ _), (h c).2.2.1.trans (val_main_v4_eq _ _), (h c).2.2.2.1.trans (val_main_v10_eq _ _), (h c).2.2.2.2⟩

theorem frame_ref : Cert.quiescent_Reference10Ideal (hReference10Ideal := Cert.Reference10Ideal.Gen.facts) := fun m g _ =>
  (θ_run Cert.Reference10Ideal.defs _ _).mono (fun r h => ⟨fun c => (h c).2.2.2.2, sem_eq_zero_of_no_sems (by decide) r.2⟩)
    (Cert.Reference10Ideal.Value.run (F := Ideal) m g)

end Adam10

/-! ### Weights of shape 2048 × 2944 -/

namespace Adam11

section
open Cert.Kernel11Ideal Cert.Kernel11Ideal.Gen

theorem delta_val (w g m v : Vec Ideal S64x2944 .f32) (y : S64x2944.Idx) : out0_5 w g m v y = delta (w y) (g y) (m y) (v y) := by
  have h₁ : (Named.named κ "c1" 0x3FC48605#32 : Ideal .f32) = ((8388608 / 5463681 : ℝ) : EReal) := IdealRules.named_const.ideal_named_scalar _ _ _ _ rfl
  have h₂ : (Named.named κ "c2" 0x42C8E6D3#32 : Ideal .f32) = ((268435456 / 2672307 : ℝ) : EReal) := IdealRules.named_const.ideal_named_scalar _ _ _ _ rfl
  unfold out0_5 delta
  rw [View.canon_unit_zero (by funext a; fin_cases a <;> rfl)]
  iterate 4 rw [View.ld_unit_zero (by funext a; fin_cases a <;> rfl)]
  rw [div_first, div_second, ← h₁, ← h₂]
  rfl

theorem moments_val (w g m v : Vec Ideal S64x2944 .f32) (y : S64x2944.Idx) :
    out0_4 w g m v y = g y ∧ out0_6 w g m v y = newM (g y) (m y) ∧ out0_7 w g m v y = newV (g y) (v y) := by
  unfold out0_4 out0_6 out0_7
  iterate 3 rw [View.canon_unit_zero (by funext a; fin_cases a <;> rfl)]
  iterate 3 rw [View.ld_unit_zero (by funext a; fin_cases a <;> rfl)]
  exact ⟨rfl, rfl, rfl⟩

theorem arr (m : (ℓ : Loc nD τ sig) → Buf (Elt Ideal) ℓ) (c : Dev nD) :
    (dats m 0 c).arrAt 4 cfg0.N = m ((c : Thread nD τ).loc main_arg1)
    ∧ (dats m 0 c).arrAt 5 cfg0.N = stepOf (m ((c : Thread nD τ).loc main_arg0)) (m ((c : Thread nD τ).loc main_arg1))
      (m ((c : Thread nD τ).loc main_arg2)) (m ((c : Thread nD τ).loc main_arg3))
    ∧ (dats m 0 c).arrAt 6 cfg0.N = firstOf (m ((c : Thread nD τ).loc main_arg1)) (m ((c : Thread nD τ).loc main_arg2))
    ∧ (dats m 0 c).arrAt 7 cfg0.N = secondOf (m ((c : Thread nD τ).loc main_arg1)) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · blk_simp
    rw [after0_4]
    exact (moments_val (iblk m c 0 t) (iblk m c 1 t) (iblk m c 2 t) (iblk m c 3 t) y).1
  · have b : delta (iblk m c 0 t y) (iblk m c 1 t y) (iblk m c 2 t y) (iblk m c 3 t y) = stepOf (m ((c : Thread nD τ).loc main_arg0)) (m ((c : Thread nD τ).loc main_arg1))
      (m ((c : Thread nD τ).loc main_arg2)) (m ((c : Thread nD τ).loc main_arg3)) ((win0_5.blk t).view.emb y) := rfl
    blk_simp
    rw [after0_5]
    exact (delta_val (iblk m c 0 t) (iblk m c 1 t) (iblk m c 2 t) (iblk m c 3 t) y).trans b
  · blk_simp
    rw [after0_6]
    exact (moments_val (iblk m c 0 t) (iblk m c 1 t) (iblk m c 2 t) (iblk m c 3 t) y).2.1
  · blk_simp
    rw [after0_7]
    exact (moments_val (iblk m c 0 t) (iblk m c 1 t) (iblk m c 2 t) (iblk m c 3 t) y).2.2

end

open Cert.Reference11Ideal.Read in
theorem algebraic : Cert.algebraic_Kernel11Ideal_Reference11Ideal (hKernel11Ideal := Cert.Kernel11Ideal.Gen.facts) (hReference11Ideal := Cert.Reference11Ideal.Gen.facts) := by
  intro m k m' k' _ e
  refine ⟨fun _ => _, fun _ => _, fun _ => _, fun _ => _,
    (θ_run _ _ _).mono (fun r h c => ⟨(h c).1.trans (arr m c).1, (h c).2.1.trans (arr m c).2.1, (h c).2.2.1.trans (arr m c).2.2.1,
      (h c).2.2.2.1.trans (arr m c).2.2.2, (h c).2.2.2.2⟩) (Cert.Kernel11Ideal.Value.run_blocks (F := Ideal) m k),
    (θ_run _ _ _).mono (fun r h c => ?_) (Cert.Reference11Ideal.Value.run (F := Ideal) m' k')⟩
  obtain ⟨e0, e1, e2, e3⟩ := e c
  beta_reduce
  rw [← e0, ← e1, ← e2, ← e3]
  exact ⟨(h c).1, (h c).2.1.trans (val_main_v23_eq _ _ _ _), (h c).2.2.1.trans (val_main_v4_eq _ _), (h c).2.2.2.1.trans (val_main_v10_eq _ _), (h c).2.2.2.2⟩

theorem frame_ref : Cert.quiescent_Reference11Ideal (hReference11Ideal := Cert.Reference11Ideal.Gen.facts) := fun m g _ =>
  (θ_run Cert.Reference11Ideal.defs _ _).mono (fun r h => ⟨fun c => (h c).2.2.2.2, sem_eq_zero_of_no_sems (by decide) r.2⟩)
    (Cert.Reference11Ideal.Value.run (F := Ideal) m g)

end Adam11

/-! ### Weights of shape 512 × 2048 -/

namespace Adam12

section
open Cert.Kernel12Ideal Cert.Kernel12Ideal.Gen

theorem delta_val (w g m v : Vec Ideal S128x2048 .f32) (y : S128x2048.Idx) : out0_5 w g m v y = delta (w y) (g y) (m y) (v y) := by
  have h₁ : (Named.named κ "c1" 0x3FC48605#32 : Ideal .f32) = ((8388608 / 5463681 : ℝ) : EReal) := IdealRules.named_const.ideal_named_scalar _ _ _ _ rfl
  have h₂ : (Named.named κ "c2" 0x42C8E6D3#32 : Ideal .f32) = ((268435456 / 2672307 : ℝ) : EReal) := IdealRules.named_const.ideal_named_scalar _ _ _ _ rfl
  unfold out0_5 delta
  rw [View.canon_unit_zero (by funext a; fin_cases a <;> rfl)]
  iterate 4 rw [View.ld_unit_zero (by funext a; fin_cases a <;> rfl)]
  rw [div_first, div_second, ← h₁, ← h₂]
  rfl

theorem moments_val (w g m v : Vec Ideal S128x2048 .f32) (y : S128x2048.Idx) :
    out0_4 w g m v y = g y ∧ out0_6 w g m v y = newM (g y) (m y) ∧ out0_7 w g m v y = newV (g y) (v y) := by
  unfold out0_4 out0_6 out0_7
  iterate 3 rw [View.canon_unit_zero (by funext a; fin_cases a <;> rfl)]
  iterate 3 rw [View.ld_unit_zero (by funext a; fin_cases a <;> rfl)]
  exact ⟨rfl, rfl, rfl⟩

theorem arr (m : (ℓ : Loc nD τ sig) → Buf (Elt Ideal) ℓ) (c : Dev nD) :
    (dats m 0 c).arrAt 4 cfg0.N = m ((c : Thread nD τ).loc main_arg1)
    ∧ (dats m 0 c).arrAt 5 cfg0.N = stepOf (m ((c : Thread nD τ).loc main_arg0)) (m ((c : Thread nD τ).loc main_arg1))
      (m ((c : Thread nD τ).loc main_arg2)) (m ((c : Thread nD τ).loc main_arg3))
    ∧ (dats m 0 c).arrAt 6 cfg0.N = firstOf (m ((c : Thread nD τ).loc main_arg1)) (m ((c : Thread nD τ).loc main_arg2))
    ∧ (dats m 0 c).arrAt 7 cfg0.N = secondOf (m ((c : Thread nD τ).loc main_arg1)) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · blk_simp
    rw [after0_4]
    exact (moments_val (iblk m c 0 t) (iblk m c 1 t) (iblk m c 2 t) (iblk m c 3 t) y).1
  · have b : delta (iblk m c 0 t y) (iblk m c 1 t y) (iblk m c 2 t y) (iblk m c 3 t y) = stepOf (m ((c : Thread nD τ).loc main_arg0)) (m ((c : Thread nD τ).loc main_arg1))
      (m ((c : Thread nD τ).loc main_arg2)) (m ((c : Thread nD τ).loc main_arg3)) ((win0_5.blk t).view.emb y) := rfl
    blk_simp
    rw [after0_5]
    exact (delta_val (iblk m c 0 t) (iblk m c 1 t) (iblk m c 2 t) (iblk m c 3 t) y).trans b
  · blk_simp
    rw [after0_6]
    exact (moments_val (iblk m c 0 t) (iblk m c 1 t) (iblk m c 2 t) (iblk m c 3 t) y).2.1
  · blk_simp
    rw [after0_7]
    exact (moments_val (iblk m c 0 t) (iblk m c 1 t) (iblk m c 2 t) (iblk m c 3 t) y).2.2

end

open Cert.Reference12Ideal.Read in
theorem algebraic : Cert.algebraic_Kernel12Ideal_Reference12Ideal (hKernel12Ideal := Cert.Kernel12Ideal.Gen.facts) (hReference12Ideal := Cert.Reference12Ideal.Gen.facts) := by
  intro m k m' k' _ e
  refine ⟨fun _ => _, fun _ => _, fun _ => _, fun _ => _,
    (θ_run _ _ _).mono (fun r h c => ⟨(h c).1.trans (arr m c).1, (h c).2.1.trans (arr m c).2.1, (h c).2.2.1.trans (arr m c).2.2.1,
      (h c).2.2.2.1.trans (arr m c).2.2.2, (h c).2.2.2.2⟩) (Cert.Kernel12Ideal.Value.run_blocks (F := Ideal) m k),
    (θ_run _ _ _).mono (fun r h c => ?_) (Cert.Reference12Ideal.Value.run (F := Ideal) m' k')⟩
  obtain ⟨e0, e1, e2, e3⟩ := e c
  beta_reduce
  rw [← e0, ← e1, ← e2, ← e3]
  exact ⟨(h c).1, (h c).2.1.trans (val_main_v23_eq _ _ _ _), (h c).2.2.1.trans (val_main_v4_eq _ _), (h c).2.2.2.1.trans (val_main_v10_eq _ _), (h c).2.2.2.2⟩

theorem frame_ref : Cert.quiescent_Reference12Ideal (hReference12Ideal := Cert.Reference12Ideal.Gen.facts) := fun m g _ =>
  (θ_run Cert.Reference12Ideal.defs _ _).mono (fun r h => ⟨fun c => (h c).2.2.2.2, sem_eq_zero_of_no_sems (by decide) r.2⟩)
    (Cert.Reference12Ideal.Value.run (F := Ideal) m g)

end Adam12

/-! ### Weights of shape 640 × 2048 -/

namespace Adam13

section
open Cert.Kernel13Ideal Cert.Kernel13Ideal.Gen

theorem delta_val (w g m v : Vec Ideal S160x2048 .f32) (y : S160x2048.Idx) : out0_5 w g m v y = delta (w y) (g y) (m y) (v y) := by
  have h₁ : (Named.named κ "c1" 0x3FC48605#32 : Ideal .f32) = ((8388608 / 5463681 : ℝ) : EReal) := IdealRules.named_const.ideal_named_scalar _ _ _ _ rfl
  have h₂ : (Named.named κ "c2" 0x42C8E6D3#32 : Ideal .f32) = ((268435456 / 2672307 : ℝ) : EReal) := IdealRules.named_const.ideal_named_scalar _ _ _ _ rfl
  unfold out0_5 delta
  rw [View.canon_unit_zero (by funext a; fin_cases a <;> rfl)]
  iterate 4 rw [View.ld_unit_zero (by funext a; fin_cases a <;> rfl)]
  rw [div_first, div_second, ← h₁, ← h₂]
  rfl

theorem moments_val (w g m v : Vec Ideal S160x2048 .f32) (y : S160x2048.Idx) :
    out0_4 w g m v y = g y ∧ out0_6 w g m v y = newM (g y) (m y) ∧ out0_7 w g m v y = newV (g y) (v y) := by
  unfold out0_4 out0_6 out0_7
  iterate 3 rw [View.canon_unit_zero (by funext a; fin_cases a <;> rfl)]
  iterate 3 rw [View.ld_unit_zero (by funext a; fin_cases a <;> rfl)]
  exact ⟨rfl, rfl, rfl⟩

theorem arr (m : (ℓ : Loc nD τ sig) → Buf (Elt Ideal) ℓ) (c : Dev nD) :
    (dats m 0 c).arrAt 4 cfg0.N = m ((c : Thread nD τ).loc main_arg1)
    ∧ (dats m 0 c).arrAt 5 cfg0.N = stepOf (m ((c : Thread nD τ).loc main_arg0)) (m ((c : Thread nD τ).loc main_arg1))
      (m ((c : Thread nD τ).loc main_arg2)) (m ((c : Thread nD τ).loc main_arg3))
    ∧ (dats m 0 c).arrAt 6 cfg0.N = firstOf (m ((c : Thread nD τ).loc main_arg1)) (m ((c : Thread nD τ).loc main_arg2))
    ∧ (dats m 0 c).arrAt 7 cfg0.N = secondOf (m ((c : Thread nD τ).loc main_arg1)) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · blk_simp
    rw [after0_4]
    exact (moments_val (iblk m c 0 t) (iblk m c 1 t) (iblk m c 2 t) (iblk m c 3 t) y).1
  · have b : delta (iblk m c 0 t y) (iblk m c 1 t y) (iblk m c 2 t y) (iblk m c 3 t y) = stepOf (m ((c : Thread nD τ).loc main_arg0)) (m ((c : Thread nD τ).loc main_arg1))
      (m ((c : Thread nD τ).loc main_arg2)) (m ((c : Thread nD τ).loc main_arg3)) ((win0_5.blk t).view.emb y) := rfl
    blk_simp
    rw [after0_5]
    exact (delta_val (iblk m c 0 t) (iblk m c 1 t) (iblk m c 2 t) (iblk m c 3 t) y).trans b
  · blk_simp
    rw [after0_6]
    exact (moments_val (iblk m c 0 t) (iblk m c 1 t) (iblk m c 2 t) (iblk m c 3 t) y).2.1
  · blk_simp
    rw [after0_7]
    exact (moments_val (iblk m c 0 t) (iblk m c 1 t) (iblk m c 2 t) (iblk m c 3 t) y).2.2

end

open Cert.Reference13Ideal.Read in
theorem algebraic : Cert.algebraic_Kernel13Ideal_Reference13Ideal (hKernel13Ideal := Cert.Kernel13Ideal.Gen.facts) (hReference13Ideal := Cert.Reference13Ideal.Gen.facts) := by
  intro m k m' k' _ e
  refine ⟨fun _ => _, fun _ => _, fun _ => _, fun _ => _,
    (θ_run _ _ _).mono (fun r h c => ⟨(h c).1.trans (arr m c).1, (h c).2.1.trans (arr m c).2.1, (h c).2.2.1.trans (arr m c).2.2.1,
      (h c).2.2.2.1.trans (arr m c).2.2.2, (h c).2.2.2.2⟩) (Cert.Kernel13Ideal.Value.run_blocks (F := Ideal) m k),
    (θ_run _ _ _).mono (fun r h c => ?_) (Cert.Reference13Ideal.Value.run (F := Ideal) m' k')⟩
  obtain ⟨e0, e1, e2, e3⟩ := e c
  beta_reduce
  rw [← e0, ← e1, ← e2, ← e3]
  exact ⟨(h c).1, (h c).2.1.trans (val_main_v23_eq _ _ _ _), (h c).2.2.1.trans (val_main_v4_eq _ _), (h c).2.2.2.1.trans (val_main_v10_eq _ _), (h c).2.2.2.2⟩

theorem frame_ref : Cert.quiescent_Reference13Ideal (hReference13Ideal := Cert.Reference13Ideal.Gen.facts) := fun m g _ =>
  (θ_run Cert.Reference13Ideal.defs _ _).mono (fun r h => ⟨fun c => (h c).2.2.2.2, sem_eq_zero_of_no_sems (by decide) r.2⟩)
    (Cert.Reference13Ideal.Value.run (F := Ideal) m g)

end Adam13

/-! ### Weights of shape 1536 × 2048 -/

namespace Adam14

section
open Cert.Kernel14Ideal Cert.Kernel14Ideal.Gen

theorem delta_val (w g m v : Vec Ideal S128x2048 .f32) (y : S128x2048.Idx) : out0_5 w g m v y = delta (w y) (g y) (m y) (v y) := by
  have h₁ : (Named.named κ "c1" 0x3FC48605#32 : Ideal .f32) = ((8388608 / 5463681 : ℝ) : EReal) := IdealRules.named_const.ideal_named_scalar _ _ _ _ rfl
  have h₂ : (Named.named κ "c2" 0x42C8E6D3#32 : Ideal .f32) = ((268435456 / 2672307 : ℝ) : EReal) := IdealRules.named_const.ideal_named_scalar _ _ _ _ rfl
  unfold out0_5 delta
  rw [View.canon_unit_zero (by funext a; fin_cases a <;> rfl)]
  iterate 4 rw [View.ld_unit_zero (by funext a; fin_cases a <;> rfl)]
  rw [div_first, div_second, ← h₁, ← h₂]
  rfl

theorem moments_val (w g m v : Vec Ideal S128x2048 .f32) (y : S128x2048.Idx) :
    out0_4 w g m v y = g y ∧ out0_6 w g m v y = newM (g y) (m y) ∧ out0_7 w g m v y = newV (g y) (v y) := by
  unfold out0_4 out0_6 out0_7
  iterate 3 rw [View.canon_unit_zero (by funext a; fin_cases a <;> rfl)]
  iterate 3 rw [View.ld_unit_zero (by funext a; fin_cases a <;> rfl)]
  exact ⟨rfl, rfl, rfl⟩

theorem arr (m : (ℓ : Loc nD τ sig) → Buf (Elt Ideal) ℓ) (c : Dev nD) :
    (dats m 0 c).arrAt 4 cfg0.N = m ((c : Thread nD τ).loc main_arg1)
    ∧ (dats m 0 c).arrAt 5 cfg0.N = stepOf (m ((c : Thread nD τ).loc main_arg0)) (m ((c : Thread nD τ).loc main_arg1))
      (m ((c : Thread nD τ).loc main_arg2)) (m ((c : Thread nD τ).loc main_arg3))
    ∧ (dats m 0 c).arrAt 6 cfg0.N = firstOf (m ((c : Thread nD τ).loc main_arg1)) (m ((c : Thread nD τ).loc main_arg2))
    ∧ (dats m 0 c).arrAt 7 cfg0.N = secondOf (m ((c : Thread nD τ).loc main_arg1)) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · blk_simp
    rw [after0_4]
    exact (moments_val (iblk m c 0 t) (iblk m c 1 t) (iblk m c 2 t) (iblk m c 3 t) y).1
  · have b : delta (iblk m c 0 t y) (iblk m c 1 t y) (iblk m c 2 t y) (iblk m c 3 t y) = stepOf (m ((c : Thread nD τ).loc main_arg0)) (m ((c : Thread nD τ).loc main_arg1))
      (m ((c : Thread nD τ).loc main_arg2)) (m ((c : Thread nD τ).loc main_arg3)) ((win0_5.blk t).view.emb y) := rfl
    blk_simp
    rw [after0_5]
    exact (delta_val (iblk m c 0 t) (iblk m c 1 t) (iblk m c 2 t) (iblk m c 3 t) y).trans b
  · blk_simp
    rw [after0_6]
    exact (moments_val (iblk m c 0 t) (iblk m c 1 t) (iblk m c 2 t) (iblk m c 3 t) y).2.1
  · blk_simp
    rw [after0_7]
    exact (moments_val (iblk m c 0 t) (iblk m c 1 t) (iblk m c 2 t) (iblk m c 3 t) y).2.2

end

open Cert.Reference14Ideal.Read in
theorem algebraic : Cert.algebraic_Kernel14Ideal_Reference14Ideal (hKernel14Ideal := Cert.Kernel14Ideal.Gen.facts) (hReference14Ideal := Cert.Reference14Ideal.Gen.facts) := by
  intro m k m' k' _ e
  refine ⟨fun _ => _, fun _ => _, fun _ => _, fun _ => _,
    (θ_run _ _ _).mono (fun r h c => ⟨(h c).1.trans (arr m c).1, (h c).2.1.trans (arr m c).2.1, (h c).2.2.1.trans (arr m c).2.2.1,
      (h c).2.2.2.1.trans (arr m c).2.2.2, (h c).2.2.2.2⟩) (Cert.Kernel14Ideal.Value.run_blocks (F := Ideal) m k),
    (θ_run _ _ _).mono (fun r h c => ?_) (Cert.Reference14Ideal.Value.run (F := Ideal) m' k')⟩
  obtain ⟨e0, e1, e2, e3⟩ := e c
  beta_reduce
  rw [← e0, ← e1, ← e2, ← e3]
  exact ⟨(h c).1, (h c).2.1.trans (val_main_v23_eq _ _ _ _), (h c).2.2.1.trans (val_main_v4_eq _ _), (h c).2.2.2.1.trans (val_main_v10_eq _ _), (h c).2.2.2.2⟩

theorem frame_ref : Cert.quiescent_Reference14Ideal (hReference14Ideal := Cert.Reference14Ideal.Gen.facts) := fun m g _ =>
  (θ_run Cert.Reference14Ideal.defs _ _).mono (fun r h => ⟨fun c => (h c).2.2.2.2, sem_eq_zero_of_no_sems (by decide) r.2⟩)
    (Cert.Reference14Ideal.Value.run (F := Ideal) m g)

end Adam14

/-! ### Weights of shape 2560 × 160 -/

namespace Adam15

section
open Cert.Kernel15Ideal Cert.Kernel15Ideal.Gen

theorem delta_val (w g m v : Vec Ideal S1280x160 .f32) (y : S1280x160.Idx) : out0_5 w g m v y = delta (w y) (g y) (m y) (v y) := by
  have h₁ : (Named.named κ "c1" 0x3FC48605#32 : Ideal .f32) = ((8388608 / 5463681 : ℝ) : EReal) := IdealRules.named_const.ideal_named_scalar _ _ _ _ rfl
  have h₂ : (Named.named κ "c2" 0x42C8E6D3#32 : Ideal .f32) = ((268435456 / 2672307 : ℝ) : EReal) := IdealRules.named_const.ideal_named_scalar _ _ _ _ rfl
  unfold out0_5 delta
  rw [View.canon_unit_zero (by funext a; fin_cases a <;> rfl)]
  iterate 4 rw [View.ld_unit_zero (by funext a; fin_cases a <;> rfl)]
  rw [div_first, div_second, ← h₁, ← h₂]
  rfl

theorem moments_val (w g m v : Vec Ideal S1280x160 .f32) (y : S1280x160.Idx) :
    out0_4 w g m v y = g y ∧ out0_6 w g m v y = newM (g y) (m y) ∧ out0_7 w g m v y = newV (g y) (v y) := by
  unfold out0_4 out0_6 out0_7
  iterate 3 rw [View.canon_unit_zero (by funext a; fin_cases a <;> rfl)]
  iterate 3 rw [View.ld_unit_zero (by funext a; fin_cases a <;> rfl)]
  exact ⟨rfl, rfl, rfl⟩

theorem arr (m : (ℓ : Loc nD τ sig) → Buf (Elt Ideal) ℓ) (c : Dev nD) :
    (dats m 0 c).arrAt 4 cfg0.N = m ((c : Thread nD τ).loc main_arg1)
    ∧ (dats m 0 c).arrAt 5 cfg0.N = stepOf (m ((c : Thread nD τ).loc main_arg0)) (m ((c : Thread nD τ).loc main_arg1))
      (m ((c : Thread nD τ).loc main_arg2)) (m ((c : Thread nD τ).loc main_arg3))
    ∧ (dats m 0 c).arrAt 6 cfg0.N = firstOf (m ((c : Thread nD τ).loc main_arg1)) (m ((c : Thread nD τ).loc main_arg2))
    ∧ (dats m 0 c).arrAt 7 cfg0.N = secondOf (m ((c : Thread nD τ).loc main_arg1)) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · blk_simp
    rw [after0_4]
    exact (moments_val (iblk m c 0 t) (iblk m c 1 t) (iblk m c 2 t) (iblk m c 3 t) y).1
  · have b : delta (iblk m c 0 t y) (iblk m c 1 t y) (iblk m c 2 t y) (iblk m c 3 t y) = stepOf (m ((c : Thread nD τ).loc main_arg0)) (m ((c : Thread nD τ).loc main_arg1))
      (m ((c : Thread nD τ).loc main_arg2)) (m ((c : Thread nD τ).loc main_arg3)) ((win0_5.blk t).view.emb y) := rfl
    blk_simp
    rw [after0_5]
    exact (delta_val (iblk m c 0 t) (iblk m c 1 t) (iblk m c 2 t) (iblk m c 3 t) y).trans b
  · blk_simp
    rw [after0_6]
    exact (moments_val (iblk m c 0 t) (iblk m c 1 t) (iblk m c 2 t) (iblk m c 3 t) y).2.1
  · blk_simp
    rw [after0_7]
    exact (moments_val (iblk m c 0 t) (iblk m c 1 t) (iblk m c 2 t) (iblk m c 3 t) y).2.2

end

open Cert.Reference15Ideal.Read in
theorem algebraic : Cert.algebraic_Kernel15Ideal_Reference15Ideal (hKernel15Ideal := Cert.Kernel15Ideal.Gen.facts) (hReference15Ideal := Cert.Reference15Ideal.Gen.facts) := by
  intro m k m' k' _ e
  refine ⟨fun _ => _, fun _ => _, fun _ => _, fun _ => _,
    (θ_run _ _ _).mono (fun r h c => ⟨(h c).1.trans (arr m c).1, (h c).2.1.trans (arr m c).2.1, (h c).2.2.1.trans (arr m c).2.2.1,
      (h c).2.2.2.1.trans (arr m c).2.2.2, (h c).2.2.2.2⟩) (Cert.Kernel15Ideal.Value.run_blocks (F := Ideal) m k),
    (θ_run _ _ _).mono (fun r h c => ?_) (Cert.Reference15Ideal.Value.run (F := Ideal) m' k')⟩
  obtain ⟨e0, e1, e2, e3⟩ := e c
  beta_reduce
  rw [← e0, ← e1, ← e2, ← e3]
  exact ⟨(h c).1, (h c).2.1.trans (val_main_v23_eq _ _ _ _), (h c).2.2.1.trans (val_main_v4_eq _ _), (h c).2.2.2.1.trans (val_main_v10_eq _ _), (h c).2.2.2.2⟩

theorem frame_ref : Cert.quiescent_Reference15Ideal (hReference15Ideal := Cert.Reference15Ideal.Gen.facts) := fun m g _ =>
  (θ_run Cert.Reference15Ideal.defs _ _).mono (fun r h => ⟨fun c => (h c).2.2.2.2, sem_eq_zero_of_no_sems (by decide) r.2⟩)
    (Cert.Reference15Ideal.Value.run (F := Ideal) m g)

end Adam15

end Cert

end
-- ==== Proof.AdamSmall.lean ====
/-
  The optimiser's call at the shapes of the weights: the vectors and the small matrices, one block each.
-/
module

public import proofs.«01_k».proof.Defs
public import proofs.«01_k».proof.Proof.Adam
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22Ideal.Value
public import proofs.«01_k».proof.Proof.Gen.Reference22Ideal.Run
public import proofs.«01_k».proof.Proof.Gen.Reference22Ideal.Read
public import Idealize.ShloMosaic.Lib.Claim
public import Idealize.ShloMosaic.Lib.Pipeline.Quiescent
public import Idealize.ShloMosaic.Lib.Pipeline.ValueKit.Point

@[expose] public section

set_option maxRecDepth 16384

noncomputable section

namespace Cert

open Idealize.ShloMosaic Idealize.SL.Sem Idealize.ShloMosaic.StableHlo
open Idealize.ShloMosaic.TcCoe
open Cert.Adam

/-! ### Weights of shape 1 × 2560 -/

namespace Adam16

section
open Cert.Kernel16Ideal Cert.Kernel16Ideal.Gen

theorem delta_val (w g m v : Vec Ideal S1x2560 .f32) (y : S1x2560.Idx) : out0_5 w g m v y = delta (w y) (g y) (m y) (v y) := by
  have h₁ : (Named.named κ "c1" 0x3FC48605#32 : Ideal .f32) = ((8388608 / 5463681 : ℝ) : EReal) := IdealRules.named_const.ideal_named_scalar _ _ _ _ rfl
  have h₂ : (Named.named κ "c2" 0x42C8E6D3#32 : Ideal .f32) = ((268435456 / 2672307 : ℝ) : EReal) := IdealRules.named_const.ideal_named_scalar _ _ _ _ rfl
  unfold out0_5 delta
  rw [View.canon_unit_zero (by funext a; fin_cases a <;> rfl)]
  iterate 4 rw [View.ld_unit_zero (by funext a; fin_cases a <;> rfl)]
  rw [div_first, div_second, ← h₁, ← h₂]
  rfl

theorem moments_val (w g m v : Vec Ideal S1x2560 .f32) (y : S1x2560.Idx) :
    out0_4 w g m v y = g y ∧ out0_6 w g m v y = newM (g y) (m y) ∧ out0_7 w g m v y = newV (g y) (v y) := by
  unfold out0_4 out0_6 out0_7
  iterate 3 rw [View.canon_unit_zero (by funext a; fin_cases a <;> rfl)]
  iterate 3 rw [View.ld_unit_zero (by funext a; fin_cases a <;> rfl)]
  exact ⟨rfl, rfl, rfl⟩

theorem arr (m : (ℓ : Loc nD τ sig) → Buf (Elt Ideal) ℓ) (c : Dev nD) :
    (dats m 0 c).arrAt 4 cfg0.N = m ((c : Thread nD τ).loc main_arg1)
    ∧ (dats m 0 c).arrAt 5 cfg0.N = stepOf (m ((c : Thread nD τ).loc main_arg0)) (m ((c : Thread nD τ).loc main_arg1))
      (m ((c : Thread nD τ).loc main_arg2)) (m ((c : Thread nD τ).loc main_arg3))
    ∧ (dats m 0 c).arrAt 6 cfg0.N = firstOf (m ((c : Thread nD τ).loc main_arg1)) (m ((c : Thread nD τ).loc main_arg2))
    ∧ (dats m 0 c).arrAt 7 cfg0.N = secondOf (m ((c : Thread nD τ).loc main_arg1)) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · blk_simp
    rw [after0_4]
    exact (moments_val (iblk m c 0 t) (iblk m c 1 t) (iblk m c 2 t) (iblk m c 3 t) y).1
  · have b : delta (iblk m c 0 t y) (iblk m c 1 t y) (iblk m c 2 t y) (iblk m c 3 t y) = stepOf (m ((c : Thread nD τ).loc main_arg0)) (m ((c : Thread nD τ).loc main_arg1))
      (m ((c : Thread nD τ).loc main_arg2)) (m ((c : Thread nD τ).loc main_arg3)) ((win0_5.blk t).view.emb y) := rfl
    blk_simp
    rw [after0_5]
    exact (delta_val (iblk m c 0 t) (iblk m c 1 t) (iblk m c 2 t) (iblk m c 3 t) y).trans b
  · blk_simp
    rw [after0_6]
    exact (moments_val (iblk m c 0 t) (iblk m c 1 t) (iblk m c 2 t) (iblk m c 3 t) y).2.1
  · blk_simp
    rw [after0_7]
    exact (moments_val (iblk m c 0 t) (iblk m c 1 t) (iblk m c 2 t) (iblk m c 3 t) y).2.2

end

open Cert.Reference16Ideal.Read in
theorem algebraic : Cert.algebraic_Kernel16Ideal_Reference16Ideal (hKernel16Ideal := Cert.Kernel16Ideal.Gen.facts) (hReference16Ideal := Cert.Reference16Ideal.Gen.facts) := by
  intro m k m' k' _ e
  refine ⟨fun _ => _, fun _ => _, fun _ => _, fun _ => _,
    (θ_run _ _ _).mono (fun r h c => ⟨(h c).1.trans (arr m c).1, (h c).2.1.trans (arr m c).2.1, (h c).2.2.1.trans (arr m c).2.2.1,
      (h c).2.2.2.1.trans (arr m c).2.2.2, (h c).2.2.2.2⟩) (Cert.Kernel16Ideal.Value.run_blocks (F := Ideal) m k),
    (θ_run _ _ _).mono (fun r h c => ?_) (Cert.Reference16Ideal.Value.run (F := Ideal) m' k')⟩
  obtain ⟨e0, e1, e2, e3⟩ := e c
  beta_reduce
  rw [← e0, ← e1, ← e2, ← e3]
  exact ⟨(h c).1, (h c).2.1.trans (val_main_v23_eq _ _ _ _), (h c).2.2.1.trans (val_main_v4_eq _ _), (h c).2.2.2.1.trans (val_main_v10_eq _ _), (h c).2.2.2.2⟩

theorem frame_ref : Cert.quiescent_Reference16Ideal (hReference16Ideal := Cert.Reference16Ideal.Gen.facts) := fun m g _ =>
  (θ_run Cert.Reference16Ideal.defs _ _).mono (fun r h => ⟨fun c => (h c).2.2.2.2, sem_eq_zero_of_no_sems (by decide) r.2⟩)
    (Cert.Reference16Ideal.Value.run (F := Ideal) m g)

end Adam16

/-! ### Weights of shape 1 × 2048 -/

namespace Adam17

section
open Cert.Kernel17Ideal Cert.Kernel17Ideal.Gen

theorem delta_val (w g m v : Vec Ideal S1x2048 .f32) (y : S1x2048.Idx) : out0_5 w g m v y = delta (w y) (g y) (m y) (v y) := by
  have h₁ : (Named.named κ "c1" 0x3FC48605#32 : Ideal .f32) = ((8388608 / 5463681 : ℝ) : EReal) := IdealRules.named_const.ideal_named_scalar _ _ _ _ rfl
  have h₂ : (Named.named κ "c2" 0x42C8E6D3#32 : Ideal .f32) = ((268435456 / 2672307 : ℝ) : EReal) := IdealRules.named_const.ideal_named_scalar _ _ _ _ rfl
  unfold out0_5 delta
  rw [View.canon_unit_zero (by funext a; fin_cases a <;> rfl)]
  iterate 4 rw [View.ld_unit_zero (by funext a; fin_cases a <;> rfl)]
  rw [div_first, div_second, ← h₁, ← h₂]
  rfl

theorem moments_val (w g m v : Vec Ideal S1x2048 .f32) (y : S1x2048.Idx) :
    out0_4 w g m v y = g y ∧ out0_6 w g m v y = newM (g y) (m y) ∧ out0_7 w g m v y = newV (g y) (v y) := by
  unfold out0_4 out0_6 out0_7
  iterate 3 rw [View.canon_unit_zero (by funext a; fin_cases a <;> rfl)]
  iterate 3 rw [View.ld_unit_zero (by funext a; fin_cases a <;> rfl)]
  exact ⟨rfl, rfl, rfl⟩

theorem arr (m : (ℓ : Loc nD τ sig) → Buf (Elt Ideal) ℓ) (c : Dev nD) :
    (dats m 0 c).arrAt 4 cfg0.N = m ((c : Thread nD τ).loc main_arg1)
    ∧ (dats m 0 c).arrAt 5 cfg0.N = stepOf (m ((c : Thread nD τ).loc main_arg0)) (m ((c : Thread nD τ).loc main_arg1))
      (m ((c : Thread nD τ).loc main_arg2)) (m ((c : Thread nD τ).loc main_arg3))
    ∧ (dats m 0 c).arrAt 6 cfg0.N = firstOf (m ((c : Thread nD τ).loc main_arg1)) (m ((c : Thread nD τ).loc main_arg2))
    ∧ (dats m 0 c).arrAt 7 cfg0.N = secondOf (m ((c : Thread nD τ).loc main_arg1)) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · blk_simp
    rw [after0_4]
    exact (moments_val (iblk m c 0 t) (iblk m c 1 t) (iblk m c 2 t) (iblk m c 3 t) y).1
  · have b : delta (iblk m c 0 t y) (iblk m c 1 t y) (iblk m c 2 t y) (iblk m c 3 t y) = stepOf (m ((c : Thread nD τ).loc main_arg0)) (m ((c : Thread nD τ).loc main_arg1))
      (m ((c : Thread nD τ).loc main_arg2)) (m ((c : Thread nD τ).loc main_arg3)) ((win0_5.blk t).view.emb y) := rfl
    blk_simp
    rw [after0_5]
    exact (delta_val (iblk m c 0 t) (iblk m c 1 t) (iblk m c 2 t) (iblk m c 3 t) y).trans b
  · blk_simp
    rw [after0_6]
    exact (moments_val (iblk m c 0 t) (iblk m c 1 t) (iblk m c 2 t) (iblk m c 3 t) y).2.1
  · blk_simp
    rw [after0_7]
    exact (moments_val (iblk m c 0 t) (iblk m c 1 t) (iblk m c 2 t) (iblk m c 3 t) y).2.2

end

open Cert.Reference17Ideal.Read in
theorem algebraic : Cert.algebraic_Kernel17Ideal_Reference17Ideal (hKernel17Ideal := Cert.Kernel17Ideal.Gen.facts) (hReference17Ideal := Cert.Reference17Ideal.Gen.facts) := by
  intro m k m' k' _ e
  refine ⟨fun _ => _, fun _ => _, fun _ => _, fun _ => _,
    (θ_run _ _ _).mono (fun r h c => ⟨(h c).1.trans (arr m c).1, (h c).2.1.trans (arr m c).2.1, (h c).2.2.1.trans (arr m c).2.2.1,
      (h c).2.2.2.1.trans (arr m c).2.2.2, (h c).2.2.2.2⟩) (Cert.Kernel17Ideal.Value.run_blocks (F := Ideal) m k),
    (θ_run _ _ _).mono (fun r h c => ?_) (Cert.Reference17Ideal.Value.run (F := Ideal) m' k')⟩
  obtain ⟨e0, e1, e2, e3⟩ := e c
  beta_reduce
  rw [← e0, ← e1, ← e2, ← e3]
  exact ⟨(h c).1, (h c).2.1.trans (val_main_v23_eq _ _ _ _), (h c).2.2.1.trans (val_main_v4_eq _ _), (h c).2.2.2.1.trans (val_main_v10_eq _ _), (h c).2.2.2.2⟩

theorem frame_ref : Cert.quiescent_Reference17Ideal (hReference17Ideal := Cert.Reference17Ideal.Gen.facts) := fun m g _ =>
  (θ_run Cert.Reference17Ideal.defs _ _).mono (fun r h => ⟨fun c => (h c).2.2.2.2, sem_eq_zero_of_no_sems (by decide) r.2⟩)
    (Cert.Reference17Ideal.Value.run (F := Ideal) m g)

end Adam17

/-! ### Weights of shape 1 × 4096 -/

namespace Adam18

section
open Cert.Kernel18Ideal Cert.Kernel18Ideal.Gen

theorem delta_val (w g m v : Vec Ideal S1x4096 .f32) (y : S1x4096.Idx) : out0_5 w g m v y = delta (w y) (g y) (m y) (v y) := by
  have h₁ : (Named.named κ "c1" 0x3FC48605#32 : Ideal .f32) = ((8388608 / 5463681 : ℝ) : EReal) := IdealRules.named_const.ideal_named_scalar _ _ _ _ rfl
  have h₂ : (Named.named κ "c2" 0x42C8E6D3#32 : Ideal .f32) = ((268435456 / 2672307 : ℝ) : EReal) := IdealRules.named_const.ideal_named_scalar _ _ _ _ rfl
  unfold out0_5 delta
  rw [View.canon_unit_zero (by funext a; fin_cases a <;> rfl)]
  iterate 4 rw [View.ld_unit_zero (by funext a; fin_cases a <;> rfl)]
  rw [div_first, div_second, ← h₁, ← h₂]
  rfl

theorem moments_val (w g m v : Vec Ideal S1x4096 .f32) (y : S1x4096.Idx) :
    out0_4 w g m v y = g y ∧ out0_6 w g m v y = newM (g y) (m y) ∧ out0_7 w g m v y = newV (g y) (v y) := by
  unfold out0_4 out0_6 out0_7
  iterate 3 rw [View.canon_unit_zero (by funext a; fin_cases a <;> rfl)]
  iterate 3 rw [View.ld_unit_zero (by funext a; fin_cases a <;> rfl)]
  exact ⟨rfl, rfl, rfl⟩

theorem arr (m : (ℓ : Loc nD τ sig) → Buf (Elt Ideal) ℓ) (c : Dev nD) :
    (dats m 0 c).arrAt 4 cfg0.N = m ((c : Thread nD τ).loc main_arg1)
    ∧ (dats m 0 c).arrAt 5 cfg0.N = stepOf (m ((c : Thread nD τ).loc main_arg0)) (m ((c : Thread nD τ).loc main_arg1))
      (m ((c : Thread nD τ).loc main_arg2)) (m ((c : Thread nD τ).loc main_arg3))
    ∧ (dats m 0 c).arrAt 6 cfg0.N = firstOf (m ((c : Thread nD τ).loc main_arg1)) (m ((c : Thread nD τ).loc main_arg2))
    ∧ (dats m 0 c).arrAt 7 cfg0.N = secondOf (m ((c : Thread nD τ).loc main_arg1)) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · blk_simp
    rw [after0_4]
    exact (moments_val (iblk m c 0 t) (iblk m c 1 t) (iblk m c 2 t) (iblk m c 3 t) y).1
  · have b : delta (iblk m c 0 t y) (iblk m c 1 t y) (iblk m c 2 t y) (iblk m c 3 t y) = stepOf (m ((c : Thread nD τ).loc main_arg0)) (m ((c : Thread nD τ).loc main_arg1))
      (m ((c : Thread nD τ).loc main_arg2)) (m ((c : Thread nD τ).loc main_arg3)) ((win0_5.blk t).view.emb y) := rfl
    blk_simp
    rw [after0_5]
    exact (delta_val (iblk m c 0 t) (iblk m c 1 t) (iblk m c 2 t) (iblk m c 3 t) y).trans b
  · blk_simp
    rw [after0_6]
    exact (moments_val (iblk m c 0 t) (iblk m c 1 t) (iblk m c 2 t) (iblk m c 3 t) y).2.1
  · blk_simp
    rw [after0_7]
    exact (moments_val (iblk m c 0 t) (iblk m c 1 t) (iblk m c 2 t) (iblk m c 3 t) y).2.2

end

open Cert.Reference18Ideal.Read in
theorem algebraic : Cert.algebraic_Kernel18Ideal_Reference18Ideal (hKernel18Ideal := Cert.Kernel18Ideal.Gen.facts) (hReference18Ideal := Cert.Reference18Ideal.Gen.facts) := by
  intro m k m' k' _ e
  refine ⟨fun _ => _, fun _ => _, fun _ => _, fun _ => _,
    (θ_run _ _ _).mono (fun r h c => ⟨(h c).1.trans (arr m c).1, (h c).2.1.trans (arr m c).2.1, (h c).2.2.1.trans (arr m c).2.2.1,
      (h c).2.2.2.1.trans (arr m c).2.2.2, (h c).2.2.2.2⟩) (Cert.Kernel18Ideal.Value.run_blocks (F := Ideal) m k),
    (θ_run _ _ _).mono (fun r h c => ?_) (Cert.Reference18Ideal.Value.run (F := Ideal) m' k')⟩
  obtain ⟨e0, e1, e2, e3⟩ := e c
  beta_reduce
  rw [← e0, ← e1, ← e2, ← e3]
  exact ⟨(h c).1, (h c).2.1.trans (val_main_v23_eq _ _ _ _), (h c).2.2.1.trans (val_main_v4_eq _ _), (h c).2.2.2.1.trans (val_main_v10_eq _ _), (h c).2.2.2.2⟩

theorem frame_ref : Cert.quiescent_Reference18Ideal (hReference18Ideal := Cert.Reference18Ideal.Gen.facts) := fun m g _ =>
  (θ_run Cert.Reference18Ideal.defs _ _).mono (fun r h => ⟨fun c => (h c).2.2.2.2, sem_eq_zero_of_no_sems (by decide) r.2⟩)
    (Cert.Reference18Ideal.Value.run (F := Ideal) m g)

end Adam18

/-! ### Weights of shape 4 × 640 -/

namespace Adam19

section
open Cert.Kernel19Ideal Cert.Kernel19Ideal.Gen

theorem delta_val (w g m v : Vec Ideal S4x640 .f32) (y : S4x640.Idx) : out0_5 w g m v y = delta (w y) (g y) (m y) (v y) := by
  have h₁ : (Named.named κ "c1" 0x3FC48605#32 : Ideal .f32) = ((8388608 / 5463681 : ℝ) : EReal) := IdealRules.named_const.ideal_named_scalar _ _ _ _ rfl
  have h₂ : (Named.named κ "c2" 0x42C8E6D3#32 : Ideal .f32) = ((268435456 / 2672307 : ℝ) : EReal) := IdealRules.named_const.ideal_named_scalar _ _ _ _ rfl
  unfold out0_5 delta
  rw [View.canon_unit_zero (by funext a; fin_cases a <;> rfl)]
  iterate 4 rw [View.ld_unit_zero (by funext a; fin_cases a <;> rfl)]
  rw [div_first, div_second, ← h₁, ← h₂]
  rfl

theorem moments_val (w g m v : Vec Ideal S4x640 .f32) (y : S4x640.Idx) :
    out0_4 w g m v y = g y ∧ out0_6 w g m v y = newM (g y) (m y) ∧ out0_7 w g m v y = newV (g y) (v y) := by
  unfold out0_4 out0_6 out0_7
  iterate 3 rw [View.canon_unit_zero (by funext a; fin_cases a <;> rfl)]
  iterate 3 rw [View.ld_unit_zero (by funext a; fin_cases a <;> rfl)]
  exact ⟨rfl, rfl, rfl⟩

theorem arr (m : (ℓ : Loc nD τ sig) → Buf (Elt Ideal) ℓ) (c : Dev nD) :
    (dats m 0 c).arrAt 4 cfg0.N = m ((c : Thread nD τ).loc main_arg1)
    ∧ (dats m 0 c).arrAt 5 cfg0.N = stepOf (m ((c : Thread nD τ).loc main_arg0)) (m ((c : Thread nD τ).loc main_arg1))
      (m ((c : Thread nD τ).loc main_arg2)) (m ((c : Thread nD τ).loc main_arg3))
    ∧ (dats m 0 c).arrAt 6 cfg0.N = firstOf (m ((c : Thread nD τ).loc main_arg1)) (m ((c : Thread nD τ).loc main_arg2))
    ∧ (dats m 0 c).arrAt 7 cfg0.N = secondOf (m ((c : Thread nD τ).loc main_arg1)) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · blk_simp
    rw [after0_4]
    exact (moments_val (iblk m c 0 t) (iblk m c 1 t) (iblk m c 2 t) (iblk m c 3 t) y).1
  · have b : delta (iblk m c 0 t y) (iblk m c 1 t y) (iblk m c 2 t y) (iblk m c 3 t y) = stepOf (m ((c : Thread nD τ).loc main_arg0)) (m ((c : Thread nD τ).loc main_arg1))
      (m ((c : Thread nD τ).loc main_arg2)) (m ((c : Thread nD τ).loc main_arg3)) ((win0_5.blk t).view.emb y) := rfl
    blk_simp
    rw [after0_5]
    exact (delta_val (iblk m c 0 t) (iblk m c 1 t) (iblk m c 2 t) (iblk m c 3 t) y).trans b
  · blk_simp
    rw [after0_6]
    exact (moments_val (iblk m c 0 t) (iblk m c 1 t) (iblk m c 2 t) (iblk m c 3 t) y).2.1
  · blk_simp
    rw [after0_7]
    exact (moments_val (iblk m c 0 t) (iblk m c 1 t) (iblk m c 2 t) (iblk m c 3 t) y).2.2

end

open Cert.Reference19Ideal.Read in
theorem algebraic : Cert.algebraic_Kernel19Ideal_Reference19Ideal (hKernel19Ideal := Cert.Kernel19Ideal.Gen.facts) (hReference19Ideal := Cert.Reference19Ideal.Gen.facts) := by
  intro m k m' k' _ e
  refine ⟨fun _ => _, fun _ => _, fun _ => _, fun _ => _,
    (θ_run _ _ _).mono (fun r h c => ⟨(h c).1.trans (arr m c).1, (h c).2.1.trans (arr m c).2.1, (h c).2.2.1.trans (arr m c).2.2.1,
      (h c).2.2.2.1.trans (arr m c).2.2.2, (h c).2.2.2.2⟩) (Cert.Kernel19Ideal.Value.run_blocks (F := Ideal) m k),
    (θ_run _ _ _).mono (fun r h c => ?_) (Cert.Reference19Ideal.Value.run (F := Ideal) m' k')⟩
  obtain ⟨e0, e1, e2, e3⟩ := e c
  beta_reduce
  rw [← e0, ← e1, ← e2, ← e3]
  exact ⟨(h c).1, (h c).2.1.trans (val_main_v23_eq _ _ _ _), (h c).2.2.1.trans (val_main_v4_eq _ _), (h c).2.2.2.1.trans (val_main_v10_eq _ _), (h c).2.2.2.2⟩

theorem frame_ref : Cert.quiescent_Reference19Ideal (hReference19Ideal := Cert.Reference19Ideal.Gen.facts) := fun m g _ =>
  (θ_run Cert.Reference19Ideal.defs _ _).mono (fun r h => ⟨fun c => (h c).2.2.2.2, sem_eq_zero_of_no_sems (by decide) r.2⟩)
    (Cert.Reference19Ideal.Value.run (F := Ideal) m g)

end Adam19

/-! ### Weights of shape 1 × 32 -/

namespace Adam20

section
open Cert.Kernel20Ideal Cert.Kernel20Ideal.Gen

theorem delta_val (w g m v : Vec Ideal S1x32 .f32) (y : S1x32.Idx) : out0_5 w g m v y = delta (w y) (g y) (m y) (v y) := by
  have h₁ : (Named.named κ "c1" 0x3FC48605#32 : Ideal .f32) = ((8388608 / 5463681 : ℝ) : EReal) := IdealRules.named_const.ideal_named_scalar _ _ _ _ rfl
  have h₂ : (Named.named κ "c2" 0x42C8E6D3#32 : Ideal .f32) = ((268435456 / 2672307 : ℝ) : EReal) := IdealRules.named_const.ideal_named_scalar _ _ _ _ rfl
  unfold out0_5 delta
  rw [View.canon_unit_zero (by funext a; fin_cases a <;> rfl)]
  iterate 4 rw [View.ld_unit_zero (by funext a; fin_cases a <;> rfl)]
  rw [div_first, div_second, ← h₁, ← h₂]
  rfl

theorem moments_val (w g m v : Vec Ideal S1x32 .f32) (y : S1x32.Idx) :
    out0_4 w g m v y = g y ∧ out0_6 w g m v y = newM (g y) (m y) ∧ out0_7 w g m v y = newV (g y) (v y) := by
  unfold out0_4 out0_6 out0_7
  iterate 3 rw [View.canon_unit_zero (by funext a; fin_cases a <;> rfl)]
  iterate 3 rw [View.ld_unit_zero (by funext a; fin_cases a <;> rfl)]
  exact ⟨rfl, rfl, rfl⟩

theorem arr (m : (ℓ : Loc nD τ sig) → Buf (Elt Ideal) ℓ) (c : Dev nD) :
    (dats m 0 c).arrAt 4 cfg0.N = m ((c : Thread nD τ).loc main_arg1)
    ∧ (dats m 0 c).arrAt 5 cfg0.N = stepOf (m ((c : Thread nD τ).loc main_arg0)) (m ((c : Thread nD τ).loc main_arg1))
      (m ((c : Thread nD τ).loc main_arg2)) (m ((c : Thread nD τ).loc main_arg3))
    ∧ (dats m 0 c).arrAt 6 cfg0.N = firstOf (m ((c : Thread nD τ).loc main_arg1)) (m ((c : Thread nD τ).loc main_arg2))
    ∧ (dats m 0 c).arrAt 7 cfg0.N = secondOf (m ((c : Thread nD τ).loc main_arg1)) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · blk_simp
    rw [after0_4]
    exact (moments_val (iblk m c 0 t) (iblk m c 1 t) (iblk m c 2 t) (iblk m c 3 t) y).1
  · have b : delta (iblk m c 0 t y) (iblk m c 1 t y) (iblk m c 2 t y) (iblk m c 3 t y) = stepOf (m ((c : Thread nD τ).loc main_arg0)) (m ((c : Thread nD τ).loc main_arg1))
      (m ((c : Thread nD τ).loc main_arg2)) (m ((c : Thread nD τ).loc main_arg3)) ((win0_5.blk t).view.emb y) := rfl
    blk_simp
    rw [after0_5]
    exact (delta_val (iblk m c 0 t) (iblk m c 1 t) (iblk m c 2 t) (iblk m c 3 t) y).trans b
  · blk_simp
    rw [after0_6]
    exact (moments_val (iblk m c 0 t) (iblk m c 1 t) (iblk m c 2 t) (iblk m c 3 t) y).2.1
  · blk_simp
    rw [after0_7]
    exact (moments_val (iblk m c 0 t) (iblk m c 1 t) (iblk m c 2 t) (iblk m c 3 t) y).2.2

end

open Cert.Reference20Ideal.Read in
theorem algebraic : Cert.algebraic_Kernel20Ideal_Reference20Ideal (hKernel20Ideal := Cert.Kernel20Ideal.Gen.facts) (hReference20Ideal := Cert.Reference20Ideal.Gen.facts) := by
  intro m k m' k' _ e
  refine ⟨fun _ => _, fun _ => _, fun _ => _, fun _ => _,
    (θ_run _ _ _).mono (fun r h c => ⟨(h c).1.trans (arr m c).1, (h c).2.1.trans (arr m c).2.1, (h c).2.2.1.trans (arr m c).2.2.1,
      (h c).2.2.2.1.trans (arr m c).2.2.2, (h c).2.2.2.2⟩) (Cert.Kernel20Ideal.Value.run_blocks (F := Ideal) m k),
    (θ_run _ _ _).mono (fun r h c => ?_) (Cert.Reference20Ideal.Value.run (F := Ideal) m' k')⟩
  obtain ⟨e0, e1, e2, e3⟩ := e c
  beta_reduce
  rw [← e0, ← e1, ← e2, ← e3]
  exact ⟨(h c).1, (h c).2.1.trans (val_main_v23_eq _ _ _ _), (h c).2.2.1.trans (val_main_v4_eq _ _), (h c).2.2.2.1.trans (val_main_v10_eq _ _), (h c).2.2.2.2⟩

theorem frame_ref : Cert.quiescent_Reference20Ideal (hReference20Ideal := Cert.Reference20Ideal.Gen.facts) := fun m g _ =>
  (θ_run Cert.Reference20Ideal.defs _ _).mono (fun r h => ⟨fun c => (h c).2.2.2.2, sem_eq_zero_of_no_sems (by decide) r.2⟩)
    (Cert.Reference20Ideal.Value.run (F := Ideal) m g)

end Adam20

/-! ### Weights of shape 3 × 1536 -/

namespace Adam21

section
open Cert.Kernel21Ideal Cert.Kernel21Ideal.Gen

theorem delta_val (w g m v : Vec Ideal S3x1536 .f32) (y : S3x1536.Idx) : out0_5 w g m v y = delta (w y) (g y) (m y) (v y) := by
  have h₁ : (Named.named κ "c1" 0x3FC48605#32 : Ideal .f32) = ((8388608 / 5463681 : ℝ) : EReal) := IdealRules.named_const.ideal_named_scalar _ _ _ _ rfl
  have h₂ : (Named.named κ "c2" 0x42C8E6D3#32 : Ideal .f32) = ((268435456 / 2672307 : ℝ) : EReal) := IdealRules.named_const.ideal_named_scalar _ _ _ _ rfl
  unfold out0_5 delta
  rw [View.canon_unit_zero (by funext a; fin_cases a <;> rfl)]
  iterate 4 rw [View.ld_unit_zero (by funext a; fin_cases a <;> rfl)]
  rw [div_first, div_second, ← h₁, ← h₂]
  rfl

theorem moments_val (w g m v : Vec Ideal S3x1536 .f32) (y : S3x1536.Idx) :
    out0_4 w g m v y = g y ∧ out0_6 w g m v y = newM (g y) (m y) ∧ out0_7 w g m v y = newV (g y) (v y) := by
  unfold out0_4 out0_6 out0_7
  iterate 3 rw [View.canon_unit_zero (by funext a; fin_cases a <;> rfl)]
  iterate 3 rw [View.ld_unit_zero (by funext a; fin_cases a <;> rfl)]
  exact ⟨rfl, rfl, rfl⟩

theorem arr (m : (ℓ : Loc nD τ sig) → Buf (Elt Ideal) ℓ) (c : Dev nD) :
    (dats m 0 c).arrAt 4 cfg0.N = m ((c : Thread nD τ).loc main_arg1)
    ∧ (dats m 0 c).arrAt 5 cfg0.N = stepOf (m ((c : Thread nD τ).loc main_arg0)) (m ((c : Thread nD τ).loc main_arg1))
      (m ((c : Thread nD τ).loc main_arg2)) (m ((c : Thread nD τ).loc main_arg3))
    ∧ (dats m 0 c).arrAt 6 cfg0.N = firstOf (m ((c : Thread nD τ).loc main_arg1)) (m ((c : Thread nD τ).loc main_arg2))
    ∧ (dats m 0 c).arrAt 7 cfg0.N = secondOf (m ((c : Thread nD τ).loc main_arg1)) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · blk_simp
    rw [after0_4]
    exact (moments_val (iblk m c 0 t) (iblk m c 1 t) (iblk m c 2 t) (iblk m c 3 t) y).1
  · have b : delta (iblk m c 0 t y) (iblk m c 1 t y) (iblk m c 2 t y) (iblk m c 3 t y) = stepOf (m ((c : Thread nD τ).loc main_arg0)) (m ((c : Thread nD τ).loc main_arg1))
      (m ((c : Thread nD τ).loc main_arg2)) (m ((c : Thread nD τ).loc main_arg3)) ((win0_5.blk t).view.emb y) := rfl
    blk_simp
    rw [after0_5]
    exact (delta_val (iblk m c 0 t) (iblk m c 1 t) (iblk m c 2 t) (iblk m c 3 t) y).trans b
  · blk_simp
    rw [after0_6]
    exact (moments_val (iblk m c 0 t) (iblk m c 1 t) (iblk m c 2 t) (iblk m c 3 t) y).2.1
  · blk_simp
    rw [after0_7]
    exact (moments_val (iblk m c 0 t) (iblk m c 1 t) (iblk m c 2 t) (iblk m c 3 t) y).2.2

end

open Cert.Reference21Ideal.Read in
theorem algebraic : Cert.algebraic_Kernel21Ideal_Reference21Ideal (hKernel21Ideal := Cert.Kernel21Ideal.Gen.facts) (hReference21Ideal := Cert.Reference21Ideal.Gen.facts) := by
  intro m k m' k' _ e
  refine ⟨fun _ => _, fun _ => _, fun _ => _, fun _ => _,
    (θ_run _ _ _).mono (fun r h c => ⟨(h c).1.trans (arr m c).1, (h c).2.1.trans (arr m c).2.1, (h c).2.2.1.trans (arr m c).2.2.1,
      (h c).2.2.2.1.trans (arr m c).2.2.2, (h c).2.2.2.2⟩) (Cert.Kernel21Ideal.Value.run_blocks (F := Ideal) m k),
    (θ_run _ _ _).mono (fun r h c => ?_) (Cert.Reference21Ideal.Value.run (F := Ideal) m' k')⟩
  obtain ⟨e0, e1, e2, e3⟩ := e c
  beta_reduce
  rw [← e0, ← e1, ← e2, ← e3]
  exact ⟨(h c).1, (h c).2.1.trans (val_main_v23_eq _ _ _ _), (h c).2.2.1.trans (val_main_v4_eq _ _), (h c).2.2.2.1.trans (val_main_v10_eq _ _), (h c).2.2.2.2⟩

theorem frame_ref : Cert.quiescent_Reference21Ideal (hReference21Ideal := Cert.Reference21Ideal.Gen.facts) := fun m g _ =>
  (θ_run Cert.Reference21Ideal.defs _ _).mono (fun r h => ⟨fun c => (h c).2.2.2.2, sem_eq_zero_of_no_sems (by decide) r.2⟩)
    (Cert.Reference21Ideal.Value.run (F := Ideal) m g)

end Adam21

/-! ### Weights of shape 1 × 6144 -/

namespace Adam22

section
open Cert.Kernel22Ideal Cert.Kernel22Ideal.Gen

theorem delta_val (w g m v : Vec Ideal S1x6144 .f32) (y : S1x6144.Idx) : out0_5 w g m v y = delta (w y) (g y) (m y) (v y) := by
  have h₁ : (Named.named κ "c1" 0x3FC48605#32 : Ideal .f32) = ((8388608 / 5463681 : ℝ) : EReal) := IdealRules.named_const.ideal_named_scalar _ _ _ _ rfl
  have h₂ : (Named.named κ "c2" 0x42C8E6D3#32 : Ideal .f32) = ((268435456 / 2672307 : ℝ) : EReal) := IdealRules.named_const.ideal_named_scalar _ _ _ _ rfl
  unfold out0_5 delta
  rw [View.canon_unit_zero (by funext a; fin_cases a <;> rfl)]
  iterate 4 rw [View.ld_unit_zero (by funext a; fin_cases a <;> rfl)]
  rw [div_first, div_second, ← h₁, ← h₂]
  rfl

theorem moments_val (w g m v : Vec Ideal S1x6144 .f32) (y : S1x6144.Idx) :
    out0_4 w g m v y = g y ∧ out0_6 w g m v y = newM (g y) (m y) ∧ out0_7 w g m v y = newV (g y) (v y) := by
  unfold out0_4 out0_6 out0_7
  iterate 3 rw [View.canon_unit_zero (by funext a; fin_cases a <;> rfl)]
  iterate 3 rw [View.ld_unit_zero (by funext a; fin_cases a <;> rfl)]
  exact ⟨rfl, rfl, rfl⟩

theorem arr (m : (ℓ : Loc nD τ sig) → Buf (Elt Ideal) ℓ) (c : Dev nD) :
    (dats m 0 c).arrAt 4 cfg0.N = m ((c : Thread nD τ).loc main_arg1)
    ∧ (dats m 0 c).arrAt 5 cfg0.N = stepOf (m ((c : Thread nD τ).loc main_arg0)) (m ((c : Thread nD τ).loc main_arg1))
      (m ((c : Thread nD τ).loc main_arg2)) (m ((c : Thread nD τ).loc main_arg3))
    ∧ (dats m 0 c).arrAt 6 cfg0.N = firstOf (m ((c : Thread nD τ).loc main_arg1)) (m ((c : Thread nD τ).loc main_arg2))
    ∧ (dats m 0 c).arrAt 7 cfg0.N = secondOf (m ((c : Thread nD τ).loc main_arg1)) (m ((c : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · blk_simp
    rw [after0_4]
    exact (moments_val (iblk m c 0 t) (iblk m c 1 t) (iblk m c 2 t) (iblk m c 3 t) y).1
  · have b : delta (iblk m c 0 t y) (iblk m c 1 t y) (iblk m c 2 t y) (iblk m c 3 t y) = stepOf (m ((c : Thread nD τ).loc main_arg0)) (m ((c : Thread nD τ).loc main_arg1))
      (m ((c : Thread nD τ).loc main_arg2)) (m ((c : Thread nD τ).loc main_arg3)) ((win0_5.blk t).view.emb y) := rfl
    blk_simp
    rw [after0_5]
    exact (delta_val (iblk m c 0 t) (iblk m c 1 t) (iblk m c 2 t) (iblk m c 3 t) y).trans b
  · blk_simp
    rw [after0_6]
    exact (moments_val (iblk m c 0 t) (iblk m c 1 t) (iblk m c 2 t) (iblk m c 3 t) y).2.1
  · blk_simp
    rw [after0_7]
    exact (moments_val (iblk m c 0 t) (iblk m c 1 t) (iblk m c 2 t) (iblk m c 3 t) y).2.2

end

open Cert.Reference22Ideal.Read in
theorem algebraic : Cert.algebraic_Kernel22Ideal_Reference22Ideal (hKernel22Ideal := Cert.Kernel22Ideal.Gen.facts) (hReference22Ideal := Cert.Reference22Ideal.Gen.facts) := by
  intro m k m' k' _ e
  refine ⟨fun _ => _, fun _ => _, fun _ => _, fun _ => _,
    (θ_run _ _ _).mono (fun r h c => ⟨(h c).1.trans (arr m c).1, (h c).2.1.trans (arr m c).2.1, (h c).2.2.1.trans (arr m c).2.2.1,
      (h c).2.2.2.1.trans (arr m c).2.2.2, (h c).2.2.2.2⟩) (Cert.Kernel22Ideal.Value.run_blocks (F := Ideal) m k),
    (θ_run _ _ _).mono (fun r h c => ?_) (Cert.Reference22Ideal.Value.run (F := Ideal) m' k')⟩
  obtain ⟨e0, e1, e2, e3⟩ := e c
  beta_reduce
  rw [← e0, ← e1, ← e2, ← e3]
  exact ⟨(h c).1, (h c).2.1.trans (val_main_v23_eq _ _ _ _), (h c).2.2.1.trans (val_main_v4_eq _ _), (h c).2.2.2.1.trans (val_main_v10_eq _ _), (h c).2.2.2.2⟩

theorem frame_ref : Cert.quiescent_Reference22Ideal (hReference22Ideal := Cert.Reference22Ideal.Gen.facts) := fun m g _ =>
  (θ_run Cert.Reference22Ideal.defs _ _).mono (fun r h => ⟨fun c => (h c).2.2.2.2, sem_eq_zero_of_no_sems (by decide) r.2⟩)
    (Cert.Reference22Ideal.Value.run (F := Ideal) m g)

end Adam22

end Cert

end
-- ==== Proof.Tiled.lean ====
/-
  The products whose inner index is cut too: each tile of the result is summed over its cuts in a scratch buffer
  before it is stored.
-/
module

public import proofs.«01_k».proof.Defs
public import proofs.«01_k».proof.Proof.Prod
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24Ideal.Value
public import proofs.«01_k».proof.Proof.Gen.Reference24Ideal.Run
public import proofs.«01_k».proof.Proof.Gen.Reference24Ideal.Read
public import Idealize.ShloMosaic.Lib.Claim
public import Idealize.ShloMosaic.Lib.Pointwise
public import Idealize.ShloMosaic.Lib.Pipeline.Quiescent
public import Idealize.ShloMosaic.Lib.Pipeline.ValueKit.Point
public import Idealize.ShloMosaic.Lib.Pipeline.ValueKit.Acc
public import Idealize.ShloMosaic.Lib.Pipeline.ReadBack

@[expose] public section

set_option maxRecDepth 16384

noncomputable section

namespace Cert

open Idealize.ShloMosaic Idealize.SL.Sem Idealize.ShloMosaic.StableHlo
open Idealize.ShloMosaic.TcCoe
open Cert.Prod

/-! ### The last product of the feed-forward block -/

namespace Down

section
open Cert.Kernel23Ideal Cert.Kernel23Ideal.Gen

theorem first_val (x : Vec Ideal S1024x2048 .bf16) (w : Vec Ideal S2048x1024 .bf16) (r : Fin 1024) (n : Fin 1024) :
    k0_pay2 x w (ix2 r n) = nn x w r n := by
  pointwise [k0_pay2, k0_pay1]
  rfl

theorem next_val (x : Vec Ideal S1024x2048 .bf16) (w : Vec Ideal S2048x1024 .bf16) (a : Vec Ideal S1024x1024 .f32) (r : Fin 1024) (n : Fin 1024) :
    k0_pay3 x w a (ix2 r n) = a (ix2 r n) + nn x w r n := by
  pointwise [k0_pay3, k0_pay1]
  rfl

variable (m : (ℓ : Loc nD τ sig) → Buf (Elt Ideal) ℓ) (c : Dev nD)

/-- What the scratch holds after a point is the tile's product over the first cut, -/
theorem carry_first (t : Fin cfg0.N) (h : t.val % 3 = 0) : (outsAt0 m c t.val t.isLt).2 = k0_pay2 (iblk m c 0 t) (iblk m c 1 t) := by
  rw [outsAt0_A m c t h (by omega) (by omega)]
  dsimp only
  frame_out

/-- and at every further point that of the cut added to what it held. -/
theorem carry_next (t : Fin cfg0.N) (h : ¬t.val % 3 = 0) : (outsAt0 m c t.val t.isLt).2
    = k0_pay3 (iblk m c 0 t) (iblk m c 1 t) (outsAt0 m c (t.val - 1) (Nat.lt_of_le_of_lt (Nat.sub_le _ _) t.isLt)).2 := by
  by_cases h2 : t.val % 3 = 2
  · rw [outsAt0_C m c t h (by omega) h2]
    dsimp only
    frame_out
    simp only [read_unread_whole]
  · rw [outsAt0_B m c t h (by omega) h2]
    dsimp only
    frame_out
    simp only [read_unread_whole]

theorem stored (t : Fin cfg0.N) (h : t.val % 3 = 2) : (outsAt0 m c t.val t.isLt).1 = (outsAt0 m c t.val t.isLt).2 := by
  rw [carry_next m c t (by omega), outsAt0_C m c t (by omega) (by omega) h]
  dsimp only
  frame_out
  simp only [read_unread_whole]

/-- The sum over the cuts, when the last of them has been added. -/
theorem total (t : Fin cfg0.N) (h : t.val % 3 = 2) (r n : Fin 1024) : (outsAt0 m c t.val t.isLt).2 (ix2 r n)
    = ∑ s : Fin 3, nn (iblk m c 0 ⟨3 * (t.val / 3) + s.val, Pipeline.run_point_lt_of_flush t h s⟩)
        (iblk m c 1 ⟨3 * (t.val / 3) + s.val, Pipeline.run_point_lt_of_flush t h s⟩) r n := by
  have q := Pipeline.eq_sum_fin_of_reset_step_apply_of_flush (fun k hk (i : Fin 1024 × Fin 1024) => (outsAt0 m c k hk).2 (ix2 i.1 i.2)) 3
    (fun _ => (0 : EReal)) (fun u i => nn (iblk m c 0 u) (iblk m c 1 u) i.1 i.2)
    (fun u hu i => by rw [carry_first m c u hu, first_val, zero_add])
    (fun u hu i => by rw [carry_next m c u hu, next_val]) t h (r, n)
  rw [zero_add] at q
  exact q

theorem index_all : ∀ t : Fin cfg0.N, win0_0.index t = ![t.val / 3 % 2, t.val % 3] ∧ win0_1.index t = ![t.val % 3, t.val / 6] ∧ win0_2.index t = ![t.val / 3 % 2, t.val / 6] := by
  decide +kernel

theorem arr : (dats m 0 c).arrAt 2 cfg0.N
    = fun i : S2048x2048.Idx => nn (m ((c : Thread nD τ).loc main_arg0)) (m ((c : Thread nD τ).loc main_arg1)) (i 0) (i 1) := by
  refine (dats m 0 c).arrAt_eq_of_covers 2 _ (by decide +kernel) fun t hf y => ?_
  have ht : t.val < 12 := lt_of_lt_of_eq t.isLt N_0
  have h2 : t.val % 3 = 2 := (flush0_2 t).mp hf
  obtain ⟨_, _, e⟩ := index_all t
  obtain ⟨r, n, rfl⟩ : ∃ (r : Fin 1024) (n : Fin 1024), y = ix2 r n := ⟨y 0, y 1, ValueIdx.eq_ix2 y⟩
  have b0 (u : Fin cfg0.N) (k : Fin 2048) : iblk m c 0 u (ix2 r k)
      = m ((c : Thread nD τ).loc main_arg0) (ix2 ⟨u.val / 3 % 2 * 1024 + r.val, by omega⟩ ⟨u.val % 3 * 2048 + k.val, by omega⟩) := by
    obtain ⟨ex, _, _⟩ := index_all u
    blk_ext [iblk, V, ex]
  have b1 (u : Fin cfg0.N) (k : Fin 2048) : iblk m c 1 u (ix2 k n)
      = m ((c : Thread nD τ).loc main_arg1) (ix2 ⟨u.val % 3 * 2048 + k.val, by omega⟩ ⟨u.val / 6 * 1024 + n.val, by have := lt_of_lt_of_eq u.isLt N_0; omega⟩) := by
    obtain ⟨_, ew, _⟩ := index_all u
    blk_ext [iblk, V, ew]
  have e0 : (win0_2.blk t).view.emb (ix2 r n) 0 = (⟨t.val / 3 % 2 * 1024 + r.val, by omega⟩ : Fin 2048) := Fin.ext (by blk_simp [e])
  have e1 : (win0_2.blk t).view.emb (ix2 r n) 1 = (⟨t.val / 6 * 1024 + n.val, by omega⟩ : Fin 2048) := Fin.ext (by blk_simp [e])
  blk_simp [e]
  rw [after0_2, e0, e1, stored m c t h2, total m c t h2]
  simp only [nn, b0, b1]
  refine Fin.sum_mul_add_congr fun s k hl => ?_
  have hr : (3 * (t.val / 3) + s.val) / 3 % 2 = t.val / 3 % 2 := by omega
  have hn : (3 * (t.val / 3) + s.val) / 6 = t.val / 6 := by omega
  have hk : (3 * (t.val / 3) + s.val) % 3 = s.val := by omega
  simp only [hr, hn, hk]

end

theorem ref (x : Ix 2048 6144 → EReal) (w : Ix 6144 2048 → EReal) (r : Fin 2048) (n : Fin 2048) :
    Cert.Reference23Ideal.Read.val_main_v2 (F := Ideal) x w (ix2 r n) = nn x w r n := by
  pointwise [Cert.Reference23Ideal.Read.val_main_v2, Cert.Reference23Ideal.Read.val_main_v1, Cert.Reference23Ideal.Read.val_main_v0]
  rfl

theorem algebraic : Cert.algebraic_Kernel23Ideal_Reference23Ideal (hKernel23Ideal := Cert.Kernel23Ideal.Gen.facts) (hReference23Ideal := Cert.Reference23Ideal.Gen.facts) := by
  intro m g m' g' _ e
  refine ⟨fun c i => nn (m ((c.tc : Thread _ _).loc Cert.Kernel23Ideal.main_arg0)) (m ((c.tc : Thread _ _).loc Cert.Kernel23Ideal.main_arg1)) (i 0) (i 1),
    (θ_run _ _ _).mono (fun r h c => ⟨(h c).1.trans (arr m c), (h c).2⟩) (Cert.Kernel23Ideal.Value.run_blocks (F := Ideal) m g),
    (θ_run _ _ _).mono (fun r h c => ⟨(h c).1.trans ((Cert.Reference23Ideal.Read.val_main_v2_eq _ _).trans (funext fun i => ?_)), (h c).2⟩)
      (Cert.Reference23Ideal.Value.run (F := Ideal) m' g')⟩
  obtain ⟨e0, e1⟩ := e c
  rw [e0, e1]
  exact (congrArg _ (ValueIdx.eq_ix2 i)).trans (ref _ _ (i 0) (i 1))

theorem frame_ref : Cert.quiescent_Reference23Ideal (hReference23Ideal := Cert.Reference23Ideal.Gen.facts) := fun m g _ =>
  (θ_run Cert.Reference23Ideal.defs _ _).mono (fun r h => ⟨fun c => (h c).2, sem_eq_zero_of_no_sems (by decide) r.2⟩)
    (Cert.Reference23Ideal.Value.run (F := Ideal) m g)

end Down

/-! ### The gradient through the gate of the feed-forward block, added to the rows before it -/

namespace DGate

/-- An entry of the product with the transposed weight, whose columns come as the devices hold them. -/
def nb (d : Ix 2048 6144 → EReal) (w : (⟨3, ![4, 2048, 1536]⟩ : Shape).Idx → EReal) (r : Fin 2048) (n : Fin 2048) : EReal :=
  ∑ k : Fin 6144, d (ix2 r k) * w (ix3 ⟨k.val / 1536, by omega⟩ n ⟨k.val % 1536, by omega⟩)

section
open Cert.Kernel24Ideal Cert.Kernel24Ideal.Gen

/-- An entry of the product of one device's columns. -/
def cut (d : Ix 1024 1536 → EReal) (w : (⟨3, ![1, 1024, 1536]⟩ : Shape).Idx → EReal) (r n : Fin 1024) : EReal :=
  ∑ k : Fin 1536, d (ix2 r k) * w (ix3 0 n k)

theorem first_val (d : Vec Ideal S1024x1536 .bf16) (w : Vec Ideal S1x1024x1536 .bf16) (r : Fin 1024) (n : Fin 1024) :
    k0_pay2 d w (ix2 r n) = cut d w r n := by
  pointwise [k0_pay2, k0_pay1]
  rfl

theorem next_val (d : Vec Ideal S1024x1536 .bf16) (w : Vec Ideal S1x1024x1536 .bf16) (a : Vec Ideal S1024x1024 .f32) (r : Fin 1024) (n : Fin 1024) :
    k0_pay3 d w a (ix2 r n) = a (ix2 r n) + cut d w r n := by
  pointwise [k0_pay3, k0_pay1]
  rfl

theorem last_val (s : Vec Ideal S1024x1024 .f32) (a : Vec Ideal S1024x1024 .f32) (r : Fin 1024) (n : Fin 1024) :
    k0_pay4 s a (ix2 r n) = s (ix2 r n) + a (ix2 r n) := by
  pointwise [k0_pay4]

variable (m : (ℓ : Loc nD τ sig) → Buf (Elt Ideal) ℓ) (c : Dev nD)

theorem carry_first (t : Fin cfg0.N) (h : t.val % 4 = 0) : (outsAt0 m c t.val t.isLt).2 = k0_pay2 (iblk m c 0 t) (iblk m c 1 t) := by
  rw [outsAt0_A m c t h (by omega) (by omega)]
  dsimp only
  frame_out

theorem carry_next (t : Fin cfg0.N) (h : ¬t.val % 4 = 0) : (outsAt0 m c t.val t.isLt).2
    = k0_pay3 (iblk m c 0 t) (iblk m c 1 t) (outsAt0 m c (t.val - 1) (Nat.lt_of_le_of_lt (Nat.sub_le _ _) t.isLt)).2 := by
  by_cases h2 : t.val % 4 = 3
  · rw [outsAt0_C m c t h (by omega) h2]
    dsimp only
    frame_out
    simp only [read_unread_whole]
  · rw [outsAt0_B m c t h (by omega) h2]
    dsimp only
    frame_out
    simp only [read_unread_whole]

theorem stored (t : Fin cfg0.N) (h : t.val % 4 = 3) : (outsAt0 m c t.val t.isLt).1 = k0_pay4 (outsAt0 m c t.val t.isLt).2 (iblk m c 2 t) := by
  rw [carry_next m c t (by omega), outsAt0_C m c t (by omega) (by omega) h]
  dsimp only
  frame_out
  simp only [read_unread_whole]

theorem total (t : Fin cfg0.N) (h : t.val % 4 = 3) (r n : Fin 1024) : (outsAt0 m c t.val t.isLt).2 (ix2 r n)
    = ∑ s : Fin 4, cut (iblk m c 0 ⟨4 * (t.val / 4) + s.val, Pipeline.run_point_lt_of_flush t h s⟩)
        (iblk m c 1 ⟨4 * (t.val / 4) + s.val, Pipeline.run_point_lt_of_flush t h s⟩) r n := by
  have q := Pipeline.eq_sum_fin_of_reset_step_apply_of_flush (fun k hk (i : Fin 1024 × Fin 1024) => (outsAt0 m c k hk).2 (ix2 i.1 i.2)) 4
    (fun _ => (0 : EReal)) (fun u i => cut (iblk m c 0 u) (iblk m c 1 u) i.1 i.2)
    (fun u hu i => by rw [carry_first m c u hu, first_val, zero_add])
    (fun u hu i => by rw [carry_next m c u hu, next_val]) t h (r, n)
  rw [zero_add] at q
  exact q

theorem index_all : ∀ t : Fin cfg0.N, win0_0.index t = ![t.val / 4 % 2, t.val % 4] ∧ win0_1.index t = ![t.val % 4, t.val / 8, 0]
    ∧ win0_2.index t = ![t.val / 4 % 2, t.val / 8] ∧ win0_3.index t = ![t.val / 4 % 2, t.val / 8] := by
  decide +kernel

theorem arr : (dats m 0 c).arrAt 3 cfg0.N
    = fun i : S2048x2048.Idx => nb (m ((c : Thread nD τ).loc main_arg0)) (m ((c : Thread nD τ).loc main_arg1)) (i 0) (i 1)
        + m ((c : Thread nD τ).loc main_arg2) (ix2 (i 0) (i 1)) := by
  refine (dats m 0 c).arrAt_eq_of_covers 3 _ (by decide +kernel) fun t hf y => ?_
  have ht : t.val < 16 := lt_of_lt_of_eq t.isLt N_0
  have h3 : t.val % 4 = 3 := (flush0_3 t).mp hf
  obtain ⟨_, _, ea, e⟩ := index_all t
  obtain ⟨r, n, rfl⟩ : ∃ (r : Fin 1024) (n : Fin 1024), y = ix2 r n := ⟨y 0, y 1, ValueIdx.eq_ix2 y⟩
  have b0 (u : Fin cfg0.N) (k : Fin 1536) : iblk m c 0 u (ix2 r k)
      = m ((c : Thread nD τ).loc main_arg0) (ix2 ⟨u.val / 4 % 2 * 1024 + r.val, by omega⟩ ⟨u.val % 4 * 1536 + k.val, by omega⟩) := by
    obtain ⟨ex, _, _, _⟩ := index_all u
    blk_ext [iblk, V, ex]
  have b1 (u : Fin cfg0.N) (k : Fin 1536) : iblk m c 1 u (ix3 0 n k)
      = m ((c : Thread nD τ).loc main_arg1) (ix3 ⟨u.val % 4, by omega⟩ ⟨u.val / 8 * 1024 + n.val, by have := lt_of_lt_of_eq u.isLt N_0; omega⟩ k) := by
    obtain ⟨_, ew, _, _⟩ := index_all u
    blk_ext [iblk, V, ew]
  have b2 : iblk m c 2 t (ix2 r n) = m ((c : Thread nD τ).loc main_arg2) (ix2 ⟨t.val / 4 % 2 * 1024 + r.val, by omega⟩ ⟨t.val / 8 * 1024 + n.val, by omega⟩) := by
    blk_ext [iblk, V, ea]
  have e0 : (win0_3.blk t).view.emb (ix2 r n) 0 = (⟨t.val / 4 % 2 * 1024 + r.val, by omega⟩ : Fin 2048) := Fin.ext (by blk_simp [e])
  have e1 : (win0_3.blk t).view.emb (ix2 r n) 1 = (⟨t.val / 8 * 1024 + n.val, by omega⟩ : Fin 2048) := Fin.ext (by blk_simp [e])
  blk_simp [e]
  rw [after0_3, e0, e1, stored m c t h3, last_val, total m c t h3, b2]
  congr 1
  simp only [cut, nb, b0, b1]
  refine Fin.sum_mul_add_congr (S := 4) (n := 1536) fun s k hl => ?_
  have hr : (4 * (t.val / 4) + s.val) / 4 % 2 = t.val / 4 % 2 := by omega
  have hn : (4 * (t.val / 4) + s.val) / 8 = t.val / 8 := by omega
  have hk : (4 * (t.val / 4) + s.val) % 4 = s.val := by omega
  have hd : (s.val * 1536 + k.val) / 1536 = s.val := by omega
  have hm : (s.val * 1536 + k.val) % 1536 = k.val := by omega
  simp only [hr, hn, hk, hd, hm]

end

theorem ref (d : Ix 2048 6144 → EReal) (w : (⟨3, ![4, 2048, 1536]⟩ : Shape).Idx → EReal) (a : Ix 2048 2048 → EReal) (r : Fin 2048) (n : Fin 2048) :
    Cert.Reference24Ideal.Read.val_main_v7 (F := Ideal) d w a (ix2 r n) = nb d w r n + a (ix2 r n) := by
  pointwise [Cert.Reference24Ideal.Read.val_main_v7, Cert.Reference24Ideal.Read.val_main_v6, Cert.Reference24Ideal.Read.val_main_v5,
    Cert.Reference24Ideal.Read.val_main_v4, Cert.Reference24Ideal.Read.val_main_v3, Cert.Reference24Ideal.Read.val_main_v1, Cert.Reference24Ideal.Read.val_main_v0]
  rw [add_comm]
  rfl

theorem algebraic : Cert.algebraic_Kernel24Ideal_Reference24Ideal (hKernel24Ideal := Cert.Kernel24Ideal.Gen.facts) (hReference24Ideal := Cert.Reference24Ideal.Gen.facts) := by
  intro m g m' g' _ e
  refine ⟨fun c i => nb (m ((c.tc : Thread _ _).loc Cert.Kernel24Ideal.main_arg0)) (m ((c.tc : Thread _ _).loc Cert.Kernel24Ideal.main_arg1)) (i 0) (i 1)
      + m ((c.tc : Thread _ _).loc Cert.Kernel24Ideal.main_arg2) (ix2 (i 0) (i 1)),
    (θ_run _ _ _).mono (fun r h c => ⟨(h c).1.trans (arr m c), (h c).2⟩) (Cert.Kernel24Ideal.Value.run_blocks (F := Ideal) m g),
    (θ_run _ _ _).mono (fun r h c => ⟨(h c).1.trans ((Cert.Reference24Ideal.Read.val_main_v7_eq _ _ _).trans (funext fun i => ?_)), (h c).2⟩)
      (Cert.Reference24Ideal.Value.run (F := Ideal) m' g')⟩
  obtain ⟨e0, e1, e2⟩ := e c
  rw [e0, e1, e2]
  exact (congrArg _ (ValueIdx.eq_ix2 i)).trans (ref _ _ _ (i 0) (i 1))

theorem frame_ref : Cert.quiescent_Reference24Ideal (hReference24Ideal := Cert.Reference24Ideal.Gen.facts) := fun m g _ =>
  (θ_run Cert.Reference24Ideal.defs _ _).mono (fun r h => ⟨fun c => (h c).2, sem_eq_zero_of_no_sems (by decide) r.2⟩)
    (Cert.Reference24Ideal.Value.run (F := Ideal) m g)

end DGate

end Cert

end
-- ==== Proof.Near.lean ====
/-
  The products of the projection whose weight comes in the columns of the devices, each written where the order of the
  devices says.
-/
module

public import proofs.«01_k».proof.Defs
public import proofs.«01_k».proof.Proof.Prod
public import proofs.«01_k».proof.Proof.Gen.Kernel25Ideal.Frame
public import proofs.«01_k».proof.Proof.Gen.Kernel25.Frame
public import proofs.«01_k».proof.Proof.Gen.Reference25Ideal.Run
public import proofs.«01_k».proof.Proof.Gen.Reference25Ideal.Read
public import proofs.«01_k».proof.Proof.Gen.Kernel26Ideal.Frame
public import proofs.«01_k».proof.Proof.Gen.Kernel26.Frame
public import proofs.«01_k».proof.Proof.Gen.Reference26Ideal.Run
public import proofs.«01_k».proof.Proof.Gen.Reference26Ideal.Read
public import proofs.«01_k».proof.Proof.Gen.Pre_in_order
public import Idealize.ShloMosaic.Lib.Claim
public import Idealize.ShloMosaic.Lib.Pointwise
public import Idealize.ShloMosaic.Lib.StableHlo.Predicate
public import Idealize.ShloMosaic.Lib.Pipeline.Quiescent
public import Idealize.ShloMosaic.Lib.Pipeline.ValueKit.Point

@[expose] public section

set_option maxRecDepth 16384

noncomputable section

namespace Cert

open Idealize.ShloMosaic Idealize.SL.Sem Idealize.ShloMosaic.StableHlo
open Idealize.ShloMosaic.TcCoe

/-! ### The order of the devices, read from the precondition -/

open Cert.Prod

namespace Order

/-- A word that is not negative and below four, both compared signed, is below four. -/
theorem lt_four (w : BitVec 32) (h : IntOp.andi (IntOp.cmpi .sge w 0#32) (IntOp.cmpi .slt w 4#32) = 1#1) : w.toNat < 4 := by
  have key : ∀ a b : Bool, IntOp.andi (BitVec.ofBool a) (BitVec.ofBool b) = 1#1 → a = true ∧ b = true := by decide
  obtain ⟨h0, h1⟩ := key _ _ h
  simp only [BitVec.sle, BitVec.slt, decide_eq_true_eq] at h0 h1
  have hw := w.isLt
  rw [show (0#32).toInt = 0 from by decide, BitVec.toInt_eq_toNat_cond] at h0
  rw [show (4#32).toInt = 4 from by decide, BitVec.toInt_eq_toNat_cond] at h1
  split at h0 <;> omega

/-- What the precondition says of one entry of the order. -/
theorem lt_of_pre {F : FTy → Type} [FloatOps F] [Cert.Pre_in_order.Facts] (x w o t p)
    (h : Cert.Pre_in_order.fn (F := F) x w o t p = fun _ => 1#1) (j) : (o j).toNat < 4 :=
  lt_four _ (congrFun h j)

/-- Blocks of the whole of the last two axes end on whole words. -/
theorem whole_words : ∀ k : Fin 4, ∃ h : (∀ a, ((![k.val, 0, 0] : Fin 3 → ℕ) a + 1) * (![1, 2048, 2944] : Fin 3 → ℕ) a ≤ (⟨3, ![4, 2048, 2944]⟩ : Shape).size a),
    EltTy.bits .bf16 = 32 ∨ (Rect.block (s := ⟨3, ![4, 2048, 2944]⟩) ![1, 2048, 2944] ![k.val, 0, 0] h).WholeWords (EltTy.packing .bf16) := by
  decide +kernel

theorem select_or {α : Type} (a b c : BitVec 32) (x y : α) :
    Scalar.select (IntOp.ori (IntOp.cmpi .eq c a) (IntOp.cmpi .eq c b)) x y = if a = c ∨ b = c then x else y := by
  have key : ∀ p q : Bool, IntOp.ori (BitVec.ofBool p) (BitVec.ofBool q) = BitVec.ofBool (p || q) := by decide
  have s : ∀ p : Bool, Scalar.select (BitVec.ofBool p) x y = if p = true then x else y := by intro p; cases p <;> rfl
  simp only [IntOp.cmpi, key, s, Bool.or_eq_true, beq_iff_eq]
  exact if_congr (or_congr eq_comm eq_comm) rfl rfl

theorem select_eq {α : Type} (a c : BitVec 32) (x y : α) : Scalar.select (IntOp.cmpi .eq c a) x y = if a = c then x else y := by
  have s : ∀ p : Bool, Scalar.select (BitVec.ofBool p) x y = if p = true then x else y := by intro p; cases p <;> rfl
  simp only [IntOp.cmpi, s, beq_iff_eq]
  exact if_congr eq_comm rfl rfl

theorem toNat_iff (w : BitVec 32) (q : ℕ) (hq : q < 4) : w.toNat = q ↔ w = BitVec.ofNat 32 q := by
  rw [BitVec.toNat_eq, BitVec.toNat_ofNat, Nat.mod_eq_of_lt (by omega)]

/-- An entry of the product with the weight in blocks of columns. -/
def cols (x : Ix 2048 2048 → EReal) (w : (⟨3, ![4, 2048, 2944]⟩ : Shape).Idx → EReal) (i : Ix 2048 11776) : EReal :=
  ∑ k : Fin 2048, x (ix2 (i 0) k) * w (ix3 (⟨(i 1).val / 2944, by have : (i 1).val < 11776 := (i 1).isLt; omega⟩ : Fin 4) k
    (⟨(i 1).val % 2944, Nat.mod_lt _ (by decide)⟩ : Fin 2944))

theorem cols_at (x : Ix 2048 2048 → EReal) (w : (⟨3, ![4, 2048, 2944]⟩ : Shape).Idx → EReal) (i : Ix 2048 11776) (r : Fin 2048) (d : Fin 4) (n : Fin 2944)
    (h0 : (i 0).val = r.val) (h1 : (i 1).val = d.val * 2944 + n.val) : cols x w i = ∑ k : Fin 2048, x (ix2 r k) * w (ix3 d k n) := by
  have e0 : i 0 = r := Fin.ext h0
  have e1 : (⟨(i 1).val / 2944, by have : (i 1).val < 11776 := (i 1).isLt; omega⟩ : Fin 4) = d := Fin.ext (by show (i 1).val / 2944 = d.val; omega)
  have e2 : (⟨(i 1).val % 2944, Nat.mod_lt _ (by decide)⟩ : Fin 2944) = n := Fin.ext (by show (i 1).val % 2944 = n.val; omega)
  rw [cols, e0, e1, e2]

end Order

namespace Near

section
open Cert.Kernel25Ideal Cert.Kernel25Ideal.Gen

/-- The entry of the order that a grid point reads. -/
abbrev pos (i : grid0.Coords) : Fin 4 := ⟨1 + (i 0).val, by have : (i 0).val < 2 := (i 0).isLt; omega⟩

theorem at_pos {α : Type} (o : S4.Idx → α) (i : grid0.Coords) :
    o ((Rect.unit (s := S4) ![(Scalar.indexCast (Scalar.addi (1#32) (BitVec.ofNat 32 (i 0).val))).toNat] S1.size (k0_off1_inb i)).emb
      (Shape.Idx.first (numel1_S1.symm ▸ Nat.one_pos))) = o (ix1 (pos i)) := by
  congr 1
  funext a
  fin_cases a
  apply Fin.ext
  revert i
  decide +kernel

theorem index_x : ∀ i : grid0.Coords, cc0_transform_0 i = ![(i 1).val, 0] := by decide +kernel

variable {F : FTy → Type} [FloatOps F]

theorem index_w (pf : pre0.Contents (Elt F)) (i : grid0.Coords) : cc0_transform_1 k0_off1_inb numel1_S1 pf i
    = ![(show BitVec 32 from pf 0 (ix1 (pos i))).toNat, 0, 0] :=
  congrArg (fun v : BitVec 32 => ![v.toNat, 0, 0]) (at_pos (fun j => (pf 0 j : BitVec 32)) i)

theorem index_out (pf : pre0.Contents (Elt F)) (i : grid0.Coords) : cc0_transform_4 k0_off1_inb numel1_S1 pf i
    = ![(i 1).val, (show BitVec 32 from pf 0 (ix1 (pos i))).toNat] := by
  have e : (BitVec.ofNat 32 (i 1).val).toNat = (i 1).val := by revert i; decide +kernel
  exact (congrArg (fun v : BitVec 32 => ![(BitVec.ofNat 32 (i 1).val).toNat, v.toNat]) (at_pos (fun j => (pf 0 j : BitVec 32)) i)).trans (by rw [e])

theorem ok_of_lt (pf : pre0.Contents (Elt F)) (h : ∀ j, (show BitVec 32 from pf 0 j).toNat < 4) : ok0 pf := by
  refine ⟨fun i => ?_, fun i => ?_⟩
  · rw [index_w]
    exact Order.whole_words ⟨_, h _⟩
  · rw [index_out]
    refine ⟨fun a => ?_, .inl rfl⟩
    have h0 : (i 1).val < 4 := (i 1).isLt
    have h1 := h (ix1 (pos i))
    fin_cases a
    · show ((i 1).val + 1) * 512 ≤ 2048
      omega
    · show (BitVec.toNat _ + 1) * 2944 ≤ 11776
      omega

end

theorem ok (m : (ℓ : Loc Kernel25.nD Kernel25.τ Kernel25.sig) → Buf (Elt Bits) ℓ) (h : Cert.Pre_Kernel25 (hPre_in_order := Cert.Pre_in_order.Gen.facts) m) : Cert.Kernel25.Gen.Ok (F := Bits) m :=
  ok_of_lt (F := Bits) (Cert.Kernel25.Gen.tbl m) (Order.lt_of_pre _ _ _ _ _ (h 0))

theorem ok_ideal (m : (ℓ : Loc Kernel25Ideal.nD Kernel25Ideal.τ Kernel25Ideal.sig) → Buf (Elt Ideal) ℓ) (h : Cert.Pre_Kernel25Ideal (hPre_in_order := Cert.Pre_in_order.Gen.facts) m) : Cert.Kernel25Ideal.Gen.Ok (F := Ideal) m :=
  ok_of_lt (F := Ideal) (Cert.Kernel25Ideal.Gen.tbl m) (Order.lt_of_pre _ _ _ _ _ (h 0))

section
open Cert.Kernel25Ideal Cert.Kernel25Ideal.Gen

theorem out_val (c : Dev nD) (i : grid0.Coords) (arg3 : Memref sig .tc .vmem S512x2048 .bf16) (harg3 : arg3.IsWhole) (arg4 : Memref sig .tc .vmem S1x2048x2944 .bf16) (harg4 : arg4.IsWhole) (arg7 : Memref sig .tc .vmem S512x2944 .f32) (harg7 : arg7.IsWhole)
    (x : Vec Ideal S512x2048 .bf16) (w : Vec Ideal S1x2048x2944 .bf16) (o) (r : Fin 512) (n : Fin 2944) :
    out0_A_2 c i arg3 harg3 arg4 harg4 arg7 harg7 x w o (ix2 r n) = ∑ k : Fin 2048, x (ix2 r k) * w (ix3 0 k n) := by
  frame_out
  pointwise [k0_pay1]

theorem coords_all : ∀ t : Fin grid0.N, ((grid0.coords t) 0).val = t.val / 4 ∧ ((grid0.coords t) 1).val = t.val % 4 := by decide +kernel

/-- The device whose columns a grid point writes. -/
abbrev dev (m : (ℓ : Loc nD τ sig) → Buf (Elt Ideal) ℓ) (t : Fin grid0.N) : ℕ := BitVec.toNat (show BitVec 32 from tbl m 0 (ix1 (pos (grid0.coords t))))

/-- The order, as the region finds it. -/
abbrev order (m : (ℓ : Loc nD τ sig) → Buf (Elt Ideal) ℓ) : S4.Idx → BitVec 32 := m (((0 : Dev nD) : Thread nD τ).loc main_arg2)

theorem dev_eq (m : (ℓ : Loc nD τ sig) → Buf (Elt Ideal) ℓ) (t : Fin grid0.N) : dev m t = (order m (ix1 (pos (grid0.coords t)))).toNat :=
  congrArg BitVec.toNat (congrFun (V_main_arg2 m 0) (ix1 (pos (grid0.coords t))))

theorem named (m : (ℓ : Loc nD τ sig) → Buf (Elt Ideal) ℓ) (q : ℕ) (hq : q < 4) : (∃ t, dev m t = q)
    ↔ order m (ix1 1) = BitVec.ofNat 32 q ∨ order m (ix1 2) = BitVec.ofNat 32 q := by
  rw [← Order.toNat_iff _ q hq, ← Order.toNat_iff _ q hq]
  refine ⟨?_, ?_⟩
  · rintro ⟨t, rfl⟩
    have hp := (show ∀ t : Fin grid0.N, pos (grid0.coords t) = 1 ∨ pos (grid0.coords t) = 2 from by decide +kernel) t
    rw [dev_eq]
    rcases hp with hp | hp
    · exact .inl (by rw [hp])
    · exact .inr (by rw [hp])
  · rintro (h | h)
    · exact ⟨(⟨0, by decide⟩ : Fin grid0.N), by rw [dev_eq, ← h, show pos (grid0.coords (⟨0, by decide⟩ : Fin grid0.N)) = 1 from by decide +kernel]⟩
    · exact ⟨(⟨4, by decide⟩ : Fin grid0.N), by rw [dev_eq, ← h, show pos (grid0.coords (⟨4, by decide⟩ : Fin grid0.N)) = 2 from by decide +kernel]⟩

theorem win_x (m : (ℓ : Loc nD τ sig) → Buf (Elt Ideal) ℓ) (hO : Ok m) (t : Fin grid0.N) : ((cfgM m hO).win 0).index t = ![t.val % 4, 0] :=
  (index_x (grid0.coords t)).trans (by rw [(coords_all t).2])

theorem win_w (m : (ℓ : Loc nD τ sig) → Buf (Elt Ideal) ℓ) (hO : Ok m) (t : Fin grid0.N) : ((cfgM m hO).win 1).index t = ![dev m t, 0, 0] :=
  index_w (tbl m) (grid0.coords t)

theorem win_out (m : (ℓ : Loc nD τ sig) → Buf (Elt Ideal) ℓ) (hO : Ok m) (t : Fin grid0.N) : ((cfgM m hO).win 2).index t = ![t.val % 4, dev m t] :=
  (index_out (tbl m) (grid0.coords t)).trans (by rw [(coords_all t).2])

theorem flush (m : (ℓ : Loc nD τ sig) → Buf (Elt Ideal) ℓ) (hO : Ok m) (t : Fin grid0.N) : ((cfgM m hO).win 2).flush t = true := by
  show (true && (decide (t.val + 1 = grid0.N) || decide (∃ h : t.val + 1 < grid0.N, ((cfgM m hO).win 2).index ⟨t.val + 1, h⟩ ≠ ((cfgM m hO).win 2).index t))) = true
  have ht : t.val < 8 := t.isLt
  rw [Bool.true_and, Bool.or_eq_true, decide_eq_true_eq, decide_eq_true_eq]
  by_cases h : t.val + 1 = 8
  · exact .inl h
  · refine .inr ⟨(by omega : t.val + 1 < 8), fun e => ?_⟩
    rw [win_out, win_out] at e
    have e0 : (t.val + 1) % 4 = t.val % 4 := congrFun e 0
    omega

theorem arr (m : (ℓ : Loc nD τ sig) → Buf (Elt Ideal) ℓ) (hO : Ok m) (ho : ∀ t, dev m t < 4) (c : Dev nD) (i : S2048x11776.Idx) : (dats m hO 0 c).arrAt 2 (cfgM m hO).N i
    = if ∃ t : Fin grid0.N, dev m t = (i 1).val / 2944 then
        Order.cols (m ((c : Thread nD τ).loc main_arg0)) (m ((c : Thread nD τ).loc main_arg1)) i
      else m ((c : Thread nD τ).loc main_arg4) i := by
  have hG : ∀ t, ((cfgM m hO).win 2).flush t = true → (dats m hO 0 c).flushed 2 t
      = (((cfgM m hO).win 2).blk t).view.read (Elt Ideal) (Order.cols (m ((c : Thread nD τ).loc main_arg0)) (m ((c : Thread nD τ).loc main_arg1))) := by
    refine fun t _ => funext fun (y : Ix 512 2944) => ?_
    have ht : t.val < 8 := t.isLt
    have hd := ho t
    obtain ⟨r, n, rfl⟩ : ∃ (r : Fin 512) (n : Fin 2944), y = ix2 r n := ⟨y 0, y 1, ValueIdx.eq_ix2 y⟩
    have ex := win_x m hO t
    have ew := win_w m hO t
    have e := win_out m hO t
    have b0 (k : Fin 2048) : iblk m hO c 0 t (ix2 r k) = m ((c : Thread nD τ).loc main_arg0) (ix2 ⟨t.val % 4 * 512 + r.val, by omega⟩ k) := by blk_ext [iblk, V, ex]
    have b1 (k : Fin 2048) : iblk m hO c 1 t (ix3 0 k n) = m ((c : Thread nD τ).loc main_arg1) (ix3 ⟨dev m t, hd⟩ k n) := by blk_ext [iblk, V, ew]
    refine Eq.trans ?_ (Order.cols_at _ _ _ ⟨t.val % 4 * 512 + r.val, by omega⟩ ⟨dev m t, hd⟩ n (by blk_simp [e]) (by blk_simp [e])).symm
    show (dats m hO 0 c).after 2 t (ix2 r n) = _
    rw [after0_2]
    unfold outsAt0
    refine (out_val _ _ _ _ _ _ _ _ _ _ _ _ _).trans (Finset.sum_congr rfl fun k _ => ?_)
    exact congrArg₂ (· * ·) (b0 k) (b1 k)
  have mem (t : Fin grid0.N) : i ∈ (((cfgM m hO).win 2).blk t).view.set ↔ t.val % 4 = (i 0).val / 512 ∧ dev m t = (i 1).val / 2944 := by
    have ht : t.val < 8 := t.isLt
    refine (((cfgM m hO).win 2).emb_mem_blk_iff t i rfl).trans ?_
    rw [win_out m hO t]
    refine ⟨fun h => ?_, fun h a => ?_⟩
    · have h0 : t.val % 4 * 512 ≤ (i 0).val ∧ (i 0).val < t.val % 4 * 512 + 512 := h (0 : Fin 2)
      have h1 : dev m t * 2944 ≤ (i 1).val ∧ (i 1).val < dev m t * 2944 + 2944 := h (1 : Fin 2)
      exact ⟨by omega, by omega⟩
    · have h0 := h.1
      have h1 := h.2
      fin_cases a
      · show t.val % 4 * 512 ≤ (i 0).val ∧ (i 0).val < t.val % 4 * 512 + 512
        omega
      · show dev m t * 2944 ≤ (i 1).val ∧ (i 1).val < dev m t * 2944 + 2944
        omega
  split
  · rename_i h
    obtain ⟨t, h⟩ := h
    have h0 : (i 0).val < 2048 := (i 0).isLt
    have ht : t.val < 8 := t.isLt
    have hs : t.val / 4 * 4 + (i 0).val / 512 < 8 := by omega
    refine (dats m hO 0 c).arrAt_apply_of_mem 2 _ hG _ (⟨t.val / 4 * 4 + (i 0).val / 512, hs⟩ : Fin grid0.N) i hs (flush m hO _) ((mem _).2 ⟨?_, ?_⟩)
    · show (t.val / 4 * 4 + (i 0).val / 512) % 4 = _
      omega
    · rw [← h]
      have : pos (grid0.coords (⟨t.val / 4 * 4 + (i 0).val / 512, hs⟩ : Fin grid0.N)) = pos (grid0.coords t) := Fin.ext (by
        show 1 + _ = 1 + _
        rw [(coords_all _).1, (coords_all _).1]
        show 1 + (t.val / 4 * 4 + (i 0).val / 512) / 4 = _
        omega)
      rw [dev, this]
  · rename_i h
    exact ((dats m hO 0 c).arrAt_apply_of_forall_not_mem 2 _ i fun t _ _ hi => h ⟨t, ((mem t).1 hi).2⟩).trans (congrFun ((A_eq m hO c 2).trans rfl) i)

end

section
open Cert.Reference25Ideal.Read

theorem ref (x : Ix 2048 2048 → EReal) (w : (⟨3, ![4, 2048, 2944]⟩ : Shape).Idx → EReal) (o : (⟨1, ![4]⟩ : Shape).Idx → BitVec 32) (p : Ix 2048 11776 → EReal) (r : Fin 2048) (n : Fin 11776) :
    val_main_v16 (F := Ideal) x w o p (ix2 r n)
      = if o (ix1 1) = BitVec.ofNat 32 (n.val / 2944) ∨ o (ix1 2) = BitVec.ofNat 32 (n.val / 2944) then Order.cols x w (ix2 r n) else p (ix2 r n) := by
  pointwise [val_main_v16, val_main_v15, val_main_call0_v0, val_main_v14, val_main_v13, val_main_v12, val_main_v11, val_main_v10, val_main_v9, val_main_v8, val_main_v7, val_main_v6, val_main_v5, val_main_v4, val_main_v3, val_main_v2, val_main_v1, val_main_v0]
  exact Order.select_or _ _ _ _ _

end

theorem algebraic : Cert.algebraic_Kernel25Ideal_Reference25Ideal (hKernel25Ideal := Cert.Kernel25Ideal.Gen.facts) (hReference25Ideal := Cert.Reference25Ideal.Gen.facts) (hPre_in_order := Cert.Pre_in_order.Gen.facts) := by
  intro m g m' g' hp e
  have hO := ok_ideal m hp
  have ho : ∀ j, BitVec.toNat (show BitVec 32 from Cert.Kernel25Ideal.Gen.tbl m 0 j) < 4 := Order.lt_of_pre _ _ _ _ _ (hp 0)
  refine ⟨fun c => (Cert.Kernel25Ideal.Gen.dats m hO 0 c).arrAt 2 (Cert.Kernel25Ideal.Gen.cfgM m hO).N,
    θ_run_and ((θ_run _ _ _).mono (fun r h c => (h c).1 2) (Cert.Kernel25Ideal.Gen.run_main m g hO)) (Cert.Kernel25Ideal.Gen.unchanged m g hO) |> fun h => (θ_run _ _ _).mono (fun r h c => ⟨h.1 c, h.2 c⟩) h,
    (θ_run _ _ _).mono (fun r h c => ⟨(h c).1.trans ((Cert.Reference25Ideal.Read.val_main_v16_eq _ _ _ _).trans (funext fun i => ?_)), (h c).2⟩)
      (Cert.Reference25Ideal.Value.run (F := Ideal) m' g')⟩
  obtain ⟨e0, e1, e2, e3, e4⟩ := e c
  rw [e0, e1, e2, e4]
  obtain rfl : c = 0 := Subsingleton.elim _ _
  refine ((congrArg _ (ValueIdx.eq_ix2 i)).trans (ref _ _ _ _ (i 0) (i 1))).trans (Eq.trans ?_ (arr m hO (fun t => ho _) 0 i).symm)
  have h1 : (i 1).val < 11776 := (i 1).isLt
  exact if_congr (named m ((i 1).val / 2944) (by omega)).symm (congrArg (Order.cols _ _) (ValueIdx.eq_ix2 i).symm) (congrArg _ (ValueIdx.eq_ix2 i).symm)

theorem frame_ref : Cert.quiescent_Reference25Ideal (hReference25Ideal := Cert.Reference25Ideal.Gen.facts) := fun m g _ =>
  (θ_run Cert.Reference25Ideal.defs _ _).mono (fun r h => ⟨fun c => (h c).2, sem_eq_zero_of_no_sems (by decide) r.2⟩)
    (Cert.Reference25Ideal.Value.run (F := Ideal) m g)

theorem frame_kernel : Cert.quiescent_Kernel25 (hKernel25 := Cert.Kernel25.Gen.facts) (hPre_in_order := Cert.Pre_in_order.Gen.facts) :=
  fun m g h => Cert.Kernel25.Gen.frame m g (ok m h)

theorem frame_ideal : Cert.quiescent_Kernel25Ideal (hKernel25Ideal := Cert.Kernel25Ideal.Gen.facts) (hPre_in_order := Cert.Pre_in_order.Gen.facts) :=
  fun m g h => Cert.Kernel25Ideal.Gen.frame m g (ok_ideal m h)

end Near

namespace Diag

section
open Cert.Kernel26Ideal Cert.Kernel26Ideal.Gen

/-- The entry of the order that a grid point reads. -/
abbrev pos (i : grid0.Coords) : Fin 4 := ⟨3 + (i 0).val, by have : (i 0).val < 1 := (i 0).isLt; omega⟩

theorem at_pos {α : Type} (o : S4.Idx → α) (i : grid0.Coords) :
    o ((Rect.unit (s := S4) ![(Scalar.indexCast (Scalar.addi (3#32) (BitVec.ofNat 32 (i 0).val))).toNat] S1.size (k0_off1_inb i)).emb
      (Shape.Idx.first (numel1_S1.symm ▸ Nat.one_pos))) = o (ix1 (pos i)) := by
  congr 1
  funext a
  fin_cases a
  apply Fin.ext
  revert i
  decide +kernel

theorem index_x : ∀ i : grid0.Coords, cc0_transform_0 i = ![(i 1).val, 0] := by decide +kernel

variable {F : FTy → Type} [FloatOps F]

theorem index_w (pf : pre0.Contents (Elt F)) (i : grid0.Coords) : cc0_transform_1 k0_off1_inb numel1_S1 pf i
    = ![(show BitVec 32 from pf 0 (ix1 (pos i))).toNat, 0, 0] :=
  congrArg (fun v : BitVec 32 => ![v.toNat, 0, 0]) (at_pos (fun j => (pf 0 j : BitVec 32)) i)

theorem index_out (pf : pre0.Contents (Elt F)) (i : grid0.Coords) : cc0_transform_4 k0_off1_inb numel1_S1 pf i
    = ![(i 1).val, (show BitVec 32 from pf 0 (ix1 (pos i))).toNat] := by
  have e : (BitVec.ofNat 32 (i 1).val).toNat = (i 1).val := by revert i; decide +kernel
  exact (congrArg (fun v : BitVec 32 => ![(BitVec.ofNat 32 (i 1).val).toNat, v.toNat]) (at_pos (fun j => (pf 0 j : BitVec 32)) i)).trans (by rw [e])

theorem ok_of_lt (pf : pre0.Contents (Elt F)) (h : ∀ j, (show BitVec 32 from pf 0 j).toNat < 4) : ok0 pf := by
  refine ⟨fun i => ?_, fun i => ?_⟩
  · rw [index_w]
    exact Order.whole_words ⟨_, h _⟩
  · rw [index_out]
    refine ⟨fun a => ?_, .inl rfl⟩
    have h0 : (i 1).val < 4 := (i 1).isLt
    have h1 := h (ix1 (pos i))
    fin_cases a
    · show ((i 1).val + 1) * 512 ≤ 2048
      omega
    · show (BitVec.toNat _ + 1) * 2944 ≤ 11776
      omega

end

theorem ok (m : (ℓ : Loc Kernel26.nD Kernel26.τ Kernel26.sig) → Buf (Elt Bits) ℓ) (h : Cert.Pre_Kernel26 (hPre_in_order := Cert.Pre_in_order.Gen.facts) m) : Cert.Kernel26.Gen.Ok (F := Bits) m :=
  ok_of_lt (F := Bits) (Cert.Kernel26.Gen.tbl m) (Order.lt_of_pre _ _ _ _ _ (h 0))

theorem ok_ideal (m : (ℓ : Loc Kernel26Ideal.nD Kernel26Ideal.τ Kernel26Ideal.sig) → Buf (Elt Ideal) ℓ) (h : Cert.Pre_Kernel26Ideal (hPre_in_order := Cert.Pre_in_order.Gen.facts) m) : Cert.Kernel26Ideal.Gen.Ok (F := Ideal) m :=
  ok_of_lt (F := Ideal) (Cert.Kernel26Ideal.Gen.tbl m) (Order.lt_of_pre _ _ _ _ _ (h 0))

section
open Cert.Kernel26Ideal Cert.Kernel26Ideal.Gen

theorem out_val (c : Dev nD) (i : grid0.Coords) (arg3 : Memref sig .tc .vmem S512x2048 .bf16) (harg3 : arg3.IsWhole) (arg4 : Memref sig .tc .vmem S1x2048x2944 .bf16) (harg4 : arg4.IsWhole) (arg7 : Memref sig .tc .vmem S512x2944 .f32) (harg7 : arg7.IsWhole)
    (x : Vec Ideal S512x2048 .bf16) (w : Vec Ideal S1x2048x2944 .bf16) (o) (r : Fin 512) (n : Fin 2944) :
    out0_A_2 c i arg3 harg3 arg4 harg4 arg7 harg7 x w o (ix2 r n) = ∑ k : Fin 2048, x (ix2 r k) * w (ix3 0 k n) := by
  frame_out
  pointwise [k0_pay1]

theorem coords_all : ∀ t : Fin grid0.N, ((grid0.coords t) 0).val = t.val / 4 ∧ ((grid0.coords t) 1).val = t.val % 4 := by decide +kernel

/-- The device whose columns a grid point writes. -/
abbrev dev (m : (ℓ : Loc nD τ sig) → Buf (Elt Ideal) ℓ) (t : Fin grid0.N) : ℕ := BitVec.toNat (show BitVec 32 from tbl m 0 (ix1 (pos (grid0.coords t))))

/-- The order, as the region finds it. -/
abbrev order (m : (ℓ : Loc nD τ sig) → Buf (Elt Ideal) ℓ) : S4.Idx → BitVec 32 := m (((0 : Dev nD) : Thread nD τ).loc main_arg2)

theorem dev_eq (m : (ℓ : Loc nD τ sig) → Buf (Elt Ideal) ℓ) (t : Fin grid0.N) : dev m t = (order m (ix1 (pos (grid0.coords t)))).toNat :=
  congrArg BitVec.toNat (congrFun (V_main_arg2 m 0) (ix1 (pos (grid0.coords t))))

theorem named (m : (ℓ : Loc nD τ sig) → Buf (Elt Ideal) ℓ) (q : ℕ) (hq : q < 4) : (∃ t, dev m t = q) ↔ order m (ix1 3) = BitVec.ofNat 32 q := by
  rw [← Order.toNat_iff _ q hq]
  have hp := (show ∀ t : Fin grid0.N, pos (grid0.coords t) = 3 from by decide +kernel)
  refine ⟨fun ⟨t, h⟩ => ?_, fun h => ⟨(⟨0, by decide⟩ : Fin grid0.N), ?_⟩⟩
  · rw [← h, dev_eq, hp]
  · rw [dev_eq, ← h, hp]

theorem win_x (m : (ℓ : Loc nD τ sig) → Buf (Elt Ideal) ℓ) (hO : Ok m) (t : Fin grid0.N) : ((cfgM m hO).win 0).index t = ![t.val % 4, 0] :=
  (index_x (grid0.coords t)).trans (by rw [(coords_all t).2])

theorem win_w (m : (ℓ : Loc nD τ sig) → Buf (Elt Ideal) ℓ) (hO : Ok m) (t : Fin grid0.N) : ((cfgM m hO).win 1).index t = ![dev m t, 0, 0] :=
  index_w (tbl m) (grid0.coords t)

theorem win_out (m : (ℓ : Loc nD τ sig) → Buf (Elt Ideal) ℓ) (hO : Ok m) (t : Fin grid0.N) : ((cfgM m hO).win 2).index t = ![t.val % 4, dev m t] :=
  (index_out (tbl m) (grid0.coords t)).trans (by rw [(coords_all t).2])

theorem flush (m : (ℓ : Loc nD τ sig) → Buf (Elt Ideal) ℓ) (hO : Ok m) (t : Fin grid0.N) : ((cfgM m hO).win 2).flush t = true := by
  show (true && (decide (t.val + 1 = grid0.N) || decide (∃ h : t.val + 1 < grid0.N, ((cfgM m hO).win 2).index ⟨t.val + 1, h⟩ ≠ ((cfgM m hO).win 2).index t))) = true
  have ht : t.val < 4 := t.isLt
  rw [Bool.true_and, Bool.or_eq_true, decide_eq_true_eq, decide_eq_true_eq]
  by_cases h : t.val + 1 = 4
  · exact .inl h
  · refine .inr ⟨(by omega : t.val + 1 < 4), fun e => ?_⟩
    rw [win_out, win_out] at e
    have e0 : (t.val + 1) % 4 = t.val % 4 := congrFun e 0
    omega

theorem arr (m : (ℓ : Loc nD τ sig) → Buf (Elt Ideal) ℓ) (hO : Ok m) (ho : ∀ t, dev m t < 4) (c : Dev nD) (i : S2048x11776.Idx) : (dats m hO 0 c).arrAt 2 (cfgM m hO).N i
    = if ∃ t : Fin grid0.N, dev m t = (i 1).val / 2944 then
        Order.cols (m ((c : Thread nD τ).loc main_arg0)) (m ((c : Thread nD τ).loc main_arg1)) i
      else m ((c : Thread nD τ).loc main_arg4) i := by
  have hG : ∀ t, ((cfgM m hO).win 2).flush t = true → (dats m hO 0 c).flushed 2 t
      = (((cfgM m hO).win 2).blk t).view.read (Elt Ideal) (Order.cols (m ((c : Thread nD τ).loc main_arg0)) (m ((c : Thread nD τ).loc main_arg1))) := by
    refine fun t _ => funext fun (y : Ix 512 2944) => ?_
    have ht : t.val < 4 := t.isLt
    have hd := ho t
    obtain ⟨r, n, rfl⟩ : ∃ (r : Fin 512) (n : Fin 2944), y = ix2 r n := ⟨y 0, y 1, ValueIdx.eq_ix2 y⟩
    have ex := win_x m hO t
    have ew := win_w m hO t
    have e := win_out m hO t
    have b0 (k : Fin 2048) : iblk m hO c 0 t (ix2 r k) = m ((c : Thread nD τ).loc main_arg0) (ix2 ⟨t.val % 4 * 512 + r.val, by omega⟩ k) := by blk_ext [iblk, V, ex]
    have b1 (k : Fin 2048) : iblk m hO c 1 t (ix3 0 k n) = m ((c : Thread nD τ).loc main_arg1) (ix3 ⟨dev m t, hd⟩ k n) := by blk_ext [iblk, V, ew]
    refine Eq.trans ?_ (Order.cols_at _ _ _ ⟨t.val % 4 * 512 + r.val, by omega⟩ ⟨dev m t, hd⟩ n (by blk_simp [e]) (by blk_simp [e])).symm
    show (dats m hO 0 c).after 2 t (ix2 r n) = _
    rw [after0_2]
    unfold outsAt0
    refine (out_val _ _ _ _ _ _ _ _ _ _ _ _ _).trans (Finset.sum_congr rfl fun k _ => ?_)
    exact congrArg₂ (· * ·) (b0 k) (b1 k)
  have mem (t : Fin grid0.N) : i ∈ (((cfgM m hO).win 2).blk t).view.set ↔ t.val % 4 = (i 0).val / 512 ∧ dev m t = (i 1).val / 2944 := by
    have ht : t.val < 4 := t.isLt
    refine (((cfgM m hO).win 2).emb_mem_blk_iff t i rfl).trans ?_
    rw [win_out m hO t]
    refine ⟨fun h => ?_, fun h a => ?_⟩
    · have h0 : t.val % 4 * 512 ≤ (i 0).val ∧ (i 0).val < t.val % 4 * 512 + 512 := h (0 : Fin 2)
      have h1 : dev m t * 2944 ≤ (i 1).val ∧ (i 1).val < dev m t * 2944 + 2944 := h (1 : Fin 2)
      exact ⟨by omega, by omega⟩
    · have h0 := h.1
      have h1 := h.2
      fin_cases a
      · show t.val % 4 * 512 ≤ (i 0).val ∧ (i 0).val < t.val % 4 * 512 + 512
        omega
      · show dev m t * 2944 ≤ (i 1).val ∧ (i 1).val < dev m t * 2944 + 2944
        omega
  split
  · rename_i h
    obtain ⟨t, h⟩ := h
    have h0 : (i 0).val < 2048 := (i 0).isLt
    have ht : t.val < 4 := t.isLt
    have hs : t.val / 4 * 4 + (i 0).val / 512 < 4 := by omega
    refine (dats m hO 0 c).arrAt_apply_of_mem 2 _ hG _ (⟨t.val / 4 * 4 + (i 0).val / 512, hs⟩ : Fin grid0.N) i hs (flush m hO _) ((mem _).2 ⟨?_, ?_⟩)
    · show (t.val / 4 * 4 + (i 0).val / 512) % 4 = _
      omega
    · rw [← h]
      have : pos (grid0.coords (⟨t.val / 4 * 4 + (i 0).val / 512, hs⟩ : Fin grid0.N)) = pos (grid0.coords t) := Fin.ext (by
        show 3 + _ = 3 + _
        rw [(coords_all _).1, (coords_all _).1]
        show 3 + (t.val / 4 * 4 + (i 0).val / 512) / 4 = _
        omega)
      rw [dev, this]
  · rename_i h
    exact ((dats m hO 0 c).arrAt_apply_of_forall_not_mem 2 _ i fun t _ _ hi => h ⟨t, ((mem t).1 hi).2⟩).trans (congrFun ((A_eq m hO c 2).trans rfl) i)

end

section
open Cert.Reference26Ideal.Read

theorem ref (x : Ix 2048 2048 → EReal) (w : (⟨3, ![4, 2048, 2944]⟩ : Shape).Idx → EReal) (o : (⟨1, ![4]⟩ : Shape).Idx → BitVec 32) (p : Ix 2048 11776 → EReal) (r : Fin 2048) (n : Fin 11776) :
    val_main_v11 (F := Ideal) x w o p (ix2 r n)
      = if o (ix1 3) = BitVec.ofNat 32 (n.val / 2944) then Order.cols x w (ix2 r n) else p (ix2 r n) := by
  pointwise [val_main_v11, val_main_v10, val_main_call0_v0, val_main_v9, val_main_v8, val_main_v7, val_main_v6, val_main_v5, val_main_v4, val_main_v3, val_main_v2, val_main_v1, val_main_v0]
  exact Order.select_eq _ _ _ _

end

theorem algebraic : Cert.algebraic_Kernel26Ideal_Reference26Ideal (hKernel26Ideal := Cert.Kernel26Ideal.Gen.facts) (hReference26Ideal := Cert.Reference26Ideal.Gen.facts) (hPre_in_order := Cert.Pre_in_order.Gen.facts) := by
  intro m g m' g' hp e
  have hO := ok_ideal m hp
  have ho : ∀ j, BitVec.toNat (show BitVec 32 from Cert.Kernel26Ideal.Gen.tbl m 0 j) < 4 := Order.lt_of_pre _ _ _ _ _ (hp 0)
  refine ⟨fun c => (Cert.Kernel26Ideal.Gen.dats m hO 0 c).arrAt 2 (Cert.Kernel26Ideal.Gen.cfgM m hO).N,
    θ_run_and ((θ_run _ _ _).mono (fun r h c => (h c).1 2) (Cert.Kernel26Ideal.Gen.run_main m g hO)) (Cert.Kernel26Ideal.Gen.unchanged m g hO) |> fun h => (θ_run _ _ _).mono (fun r h c => ⟨h.1 c, h.2 c⟩) h,
    (θ_run _ _ _).mono (fun r h c => ⟨(h c).1.trans ((Cert.Reference26Ideal.Read.val_main_v11_eq _ _ _ _).trans (funext fun i => ?_)), (h c).2⟩)
      (Cert.Reference26Ideal.Value.run (F := Ideal) m' g')⟩
  obtain ⟨e0, e1, e2, e3, e4⟩ := e c
  rw [e0, e1, e2, e4]
  obtain rfl : c = 0 := Subsingleton.elim _ _
  refine ((congrArg _ (ValueIdx.eq_ix2 i)).trans (ref _ _ _ _ (i 0) (i 1))).trans (Eq.trans ?_ (arr m hO (fun t => ho _) 0 i).symm)
  have h1 : (i 1).val < 11776 := (i 1).isLt
  exact if_congr (named m ((i 1).val / 2944) (by omega)).symm (congrArg (Order.cols _ _) (ValueIdx.eq_ix2 i).symm) (congrArg _ (ValueIdx.eq_ix2 i).symm)

theorem frame_ref : Cert.quiescent_Reference26Ideal (hReference26Ideal := Cert.Reference26Ideal.Gen.facts) := fun m g _ =>
  (θ_run Cert.Reference26Ideal.defs _ _).mono (fun r h => ⟨fun c => (h c).2, sem_eq_zero_of_no_sems (by decide) r.2⟩)
    (Cert.Reference26Ideal.Value.run (F := Ideal) m g)

theorem frame_kernel : Cert.quiescent_Kernel26 (hKernel26 := Cert.Kernel26.Gen.facts) (hPre_in_order := Cert.Pre_in_order.Gen.facts) :=
  fun m g h => Cert.Kernel26.Gen.frame m g (ok m h)

theorem frame_ideal : Cert.quiescent_Kernel26Ideal (hKernel26Ideal := Cert.Kernel26Ideal.Gen.facts) (hPre_in_order := Cert.Pre_in_order.Gen.facts) :=
  fun m g h => Cert.Kernel26Ideal.Gen.frame m g (ok_ideal m h)

end Diag

end Cert

end
-- ==== Proof.Gate.lean ====
/-
  The gated merge of the two mixers and its gradient: five results tile by tile and the bias's, summed over the rows.
-/
module

public import proofs.«01_k».proof.Defs
public import proofs.«01_k».proof.Proof.Prod
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28Ideal.Value
public import proofs.«01_k».proof.Proof.Gen.Reference28Ideal.Run
public import proofs.«01_k».proof.Proof.Gen.Reference28Ideal.Read
public import Idealize.ShloMosaic.Lib.Claim
public import Idealize.ShloMosaic.Lib.Pointwise
public import Idealize.ShloMosaic.Lib.Pipeline.Quiescent
public import Idealize.ShloMosaic.Lib.Pipeline.ValueKit.Point
public import Idealize.ShloMosaic.Lib.Pipeline.ValueKit.Acc
public import Idealize.ShloMosaic.Lib.Pipeline.ReadBack

@[expose] public section

set_option maxRecDepth 16384

noncomputable section

namespace Cert

open Idealize.ShloMosaic Idealize.SL.Sem Idealize.ShloMosaic.StableHlo
open Idealize.ShloMosaic.TcCoe
open Cert.Prod

/-! ### The gates and the gradient's entries -/

namespace Gates

/-- The logistic of a sum. -/
def lg (x y : EReal) : EReal := Ideal.logistic (x + y)

/-- A gate: the logistic of an entry of the projection and one of the bias. -/
def gate (p : Ix 2048 11776 → EReal) (b : Ix 1 4096 → EReal) (r : Fin 2048) (j : Fin 11776) (k : Fin 4096) : EReal :=
  lg (p (ix2 r j)) (b (ix2 0 k))

/-- The gate of the attention at a row and a column, -/
def gateA (p : Ix 2048 11776 → EReal) (b : Ix 1 4096 → EReal) (r n : Fin 2048) : EReal := gate p b r ⟨7680 + n.val, by omega⟩ ⟨n.val, by omega⟩

/-- and that of the recurrence. -/
def gateR (p : Ix 2048 11776 → EReal) (b : Ix 1 4096 → EReal) (r n : Fin 2048) : EReal := gate p b r ⟨9728 + n.val, by omega⟩ ⟨2048 + n.val, by omega⟩

/-- The gradient in a gate's argument: the cotangent times the mixer's entry times the slope of the logistic. -/
def slope (d y g : EReal) : EReal := d * y * g * (1 - g)

/-- The gradient in a mixer's entry. -/
def pass (d g : EReal) : EReal := d * g

/-- The sum over the rows. -/
def rows (f : Fin 2048 → EReal) : EReal := ∑ k : Fin 2048, f k

/-- The merge of two entries. -/
def join (g y h z : EReal) : EReal := g * y + h * z

end Gates

open Cert.Gates

/-! ### The gradient -/

namespace Merge

section
open Cert.Kernel27Ideal Cert.Kernel27Ideal.Gen

variable (m : (ℓ : Loc nD τ sig) → Buf (Elt Ideal) ℓ) (c : Dev nD)

theorem tiles (t : Fin cfg0.N) :
    (outsAt0 m c t.val t.isLt).1 = k0_pay8 (iblk m c 0 t) (iblk m c 2 t) (iblk m c 6 t)
    ∧ (outsAt0 m c t.val t.isLt).2.1 = k0_pay9 (iblk m c 1 t) (iblk m c 3 t) (iblk m c 6 t)
    ∧ (outsAt0 m c t.val t.isLt).2.2.1 = k0_pay12 (iblk m c 0 t) (iblk m c 2 t) (iblk m c 6 t) (iblk m c 4 t)
    ∧ (outsAt0 m c t.val t.isLt).2.2.2.1 = k0_pay1 (k0_pay11 (iblk m c 1 t) (iblk m c 3 t) (iblk m c 6 t) (iblk m c 5 t)) := by
  by_cases h : t.val % 8 = 0
  · rw [outsAt0_A m c t h]
    dsimp only
    refine ⟨?_, ?_, ?_, ?_⟩ <;> frame_out
  · rw [outsAt0_B m c t h]
    dsimp only
    refine ⟨?_, ?_, ?_, ?_⟩ <;> frame_out

/-- What the bias's rows hold after the first point of a column of tiles, -/
theorem carry_first (t : Fin cfg0.N) (h : t.val % 8 = 0) :
    (outsAt0 m c t.val t.isLt).2.2.2.2.1 = k0_pay2 (k0_pay10 (iblk m c 0 t) (iblk m c 2 t) (iblk m c 6 t) (iblk m c 4 t)) (k0_pay4 (F := Ideal))
    ∧ (outsAt0 m c t.val t.isLt).2.2.2.2.2 = k0_pay3 (k0_pay11 (iblk m c 1 t) (iblk m c 3 t) (iblk m c 6 t) (iblk m c 5 t)) (k0_pay5 (F := Ideal)) := by
  rw [outsAt0_A m c t h]
  dsimp only
  refine ⟨?_, ?_⟩ <;> frame_out

/-- and after every further one. -/
theorem carry_next (t : Fin cfg0.N) (h : ¬t.val % 8 = 0) :
    (outsAt0 m c t.val t.isLt).2.2.2.2.1 = k0_pay2 (k0_pay10 (iblk m c 0 t) (iblk m c 2 t) (iblk m c 6 t) (iblk m c 4 t))
        (outsAt0 m c (t.val - 1) (Nat.lt_of_le_of_lt (Nat.sub_le _ _) t.isLt)).2.2.2.2.1
    ∧ (outsAt0 m c t.val t.isLt).2.2.2.2.2 = k0_pay3 (k0_pay11 (iblk m c 1 t) (iblk m c 3 t) (iblk m c 6 t) (iblk m c 5 t))
        (outsAt0 m c (t.val - 1) (Nat.lt_of_le_of_lt (Nat.sub_le _ _) t.isLt)).2.2.2.2.2 := by
  rw [outsAt0_B m c t h]
  dsimp only
  refine ⟨?_, ?_⟩ <;> frame_out

theorem gateA_val (p : Vec Ideal S256x512 .f32) (b : Vec Ideal S1x512 .f32) (r : Fin 256) (n : Fin 512) :
    k0_pay6 p b (ix2 r n) = lg (p (ix2 r n)) (b (ix2 0 n)) := by
  pointwise [k0_pay6]
  rfl

theorem gateR_val (p : Vec Ideal S256x512 .f32) (b : Vec Ideal S1x512 .f32) (r : Fin 256) (n : Fin 512) :
    k0_pay7 p b (ix2 r n) = lg (p (ix2 r n)) (b (ix2 0 n)) := by
  pointwise [k0_pay7]
  rfl

theorem slopeA_val (p : Vec Ideal S256x512 .f32) (b : Vec Ideal S1x512 .f32) (d y : Vec Ideal S256x512 .f32) (r : Fin 256) (n : Fin 512) :
    k0_pay10 p b d y (ix2 r n) = slope (d (ix2 r n)) (y (ix2 r n)) (lg (p (ix2 r n)) (b (ix2 0 n))) := by
  rw [← gateA_val]
  pointwise [k0_pay10]
  rfl

theorem slopeR_val (p : Vec Ideal S256x512 .f32) (b : Vec Ideal S1x512 .f32) (d y : Vec Ideal S256x512 .f32) (r : Fin 256) (n : Fin 512) :
    k0_pay11 p b d y (ix2 r n) = slope (d (ix2 r n)) (y (ix2 r n)) (lg (p (ix2 r n)) (b (ix2 0 n))) := by
  rw [← gateR_val]
  pointwise [k0_pay11]
  rfl

theorem addA_val (v : Vec Ideal S256x512 .f32) (a : Vec Ideal S1x512 .f32) (n : Fin 512) :
    k0_pay2 v a (ix2 0 n) = a (ix2 0 n) + ∑ r : Fin 256, v (ix2 r n) := by
  pointwise [k0_pay2]

theorem addR_val (v : Vec Ideal S256x512 .f32) (a : Vec Ideal S1x512 .f32) (n : Fin 512) :
    k0_pay3 v a (ix2 0 n) = a (ix2 0 n) + ∑ r : Fin 256, v (ix2 r n) := by
  pointwise [k0_pay3]

theorem zero_val (n : Fin 512) : k0_pay4 (F := Ideal) (ix2 0 n) = 0 ∧ k0_pay5 (F := Ideal) (ix2 0 n) = 0 := by
  constructor
  · pointwise [k0_pay4]
  · pointwise [k0_pay5]

/-- The sum over a column of tiles, when its last row of tiles has been added. -/
theorem totalA (t : Fin cfg0.N) (h : t.val % 8 = 7) (n : Fin 512) : (outsAt0 m c t.val t.isLt).2.2.2.2.1 (ix2 0 n)
    = ∑ s : Fin 8, ∑ r : Fin 256, k0_pay10 (iblk m c 0 ⟨8 * (t.val / 8) + s.val, Pipeline.run_point_lt_of_flush t h s⟩)
        (iblk m c 2 ⟨8 * (t.val / 8) + s.val, Pipeline.run_point_lt_of_flush t h s⟩)
        (iblk m c 6 ⟨8 * (t.val / 8) + s.val, Pipeline.run_point_lt_of_flush t h s⟩)
        (iblk m c 4 ⟨8 * (t.val / 8) + s.val, Pipeline.run_point_lt_of_flush t h s⟩) (ix2 r n) := by
  have q := Pipeline.eq_sum_fin_of_reset_step_apply_of_flush (fun k hk (i : Fin 512) => (outsAt0 m c k hk).2.2.2.2.1 (ix2 0 i)) 8
    (fun _ => (0 : EReal)) (fun u i => ∑ r : Fin 256, k0_pay10 (iblk m c 0 u) (iblk m c 2 u) (iblk m c 6 u) (iblk m c 4 u) (ix2 r i))
    (fun u hu i => by rw [(carry_first m c u hu).1, addA_val, (zero_val i).1])
    (fun u hu i => by rw [(carry_next m c u hu).1, addA_val]) t h n
  rw [zero_add] at q
  exact q

/-- The sum over a column of tiles, when its last row of tiles has been added. -/
theorem totalR (t : Fin cfg0.N) (h : t.val % 8 = 7) (n : Fin 512) : (outsAt0 m c t.val t.isLt).2.2.2.2.2 (ix2 0 n)
    = ∑ s : Fin 8, ∑ r : Fin 256, k0_pay11 (iblk m c 1 ⟨8 * (t.val / 8) + s.val, Pipeline.run_point_lt_of_flush t h s⟩)
        (iblk m c 3 ⟨8 * (t.val / 8) + s.val, Pipeline.run_point_lt_of_flush t h s⟩)
        (iblk m c 6 ⟨8 * (t.val / 8) + s.val, Pipeline.run_point_lt_of_flush t h s⟩)
        (iblk m c 5 ⟨8 * (t.val / 8) + s.val, Pipeline.run_point_lt_of_flush t h s⟩) (ix2 r n) := by
  have q := Pipeline.eq_sum_fin_of_reset_step_apply_of_flush (fun k hk (i : Fin 512) => (outsAt0 m c k hk).2.2.2.2.2 (ix2 0 i)) 8
    (fun _ => (0 : EReal)) (fun u i => ∑ r : Fin 256, k0_pay11 (iblk m c 1 u) (iblk m c 3 u) (iblk m c 6 u) (iblk m c 5 u) (ix2 r i))
    (fun u hu i => by rw [(carry_first m c u hu).2, addR_val, (zero_val i).2])
    (fun u hu i => by rw [(carry_next m c u hu).2, addR_val]) t h n
  rw [zero_add] at q
  exact q

theorem index_all : ∀ t : Fin cfg0.N, win0_0.index t = ![t.val % 8, 15 + t.val / 8] ∧ win0_1.index t = ![t.val % 8, 19 + t.val / 8]
    ∧ win0_2.index t = ![0, t.val / 8] ∧ win0_3.index t = ![0, 4 + t.val / 8] ∧ win0_4.index t = ![t.val % 8, t.val / 8]
    ∧ win0_5.index t = ![t.val % 8, t.val / 8] ∧ win0_6.index t = ![t.val % 8, t.val / 8] := by
  decide +kernel

theorem index_out : ∀ t : Fin cfg0.N, win0_7.index t = ![t.val % 8, t.val / 8] ∧ win0_8.index t = ![t.val % 8, t.val / 8]
    ∧ win0_9.index t = ![t.val % 8, t.val / 8] ∧ win0_10.index t = ![t.val % 8, t.val / 8]
    ∧ win0_11.index t = ![0, t.val / 8] ∧ win0_12.index t = ![0, t.val / 8] := by
  decide +kernel

/-- The row and the column of the result that an entry of a point's tile is. -/
def row (u : Fin cfg0.N) (r : Fin 256) : Fin 2048 := ⟨u.val % 8 * 256 + r.val, by omega⟩

def col (u : Fin cfg0.N) (n : Fin 512) : Fin 2048 := ⟨u.val / 8 * 512 + n.val, by have := lt_of_lt_of_eq u.isLt N_0; omega⟩

theorem blkA (u : Fin cfg0.N) (r : Fin 256) (n : Fin 512) : lg (iblk m c 0 u (ix2 r n)) (iblk m c 2 u (ix2 0 n))
    = gateA (m ((c : Thread nD τ).loc main_arg0)) (m ((c : Thread nD τ).loc main_arg1)) (row u r) (col u n) := by
  obtain ⟨e0, e1, e2, e3, e4, e5, e6⟩ := index_all u
  have hu : u.val < 32 := lt_of_lt_of_eq u.isLt N_0
  have p : iblk m c 0 u (ix2 r n) = m ((c : Thread nD τ).loc main_arg0) (ix2 ⟨u.val % 8 * 256 + r.val, by omega⟩ ⟨7680 + (u.val / 8 * 512 + n.val), by omega⟩) := by
    blk_ext [iblk, V, e0]
  have b : iblk m c 2 u (ix2 0 n) = m ((c : Thread nD τ).loc main_arg1) (ix2 0 ⟨u.val / 8 * 512 + n.val, by omega⟩) := by
    blk_ext [iblk, V, e2]
  rw [p, b]
  rfl

theorem blkR (u : Fin cfg0.N) (r : Fin 256) (n : Fin 512) : lg (iblk m c 1 u (ix2 r n)) (iblk m c 3 u (ix2 0 n))
    = gateR (m ((c : Thread nD τ).loc main_arg0)) (m ((c : Thread nD τ).loc main_arg1)) (row u r) (col u n) := by
  obtain ⟨e0, e1, e2, e3, e4, e5, e6⟩ := index_all u
  have hu : u.val < 32 := lt_of_lt_of_eq u.isLt N_0
  have p : iblk m c 1 u (ix2 r n) = m ((c : Thread nD τ).loc main_arg0) (ix2 ⟨u.val % 8 * 256 + r.val, by omega⟩ ⟨9728 + (u.val / 8 * 512 + n.val), by omega⟩) := by
    blk_ext [iblk, V, e1]
  have b : iblk m c 3 u (ix2 0 n) = m ((c : Thread nD τ).loc main_arg1) (ix2 0 ⟨2048 + (u.val / 8 * 512 + n.val), by omega⟩) := by
    blk_ext [iblk, V, e3]
  rw [p, b]
  rfl

theorem blkY (u : Fin cfg0.N) (r : Fin 256) (n : Fin 512) :
    iblk m c 4 u (ix2 r n) = m ((c : Thread nD τ).loc main_arg2) (ix2 (row u r) (col u n))
    ∧ iblk m c 5 u (ix2 r n) = m ((c : Thread nD τ).loc main_arg3) (ix2 (row u r) (col u n))
    ∧ iblk m c 6 u (ix2 r n) = m ((c : Thread nD τ).loc main_arg4) (ix2 (row u r) (col u n)) := by
  obtain ⟨e0, e1, e2, e3, e4, e5, e6⟩ := index_all u
  refine ⟨?_, ?_, ?_⟩
  · blk_ext [iblk, V, e4, row, col]
  · blk_ext [iblk, V, e5, row, col]
  · blk_ext [iblk, V, e6, row, col]

theorem slopeA (u : Fin cfg0.N) (r : Fin 256) (n : Fin 512) :
    k0_pay10 (iblk m c 0 u) (iblk m c 2 u) (iblk m c 6 u) (iblk m c 4 u) (ix2 r n)
      = slope (m ((c : Thread nD τ).loc main_arg4) (ix2 (row u r) (col u n))) (m ((c : Thread nD τ).loc main_arg2) (ix2 (row u r) (col u n)))
          (gateA (m ((c : Thread nD τ).loc main_arg0)) (m ((c : Thread nD τ).loc main_arg1)) (row u r) (col u n)) := by
  rw [slopeA_val, blkA, (blkY m c u r n).2.2, (blkY m c u r n).1]

theorem slopeR (u : Fin cfg0.N) (r : Fin 256) (n : Fin 512) :
    k0_pay11 (iblk m c 1 u) (iblk m c 3 u) (iblk m c 6 u) (iblk m c 5 u) (ix2 r n)
      = slope (m ((c : Thread nD τ).loc main_arg4) (ix2 (row u r) (col u n))) (m ((c : Thread nD τ).loc main_arg3) (ix2 (row u r) (col u n)))
          (gateR (m ((c : Thread nD τ).loc main_arg0)) (m ((c : Thread nD τ).loc main_arg1)) (row u r) (col u n)) := by
  rw [slopeR_val, blkR, (blkY m c u r n).2.2, (blkY m c u r n).2.1]

theorem arr7 : (dats m 0 c).arrAt 7 cfg0.N = fun i : S2048x2048.Idx => pass (m ((c : Thread nD τ).loc main_arg4) (ix2 (i 0) (i 1))) (gateA (m ((c : Thread nD τ).loc main_arg0)) (m ((c : Thread nD τ).loc main_arg1)) (i 0) (i 1)) := by
  refine (dats m 0 c).arrAt_eq_of_covers 7 _ (by decide +kernel) fun t _ y => ?_
  obtain ⟨e7, e8, e9, e10, e11, e12⟩ := index_out t
  obtain ⟨r, n, rfl⟩ : ∃ (r : Fin 256) (n : Fin 512), y = ix2 r n := ⟨y 0, y 1, ValueIdx.eq_ix2 y⟩
  have e0 : (win0_7.blk t).view.emb (ix2 r n) 0 = row t r := Fin.ext (by blk_simp [e7, row])
  have e1 : (win0_7.blk t).view.emb (ix2 r n) 1 = col t n := Fin.ext (by blk_simp [e7, col])
  blk_simp [e7]
  rw [after0_7, e0, e1, (tiles m c t).1, ← blkA, ← (blkY m c t r n).2.2, ← gateA_val]
  rfl

theorem arr8 : (dats m 0 c).arrAt 8 cfg0.N = fun i : S2048x2048.Idx => pass (m ((c : Thread nD τ).loc main_arg4) (ix2 (i 0) (i 1))) (gateR (m ((c : Thread nD τ).loc main_arg0)) (m ((c : Thread nD τ).loc main_arg1)) (i 0) (i 1)) := by
  refine (dats m 0 c).arrAt_eq_of_covers 8 _ (by decide +kernel) fun t _ y => ?_
  obtain ⟨e7, e8, e9, e10, e11, e12⟩ := index_out t
  obtain ⟨r, n, rfl⟩ : ∃ (r : Fin 256) (n : Fin 512), y = ix2 r n := ⟨y 0, y 1, ValueIdx.eq_ix2 y⟩
  have e0 : (win0_8.blk t).view.emb (ix2 r n) 0 = row t r := Fin.ext (by blk_simp [e8, row])
  have e1 : (win0_8.blk t).view.emb (ix2 r n) 1 = col t n := Fin.ext (by blk_simp [e8, col])
  blk_simp [e8]
  rw [after0_8, e0, e1, (tiles m c t).2.1, ← blkR, ← (blkY m c t r n).2.2, ← gateR_val]
  rfl

theorem arr9 : (dats m 0 c).arrAt 9 cfg0.N = fun i : S2048x2048.Idx => slope (m ((c : Thread nD τ).loc main_arg4) (ix2 (i 0) (i 1))) (m ((c : Thread nD τ).loc main_arg2) (ix2 (i 0) (i 1))) (gateA (m ((c : Thread nD τ).loc main_arg0)) (m ((c : Thread nD τ).loc main_arg1)) (i 0) (i 1)) := by
  refine (dats m 0 c).arrAt_eq_of_covers 9 _ (by decide +kernel) fun t _ y => ?_
  obtain ⟨e7, e8, e9, e10, e11, e12⟩ := index_out t
  obtain ⟨r, n, rfl⟩ : ∃ (r : Fin 256) (n : Fin 512), y = ix2 r n := ⟨y 0, y 1, ValueIdx.eq_ix2 y⟩
  have e0 : (win0_9.blk t).view.emb (ix2 r n) 0 = row t r := Fin.ext (by blk_simp [e9, row])
  have e1 : (win0_9.blk t).view.emb (ix2 r n) 1 = col t n := Fin.ext (by blk_simp [e9, col])
  blk_simp [e9]
  rw [after0_9, e0, e1, (tiles m c t).2.2.1]
  exact slopeA m c t r n

theorem arr10 : (dats m 0 c).arrAt 10 cfg0.N = fun i : S2048x2048.Idx => slope (m ((c : Thread nD τ).loc main_arg4) (ix2 (i 0) (i 1))) (m ((c : Thread nD τ).loc main_arg3) (ix2 (i 0) (i 1))) (gateR (m ((c : Thread nD τ).loc main_arg0)) (m ((c : Thread nD τ).loc main_arg1)) (i 0) (i 1)) := by
  refine (dats m 0 c).arrAt_eq_of_covers 10 _ (by decide +kernel) fun t _ y => ?_
  obtain ⟨e7, e8, e9, e10, e11, e12⟩ := index_out t
  obtain ⟨r, n, rfl⟩ : ∃ (r : Fin 256) (n : Fin 512), y = ix2 r n := ⟨y 0, y 1, ValueIdx.eq_ix2 y⟩
  have e0 : (win0_10.blk t).view.emb (ix2 r n) 0 = row t r := Fin.ext (by blk_simp [e10, row])
  have e1 : (win0_10.blk t).view.emb (ix2 r n) 1 = col t n := Fin.ext (by blk_simp [e10, col])
  blk_simp [e10]
  rw [after0_10, e0, e1, (tiles m c t).2.2.2]
  exact slopeR m c t r n

theorem arr11 : (dats m 0 c).arrAt 11 cfg0.N = fun i : S1x2048.Idx => rows fun k =>
    slope (m ((c : Thread nD τ).loc main_arg4) (ix2 k (i 1))) (m ((c : Thread nD τ).loc main_arg2) (ix2 k (i 1))) (gateA (m ((c : Thread nD τ).loc main_arg0)) (m ((c : Thread nD τ).loc main_arg1)) k (i 1)) := by
  refine (dats m 0 c).arrAt_eq_of_covers 11 _ (by decide +kernel) fun t hf y => ?_
  obtain ⟨e7, e8, e9, e10, e11, e12⟩ := index_out t
  have h7 : t.val % 8 = 7 := (flush0_11 t).mp hf
  obtain ⟨n, rfl⟩ : ∃ n : Fin 512, y = ix2 0 n := ⟨y 1, (ValueIdx.eq_ix2 y).trans (congrArg (fun a => ix2 a (y 1)) (Subsingleton.elim (α := Fin 1) _ _))⟩
  have e1 : (win0_11.blk t).view.emb (ix2 0 n) 1 = col t n := Fin.ext (by blk_simp [e11, col])
  blk_simp [e11]
  rw [after0_11, e1, totalA m c t h7]
  unfold rows
  refine Fin.sum_mul_add_congr (S := 8) (n := 256) fun s k hl => ?_
  have hr : row ⟨8 * (t.val / 8) + s.val, Pipeline.run_point_lt_of_flush t h7 s⟩ k = ⟨s.val * 256 + k.val, hl⟩ := by
    apply Fin.ext; show (8 * (t.val / 8) + s.val) % 8 * 256 + k.val = s.val * 256 + k.val; omega
  have hc : col ⟨8 * (t.val / 8) + s.val, Pipeline.run_point_lt_of_flush t h7 s⟩ n = col t n := by
    apply Fin.ext; show (8 * (t.val / 8) + s.val) / 8 * 512 + n.val = t.val / 8 * 512 + n.val; omega
  rw [slopeA, hr, hc]

theorem arr12 : (dats m 0 c).arrAt 12 cfg0.N = fun i : S1x2048.Idx => rows fun k =>
    slope (m ((c : Thread nD τ).loc main_arg4) (ix2 k (i 1))) (m ((c : Thread nD τ).loc main_arg3) (ix2 k (i 1))) (gateR (m ((c : Thread nD τ).loc main_arg0)) (m ((c : Thread nD τ).loc main_arg1)) k (i 1)) := by
  refine (dats m 0 c).arrAt_eq_of_covers 12 _ (by decide +kernel) fun t hf y => ?_
  obtain ⟨e7, e8, e9, e10, e11, e12⟩ := index_out t
  have h7 : t.val % 8 = 7 := (flush0_12 t).mp hf
  obtain ⟨n, rfl⟩ : ∃ n : Fin 512, y = ix2 0 n := ⟨y 1, (ValueIdx.eq_ix2 y).trans (congrArg (fun a => ix2 a (y 1)) (Subsingleton.elim (α := Fin 1) _ _))⟩
  have e1 : (win0_12.blk t).view.emb (ix2 0 n) 1 = col t n := Fin.ext (by blk_simp [e12, col])
  blk_simp [e12]
  rw [after0_12, e1, totalR m c t h7]
  unfold rows
  refine Fin.sum_mul_add_congr (S := 8) (n := 256) fun s k hl => ?_
  have hr : row ⟨8 * (t.val / 8) + s.val, Pipeline.run_point_lt_of_flush t h7 s⟩ k = ⟨s.val * 256 + k.val, hl⟩ := by
    apply Fin.ext; show (8 * (t.val / 8) + s.val) % 8 * 256 + k.val = s.val * 256 + k.val; omega
  have hc : col ⟨8 * (t.val / 8) + s.val, Pipeline.run_point_lt_of_flush t h7 s⟩ n = col t n := by
    apply Fin.ext; show (8 * (t.val / 8) + s.val) / 8 * 512 + n.val = t.val / 8 * 512 + n.val; omega
  rw [slopeR, hr, hc]

end

theorem ref_gates (p : Ix 2048 11776 → EReal) (b : Ix 1 4096 → EReal) (r n : Fin 2048) :
    Cert.Reference27Ideal.Read.val_main_v11 (F := Ideal) p b (ix2 r n) = gateA p b r n
    ∧ Cert.Reference27Ideal.Read.val_main_v23 (F := Ideal) p b (ix2 r n) = gateR p b r n := by
  constructor
  · pointwise [Cert.Reference27Ideal.Read.val_main_v11, Cert.Reference27Ideal.Read.val_main_v10, Cert.Reference27Ideal.Read.val_main_v9, Cert.Reference27Ideal.Read.val_main_v8, Cert.Reference27Ideal.Read.val_main_v7, Cert.Reference27Ideal.Read.val_main_v6, Cert.Reference27Ideal.Read.val_main_v5, Cert.Reference27Ideal.Read.val_main_v4, Cert.Reference27Ideal.Read.val_main_v2, Cert.Reference27Ideal.Read.val_main_v0, Cert.Reference27Ideal.Read.val_main_cst, Cert.Reference27Ideal.Read.val_main_cst_0]
    rfl
  · pointwise [Cert.Reference27Ideal.Read.val_main_v23, Cert.Reference27Ideal.Read.val_main_v22, Cert.Reference27Ideal.Read.val_main_v21, Cert.Reference27Ideal.Read.val_main_v20, Cert.Reference27Ideal.Read.val_main_v19, Cert.Reference27Ideal.Read.val_main_v18, Cert.Reference27Ideal.Read.val_main_v17, Cert.Reference27Ideal.Read.val_main_v16, Cert.Reference27Ideal.Read.val_main_v3, Cert.Reference27Ideal.Read.val_main_v1, Cert.Reference27Ideal.Read.val_main_cst_2, Cert.Reference27Ideal.Read.val_main_cst_3]
    rfl

theorem ref_tiles (p : Ix 2048 11776 → EReal) (b : Ix 1 4096 → EReal) (y d : Ix 2048 2048 → EReal) (r n : Fin 2048) :
    Cert.Reference27Ideal.Read.val_main_v41 (F := Ideal) p b d (ix2 r n) = pass (d (ix2 r n)) (gateA p b r n)
    ∧ Cert.Reference27Ideal.Read.val_main_v42 (F := Ideal) p b d (ix2 r n) = pass (d (ix2 r n)) (gateR p b r n)
    ∧ Cert.Reference27Ideal.Read.val_main_v38 (F := Ideal) p b y d (ix2 r n) = slope (d (ix2 r n)) (y (ix2 r n)) (gateA p b r n)
    ∧ Cert.Reference27Ideal.Read.val_main_v33 (F := Ideal) p b y d (ix2 r n) = slope (d (ix2 r n)) (y (ix2 r n)) (gateR p b r n) := by
  rw [← (ref_gates p b r n).1, ← (ref_gates p b r n).2]
  refine ⟨?_, ?_, ?_, ?_⟩
  · pointwise [Cert.Reference27Ideal.Read.val_main_v41, Cert.Reference27Ideal.Read.val_main_v36, Cert.Reference27Ideal.Read.val_main_v29]
    exact mul_comm _ _
  · pointwise [Cert.Reference27Ideal.Read.val_main_v42, Cert.Reference27Ideal.Read.val_main_v31, Cert.Reference27Ideal.Read.val_main_v30]
    exact mul_comm _ _
  · pointwise [Cert.Reference27Ideal.Read.val_main_v38, Cert.Reference27Ideal.Read.val_main_v37, Cert.Reference27Ideal.Read.val_main_v29, Cert.Reference27Ideal.Read.val_main_v14, Cert.Reference27Ideal.Read.val_main_v13, Cert.Reference27Ideal.Read.val_main_v12, Cert.Reference27Ideal.Read.val_main_cst_1]
    exact (mul_assoc _ _ _).symm
  · pointwise [Cert.Reference27Ideal.Read.val_main_v33, Cert.Reference27Ideal.Read.val_main_v32, Cert.Reference27Ideal.Read.val_main_v30, Cert.Reference27Ideal.Read.val_main_v26, Cert.Reference27Ideal.Read.val_main_v25, Cert.Reference27Ideal.Read.val_main_v24, Cert.Reference27Ideal.Read.val_main_cst_4]
    exact (mul_assoc _ _ _).symm

theorem ref_sums (p : Ix 2048 11776 → EReal) (b : Ix 1 4096 → EReal) (y d : Ix 2048 2048 → EReal) (n : Fin 2048) :
    Cert.Reference27Ideal.Read.val_main_v40 (F := Ideal) p b y d (ix2 0 n) = rows (fun k => slope (d (ix2 k n)) (y (ix2 k n)) (gateA p b k n))
    ∧ Cert.Reference27Ideal.Read.val_main_v35 (F := Ideal) p b y d (ix2 0 n) = rows (fun k => slope (d (ix2 k n)) (y (ix2 k n)) (gateR p b k n)) := by
  unfold rows
  simp only [← (ref_tiles p b y d _ n).2.2.1, ← (ref_tiles p b y d _ n).2.2.2]
  constructor
  · pointwise [Cert.Reference27Ideal.Read.val_main_v40, Cert.Reference27Ideal.Read.val_main_v39, Cert.Reference27Ideal.Read.val_main_cst_6]
  · pointwise [Cert.Reference27Ideal.Read.val_main_v35, Cert.Reference27Ideal.Read.val_main_v34, Cert.Reference27Ideal.Read.val_main_cst_5]

theorem algebraic : Cert.algebraic_Kernel27Ideal_Reference27Ideal (hKernel27Ideal := Cert.Kernel27Ideal.Gen.facts) (hReference27Ideal := Cert.Reference27Ideal.Gen.facts) := by
  intro m g m' g' _ e
  refine ⟨fun c i => pass ((m ((c.tc : Thread _ _).loc Cert.Kernel27Ideal.main_arg4)) (ix2 (i 0) (i 1))) (gateA (m ((c.tc : Thread _ _).loc Cert.Kernel27Ideal.main_arg0)) (m ((c.tc : Thread _ _).loc Cert.Kernel27Ideal.main_arg1)) (i 0) (i 1)),
    fun c i => pass ((m ((c.tc : Thread _ _).loc Cert.Kernel27Ideal.main_arg4)) (ix2 (i 0) (i 1))) (gateR (m ((c.tc : Thread _ _).loc Cert.Kernel27Ideal.main_arg0)) (m ((c.tc : Thread _ _).loc Cert.Kernel27Ideal.main_arg1)) (i 0) (i 1)),
    fun c i => slope ((m ((c.tc : Thread _ _).loc Cert.Kernel27Ideal.main_arg4)) (ix2 (i 0) (i 1))) ((m ((c.tc : Thread _ _).loc Cert.Kernel27Ideal.main_arg2)) (ix2 (i 0) (i 1))) (gateA (m ((c.tc : Thread _ _).loc Cert.Kernel27Ideal.main_arg0)) (m ((c.tc : Thread _ _).loc Cert.Kernel27Ideal.main_arg1)) (i 0) (i 1)),
    fun c i => slope ((m ((c.tc : Thread _ _).loc Cert.Kernel27Ideal.main_arg4)) (ix2 (i 0) (i 1))) ((m ((c.tc : Thread _ _).loc Cert.Kernel27Ideal.main_arg3)) (ix2 (i 0) (i 1))) (gateR (m ((c.tc : Thread _ _).loc Cert.Kernel27Ideal.main_arg0)) (m ((c.tc : Thread _ _).loc Cert.Kernel27Ideal.main_arg1)) (i 0) (i 1)),
    fun c i => rows fun k => slope ((m ((c.tc : Thread _ _).loc Cert.Kernel27Ideal.main_arg4)) (ix2 k (i 1))) ((m ((c.tc : Thread _ _).loc Cert.Kernel27Ideal.main_arg2)) (ix2 k (i 1))) (gateA (m ((c.tc : Thread _ _).loc Cert.Kernel27Ideal.main_arg0)) (m ((c.tc : Thread _ _).loc Cert.Kernel27Ideal.main_arg1)) k (i 1)),
    fun c i => rows fun k => slope ((m ((c.tc : Thread _ _).loc Cert.Kernel27Ideal.main_arg4)) (ix2 k (i 1))) ((m ((c.tc : Thread _ _).loc Cert.Kernel27Ideal.main_arg3)) (ix2 k (i 1))) (gateR (m ((c.tc : Thread _ _).loc Cert.Kernel27Ideal.main_arg0)) (m ((c.tc : Thread _ _).loc Cert.Kernel27Ideal.main_arg1)) k (i 1)),
    (θ_run _ _ _).mono (fun r h c => ⟨(h c).1.trans (arr7 m c), (h c).2.1.trans (arr8 m c), (h c).2.2.1.trans (arr9 m c),
      (h c).2.2.2.1.trans (arr10 m c), (h c).2.2.2.2.1.trans (arr11 m c), (h c).2.2.2.2.2.1.trans (arr12 m c), (h c).2.2.2.2.2.2⟩) (Cert.Kernel27Ideal.Value.run_blocks (F := Ideal) m g),
    (θ_run _ _ _).mono (fun r h c => ?_) (Cert.Reference27Ideal.Value.run (F := Ideal) m' g')⟩
  obtain ⟨e0, e1, e2, e3, e4⟩ := e c
  beta_reduce
  rw [← e0, ← e1, ← e2, ← e3, ← e4]
  have one (i : Ix 1 2048) : i = ix2 0 (i 1) := (ValueIdx.eq_ix2 i).trans (congrArg (fun a => ix2 a (i 1)) (Subsingleton.elim (α := Fin 1) _ _))
  refine ⟨(h c).1.trans ((Cert.Reference27Ideal.Read.val_main_v41_eq _ _ _).trans (funext fun i => ?_)),
    (h c).2.1.trans ((Cert.Reference27Ideal.Read.val_main_v42_eq _ _ _).trans (funext fun i => ?_)),
    (h c).2.2.1.trans ((Cert.Reference27Ideal.Read.val_main_v43_eq _ _ _ _).trans (funext fun i => ?_)),
    (h c).2.2.2.1.trans ((Cert.Reference27Ideal.Read.val_main_v44_eq _ _ _ _).trans (funext fun i => ?_)),
    (h c).2.2.2.2.1.trans ((Cert.Reference27Ideal.Read.val_main_v40_eq _ _ _ _).trans (funext fun i => ?_)),
    (h c).2.2.2.2.2.1.trans ((Cert.Reference27Ideal.Read.val_main_v35_eq _ _ _ _).trans (funext fun i => ?_)), (h c).2.2.2.2.2.2⟩
  · exact (congrArg _ (ValueIdx.eq_ix2 i)).trans (ref_tiles _ _ (fun _ => 0) _ (i 0) (i 1)).1
  · exact (congrArg _ (ValueIdx.eq_ix2 i)).trans (ref_tiles _ _ (fun _ => 0) _ (i 0) (i 1)).2.1
  · exact (congrArg _ (ValueIdx.eq_ix2 i)).trans ((congrFun (rfl : Cert.Reference27Ideal.Read.val_main_v43 (F := Ideal) _ _ _ _ = Cert.Reference27Ideal.Read.val_main_v38 (F := Ideal) _ _ _ _) _).trans (ref_tiles _ _ _ _ (i 0) (i 1)).2.2.1)
  · exact (congrArg _ (ValueIdx.eq_ix2 i)).trans ((congrFun (rfl : Cert.Reference27Ideal.Read.val_main_v44 (F := Ideal) _ _ _ _ = Cert.Reference27Ideal.Read.val_main_v33 (F := Ideal) _ _ _ _) _).trans (ref_tiles _ _ _ _ (i 0) (i 1)).2.2.2)
  · exact (congrArg _ (one i)).trans (ref_sums _ _ _ _ (i 1)).1
  · exact (congrArg _ (one i)).trans (ref_sums _ _ _ _ (i 1)).2

theorem frame_ref : Cert.quiescent_Reference27Ideal (hReference27Ideal := Cert.Reference27Ideal.Gen.facts) := fun m g _ =>
  (θ_run Cert.Reference27Ideal.defs _ _).mono (fun r h => ⟨fun c => (h c).2.2.2.2.2.2, sem_eq_zero_of_no_sems (by decide) r.2⟩)
    (Cert.Reference27Ideal.Value.run (F := Ideal) m g)

end Merge

/-! ### The merge itself -/

namespace MergeFwd

section
open Cert.Kernel28Ideal Cert.Kernel28Ideal.Gen

theorem out_val (p₀ p₁ : Vec Ideal S256x512 .f32) (b₀ b₁ : Vec Ideal S1x512 .f32) (y₀ y₁ : Vec Ideal S256x512 .f32) (r : Fin 256) (n : Fin 512) :
    out0_6 p₀ p₁ b₀ b₁ y₀ y₁ (ix2 r n)
      = join (lg (p₀ (ix2 r n)) (b₀ (ix2 0 n))) (y₀ (ix2 r n)) (lg (p₁ (ix2 r n)) (b₁ (ix2 0 n))) (y₁ (ix2 r n)) := by
  unfold out0_6
  rw [View.canon_unit_zero (by funext a; fin_cases a <;> rfl)]
  iterate 6 rw [View.ld_unit_zero (by funext a; fin_cases a <;> rfl)]
  pointwise [k0_pay1]
  rfl

variable (m : (ℓ : Loc nD τ sig) → Buf (Elt Ideal) ℓ) (c : Dev nD)

theorem index_all : ∀ t : Fin cfg0.N, win0_0.index t = ![t.val / 4, 15 + t.val % 4] ∧ win0_1.index t = ![t.val / 4, 19 + t.val % 4]
    ∧ win0_2.index t = ![0, t.val % 4] ∧ win0_3.index t = ![0, 4 + t.val % 4] ∧ win0_4.index t = ![t.val / 4, t.val % 4]
    ∧ win0_5.index t = ![t.val / 4, t.val % 4] ∧ win0_6.index t = ![t.val / 4, t.val % 4] := by
  decide +kernel

theorem arr : (dats m 0 c).arrAt 6 cfg0.N = fun i : S2048x2048.Idx => join (gateA (m ((c : Thread nD τ).loc main_arg0)) (m ((c : Thread nD τ).loc main_arg1)) (i 0) (i 1)) (m ((c : Thread nD τ).loc main_arg2) (ix2 (i 0) (i 1)))
    (gateR (m ((c : Thread nD τ).loc main_arg0)) (m ((c : Thread nD τ).loc main_arg1)) (i 0) (i 1)) (m ((c : Thread nD τ).loc main_arg3) (ix2 (i 0) (i 1))) := by
  refine (dats m 0 c).arrAt_eq_of_covers 6 _ (by decide +kernel) fun t _ y => ?_
  have ht : t.val < 32 := lt_of_lt_of_eq t.isLt N_0
  obtain ⟨e0, e1, e2, e3, e4, e5, e6⟩ := index_all t
  obtain ⟨r, n, rfl⟩ : ∃ (r : Fin 256) (n : Fin 512), y = ix2 r n := ⟨y 0, y 1, ValueIdx.eq_ix2 y⟩
  have x0 : iblk m c 0 t (ix2 r n) = m ((c : Thread nD τ).loc main_arg0) (ix2 ⟨t.val / 4 * 256 + r.val, by omega⟩ ⟨7680 + (t.val % 4 * 512 + n.val), by omega⟩) := by
    blk_ext [iblk, V, e0]
  have x1 : iblk m c 1 t (ix2 r n) = m ((c : Thread nD τ).loc main_arg0) (ix2 ⟨t.val / 4 * 256 + r.val, by omega⟩ ⟨9728 + (t.val % 4 * 512 + n.val), by omega⟩) := by
    blk_ext [iblk, V, e1]
  have x2 : iblk m c 2 t (ix2 0 n) = m ((c : Thread nD τ).loc main_arg1) (ix2 0 ⟨t.val % 4 * 512 + n.val, by omega⟩) := by
    blk_ext [iblk, V, e2]
  have x3 : iblk m c 3 t (ix2 0 n) = m ((c : Thread nD τ).loc main_arg1) (ix2 0 ⟨2048 + (t.val % 4 * 512 + n.val), by omega⟩) := by
    blk_ext [iblk, V, e3]
  have x4 : iblk m c 4 t (ix2 r n) = m ((c : Thread nD τ).loc main_arg2) (ix2 ⟨t.val / 4 * 256 + r.val, by omega⟩ ⟨t.val % 4 * 512 + n.val, by omega⟩) := by
    blk_ext [iblk, V, e4]
  have x5 : iblk m c 5 t (ix2 r n) = m ((c : Thread nD τ).loc main_arg3) (ix2 ⟨t.val / 4 * 256 + r.val, by omega⟩ ⟨t.val % 4 * 512 + n.val, by omega⟩) := by
    blk_ext [iblk, V, e5]
  have z0 : (win0_6.blk t).view.emb (ix2 r n) 0 = (⟨t.val / 4 * 256 + r.val, by omega⟩ : Fin 2048) := Fin.ext (by blk_simp [e6])
  have z1 : (win0_6.blk t).view.emb (ix2 r n) 1 = (⟨t.val % 4 * 512 + n.val, by omega⟩ : Fin 2048) := Fin.ext (by blk_simp [e6])
  blk_simp [e6]
  rw [after0_6, z0, z1]
  refine (out_val _ _ _ _ _ _ r n).trans ?_
  rw [x0, x1, x2, x3, x4, x5]
  rfl

end

theorem ref (p : Ix 2048 11776 → EReal) (b : Ix 1 4096 → EReal) (y z : Ix 2048 2048 → EReal) (r n : Fin 2048) :
    Cert.Reference28Ideal.Read.val_main_v23 (F := Ideal) p b y z (ix2 r n) = join (gateA p b r n) (y (ix2 r n)) (gateR p b r n) (z (ix2 r n)) := by
  pointwise [Cert.Reference28Ideal.Read.val_main_v23, Cert.Reference28Ideal.Read.val_main_v22, Cert.Reference28Ideal.Read.val_main_v21, Cert.Reference28Ideal.Read.val_main_v20, Cert.Reference28Ideal.Read.val_main_v19, Cert.Reference28Ideal.Read.val_main_cst_2, Cert.Reference28Ideal.Read.val_main_v18, Cert.Reference28Ideal.Read.val_main_v17, Cert.Reference28Ideal.Read.val_main_cst_1, Cert.Reference28Ideal.Read.val_main_v16, Cert.Reference28Ideal.Read.val_main_v15, Cert.Reference28Ideal.Read.val_main_v14, Cert.Reference28Ideal.Read.val_main_v13, Cert.Reference28Ideal.Read.val_main_v12, Cert.Reference28Ideal.Read.val_main_v11, Cert.Reference28Ideal.Read.val_main_v10, Cert.Reference28Ideal.Read.val_main_cst_0, Cert.Reference28Ideal.Read.val_main_v9, Cert.Reference28Ideal.Read.val_main_v8, Cert.Reference28Ideal.Read.val_main_cst, Cert.Reference28Ideal.Read.val_main_v7, Cert.Reference28Ideal.Read.val_main_v6, Cert.Reference28Ideal.Read.val_main_v5, Cert.Reference28Ideal.Read.val_main_v4, Cert.Reference28Ideal.Read.val_main_v3, Cert.Reference28Ideal.Read.val_main_v2, Cert.Reference28Ideal.Read.val_main_v1, Cert.Reference28Ideal.Read.val_main_v0]
  rfl

theorem algebraic : Cert.algebraic_Kernel28Ideal_Reference28Ideal (hKernel28Ideal := Cert.Kernel28Ideal.Gen.facts) (hReference28Ideal := Cert.Reference28Ideal.Gen.facts) := by
  intro m g m' g' _ e
  refine ⟨fun c i => join (gateA (m ((c.tc : Thread _ _).loc Cert.Kernel28Ideal.main_arg0)) (m ((c.tc : Thread _ _).loc Cert.Kernel28Ideal.main_arg1)) (i 0) (i 1)) ((m ((c.tc : Thread _ _).loc Cert.Kernel28Ideal.main_arg2)) (ix2 (i 0) (i 1)))
      (gateR (m ((c.tc : Thread _ _).loc Cert.Kernel28Ideal.main_arg0)) (m ((c.tc : Thread _ _).loc Cert.Kernel28Ideal.main_arg1)) (i 0) (i 1)) ((m ((c.tc : Thread _ _).loc Cert.Kernel28Ideal.main_arg3)) (ix2 (i 0) (i 1))),
    (θ_run _ _ _).mono (fun r h c => ⟨(h c).1.trans (arr m c), (h c).2⟩) (Cert.Kernel28Ideal.Value.run_blocks (F := Ideal) m g),
    (θ_run _ _ _).mono (fun r h c => ⟨(h c).1.trans ((Cert.Reference28Ideal.Read.val_main_v23_eq _ _ _ _).trans (funext fun i => ?_)), (h c).2⟩)
      (Cert.Reference28Ideal.Value.run (F := Ideal) m' g')⟩
  obtain ⟨e0, e1, e2, e3⟩ := e c
  rw [e0, e1, e2, e3]
  exact (congrArg _ (ValueIdx.eq_ix2 i)).trans (ref _ _ _ _ (i 0) (i 1))

theorem frame_ref : Cert.quiescent_Reference28Ideal (hReference28Ideal := Cert.Reference28Ideal.Gen.facts) := fun m g _ =>
  (θ_run Cert.Reference28Ideal.defs _ _).mono (fun r h => ⟨fun c => (h c).2, sem_eq_zero_of_no_sems (by decide) r.2⟩)
    (Cert.Reference28Ideal.Value.run (F := Ideal) m g)

end MergeFwd

end Cert

end
-- ==== Proof.Norm.lean ====
/-
  The layer norm of a sublayer and its gradient, whose sums over the rows are added tile by tile.
-/
module

public import proofs.«01_k».proof.Defs
public import proofs.«01_k».proof.Proof.Prod
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel30Ideal.Value
public import proofs.«01_k».proof.Proof.Gen.Reference30Ideal.Run
public import proofs.«01_k».proof.Proof.Gen.Reference30Ideal.Read
public import Idealize.ShloMosaic.Lib.Claim
public import Idealize.ShloMosaic.Lib.Pointwise
public import Idealize.ShloMosaic.Lib.Pipeline.Quiescent
public import Idealize.ShloMosaic.Lib.Pipeline.ValueKit.Point
public import Idealize.ShloMosaic.Lib.Pipeline.ValueKit.Acc
public import Idealize.ShloMosaic.Lib.Pipeline.ReadBack

@[expose] public section

set_option maxRecDepth 16384

noncomputable section

namespace Cert

open Idealize.ShloMosaic Idealize.SL.Sem Idealize.ShloMosaic.StableHlo
open Idealize.ShloMosaic.TcCoe
open Cert.Prod

/-! ### A row's mean, its normal form and the gradient's entry -/

namespace Norms

/-- The mean of a row. -/
def mean (f : Fin 2048 → EReal) : EReal := Ideal.div (∑ k : Fin 2048, f k) (Ideal.ofBits .f32 0x45000000#32)

/-- The sum over the rows. -/
def total (f : Fin 2048 → EReal) : EReal := ∑ k : Fin 2048, f k

/-- The sum over a tile's rows. -/
def total256 (f : Fin 256 → EReal) : EReal := ∑ k : Fin 256, f k

/-- An entry of the cotangent times the scale, or times the normalised one. -/
def scaled (d g : EReal) : EReal := d * g

/-- The gradient of the norm in an entry of a row: from the cotangent, the normalised row, one over its deviation and the scale. -/
def grad (d h : Fin 2048 → EReal) (s : EReal) (g : Fin 2048 → EReal) (n : Fin 2048) : EReal :=
  s * (scaled (d n) (g n) - mean (fun k => scaled (d k) (g k)) - h n * mean (fun k => scaled (d k) (g k) * h k))

/-- The residual, scaled, plus the sublayer's entry. -/
def joined (x d : EReal) : EReal := Ideal.ofBits .f32 0x3F9837F0#32 * x + d

/-- An entry less its row's mean. -/
def centred (x d : Fin 2048 → EReal) (n : Fin 2048) : EReal := joined (x n) (d n) - mean (fun k => joined (x k) (d k))

/-- One over the deviation of a row. -/
def scale (x d : Fin 2048 → EReal) : EReal :=
  Ideal.rsqrt (mean (fun k => centred x d k * centred x d k) + Ideal.ofBits .f32 0x3727C5AC#32)

/-- An entry of the normalised row. -/
def normal (x d : Fin 2048 → EReal) (n : Fin 2048) : EReal := centred x d n * scale x d

/-- The norm's entry: the normalised one, scaled and shifted. -/
def shifted (h g b : EReal) : EReal := h * g + b

end Norms

open Cert.Norms

/-! ### The gradient -/

namespace NormBwd

section
open Cert.Kernel29Ideal Cert.Kernel29Ideal.Gen

variable (m : (ℓ : Loc nD τ sig) → Buf (Elt Ideal) ℓ) (c : Dev nD)

/-- The gradient's tile. -/
def tile (d h : Vec Ideal S256x2048 .f32) (s : Vec Ideal S256x1 .f32) (g : Vec Ideal S1x2048 .f32) : FVec Ideal S256x2048 .f32 :=
  k0_pay1 h s (k0_pay7 d g) (k0_pay8 d h g) (k0_pay9 d g)

theorem tiles (t : Fin cfg0.N) :
    (outsAt0 m c t.val t.isLt).1 = tile (iblk m c 0 t) (iblk m c 1 t) (iblk m c 2 t) (iblk m c 3 t)
    ∧ (outsAt0 m c t.val t.isLt).2.1 = k0_pay2 (iblk m c 1 t) (iblk m c 2 t) (k0_pay7 (iblk m c 0 t) (iblk m c 3 t))
        (k0_pay8 (iblk m c 0 t) (iblk m c 1 t) (iblk m c 3 t)) (k0_pay9 (iblk m c 0 t) (iblk m c 3 t)) := by
  unfold tile
  by_cases h : t.val % 8 = 0
  · rw [outsAt0_A m c t h]
    dsimp only
    refine ⟨?_, ?_⟩ <;> frame_out
  · rw [outsAt0_B m c t h]
    dsimp only
    refine ⟨?_, ?_⟩ <;> frame_out

/-- What the two rows of sums hold after the first tile, -/
theorem carry_first (t : Fin cfg0.N) (h : t.val % 8 = 0) :
    (outsAt0 m c t.val t.isLt).2.2.1 = k0_pay5 (iblk m c 0 t) (iblk m c 1 t) (k0_pay3 (F := Ideal))
    ∧ (outsAt0 m c t.val t.isLt).2.2.2 = k0_pay6 (iblk m c 0 t) (k0_pay4 (F := Ideal)) := by
  rw [outsAt0_A m c t h]
  dsimp only
  refine ⟨?_, ?_⟩ <;> frame_out

/-- and after every further one. -/
theorem carry_next (t : Fin cfg0.N) (h : ¬t.val % 8 = 0) :
    (outsAt0 m c t.val t.isLt).2.2.1 = k0_pay5 (iblk m c 0 t) (iblk m c 1 t)
        (outsAt0 m c (t.val - 1) (Nat.lt_of_le_of_lt (Nat.sub_le _ _) t.isLt)).2.2.1
    ∧ (outsAt0 m c t.val t.isLt).2.2.2 = k0_pay6 (iblk m c 0 t)
        (outsAt0 m c (t.val - 1) (Nat.lt_of_le_of_lt (Nat.sub_le _ _) t.isLt)).2.2.2 := by
  rw [outsAt0_B m c t h]
  dsimp only
  refine ⟨?_, ?_⟩ <;> frame_out

theorem tile_val (d h : Vec Ideal S256x2048 .f32) (s : Vec Ideal S256x1 .f32) (g : Vec Ideal S1x2048 .f32) (r : Fin 256) (n : Fin 2048) :
    tile d h s g (ix2 r n) = grad (fun k => d (ix2 r k)) (fun k => h (ix2 r k)) (s (ix2 r 0)) (fun k => g (ix2 0 k)) n := by
  pointwise [tile, k0_pay1, k0_pay7, k0_pay8, k0_pay9]
  rfl

theorem addG_val (d h : Vec Ideal S256x2048 .f32) (a : Vec Ideal S1x2048 .f32) (n : Fin 2048) :
    k0_pay5 d h a (ix2 0 n) = a (ix2 0 n) + ∑ r : Fin 256, scaled (d (ix2 r n)) (h (ix2 r n)) := by
  pointwise [k0_pay5]
  rfl

theorem addB_val (d : Vec Ideal S256x2048 .f32) (a : Vec Ideal S1x2048 .f32) (n : Fin 2048) :
    k0_pay6 d a (ix2 0 n) = a (ix2 0 n) + ∑ r : Fin 256, d (ix2 r n) := by
  pointwise [k0_pay6]

theorem zero_val (n : Fin 2048) : k0_pay3 (F := Ideal) (ix2 0 n) = 0 ∧ k0_pay4 (F := Ideal) (ix2 0 n) = 0 := by
  constructor
  · pointwise [k0_pay3]
  · pointwise [k0_pay4]

/-- The scale's gradient, when the last tile has been added, -/
theorem totalG (t : Fin cfg0.N) (h : t.val % 8 = 7) (n : Fin 2048) : (outsAt0 m c t.val t.isLt).2.2.1 (ix2 0 n)
    = ∑ s : Fin 8, ∑ r : Fin 256, scaled (iblk m c 0 ⟨8 * (t.val / 8) + s.val, Pipeline.run_point_lt_of_flush t h s⟩ (ix2 r n))
        (iblk m c 1 ⟨8 * (t.val / 8) + s.val, Pipeline.run_point_lt_of_flush t h s⟩ (ix2 r n)) := by
  have q := Pipeline.eq_sum_fin_of_reset_step_apply_of_flush (fun k hk (i : Fin 2048) => (outsAt0 m c k hk).2.2.1 (ix2 0 i)) 8
    (fun _ => (0 : EReal)) (fun u i => ∑ r : Fin 256, scaled (iblk m c 0 u (ix2 r i)) (iblk m c 1 u (ix2 r i)))
    (fun u hu i => by rw [(carry_first m c u hu).1, addG_val, (zero_val i).1])
    (fun u hu i => by rw [(carry_next m c u hu).1, addG_val]) t h n
  rw [zero_add] at q
  exact q

/-- and the shift's. -/
theorem totalB (t : Fin cfg0.N) (h : t.val % 8 = 7) (n : Fin 2048) : (outsAt0 m c t.val t.isLt).2.2.2 (ix2 0 n)
    = ∑ s : Fin 8, total256 (fun r => iblk m c 0 ⟨8 * (t.val / 8) + s.val, Pipeline.run_point_lt_of_flush t h s⟩ (ix2 r n)) := by
  have q := Pipeline.eq_sum_fin_of_reset_step_apply_of_flush (fun k hk (i : Fin 2048) => (outsAt0 m c k hk).2.2.2 (ix2 0 i)) 8
    (fun _ => (0 : EReal)) (fun u i => total256 (fun r => iblk m c 0 u (ix2 r i)))
    (fun u hu i => by rw [(carry_first m c u hu).2, addB_val, (zero_val i).2]; rfl)
    (fun u hu i => by rw [(carry_next m c u hu).2, addB_val]; rfl) t h n
  rw [zero_add] at q
  exact q

theorem index_all : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0]
    ∧ win0_6.index t = ![0, 0] ∧ win0_7.index t = ![0, 0] := by
  decide +kernel

/-- The row that a row of a point's tile is. -/
def row (u : Fin cfg0.N) (r : Fin 256) : Fin 2048 := ⟨u.val * 256 + r.val, by have := lt_of_lt_of_eq u.isLt N_0; omega⟩

theorem blks (u : Fin cfg0.N) (r : Fin 256) (n : Fin 2048) :
    iblk m c 0 u (ix2 r n) = m ((c : Thread nD τ).loc main_arg0) (ix2 (row u r) n)
    ∧ iblk m c 1 u (ix2 r n) = m ((c : Thread nD τ).loc main_arg1) (ix2 (row u r) n)
    ∧ iblk m c 2 u (ix2 r 0) = m ((c : Thread nD τ).loc main_arg2) (ix2 (row u r) 0)
    ∧ iblk m c 3 u (ix2 0 n) = m ((c : Thread nD τ).loc main_arg3) (ix2 0 n) := by
  obtain ⟨e0, e1, e2, e3, _⟩ := index_all u
  refine ⟨?_, ?_, ?_, ?_⟩
  · blk_ext [iblk, V, e0, row]
  · blk_ext [iblk, V, e1, row]
  · blk_ext [iblk, V, e2, row]
  · blk_ext [iblk, V, e3]

theorem tile_at (u : Fin cfg0.N) (r : Fin 256) (n : Fin 2048) :
    tile (iblk m c 0 u) (iblk m c 1 u) (iblk m c 2 u) (iblk m c 3 u) (ix2 r n)
      = grad (fun k => m ((c : Thread nD τ).loc main_arg0) (ix2 (row u r) k)) (fun k => m ((c : Thread nD τ).loc main_arg1) (ix2 (row u r) k)) (m ((c : Thread nD τ).loc main_arg2) (ix2 (row u r) 0)) (fun k => m ((c : Thread nD τ).loc main_arg3) (ix2 0 k)) n := by
  rw [tile_val]
  simp only [(blks m c u r _).1, (blks m c u r _).2.1, (blks m c u r n).2.2.1, (blks m c u r _).2.2.2]

theorem arr4 : (dats m 0 c).arrAt 4 cfg0.N = fun i : S2048x2048.Idx => grad (fun k => m ((c : Thread nD τ).loc main_arg0) (ix2 (i 0) k)) (fun k => m ((c : Thread nD τ).loc main_arg1) (ix2 (i 0) k)) (m ((c : Thread nD τ).loc main_arg2) (ix2 (i 0) 0)) (fun k => m ((c : Thread nD τ).loc main_arg3) (ix2 0 k)) (i 1) := by
  refine (dats m 0 c).arrAt_eq_of_covers 4 _ (by decide +kernel) fun t _ y => ?_
  obtain ⟨_, _, _, _, e4, e5, e6, e7⟩ := index_all t
  obtain ⟨r, n, rfl⟩ : ∃ (r : Fin 256) (n : Fin 2048), y = ix2 r n := ⟨y 0, y 1, ValueIdx.eq_ix2 y⟩
  have z0 : (win0_4.blk t).view.emb (ix2 r n) 0 = row t r := Fin.ext (by blk_simp [e4, row])
  have z1 : (win0_4.blk t).view.emb (ix2 r n) 1 = n := Fin.ext (by blk_simp [e4])
  blk_simp [e4]
  rw [after0_4, z0, z1, (tiles m c t).1]
  exact tile_at m c t r n

theorem arr5 : (dats m 0 c).arrAt 5 cfg0.N = fun i : S2048x2048.Idx => grad (fun k => m ((c : Thread nD τ).loc main_arg0) (ix2 (i 0) k)) (fun k => m ((c : Thread nD τ).loc main_arg1) (ix2 (i 0) k)) (m ((c : Thread nD τ).loc main_arg2) (ix2 (i 0) 0)) (fun k => m ((c : Thread nD τ).loc main_arg3) (ix2 0 k)) (i 1) := by
  refine (dats m 0 c).arrAt_eq_of_covers 5 _ (by decide +kernel) fun t _ y => ?_
  obtain ⟨_, _, _, _, e4, e5, e6, e7⟩ := index_all t
  obtain ⟨r, n, rfl⟩ : ∃ (r : Fin 256) (n : Fin 2048), y = ix2 r n := ⟨y 0, y 1, ValueIdx.eq_ix2 y⟩
  have z0 : (win0_5.blk t).view.emb (ix2 r n) 0 = row t r := Fin.ext (by blk_simp [e5, row])
  have z1 : (win0_5.blk t).view.emb (ix2 r n) 1 = n := Fin.ext (by blk_simp [e5])
  blk_simp [e5]
  rw [after0_5, z0, z1, (tiles m c t).2]
  exact tile_at m c t r n

theorem arr6 : (dats m 0 c).arrAt 6 cfg0.N = fun i : S1x2048.Idx => total fun k => scaled (m ((c : Thread nD τ).loc main_arg0) (ix2 k (i 1))) (m ((c : Thread nD τ).loc main_arg1) (ix2 k (i 1))) := by
  refine (dats m 0 c).arrAt_eq_of_covers 6 _ (by decide +kernel) fun t hf y => ?_
  obtain ⟨_, _, _, _, e4, e5, e6, e7⟩ := index_all t
  have h7 : t.val % 8 = 7 := (flush0_6 t).mp hf
  have ht : t.val < 8 := lt_of_lt_of_eq t.isLt N_0
  obtain ⟨n, rfl⟩ : ∃ n : Fin 2048, y = ix2 0 n := ⟨y 1, (ValueIdx.eq_ix2 y).trans (congrArg (fun a => ix2 a (y 1)) (Subsingleton.elim (α := Fin 1) _ _))⟩
  have z1 : (win0_6.blk t).view.emb (ix2 0 n) 1 = n := Fin.ext (by blk_simp [e6])
  blk_simp [e6]
  rw [after0_6, z1, totalG m c t h7]
  unfold total
  refine Fin.sum_mul_add_congr (S := 8) (n := 256) fun s k hl => ?_
  have hr : row ⟨8 * (t.val / 8) + s.val, Pipeline.run_point_lt_of_flush t h7 s⟩ k = ⟨s.val * 256 + k.val, hl⟩ := by
    apply Fin.ext; show (8 * (t.val / 8) + s.val) * 256 + k.val = s.val * 256 + k.val; omega
  rw [(blks m c _ k n).1, (blks m c _ k n).2.1, hr]

theorem arr7 : (dats m 0 c).arrAt 7 cfg0.N = fun i : S1x2048.Idx => total fun k => m ((c : Thread nD τ).loc main_arg0) (ix2 k (i 1)) := by
  refine (dats m 0 c).arrAt_eq_of_covers 7 _ (by decide +kernel) fun t hf y => ?_
  obtain ⟨_, _, _, _, e4, e5, e6, e7⟩ := index_all t
  have h7 : t.val % 8 = 7 := (flush0_7 t).mp hf
  have ht : t.val < 8 := lt_of_lt_of_eq t.isLt N_0
  obtain ⟨n, rfl⟩ : ∃ n : Fin 2048, y = ix2 0 n := ⟨y 1, (ValueIdx.eq_ix2 y).trans (congrArg (fun a => ix2 a (y 1)) (Subsingleton.elim (α := Fin 1) _ _))⟩
  have z1 : (win0_7.blk t).view.emb (ix2 0 n) 1 = n := Fin.ext (by blk_simp [e7])
  blk_simp [e7]
  rw [after0_7, z1, totalB m c t h7]
  unfold total total256
  refine Fin.sum_mul_add_congr (S := 8) (n := 256) fun s k hl => ?_
  have hr : row ⟨8 * (t.val / 8) + s.val, Pipeline.run_point_lt_of_flush t h7 s⟩ k = ⟨s.val * 256 + k.val, hl⟩ := by
    apply Fin.ext; show (8 * (t.val / 8) + s.val) * 256 + k.val = s.val * 256 + k.val; omega
  rw [(blks m c _ k n).1, hr]

end

theorem ref_grad (d h : Ix 2048 2048 → EReal) (s : Ix 2048 1 → EReal) (g : Ix 1 2048 → EReal) (r n : Fin 2048) :
    Cert.Reference29Ideal.Read.val_main_v17 (F := Ideal) d h s g (ix2 r n)
      = grad (fun k => d (ix2 r k)) (fun k => h (ix2 r k)) (s (ix2 r 0)) (fun k => g (ix2 0 k)) n := by
  pointwise [Cert.Reference29Ideal.Read.val_main_v17, Cert.Reference29Ideal.Read.val_main_v16, Cert.Reference29Ideal.Read.val_main_v15, Cert.Reference29Ideal.Read.val_main_v14, Cert.Reference29Ideal.Read.val_main_v13, Cert.Reference29Ideal.Read.val_main_v12, Cert.Reference29Ideal.Read.val_main_v11, Cert.Reference29Ideal.Read.val_main_v10, Cert.Reference29Ideal.Read.val_main_v9, Cert.Reference29Ideal.Read.val_main_v8, Cert.Reference29Ideal.Read.val_main_v7, Cert.Reference29Ideal.Read.val_main_v6, Cert.Reference29Ideal.Read.val_main_v5, Cert.Reference29Ideal.Read.val_main_v4, Cert.Reference29Ideal.Read.val_main_v3, Cert.Reference29Ideal.Read.val_main_v2, Cert.Reference29Ideal.Read.val_main_v1, Cert.Reference29Ideal.Read.val_main_v0, Cert.Reference29Ideal.Read.val_main_cst, Cert.Reference29Ideal.Read.val_main_cst_0, Cert.Reference29Ideal.Read.val_main_cst_1, Cert.Reference29Ideal.Read.val_main_cst_2]
  rfl

theorem ref_sums (d h : Ix 2048 2048 → EReal) (n : Fin 2048) :
    Cert.Reference29Ideal.Read.val_main_v21 (F := Ideal) d h (ix2 0 n) = total (fun k => scaled (d (ix2 k n)) (h (ix2 k n)))
    ∧ Cert.Reference29Ideal.Read.val_main_v23 (F := Ideal) d (ix2 0 n) = total (fun k => d (ix2 k n)) := by
  unfold total
  constructor
  · pointwise [Cert.Reference29Ideal.Read.val_main_v21, Cert.Reference29Ideal.Read.val_main_v20, Cert.Reference29Ideal.Read.val_main_v19, Cert.Reference29Ideal.Read.val_main_cst_3]
    rfl
  · pointwise [Cert.Reference29Ideal.Read.val_main_v23, Cert.Reference29Ideal.Read.val_main_v22, Cert.Reference29Ideal.Read.val_main_cst_4]

theorem algebraic : Cert.algebraic_Kernel29Ideal_Reference29Ideal (hKernel29Ideal := Cert.Kernel29Ideal.Gen.facts) (hReference29Ideal := Cert.Reference29Ideal.Gen.facts) := by
  intro m g m' g' _ e
  refine ⟨fun c i => grad (fun k => m ((c.tc : Thread _ _).loc Cert.Kernel29Ideal.main_arg0) (ix2 (i 0) k)) (fun k => m ((c.tc : Thread _ _).loc Cert.Kernel29Ideal.main_arg1) (ix2 (i 0) k)) (m ((c.tc : Thread _ _).loc Cert.Kernel29Ideal.main_arg2) (ix2 (i 0) 0)) (fun k => m ((c.tc : Thread _ _).loc Cert.Kernel29Ideal.main_arg3) (ix2 0 k)) (i 1),
    fun c i => grad (fun k => m ((c.tc : Thread _ _).loc Cert.Kernel29Ideal.main_arg0) (ix2 (i 0) k)) (fun k => m ((c.tc : Thread _ _).loc Cert.Kernel29Ideal.main_arg1) (ix2 (i 0) k)) (m ((c.tc : Thread _ _).loc Cert.Kernel29Ideal.main_arg2) (ix2 (i 0) 0)) (fun k => m ((c.tc : Thread _ _).loc Cert.Kernel29Ideal.main_arg3) (ix2 0 k)) (i 1),
    fun c i => total fun k => scaled (m ((c.tc : Thread _ _).loc Cert.Kernel29Ideal.main_arg0) (ix2 k (i 1))) (m ((c.tc : Thread _ _).loc Cert.Kernel29Ideal.main_arg1) (ix2 k (i 1))),
    fun c i => total fun k => m ((c.tc : Thread _ _).loc Cert.Kernel29Ideal.main_arg0) (ix2 k (i 1)),
    (θ_run _ _ _).mono (fun r h c => ⟨(h c).1.trans (arr4 m c), (h c).2.1.trans (arr5 m c), (h c).2.2.1.trans (arr6 m c),
      (h c).2.2.2.1.trans (arr7 m c), (h c).2.2.2.2⟩) (Cert.Kernel29Ideal.Value.run_blocks (F := Ideal) m g),
    (θ_run _ _ _).mono (fun r h c => ?_) (Cert.Reference29Ideal.Value.run (F := Ideal) m' g')⟩
  obtain ⟨e0, e1, e2, e3⟩ := e c
  beta_reduce
  rw [← e0, ← e1, ← e2, ← e3]
  have one (i : Ix 1 2048) : i = ix2 0 (i 1) := (ValueIdx.eq_ix2 i).trans (congrArg (fun a => ix2 a (i 1)) (Subsingleton.elim (α := Fin 1) _ _))
  refine ⟨(h c).1.trans ((Cert.Reference29Ideal.Read.val_main_v17_eq _ _ _ _).trans (funext fun i => ?_)),
    (h c).2.1.trans ((Cert.Reference29Ideal.Read.val_main_v18_eq _ _ _ _).trans (funext fun i => ?_)),
    (h c).2.2.1.trans ((Cert.Reference29Ideal.Read.val_main_v21_eq _ _).trans (funext fun i => ?_)),
    (h c).2.2.2.1.trans ((Cert.Reference29Ideal.Read.val_main_v23_eq _).trans (funext fun i => ?_)), (h c).2.2.2.2⟩
  · exact (congrArg _ (ValueIdx.eq_ix2 i)).trans (ref_grad _ _ _ _ (i 0) (i 1))
  · exact (congrArg _ (ValueIdx.eq_ix2 i)).trans ((congrFun (rfl : Cert.Reference29Ideal.Read.val_main_v18 (F := Ideal) _ _ _ _ = Cert.Reference29Ideal.Read.val_main_v17 (F := Ideal) _ _ _ _) _).trans (ref_grad _ _ _ _ (i 0) (i 1)))
  · exact (congrArg _ (one i)).trans (ref_sums _ _ (i 1)).1
  · exact (congrArg _ (one i)).trans (ref_sums _ (fun _ => 0) (i 1)).2

theorem frame_ref : Cert.quiescent_Reference29Ideal (hReference29Ideal := Cert.Reference29Ideal.Gen.facts) := fun m g _ =>
  (θ_run Cert.Reference29Ideal.defs _ _).mono (fun r h => ⟨fun c => (h c).2.2.2.2, sem_eq_zero_of_no_sems (by decide) r.2⟩)
    (Cert.Reference29Ideal.Value.run (F := Ideal) m g)

end NormBwd

/-! ### The norm itself -/

namespace NormFwd

section
open Cert.Kernel30Ideal Cert.Kernel30Ideal.Gen

variable (m : (ℓ : Loc nD τ sig) → Buf (Elt Ideal) ℓ) (c : Dev nD)

theorem normal_val (x d : Vec Ideal S256x2048 .f32) (r : Fin 256) (n : Fin 2048) :
    k0_pay2 x d (ix2 r 0) = scale (fun k => x (ix2 r k)) (fun k => d (ix2 r k))
    ∧ k0_pay3 x d (ix2 r n) = normal (fun k => x (ix2 r k)) (fun k => d (ix2 r k)) n := by
  constructor
  · pointwise [k0_pay2, k0_pay1]
    rfl
  · pointwise [k0_pay3, k0_pay2, k0_pay1]
    rfl

theorem shifted_val (x d : Vec Ideal S256x2048 .f32) (g b : Vec Ideal S1x2048 .f32) (r : Fin 256) (n : Fin 2048) :
    k0_pay4 x d g b (ix2 r n) = shifted (normal (fun k => x (ix2 r k)) (fun k => d (ix2 r k)) n) (g (ix2 0 n)) (b (ix2 0 n)) := by
  rw [← (normal_val x d r n).2]
  pointwise [k0_pay4]
  rfl

theorem outs (x d : Vec Ideal S256x2048 .f32) (g b : Vec Ideal S1x2048 .f32) :
    out0_4 x d g b = k0_pay4 x d g b ∧ out0_5 x d g b = k0_pay5 x d g b ∧ out0_6 x d g b = k0_pay3 x d ∧ out0_7 x d g b = k0_pay2 x d := by
  refine ⟨?_, ?_, ?_, ?_⟩
  · unfold out0_4
    rw [View.canon_unit_zero (by funext a; fin_cases a <;> rfl)]
    iterate 4 rw [View.ld_unit_zero (by funext a; fin_cases a <;> rfl)]
  · unfold out0_5
    rw [View.canon_unit_zero (by funext a; fin_cases a <;> rfl)]
    iterate 4 rw [View.ld_unit_zero (by funext a; fin_cases a <;> rfl)]
  · unfold out0_6
    rw [View.canon_unit_zero (by funext a; fin_cases a <;> rfl)]
    iterate 2 rw [View.ld_unit_zero (by funext a; fin_cases a <;> rfl)]
  · unfold out0_7
    rw [View.canon_unit_zero (by funext a; fin_cases a <;> rfl)]
    iterate 2 rw [View.ld_unit_zero (by funext a; fin_cases a <;> rfl)]

theorem index_all : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0]
    ∧ win0_6.index t = ![t.val, 0] ∧ win0_7.index t = ![t.val, 0] := by
  decide +kernel

/-- The row that a row of a point's tile is. -/
def row (u : Fin cfg0.N) (r : Fin 256) : Fin 2048 := ⟨u.val * 256 + r.val, by have := lt_of_lt_of_eq u.isLt N_0; omega⟩

theorem blks (u : Fin cfg0.N) (r : Fin 256) (n : Fin 2048) :
    iblk m c 0 u (ix2 r n) = m ((c : Thread nD τ).loc main_arg0) (ix2 (row u r) n)
    ∧ iblk m c 1 u (ix2 r n) = m ((c : Thread nD τ).loc main_arg1) (ix2 (row u r) n)
    ∧ iblk m c 2 u (ix2 0 n) = m ((c : Thread nD τ).loc main_arg2) (ix2 0 n)
    ∧ iblk m c 3 u (ix2 0 n) = m ((c : Thread nD τ).loc main_arg3) (ix2 0 n) := by
  obtain ⟨e0, e1, e2, e3, _⟩ := index_all u
  refine ⟨?_, ?_, ?_, ?_⟩
  · blk_ext [iblk, V, e0, row]
  · blk_ext [iblk, V, e1, row]
  · blk_ext [iblk, V, e2]
  · blk_ext [iblk, V, e3]

theorem arr4 : (dats m 0 c).arrAt 4 cfg0.N = fun i : S2048x2048.Idx => shifted (normal (fun k => m ((c : Thread nD τ).loc main_arg0) (ix2 (i 0) k)) (fun k => m ((c : Thread nD τ).loc main_arg1) (ix2 (i 0) k)) (i 1)) (m ((c : Thread nD τ).loc main_arg2) (ix2 0 (i 1))) (m ((c : Thread nD τ).loc main_arg3) (ix2 0 (i 1))) := by
  refine (dats m 0 c).arrAt_eq_of_covers 4 _ (by decide +kernel) fun t _ y => ?_
  obtain ⟨_, _, _, _, e4, e5, e6, e7⟩ := index_all t
  obtain ⟨r, n, rfl⟩ : ∃ (r : Fin 256) (n : Fin 2048), y = ix2 r n := ⟨y 0, y 1, ValueIdx.eq_ix2 y⟩
  have z0 : (win0_4.blk t).view.emb (ix2 r n) 0 = row t r := Fin.ext (by blk_simp [e4, row])
  have z1 : (win0_4.blk t).view.emb (ix2 r n) 1 = n := Fin.ext (by blk_simp [e4])
  blk_simp [e4]
  rw [after0_4, z0, z1, (outs _ _ _ _).1]
  refine (shifted_val _ _ _ _ r n).trans ?_
  simp only [(blks m c t r _).1, (blks m c t r _).2.1, (blks m c t r n).2.2.1, (blks m c t r n).2.2.2]

theorem arr5 : (dats m 0 c).arrAt 5 cfg0.N = fun i : S2048x2048.Idx => shifted (normal (fun k => m ((c : Thread nD τ).loc main_arg0) (ix2 (i 0) k)) (fun k => m ((c : Thread nD τ).loc main_arg1) (ix2 (i 0) k)) (i 1)) (m ((c : Thread nD τ).loc main_arg2) (ix2 0 (i 1))) (m ((c : Thread nD τ).loc main_arg3) (ix2 0 (i 1))) := by
  refine (dats m 0 c).arrAt_eq_of_covers 5 _ (by decide +kernel) fun t _ y => ?_
  obtain ⟨_, _, _, _, e4, e5, e6, e7⟩ := index_all t
  obtain ⟨r, n, rfl⟩ : ∃ (r : Fin 256) (n : Fin 2048), y = ix2 r n := ⟨y 0, y 1, ValueIdx.eq_ix2 y⟩
  have z0 : (win0_5.blk t).view.emb (ix2 r n) 0 = row t r := Fin.ext (by blk_simp [e5, row])
  have z1 : (win0_5.blk t).view.emb (ix2 r n) 1 = n := Fin.ext (by blk_simp [e5])
  blk_simp [e5]
  rw [after0_5, z0, z1, (outs _ _ _ _).2.1]
  refine (shifted_val _ _ _ _ r n).trans ?_
  simp only [(blks m c t r _).1, (blks m c t r _).2.1, (blks m c t r n).2.2.1, (blks m c t r n).2.2.2]

theorem arr6 : (dats m 0 c).arrAt 6 cfg0.N = fun i : S2048x2048.Idx => normal (fun k => m ((c : Thread nD τ).loc main_arg0) (ix2 (i 0) k)) (fun k => m ((c : Thread nD τ).loc main_arg1) (ix2 (i 0) k)) (i 1) := by
  refine (dats m 0 c).arrAt_eq_of_covers 6 _ (by decide +kernel) fun t _ y => ?_
  obtain ⟨_, _, _, _, e4, e5, e6, e7⟩ := index_all t
  obtain ⟨r, n, rfl⟩ : ∃ (r : Fin 256) (n : Fin 2048), y = ix2 r n := ⟨y 0, y 1, ValueIdx.eq_ix2 y⟩
  have z0 : (win0_6.blk t).view.emb (ix2 r n) 0 = row t r := Fin.ext (by blk_simp [e6, row])
  have z1 : (win0_6.blk t).view.emb (ix2 r n) 1 = n := Fin.ext (by blk_simp [e6])
  blk_simp [e6]
  rw [after0_6, z0, z1, (outs _ _ _ _).2.2.1]
  refine ((normal_val _ _ r n).2).trans ?_
  simp only [(blks m c t r _).1, (blks m c t r _).2.1]

theorem arr7 : (dats m 0 c).arrAt 7 cfg0.N = fun i : S2048x1.Idx => scale (fun k => m ((c : Thread nD τ).loc main_arg0) (ix2 (i 0) k)) (fun k => m ((c : Thread nD τ).loc main_arg1) (ix2 (i 0) k)) := by
  refine (dats m 0 c).arrAt_eq_of_covers 7 _ (by decide +kernel) fun t _ y => ?_
  obtain ⟨_, _, _, _, e4, e5, e6, e7⟩ := index_all t
  obtain ⟨r, rfl⟩ : ∃ r : Fin 256, y = ix2 r 0 := ⟨y 0, (ValueIdx.eq_ix2 y).trans (congrArg (fun a => ix2 (y 0) a) (Subsingleton.elim (α := Fin 1) _ _))⟩
  have z0 : (win0_7.blk t).view.emb (ix2 r 0) 0 = row t r := Fin.ext (by blk_simp [e7, row])
  blk_simp [e7]
  rw [after0_7, z0, (outs _ _ _ _).2.2.2]
  refine ((normal_val _ _ r 0).1).trans ?_
  simp only [(blks m c t r _).1, (blks m c t r _).2.1]

end

theorem ref_normal (x d : Ix 2048 2048 → EReal) (r n : Fin 2048) :
    Cert.Reference30Ideal.Read.val_main_v16 (F := Ideal) x d (ix2 r 0) = scale (fun k => x (ix2 r k)) (fun k => d (ix2 r k))
    ∧ Cert.Reference30Ideal.Read.val_main_v20 (F := Ideal) x d (ix2 r n) = normal (fun k => x (ix2 r k)) (fun k => d (ix2 r k)) n := by
  constructor
  · pointwise [Cert.Reference30Ideal.Read.val_main_v16, Cert.Reference30Ideal.Read.val_main_v15, Cert.Reference30Ideal.Read.val_main_v14, Cert.Reference30Ideal.Read.val_main_v13, Cert.Reference30Ideal.Read.val_main_v12, Cert.Reference30Ideal.Read.val_main_v11, Cert.Reference30Ideal.Read.val_main_v10, Cert.Reference30Ideal.Read.val_main_v9, Cert.Reference30Ideal.Read.val_main_v8, Cert.Reference30Ideal.Read.val_main_v7, Cert.Reference30Ideal.Read.val_main_v6, Cert.Reference30Ideal.Read.val_main_v5, Cert.Reference30Ideal.Read.val_main_v4, Cert.Reference30Ideal.Read.val_main_v3, Cert.Reference30Ideal.Read.val_main_v2, Cert.Reference30Ideal.Read.val_main_v1, Cert.Reference30Ideal.Read.val_main_v0, Cert.Reference30Ideal.Read.val_main_cst, Cert.Reference30Ideal.Read.val_main_cst_0, Cert.Reference30Ideal.Read.val_main_cst_1, Cert.Reference30Ideal.Read.val_main_cst_2, Cert.Reference30Ideal.Read.val_main_cst_3, Cert.Reference30Ideal.Read.val_main_cst_4]
    rfl
  · pointwise [Cert.Reference30Ideal.Read.val_main_v20, Cert.Reference30Ideal.Read.val_main_v19, Cert.Reference30Ideal.Read.val_main_v18, Cert.Reference30Ideal.Read.val_main_v17, Cert.Reference30Ideal.Read.val_main_v16, Cert.Reference30Ideal.Read.val_main_v15, Cert.Reference30Ideal.Read.val_main_v14, Cert.Reference30Ideal.Read.val_main_v13, Cert.Reference30Ideal.Read.val_main_v12, Cert.Reference30Ideal.Read.val_main_v11, Cert.Reference30Ideal.Read.val_main_v10, Cert.Reference30Ideal.Read.val_main_v9, Cert.Reference30Ideal.Read.val_main_v8, Cert.Reference30Ideal.Read.val_main_v7, Cert.Reference30Ideal.Read.val_main_v6, Cert.Reference30Ideal.Read.val_main_v5, Cert.Reference30Ideal.Read.val_main_v4, Cert.Reference30Ideal.Read.val_main_v3, Cert.Reference30Ideal.Read.val_main_v2, Cert.Reference30Ideal.Read.val_main_v1, Cert.Reference30Ideal.Read.val_main_v0, Cert.Reference30Ideal.Read.val_main_cst, Cert.Reference30Ideal.Read.val_main_cst_0, Cert.Reference30Ideal.Read.val_main_cst_1, Cert.Reference30Ideal.Read.val_main_cst_2, Cert.Reference30Ideal.Read.val_main_cst_3, Cert.Reference30Ideal.Read.val_main_cst_4]
    rfl

theorem ref (x d : Ix 2048 2048 → EReal) (g b : Ix 1 2048 → EReal) (r n : Fin 2048) :
    Cert.Reference30Ideal.Read.val_main_v24 (F := Ideal) x d g b (ix2 r n)
      = shifted (normal (fun k => x (ix2 r k)) (fun k => d (ix2 r k)) n) (g (ix2 0 n)) (b (ix2 0 n)) := by
  rw [← (ref_normal x d r n).2]
  pointwise [Cert.Reference30Ideal.Read.val_main_v24, Cert.Reference30Ideal.Read.val_main_v23, Cert.Reference30Ideal.Read.val_main_v22, Cert.Reference30Ideal.Read.val_main_v21]
  rfl

theorem algebraic : Cert.algebraic_Kernel30Ideal_Reference30Ideal (hKernel30Ideal := Cert.Kernel30Ideal.Gen.facts) (hReference30Ideal := Cert.Reference30Ideal.Gen.facts) := by
  intro m g m' g' _ e
  refine ⟨fun c i => shifted (normal (fun k => m ((c.tc : Thread _ _).loc Cert.Kernel30Ideal.main_arg0) (ix2 (i 0) k)) (fun k => m ((c.tc : Thread _ _).loc Cert.Kernel30Ideal.main_arg1) (ix2 (i 0) k)) (i 1)) (m ((c.tc : Thread _ _).loc Cert.Kernel30Ideal.main_arg2) (ix2 0 (i 1))) (m ((c.tc : Thread _ _).loc Cert.Kernel30Ideal.main_arg3) (ix2 0 (i 1))),
    fun c i => shifted (normal (fun k => m ((c.tc : Thread _ _).loc Cert.Kernel30Ideal.main_arg0) (ix2 (i 0) k)) (fun k => m ((c.tc : Thread _ _).loc Cert.Kernel30Ideal.main_arg1) (ix2 (i 0) k)) (i 1)) (m ((c.tc : Thread _ _).loc Cert.Kernel30Ideal.main_arg2) (ix2 0 (i 1))) (m ((c.tc : Thread _ _).loc Cert.Kernel30Ideal.main_arg3) (ix2 0 (i 1))),
    fun c i => normal (fun k => m ((c.tc : Thread _ _).loc Cert.Kernel30Ideal.main_arg0) (ix2 (i 0) k)) (fun k => m ((c.tc : Thread _ _).loc Cert.Kernel30Ideal.main_arg1) (ix2 (i 0) k)) (i 1),
    fun c i => scale (fun k => m ((c.tc : Thread _ _).loc Cert.Kernel30Ideal.main_arg0) (ix2 (i 0) k)) (fun k => m ((c.tc : Thread _ _).loc Cert.Kernel30Ideal.main_arg1) (ix2 (i 0) k)),
    (θ_run _ _ _).mono (fun r h c => ⟨(h c).1.trans (arr4 m c), (h c).2.1.trans (arr5 m c), (h c).2.2.1.trans (arr6 m c),
      (h c).2.2.2.1.trans (arr7 m c), (h c).2.2.2.2⟩) (Cert.Kernel30Ideal.Value.run_blocks (F := Ideal) m g),
    (θ_run _ _ _).mono (fun r h c => ?_) (Cert.Reference30Ideal.Value.run (F := Ideal) m' g')⟩
  obtain ⟨e0, e1, e2, e3⟩ := e c
  beta_reduce
  rw [← e0, ← e1, ← e2, ← e3]
  have one (i : Ix 2048 1) : i = ix2 (i 0) 0 := (ValueIdx.eq_ix2 i).trans (congrArg (fun a => ix2 (i 0) a) (Subsingleton.elim (α := Fin 1) _ _))
  refine ⟨(h c).1.trans ((Cert.Reference30Ideal.Read.val_main_v24_eq _ _ _ _).trans (funext fun i => ?_)),
    (h c).2.1.trans ((Cert.Reference30Ideal.Read.val_main_v25_eq _ _ _ _).trans (funext fun i => ?_)),
    (h c).2.2.1.trans ((Cert.Reference30Ideal.Read.val_main_v20_eq _ _).trans (funext fun i => ?_)),
    (h c).2.2.2.1.trans ((Cert.Reference30Ideal.Read.val_main_v16_eq _ _).trans (funext fun i => ?_)), (h c).2.2.2.2⟩
  · exact (congrArg _ (ValueIdx.eq_ix2 i)).trans (ref _ _ _ _ (i 0) (i 1))
  · exact (congrArg _ (ValueIdx.eq_ix2 i)).trans ((congrFun (rfl : Cert.Reference30Ideal.Read.val_main_v25 (F := Ideal) _ _ _ _ = Cert.Reference30Ideal.Read.val_main_v24 (F := Ideal) _ _ _ _) _).trans (ref _ _ _ _ (i 0) (i 1)))
  · exact (congrArg _ (ValueIdx.eq_ix2 i)).trans (ref_normal _ _ (i 0) (i 1)).2
  · exact (congrArg _ (one i)).trans (ref_normal _ _ (i 0) 0).1

theorem frame_ref : Cert.quiescent_Reference30Ideal (hReference30Ideal := Cert.Reference30Ideal.Gen.facts) := fun m g _ =>
  (θ_run Cert.Reference30Ideal.defs _ _).mono (fun r h => ⟨fun c => (h c).2.2.2.2, sem_eq_zero_of_no_sems (by decide) r.2⟩)
    (Cert.Reference30Ideal.Value.run (F := Ideal) m g)

end NormFwd

end Cert

end
-- ==== Proof.NormLoss.lean ====
/-
  The second layer norm with the loss and its gradient.
-/
module

public import proofs.«01_k».proof.Defs
public import proofs.«01_k».proof.Proof.Prod
public import proofs.«01_k».proof.Proof.Norm
public import proofs.«01_k».proof.Proof.Gen.Kernel31Ideal.Value
public import proofs.«01_k».proof.Proof.Gen.Reference31Ideal.Run
public import proofs.«01_k».proof.Proof.Gen.Reference31Ideal.Read
public import Idealize.ShloMosaic.Lib.Claim
public import Idealize.ShloMosaic.Lib.Pointwise
public import Idealize.ShloMosaic.Lib.Pipeline.Quiescent
public import Idealize.ShloMosaic.Lib.Pipeline.ValueKit.Point
public import Idealize.ShloMosaic.Lib.Pipeline.ValueKit.Acc
public import Idealize.ShloMosaic.Lib.Pipeline.ReadBack

@[expose] public section

set_option maxRecDepth 16384

noncomputable section

namespace Cert

open Idealize.ShloMosaic Idealize.SL.Sem Idealize.ShloMosaic.StableHlo
open Idealize.ShloMosaic.TcCoe
open Cert.Prod

/-! ### The loss -/

namespace Norms

/-- An entry of the norm less the target's. -/
def missed (x d g b t : Fin 2048 → EReal) (n : Fin 2048) : EReal := shifted (normal x d n) (g n) (b n) - t n

/-- The cotangent of an entry: its error over the number of entries of a row. -/
def cot (e : EReal) : EReal := Ideal.div e (Ideal.ofBits .f32 0x45000000#32)

/-- The mean square of a row of errors. -/
def square (e : Fin 2048 → EReal) : EReal := mean fun k => e k * e k

def half (x : EReal) : EReal := Ideal.ofBits .f32 0x3F000000#32 * x

/-- The kernel multiplies by the reciprocal of the number of entries. -/
theorem cot_eq (e : EReal) : e * Ideal.ofBits .f32 0x3A000000#32 = cot e := by
  have h : Ideal.ofBits .f32 0x45000000#32 = ((2048 : ℝ) : EReal) := by
    simp [Ideal.ofBits, Ideal.ieee, -EReal.coe_mul]; norm_num
  have h' : Ideal.ofBits .f32 0x3A000000#32 = ((1 / 2048 : ℝ) : EReal) := by
    simp [Ideal.ofBits, Ideal.ieee, -EReal.coe_mul]; norm_num
  unfold cot
  rw [h, h', Ideal.div_coe (by norm_num)]

/-- A sum of halves is the half of the sum, whatever the terms are. -/
theorem half_sum (s : Finset (Fin 8)) (f : Fin 8 → EReal) : half (∑ i ∈ s, f i) = ∑ i ∈ s, half (f i) := by
  have h : Ideal.ofBits .f32 0x3F000000#32 = ((1 / 2 : ℝ) : EReal) := by
    simp [Ideal.ofBits, Ideal.ieee, -EReal.coe_mul]; norm_num
  unfold half
  rw [h]
  induction s using Finset.induction_on with
  | empty => simp
  | insert a s ha ih =>
    rw [Finset.sum_insert ha, Finset.sum_insert ha,
      EReal.left_distrib_of_nonneg_of_ne_top (by exact_mod_cast (by norm_num : (0 : ℝ) ≤ 1 / 2)) (EReal.coe_ne_top _), ih]

end Norms

namespace NormLoss

open Norms

section
open Cert.Kernel31Ideal Cert.Kernel31Ideal.Gen

variable (m : (ℓ : Loc nD τ sig) → Buf (Elt Ideal) ℓ) (c : Dev nD)

theorem tiles (t : Fin cfg0.N) :
    (outsAt0 m c t.val t.isLt).1 = k0_pay1 (k0_pay7 (iblk m c 0 t) (iblk m c 1 t)) (k0_pay8 (iblk m c 0 t) (iblk m c 1 t)) (k0_pay16 (iblk m c 2 t) (k0_pay9 (iblk m c 0 t) (iblk m c 1 t) (iblk m c 2 t) (iblk m c 3 t) (iblk m c 4 t))) (k0_pay17 (k0_pay8 (iblk m c 0 t) (iblk m c 1 t)) (iblk m c 2 t) (k0_pay9 (iblk m c 0 t) (iblk m c 1 t) (iblk m c 2 t) (iblk m c 3 t) (iblk m c 4 t))) (k0_pay18 (iblk m c 2 t) (k0_pay9 (iblk m c 0 t) (iblk m c 1 t) (iblk m c 2 t) (iblk m c 3 t) (iblk m c 4 t)))
    ∧ (outsAt0 m c t.val t.isLt).2.1 = k0_pay2 (k0_pay7 (iblk m c 0 t) (iblk m c 1 t)) (k0_pay8 (iblk m c 0 t) (iblk m c 1 t)) (k0_pay16 (iblk m c 2 t) (k0_pay9 (iblk m c 0 t) (iblk m c 1 t) (iblk m c 2 t) (iblk m c 3 t) (iblk m c 4 t))) (k0_pay17 (k0_pay8 (iblk m c 0 t) (iblk m c 1 t)) (iblk m c 2 t) (k0_pay9 (iblk m c 0 t) (iblk m c 1 t) (iblk m c 2 t) (iblk m c 3 t) (iblk m c 4 t))) (k0_pay18 (iblk m c 2 t) (k0_pay9 (iblk m c 0 t) (iblk m c 1 t) (iblk m c 2 t) (iblk m c 3 t) (iblk m c 4 t))) := by
  by_cases h : t.val % 8 = 0
  · rw [outsAt0_A m c t h]
    dsimp only
    refine ⟨?_, ?_⟩ <;> frame_out
  · rw [outsAt0_B m c t h]
    dsimp only
    refine ⟨?_, ?_⟩ <;> frame_out

/-- What the loss and the two rows of sums hold after the first tile, -/
theorem carry_first (t : Fin cfg0.N) (h : t.val % 8 = 0) :
    (outsAt0 m c t.val t.isLt).2.2.1 = k0_pay12 (k0_pay10 (k0_pay3 (F := Ideal))) (k0_pay11 (iblk m c 0 t) (iblk m c 1 t) (iblk m c 2 t) (iblk m c 3 t) (iblk m c 4 t))
    ∧ (outsAt0 m c t.val t.isLt).2.2.2.1 = k0_pay14 (k0_pay8 (iblk m c 0 t) (iblk m c 1 t)) (k0_pay9 (iblk m c 0 t) (iblk m c 1 t) (iblk m c 2 t) (iblk m c 3 t) (iblk m c 4 t)) (k0_pay4 (F := Ideal))
    ∧ (outsAt0 m c t.val t.isLt).2.2.2.2 = k0_pay15 (k0_pay9 (iblk m c 0 t) (iblk m c 1 t) (iblk m c 2 t) (iblk m c 3 t) (iblk m c 4 t)) (k0_pay5 (F := Ideal)) := by
  rw [outsAt0_A m c t h]
  dsimp only
  refine ⟨?_, ?_, ?_⟩ <;> frame_out

/-- and after every further one. -/
theorem carry_next (t : Fin cfg0.N) (h : ¬t.val % 8 = 0) :
    (outsAt0 m c t.val t.isLt).2.2.1 = k0_pay12 (k0_pay10 (outsAt0 m c (t.val - 1) (Nat.lt_of_le_of_lt (Nat.sub_le _ _) t.isLt)).2.2.1) (k0_pay11 (iblk m c 0 t) (iblk m c 1 t) (iblk m c 2 t) (iblk m c 3 t) (iblk m c 4 t))
    ∧ (outsAt0 m c t.val t.isLt).2.2.2.1 = k0_pay14 (k0_pay8 (iblk m c 0 t) (iblk m c 1 t)) (k0_pay9 (iblk m c 0 t) (iblk m c 1 t) (iblk m c 2 t) (iblk m c 3 t) (iblk m c 4 t)) (outsAt0 m c (t.val - 1) (Nat.lt_of_le_of_lt (Nat.sub_le _ _) t.isLt)).2.2.2.1
    ∧ (outsAt0 m c t.val t.isLt).2.2.2.2 = k0_pay15 (k0_pay9 (iblk m c 0 t) (iblk m c 1 t) (iblk m c 2 t) (iblk m c 3 t) (iblk m c 4 t)) (outsAt0 m c (t.val - 1) (Nat.lt_of_le_of_lt (Nat.sub_le _ _) t.isLt)).2.2.2.2 := by
  rw [outsAt0_B m c t h]
  dsimp only
  refine ⟨?_, ?_, ?_⟩ <;> frame_out

theorem cot_val (e : Vec Ideal S256x2048 .f32) (r : Fin 256) (n : Fin 2048) : k0_pay13 (F := Ideal) e (ix2 r n) = cot (e (ix2 r n)) := by
  rw [← cot_eq]
  pointwise [k0_pay13]

theorem tile_val (s : Vec Ideal S256x1 .f32) (h e : Vec Ideal S256x2048 .f32) (g : Vec Ideal S1x2048 .f32) (r : Fin 256) (n : Fin 2048) :
    k0_pay1 s h (k0_pay16 g e) (k0_pay17 h g e) (k0_pay18 g e) (ix2 r n)
      = grad (fun k => cot (e (ix2 r k))) (fun k => h (ix2 r k)) (s (ix2 r 0)) (fun k => g (ix2 0 k)) n := by
  simp only [← cot_val]
  pointwise [k0_pay1, k0_pay16, k0_pay17, k0_pay18]
  rfl

theorem normal_val (x d : Vec Ideal S256x2048 .f32) (r : Fin 256) (n : Fin 2048) :
    k0_pay7 x d (ix2 r 0) = scale (fun k => x (ix2 r k)) (fun k => d (ix2 r k))
    ∧ k0_pay8 x d (ix2 r n) = normal (fun k => x (ix2 r k)) (fun k => d (ix2 r k)) n := by
  constructor
  · pointwise [k0_pay7, k0_pay6]
    rfl
  · pointwise [k0_pay8, k0_pay7, k0_pay6]
    rfl

theorem missed_val (x d t : Vec Ideal S256x2048 .f32) (g b : Vec Ideal S1x2048 .f32) (r : Fin 256) (n : Fin 2048) :
    k0_pay9 x d g b t (ix2 r n)
      = missed (fun k => x (ix2 r k)) (fun k => d (ix2 r k)) (fun k => g (ix2 0 k)) (fun k => b (ix2 0 k)) (fun k => t (ix2 r k)) n := by
  unfold missed
  rw [← (normal_val x d r n).2]
  pointwise [k0_pay9]
  rfl

theorem addL_val (x d t : Vec Ideal S256x2048 .f32) (g b : Vec Ideal S1x2048 .f32) (a : Vec Ideal S8x128 .f32) (p : Fin 8) (q : Fin 128) :
    k0_pay12 (k0_pay10 a) (k0_pay11 x d g b t) (ix2 p q)
      = a (ix2 p q) + half (∑ r : Fin 256, square fun k => k0_pay9 x d g b t (ix2 r k)) := by
  pointwise [k0_pay12, k0_pay10, k0_pay11]
  simp only [Fin.sum_univ_one, Fintype.sum_unique]
  rfl

theorem addG_val (h e : Vec Ideal S256x2048 .f32) (a : Vec Ideal S1x2048 .f32) (n : Fin 2048) :
    k0_pay14 h e a (ix2 0 n) = a (ix2 0 n) + ∑ r : Fin 256, scaled (cot (e (ix2 r n))) (h (ix2 r n)) := by
  simp only [← cot_val]
  pointwise [k0_pay14]
  rfl

theorem addB_val (e : Vec Ideal S256x2048 .f32) (a : Vec Ideal S1x2048 .f32) (n : Fin 2048) :
    k0_pay15 e a (ix2 0 n) = a (ix2 0 n) + ∑ r : Fin 256, cot (e (ix2 r n)) := by
  simp only [← cot_val]
  pointwise [k0_pay15]

theorem zero_val (n : Fin 2048) (p : Fin 8) (q : Fin 128) :
    k0_pay3 (F := Ideal) (ix2 p q) = 0 ∧ k0_pay4 (F := Ideal) (ix2 0 n) = 0 ∧ k0_pay5 (F := Ideal) (ix2 0 n) = 0 := by
  refine ⟨?_, ?_, ?_⟩
  · pointwise [k0_pay3]
  · pointwise [k0_pay4]
  · pointwise [k0_pay5]

theorem index_all : ∀ t : Fin cfg0.N, win0_0.index t = ![t.val, 0] ∧ win0_1.index t = ![t.val, 0] ∧ win0_2.index t = ![0, 0]
    ∧ win0_3.index t = ![0, 0] ∧ win0_4.index t = ![t.val, 0] := by
  decide +kernel

theorem index_out : ∀ t : Fin cfg0.N, win0_5.index t = ![t.val, 0] ∧ win0_6.index t = ![t.val, 0] ∧ win0_7.index t = ![0, 0]
    ∧ win0_8.index t = ![0, 0] ∧ win0_9.index t = ![0, 0] := by
  decide +kernel

/-- The row that a row of a point's tile is. -/
def row (u : Fin cfg0.N) (r : Fin 256) : Fin 2048 := ⟨u.val * 256 + r.val, by have := lt_of_lt_of_eq u.isLt N_0; omega⟩

theorem blks (u : Fin cfg0.N) (r : Fin 256) (n : Fin 2048) :
    iblk m c 0 u (ix2 r n) = (m ((c : Thread nD τ).loc main_arg0)) (ix2 (row u r) n)
    ∧ iblk m c 1 u (ix2 r n) = (m ((c : Thread nD τ).loc main_arg1)) (ix2 (row u r) n)
    ∧ iblk m c 2 u (ix2 0 n) = (m ((c : Thread nD τ).loc main_arg2)) (ix2 0 n)
    ∧ iblk m c 3 u (ix2 0 n) = (m ((c : Thread nD τ).loc main_arg3)) (ix2 0 n)
    ∧ iblk m c 4 u (ix2 r n) = (m ((c : Thread nD τ).loc main_arg4)) (ix2 (row u r) n) := by
  obtain ⟨e0, e1, e2, e3, e4⟩ := index_all u
  refine ⟨?_, ?_, ?_, ?_, ?_⟩
  · blk_ext [iblk, V, e0, row]
  · blk_ext [iblk, V, e1, row]
  · blk_ext [iblk, V, e2]
  · blk_ext [iblk, V, e3]
  · blk_ext [iblk, V, e4, row]

theorem missed_at (u : Fin cfg0.N) (r : Fin 256) (n : Fin 2048) : k0_pay9 (iblk m c 0 u) (iblk m c 1 u) (iblk m c 2 u) (iblk m c 3 u) (iblk m c 4 u) (ix2 r n) = missed (fun k => m ((c : Thread nD τ).loc main_arg0) (ix2 (row u r) k)) (fun k => m ((c : Thread nD τ).loc main_arg1) (ix2 (row u r) k)) (fun k => m ((c : Thread nD τ).loc main_arg2) (ix2 0 k)) (fun k => m ((c : Thread nD τ).loc main_arg3) (ix2 0 k)) (fun k => m ((c : Thread nD τ).loc main_arg4) (ix2 (row u r) k)) n := by
  rw [missed_val]
  simp only [(blks m c u r _).1, (blks m c u r _).2.1, (blks m c u r _).2.2.1, (blks m c u r _).2.2.2.1, (blks m c u r _).2.2.2.2]

theorem normal_at (u : Fin cfg0.N) (r : Fin 256) (n : Fin 2048) :
    k0_pay7 (iblk m c 0 u) (iblk m c 1 u) (ix2 r 0) = scale (fun k => m ((c : Thread nD τ).loc main_arg0) (ix2 (row u r) k)) (fun k => m ((c : Thread nD τ).loc main_arg1) (ix2 (row u r) k))
    ∧ k0_pay8 (iblk m c 0 u) (iblk m c 1 u) (ix2 r n) = normal (fun k => m ((c : Thread nD τ).loc main_arg0) (ix2 (row u r) k)) (fun k => m ((c : Thread nD τ).loc main_arg1) (ix2 (row u r) k)) n := by
  rw [(normal_val _ _ r n).1, (normal_val _ _ r n).2]
  simp only [(blks m c u r _).1, (blks m c u r _).2.1, and_self]

theorem tile_at (u : Fin cfg0.N) (r : Fin 256) (n : Fin 2048) :
    k0_pay1 (k0_pay7 (iblk m c 0 u) (iblk m c 1 u)) (k0_pay8 (iblk m c 0 u) (iblk m c 1 u)) (k0_pay16 (iblk m c 2 u) (k0_pay9 (iblk m c 0 u) (iblk m c 1 u) (iblk m c 2 u) (iblk m c 3 u) (iblk m c 4 u))) (k0_pay17 (k0_pay8 (iblk m c 0 u) (iblk m c 1 u)) (iblk m c 2 u) (k0_pay9 (iblk m c 0 u) (iblk m c 1 u) (iblk m c 2 u) (iblk m c 3 u) (iblk m c 4 u))) (k0_pay18 (iblk m c 2 u) (k0_pay9 (iblk m c 0 u) (iblk m c 1 u) (iblk m c 2 u) (iblk m c 3 u) (iblk m c 4 u))) (ix2 r n)
      = grad (fun k => cot (missed (fun k => m ((c : Thread nD τ).loc main_arg0) (ix2 (row u r) k)) (fun k => m ((c : Thread nD τ).loc main_arg1) (ix2 (row u r) k)) (fun k => m ((c : Thread nD τ).loc main_arg2) (ix2 0 k)) (fun k => m ((c : Thread nD τ).loc main_arg3) (ix2 0 k)) (fun k => m ((c : Thread nD τ).loc main_arg4) (ix2 (row u r) k)) k)) (normal (fun k => m ((c : Thread nD τ).loc main_arg0) (ix2 (row u r) k)) (fun k => m ((c : Thread nD τ).loc main_arg1) (ix2 (row u r) k))) (scale (fun k => m ((c : Thread nD τ).loc main_arg0) (ix2 (row u r) k)) (fun k => m ((c : Thread nD τ).loc main_arg1) (ix2 (row u r) k))) (fun k => m ((c : Thread nD τ).loc main_arg2) (ix2 0 k)) n := by
  rw [tile_val]
  simp only [missed_at, (normal_at m c u r 0).1, (normal_at m c u r _).2, (blks m c u r _).2.2.1]

/-- The loss, when the last tile has been added, -/
theorem totalL (t : Fin cfg0.N) (h : t.val % 8 = 7) (p : Fin 8) (q : Fin 128) : (outsAt0 m c t.val t.isLt).2.2.1 (ix2 p q)
    = ∑ s : Fin 8, half (total256 fun r => square (missed (fun k => m ((c : Thread nD τ).loc main_arg0) (ix2 (row ⟨8 * (t.val / 8) + s.val, Pipeline.run_point_lt_of_flush t h s⟩ r) k)) (fun k => m ((c : Thread nD τ).loc main_arg1) (ix2 (row ⟨8 * (t.val / 8) + s.val, Pipeline.run_point_lt_of_flush t h s⟩ r) k)) (fun k => m ((c : Thread nD τ).loc main_arg2) (ix2 0 k)) (fun k => m ((c : Thread nD τ).loc main_arg3) (ix2 0 k)) (fun k => m ((c : Thread nD τ).loc main_arg4) (ix2 (row ⟨8 * (t.val / 8) + s.val, Pipeline.run_point_lt_of_flush t h s⟩ r) k)))) := by
  have z := Pipeline.eq_sum_fin_of_reset_step_apply_of_flush (fun k hk (i : Fin 8 × Fin 128) => (outsAt0 m c k hk).2.2.1 (ix2 i.1 i.2)) 8
    (fun _ => (0 : EReal)) (fun u _ => half (total256 fun r => square (missed (fun k => m ((c : Thread nD τ).loc main_arg0) (ix2 (row u r) k)) (fun k => m ((c : Thread nD τ).loc main_arg1) (ix2 (row u r) k)) (fun k => m ((c : Thread nD τ).loc main_arg2) (ix2 0 k)) (fun k => m ((c : Thread nD τ).loc main_arg3) (ix2 0 k)) (fun k => m ((c : Thread nD τ).loc main_arg4) (ix2 (row u r) k)))))
    (fun u hu i => by rw [(carry_first m c u hu).1, addL_val, (zero_val 0 i.1 i.2).1]; simp only [missed_at]; rfl)
    (fun u hu i => by rw [(carry_next m c u hu).1, addL_val]; simp only [missed_at]; rfl) t h (p, q)
  rw [zero_add] at z
  exact z

/-- the scale's gradient -/
theorem totalG (t : Fin cfg0.N) (h : t.val % 8 = 7) (n : Fin 2048) : (outsAt0 m c t.val t.isLt).2.2.2.1 (ix2 0 n)
    = ∑ s : Fin 8, total256 fun a => scaled (cot (missed (fun k => m ((c : Thread nD τ).loc main_arg0) (ix2 (row ⟨8 * (t.val / 8) + s.val, Pipeline.run_point_lt_of_flush t h s⟩ a) k)) (fun k => m ((c : Thread nD τ).loc main_arg1) (ix2 (row ⟨8 * (t.val / 8) + s.val, Pipeline.run_point_lt_of_flush t h s⟩ a) k)) (fun k => m ((c : Thread nD τ).loc main_arg2) (ix2 0 k)) (fun k => m ((c : Thread nD τ).loc main_arg3) (ix2 0 k)) (fun k => m ((c : Thread nD τ).loc main_arg4) (ix2 (row ⟨8 * (t.val / 8) + s.val, Pipeline.run_point_lt_of_flush t h s⟩ a) k)) n)) (normal (fun k => m ((c : Thread nD τ).loc main_arg0) (ix2 (row ⟨8 * (t.val / 8) + s.val, Pipeline.run_point_lt_of_flush t h s⟩ a) k)) (fun k => m ((c : Thread nD τ).loc main_arg1) (ix2 (row ⟨8 * (t.val / 8) + s.val, Pipeline.run_point_lt_of_flush t h s⟩ a) k)) n) := by
  have z := Pipeline.eq_sum_fin_of_reset_step_apply_of_flush (fun k hk (i : Fin 2048) => (outsAt0 m c k hk).2.2.2.1 (ix2 0 i)) 8
    (fun _ => (0 : EReal)) (fun u i => total256 fun a => scaled (cot (missed (fun k => m ((c : Thread nD τ).loc main_arg0) (ix2 (row u a) k)) (fun k => m ((c : Thread nD τ).loc main_arg1) (ix2 (row u a) k)) (fun k => m ((c : Thread nD τ).loc main_arg2) (ix2 0 k)) (fun k => m ((c : Thread nD τ).loc main_arg3) (ix2 0 k)) (fun k => m ((c : Thread nD τ).loc main_arg4) (ix2 (row u a) k)) i)) (normal (fun k => m ((c : Thread nD τ).loc main_arg0) (ix2 (row u a) k)) (fun k => m ((c : Thread nD τ).loc main_arg1) (ix2 (row u a) k)) i))
    (fun u hu i => by rw [(carry_first m c u hu).2.1, addG_val, (zero_val i 0 0).2.1]; simp only [missed_at, (normal_at m c u _ _).2]; rfl)
    (fun u hu i => by rw [(carry_next m c u hu).2.1, addG_val]; simp only [missed_at, (normal_at m c u _ _).2]; rfl) t h n
  rw [zero_add] at z
  exact z

/-- and the shift's. -/
theorem totalB (t : Fin cfg0.N) (h : t.val % 8 = 7) (n : Fin 2048) : (outsAt0 m c t.val t.isLt).2.2.2.2 (ix2 0 n)
    = ∑ s : Fin 8, total256 fun a => cot (missed (fun k => m ((c : Thread nD τ).loc main_arg0) (ix2 (row ⟨8 * (t.val / 8) + s.val, Pipeline.run_point_lt_of_flush t h s⟩ a) k)) (fun k => m ((c : Thread nD τ).loc main_arg1) (ix2 (row ⟨8 * (t.val / 8) + s.val, Pipeline.run_point_lt_of_flush t h s⟩ a) k)) (fun k => m ((c : Thread nD τ).loc main_arg2) (ix2 0 k)) (fun k => m ((c : Thread nD τ).loc main_arg3) (ix2 0 k)) (fun k => m ((c : Thread nD τ).loc main_arg4) (ix2 (row ⟨8 * (t.val / 8) + s.val, Pipeline.run_point_lt_of_flush t h s⟩ a) k)) n) := by
  have z := Pipeline.eq_sum_fin_of_reset_step_apply_of_flush (fun k hk (i : Fin 2048) => (outsAt0 m c k hk).2.2.2.2 (ix2 0 i)) 8
    (fun _ => (0 : EReal)) (fun u i => total256 fun a => cot (missed (fun k => m ((c : Thread nD τ).loc main_arg0) (ix2 (row u a) k)) (fun k => m ((c : Thread nD τ).loc main_arg1) (ix2 (row u a) k)) (fun k => m ((c : Thread nD τ).loc main_arg2) (ix2 0 k)) (fun k => m ((c : Thread nD τ).loc main_arg3) (ix2 0 k)) (fun k => m ((c : Thread nD τ).loc main_arg4) (ix2 (row u a) k)) i))
    (fun u hu i => by rw [(carry_first m c u hu).2.2, addB_val, (zero_val i 0 0).2.2]; simp only [missed_at]; rfl)
    (fun u hu i => by rw [(carry_next m c u hu).2.2, addB_val]; simp only [missed_at]; rfl) t h n
  rw [zero_add] at z
  exact z

theorem arr5 : (dats m 0 c).arrAt 5 cfg0.N = fun i : S2048x2048.Idx => grad (fun k => cot (missed (fun k => m ((c : Thread nD τ).loc main_arg0) (ix2 (i 0) k)) (fun k => m ((c : Thread nD τ).loc main_arg1) (ix2 (i 0) k)) (fun k => m ((c : Thread nD τ).loc main_arg2) (ix2 0 k)) (fun k => m ((c : Thread nD τ).loc main_arg3) (ix2 0 k)) (fun k => m ((c : Thread nD τ).loc main_arg4) (ix2 (i 0) k)) k)) (normal (fun k => m ((c : Thread nD τ).loc main_arg0) (ix2 (i 0) k)) (fun k => m ((c : Thread nD τ).loc main_arg1) (ix2 (i 0) k))) (scale (fun k => m ((c : Thread nD τ).loc main_arg0) (ix2 (i 0) k)) (fun k => m ((c : Thread nD τ).loc main_arg1) (ix2 (i 0) k))) (fun k => m ((c : Thread nD τ).loc main_arg2) (ix2 0 k)) (i 1) := by
  refine (dats m 0 c).arrAt_eq_of_covers 5 _ (by decide +kernel) fun t _ y => ?_
  obtain ⟨e5, e6, e7, e8, e9⟩ := index_out t
  obtain ⟨r, n, rfl⟩ : ∃ (r : Fin 256) (n : Fin 2048), y = ix2 r n := ⟨y 0, y 1, ValueIdx.eq_ix2 y⟩
  have z0 : (win0_5.blk t).view.emb (ix2 r n) 0 = row t r := Fin.ext (by blk_simp [e5, row])
  have z1 : (win0_5.blk t).view.emb (ix2 r n) 1 = n := Fin.ext (by blk_simp [e5])
  blk_simp [e5]
  rw [after0_5, z0, z1, (tiles m c t).1]
  exact tile_at m c t r n

theorem arr6 : (dats m 0 c).arrAt 6 cfg0.N = fun i : S2048x2048.Idx => grad (fun k => cot (missed (fun k => m ((c : Thread nD τ).loc main_arg0) (ix2 (i 0) k)) (fun k => m ((c : Thread nD τ).loc main_arg1) (ix2 (i 0) k)) (fun k => m ((c : Thread nD τ).loc main_arg2) (ix2 0 k)) (fun k => m ((c : Thread nD τ).loc main_arg3) (ix2 0 k)) (fun k => m ((c : Thread nD τ).loc main_arg4) (ix2 (i 0) k)) k)) (normal (fun k => m ((c : Thread nD τ).loc main_arg0) (ix2 (i 0) k)) (fun k => m ((c : Thread nD τ).loc main_arg1) (ix2 (i 0) k))) (scale (fun k => m ((c : Thread nD τ).loc main_arg0) (ix2 (i 0) k)) (fun k => m ((c : Thread nD τ).loc main_arg1) (ix2 (i 0) k))) (fun k => m ((c : Thread nD τ).loc main_arg2) (ix2 0 k)) (i 1) := by
  refine (dats m 0 c).arrAt_eq_of_covers 6 _ (by decide +kernel) fun t _ y => ?_
  obtain ⟨e5, e6, e7, e8, e9⟩ := index_out t
  obtain ⟨r, n, rfl⟩ : ∃ (r : Fin 256) (n : Fin 2048), y = ix2 r n := ⟨y 0, y 1, ValueIdx.eq_ix2 y⟩
  have z0 : (win0_6.blk t).view.emb (ix2 r n) 0 = row t r := Fin.ext (by blk_simp [e6, row])
  have z1 : (win0_6.blk t).view.emb (ix2 r n) 1 = n := Fin.ext (by blk_simp [e6])
  blk_simp [e6]
  rw [after0_6, z0, z1, (tiles m c t).2]
  exact tile_at m c t r n

theorem arr7 : (dats m 0 c).arrAt 7 cfg0.N = fun _ : S8x128.Idx => half (total fun a => square (missed (fun k => m ((c : Thread nD τ).loc main_arg0) (ix2 a k)) (fun k => m ((c : Thread nD τ).loc main_arg1) (ix2 a k)) (fun k => m ((c : Thread nD τ).loc main_arg2) (ix2 0 k)) (fun k => m ((c : Thread nD τ).loc main_arg3) (ix2 0 k)) (fun k => m ((c : Thread nD τ).loc main_arg4) (ix2 a k)))) := by
  refine (dats m 0 c).arrAt_eq_of_covers 7 _ (by decide +kernel) fun t hf y => ?_
  obtain ⟨e5, e6, e7, e8, e9⟩ := index_out t
  have h7 : t.val % 8 = 7 := (flush0_7 t).mp hf
  have ht : t.val < 8 := lt_of_lt_of_eq t.isLt N_0
  obtain ⟨p, q, rfl⟩ : ∃ (p : Fin 8) (q : Fin 128), y = ix2 p q := ⟨y 0, y 1, ValueIdx.eq_ix2 y⟩
  blk_simp [e7]
  rw [after0_7, totalL m c t h7, ← half_sum]
  refine congrArg half ?_
  unfold total total256
  refine Fin.sum_mul_add_congr (S := 8) (n := 256) fun s k hl => ?_
  · have hr : row ⟨8 * (t.val / 8) + s.val, Pipeline.run_point_lt_of_flush t h7 s⟩ k = ⟨s.val * 256 + k.val, hl⟩ := by
      apply Fin.ext; show (8 * (t.val / 8) + s.val) * 256 + k.val = s.val * 256 + k.val; omega
    rw [hr]

theorem arr8 : (dats m 0 c).arrAt 8 cfg0.N = fun i : S1x2048.Idx => total fun a => scaled (cot (missed (fun k => m ((c : Thread nD τ).loc main_arg0) (ix2 a k)) (fun k => m ((c : Thread nD τ).loc main_arg1) (ix2 a k)) (fun k => m ((c : Thread nD τ).loc main_arg2) (ix2 0 k)) (fun k => m ((c : Thread nD τ).loc main_arg3) (ix2 0 k)) (fun k => m ((c : Thread nD τ).loc main_arg4) (ix2 a k)) (i 1))) (normal (fun k => m ((c : Thread nD τ).loc main_arg0) (ix2 a k)) (fun k => m ((c : Thread nD τ).loc main_arg1) (ix2 a k)) (i 1)) := by
  refine (dats m 0 c).arrAt_eq_of_covers 8 _ (by decide +kernel) fun t hf y => ?_
  obtain ⟨e5, e6, e7, e8, e9⟩ := index_out t
  have h7 : t.val % 8 = 7 := (flush0_8 t).mp hf
  have ht : t.val < 8 := lt_of_lt_of_eq t.isLt N_0
  obtain ⟨n, rfl⟩ : ∃ n : Fin 2048, y = ix2 0 n := ⟨y 1, (ValueIdx.eq_ix2 y).trans (congrArg (fun a => ix2 a (y 1)) (Subsingleton.elim (α := Fin 1) _ _))⟩
  have z1 : (win0_8.blk t).view.emb (ix2 0 n) 1 = n := Fin.ext (by blk_simp [e8])
  blk_simp [e8]
  rw [after0_8, z1, totalG m c t h7]
  unfold total total256
  refine Fin.sum_mul_add_congr (S := 8) (n := 256) fun s k hl => ?_
  · have hr : row ⟨8 * (t.val / 8) + s.val, Pipeline.run_point_lt_of_flush t h7 s⟩ k = ⟨s.val * 256 + k.val, hl⟩ := by
      apply Fin.ext; show (8 * (t.val / 8) + s.val) * 256 + k.val = s.val * 256 + k.val; omega
    rw [hr]

theorem arr9 : (dats m 0 c).arrAt 9 cfg0.N = fun i : S1x2048.Idx => total fun a => cot (missed (fun k => m ((c : Thread nD τ).loc main_arg0) (ix2 a k)) (fun k => m ((c : Thread nD τ).loc main_arg1) (ix2 a k)) (fun k => m ((c : Thread nD τ).loc main_arg2) (ix2 0 k)) (fun k => m ((c : Thread nD τ).loc main_arg3) (ix2 0 k)) (fun k => m ((c : Thread nD τ).loc main_arg4) (ix2 a k)) (i 1)) := by
  refine (dats m 0 c).arrAt_eq_of_covers 9 _ (by decide +kernel) fun t hf y => ?_
  obtain ⟨e5, e6, e7, e8, e9⟩ := index_out t
  have h7 : t.val % 8 = 7 := (flush0_9 t).mp hf
  have ht : t.val < 8 := lt_of_lt_of_eq t.isLt N_0
  obtain ⟨n, rfl⟩ : ∃ n : Fin 2048, y = ix2 0 n := ⟨y 1, (ValueIdx.eq_ix2 y).trans (congrArg (fun a => ix2 a (y 1)) (Subsingleton.elim (α := Fin 1) _ _))⟩
  have z1 : (win0_9.blk t).view.emb (ix2 0 n) 1 = n := Fin.ext (by blk_simp [e9])
  blk_simp [e9]
  rw [after0_9, z1, totalB m c t h7]
  unfold total total256
  refine Fin.sum_mul_add_congr (S := 8) (n := 256) fun s k hl => ?_
  · have hr : row ⟨8 * (t.val / 8) + s.val, Pipeline.run_point_lt_of_flush t h7 s⟩ k = ⟨s.val * 256 + k.val, hl⟩ := by
      apply Fin.ext; show (8 * (t.val / 8) + s.val) * 256 + k.val = s.val * 256 + k.val; omega
    rw [hr]

end

theorem ref_normal (x d : Ix 2048 2048 → EReal) (r n : Fin 2048) :
    Cert.Reference31Ideal.Read.val_main_v16 (F := Ideal) x d (ix2 r 0) = scale (fun k => x (ix2 r k)) (fun k => d (ix2 r k))
    ∧ Cert.Reference31Ideal.Read.val_main_v20 (F := Ideal) x d (ix2 r n) = normal (fun k => x (ix2 r k)) (fun k => d (ix2 r k)) n := by
  constructor
  · pointwise [Cert.Reference31Ideal.Read.val_main_v16, Cert.Reference31Ideal.Read.val_main_v15, Cert.Reference31Ideal.Read.val_main_v14, Cert.Reference31Ideal.Read.val_main_v13, Cert.Reference31Ideal.Read.val_main_v12, Cert.Reference31Ideal.Read.val_main_v11, Cert.Reference31Ideal.Read.val_main_v10, Cert.Reference31Ideal.Read.val_main_v9, Cert.Reference31Ideal.Read.val_main_v8, Cert.Reference31Ideal.Read.val_main_v7, Cert.Reference31Ideal.Read.val_main_v6, Cert.Reference31Ideal.Read.val_main_v5, Cert.Reference31Ideal.Read.val_main_v4, Cert.Reference31Ideal.Read.val_main_v3, Cert.Reference31Ideal.Read.val_main_v2, Cert.Reference31Ideal.Read.val_main_v1, Cert.Reference31Ideal.Read.val_main_v0, Cert.Reference31Ideal.Read.val_main_cst, Cert.Reference31Ideal.Read.val_main_cst_0, Cert.Reference31Ideal.Read.val_main_cst_1, Cert.Reference31Ideal.Read.val_main_cst_2, Cert.Reference31Ideal.Read.val_main_cst_3, Cert.Reference31Ideal.Read.val_main_cst_4]
    rfl
  · pointwise [Cert.Reference31Ideal.Read.val_main_v20, Cert.Reference31Ideal.Read.val_main_v19, Cert.Reference31Ideal.Read.val_main_v18, Cert.Reference31Ideal.Read.val_main_v17, Cert.Reference31Ideal.Read.val_main_v16, Cert.Reference31Ideal.Read.val_main_v15, Cert.Reference31Ideal.Read.val_main_v14, Cert.Reference31Ideal.Read.val_main_v13, Cert.Reference31Ideal.Read.val_main_v12, Cert.Reference31Ideal.Read.val_main_v11, Cert.Reference31Ideal.Read.val_main_v10, Cert.Reference31Ideal.Read.val_main_v9, Cert.Reference31Ideal.Read.val_main_v8, Cert.Reference31Ideal.Read.val_main_v7, Cert.Reference31Ideal.Read.val_main_v6, Cert.Reference31Ideal.Read.val_main_v5, Cert.Reference31Ideal.Read.val_main_v4, Cert.Reference31Ideal.Read.val_main_v3, Cert.Reference31Ideal.Read.val_main_v2, Cert.Reference31Ideal.Read.val_main_v1, Cert.Reference31Ideal.Read.val_main_v0, Cert.Reference31Ideal.Read.val_main_cst, Cert.Reference31Ideal.Read.val_main_cst_0, Cert.Reference31Ideal.Read.val_main_cst_1, Cert.Reference31Ideal.Read.val_main_cst_2, Cert.Reference31Ideal.Read.val_main_cst_3, Cert.Reference31Ideal.Read.val_main_cst_4]
    rfl

theorem ref_missed (x d : Ix 2048 2048 → EReal) (g b : Ix 1 2048 → EReal) (t : Ix 2048 2048 → EReal) (r n : Fin 2048) : Cert.Reference31Ideal.Read.val_main_v25 (F := Ideal) x d g b t (ix2 r n) = missed (fun k => x (ix2 r k)) (fun k => d (ix2 r k)) (fun k => g (ix2 0 k)) (fun k => b (ix2 0 k)) (fun k => t (ix2 r k)) n := by
  unfold missed
  rw [← (ref_normal x d r n).2]
  pointwise [Cert.Reference31Ideal.Read.val_main_v25, Cert.Reference31Ideal.Read.val_main_v24, Cert.Reference31Ideal.Read.val_main_v23, Cert.Reference31Ideal.Read.val_main_v22, Cert.Reference31Ideal.Read.val_main_v21]
  rfl

theorem ref_cot (x d : Ix 2048 2048 → EReal) (g b : Ix 1 2048 → EReal) (t : Ix 2048 2048 → EReal) (r n : Fin 2048) : Cert.Reference31Ideal.Read.val_main_v33 (F := Ideal) x d g b t (ix2 r n) = cot (missed (fun k => x (ix2 r k)) (fun k => d (ix2 r k)) (fun k => g (ix2 0 k)) (fun k => b (ix2 0 k)) (fun k => t (ix2 r k)) n) := by
  rw [← ref_missed]
  pointwise [Cert.Reference31Ideal.Read.val_main_v33, Cert.Reference31Ideal.Read.val_main_v32, Cert.Reference31Ideal.Read.val_main_cst_9]
  rfl

theorem ref_grad (x d : Ix 2048 2048 → EReal) (g b : Ix 1 2048 → EReal) (t : Ix 2048 2048 → EReal) (r n : Fin 2048) : Cert.Reference31Ideal.Read.val_main_v51 (F := Ideal) x d g b t (ix2 r n)
    = grad (fun k => cot (missed (fun k => x (ix2 r k)) (fun k => d (ix2 r k)) (fun k => g (ix2 0 k)) (fun k => b (ix2 0 k)) (fun k => t (ix2 r k)) k)) (normal (fun k => x (ix2 r k)) (fun k => d (ix2 r k))) (scale (fun k => x (ix2 r k)) (fun k => d (ix2 r k))) (fun k => g (ix2 0 k)) n := by
  have e : grad (fun k => Cert.Reference31Ideal.Read.val_main_v33 (F := Ideal) x d g b t (ix2 r k))
      (fun k => Cert.Reference31Ideal.Read.val_main_v20 (F := Ideal) x d (ix2 r k))
      (Cert.Reference31Ideal.Read.val_main_v16 (F := Ideal) x d (ix2 r 0)) (fun k => g (ix2 0 k)) n
      = grad (fun k => cot (missed (fun k => x (ix2 r k)) (fun k => d (ix2 r k)) (fun k => g (ix2 0 k)) (fun k => b (ix2 0 k)) (fun k => t (ix2 r k)) k)) (normal (fun k => x (ix2 r k)) (fun k => d (ix2 r k))) (scale (fun k => x (ix2 r k)) (fun k => d (ix2 r k))) (fun k => g (ix2 0 k)) n := by
    simp only [ref_cot, (ref_normal x d r 0).1, (ref_normal x d r _).2]
  rw [← e]
  pointwise [Cert.Reference31Ideal.Read.val_main_v51, Cert.Reference31Ideal.Read.val_main_v50, Cert.Reference31Ideal.Read.val_main_v49, Cert.Reference31Ideal.Read.val_main_v48, Cert.Reference31Ideal.Read.val_main_v47, Cert.Reference31Ideal.Read.val_main_v46, Cert.Reference31Ideal.Read.val_main_v45, Cert.Reference31Ideal.Read.val_main_v44, Cert.Reference31Ideal.Read.val_main_v43, Cert.Reference31Ideal.Read.val_main_v42, Cert.Reference31Ideal.Read.val_main_v41, Cert.Reference31Ideal.Read.val_main_v40, Cert.Reference31Ideal.Read.val_main_v39, Cert.Reference31Ideal.Read.val_main_v38, Cert.Reference31Ideal.Read.val_main_v37, Cert.Reference31Ideal.Read.val_main_v36, Cert.Reference31Ideal.Read.val_main_v35, Cert.Reference31Ideal.Read.val_main_v34, Cert.Reference31Ideal.Read.val_main_cst_10, Cert.Reference31Ideal.Read.val_main_cst_11, Cert.Reference31Ideal.Read.val_main_cst_12, Cert.Reference31Ideal.Read.val_main_cst_13]
  rfl

theorem ref_loss (x d : Ix 2048 2048 → EReal) (g b : Ix 1 2048 → EReal) (t : Ix 2048 2048 → EReal) (p : Fin 8) (q : Fin 128) : Cert.Reference31Ideal.Read.val_main_v53 (F := Ideal) x d g b t (ix2 p q)
    = half (total fun a => square (missed (fun k => x (ix2 a k)) (fun k => d (ix2 a k)) (fun k => g (ix2 0 k)) (fun k => b (ix2 0 k)) (fun k => t (ix2 a k)))) := by
  have e : half (total fun a => square fun k => Cert.Reference31Ideal.Read.val_main_v25 (F := Ideal) x d g b t (ix2 a k))
      = half (total fun a => square (missed (fun k => x (ix2 a k)) (fun k => d (ix2 a k)) (fun k => g (ix2 0 k)) (fun k => b (ix2 0 k)) (fun k => t (ix2 a k)))) := by
    simp only [ref_missed]
  rw [← e]
  pointwise [Cert.Reference31Ideal.Read.val_main_v53, Cert.Reference31Ideal.Read.val_main_v31, Cert.Reference31Ideal.Read.val_main_v30, Cert.Reference31Ideal.Read.val_main_v29, Cert.Reference31Ideal.Read.val_main_v28, Cert.Reference31Ideal.Read.val_main_v27, Cert.Reference31Ideal.Read.val_main_v26, Cert.Reference31Ideal.Read.val_main_cst_5, Cert.Reference31Ideal.Read.val_main_cst_6, Cert.Reference31Ideal.Read.val_main_cst_7, Cert.Reference31Ideal.Read.val_main_cst_8]
  rfl

theorem ref_sums (x d : Ix 2048 2048 → EReal) (g b : Ix 1 2048 → EReal) (t : Ix 2048 2048 → EReal) (n : Fin 2048) :
    Cert.Reference31Ideal.Read.val_main_v56 (F := Ideal) x d g b t (ix2 0 n)
      = total (fun a => scaled (cot (missed (fun k => x (ix2 a k)) (fun k => d (ix2 a k)) (fun k => g (ix2 0 k)) (fun k => b (ix2 0 k)) (fun k => t (ix2 a k)) n)) (normal (fun k => x (ix2 a k)) (fun k => d (ix2 a k)) n))
    ∧ Cert.Reference31Ideal.Read.val_main_v58 (F := Ideal) x d g b t (ix2 0 n) = total (fun a => cot (missed (fun k => x (ix2 a k)) (fun k => d (ix2 a k)) (fun k => g (ix2 0 k)) (fun k => b (ix2 0 k)) (fun k => t (ix2 a k)) n)) := by
  simp only [← ref_cot, ← (ref_normal x d _ _).2]
  unfold total
  constructor
  · pointwise [Cert.Reference31Ideal.Read.val_main_v56, Cert.Reference31Ideal.Read.val_main_v55, Cert.Reference31Ideal.Read.val_main_v54, Cert.Reference31Ideal.Read.val_main_cst_14]
    rfl
  · pointwise [Cert.Reference31Ideal.Read.val_main_v58, Cert.Reference31Ideal.Read.val_main_v57, Cert.Reference31Ideal.Read.val_main_cst_15]

theorem algebraic : Cert.algebraic_Kernel31Ideal_Reference31Ideal (hKernel31Ideal := Cert.Kernel31Ideal.Gen.facts) (hReference31Ideal := Cert.Reference31Ideal.Gen.facts) := by
  intro m g m' g' _ e
  refine ⟨fun c i => grad (fun k => cot (missed (fun k => m ((c.tc : Thread _ _).loc Cert.Kernel31Ideal.main_arg0) (ix2 (i 0) k)) (fun k => m ((c.tc : Thread _ _).loc Cert.Kernel31Ideal.main_arg1) (ix2 (i 0) k)) (fun k => m ((c.tc : Thread _ _).loc Cert.Kernel31Ideal.main_arg2) (ix2 0 k)) (fun k => m ((c.tc : Thread _ _).loc Cert.Kernel31Ideal.main_arg3) (ix2 0 k)) (fun k => m ((c.tc : Thread _ _).loc Cert.Kernel31Ideal.main_arg4) (ix2 (i 0) k)) k)) (normal (fun k => m ((c.tc : Thread _ _).loc Cert.Kernel31Ideal.main_arg0) (ix2 (i 0) k)) (fun k => m ((c.tc : Thread _ _).loc Cert.Kernel31Ideal.main_arg1) (ix2 (i 0) k))) (scale (fun k => m ((c.tc : Thread _ _).loc Cert.Kernel31Ideal.main_arg0) (ix2 (i 0) k)) (fun k => m ((c.tc : Thread _ _).loc Cert.Kernel31Ideal.main_arg1) (ix2 (i 0) k))) (fun k => m ((c.tc : Thread _ _).loc Cert.Kernel31Ideal.main_arg2) (ix2 0 k)) (i 1),
    fun c i => grad (fun k => cot (missed (fun k => m ((c.tc : Thread _ _).loc Cert.Kernel31Ideal.main_arg0) (ix2 (i 0) k)) (fun k => m ((c.tc : Thread _ _).loc Cert.Kernel31Ideal.main_arg1) (ix2 (i 0) k)) (fun k => m ((c.tc : Thread _ _).loc Cert.Kernel31Ideal.main_arg2) (ix2 0 k)) (fun k => m ((c.tc : Thread _ _).loc Cert.Kernel31Ideal.main_arg3) (ix2 0 k)) (fun k => m ((c.tc : Thread _ _).loc Cert.Kernel31Ideal.main_arg4) (ix2 (i 0) k)) k)) (normal (fun k => m ((c.tc : Thread _ _).loc Cert.Kernel31Ideal.main_arg0) (ix2 (i 0) k)) (fun k => m ((c.tc : Thread _ _).loc Cert.Kernel31Ideal.main_arg1) (ix2 (i 0) k))) (scale (fun k => m ((c.tc : Thread _ _).loc Cert.Kernel31Ideal.main_arg0) (ix2 (i 0) k)) (fun k => m ((c.tc : Thread _ _).loc Cert.Kernel31Ideal.main_arg1) (ix2 (i 0) k))) (fun k => m ((c.tc : Thread _ _).loc Cert.Kernel31Ideal.main_arg2) (ix2 0 k)) (i 1),
    fun c _ => half (total fun a => square (missed (fun k => m ((c.tc : Thread _ _).loc Cert.Kernel31Ideal.main_arg0) (ix2 a k)) (fun k => m ((c.tc : Thread _ _).loc Cert.Kernel31Ideal.main_arg1) (ix2 a k)) (fun k => m ((c.tc : Thread _ _).loc Cert.Kernel31Ideal.main_arg2) (ix2 0 k)) (fun k => m ((c.tc : Thread _ _).loc Cert.Kernel31Ideal.main_arg3) (ix2 0 k)) (fun k => m ((c.tc : Thread _ _).loc Cert.Kernel31Ideal.main_arg4) (ix2 a k)))),
    fun c i => total fun a => scaled (cot (missed (fun k => m ((c.tc : Thread _ _).loc Cert.Kernel31Ideal.main_arg0) (ix2 a k)) (fun k => m ((c.tc : Thread _ _).loc Cert.Kernel31Ideal.main_arg1) (ix2 a k)) (fun k => m ((c.tc : Thread _ _).loc Cert.Kernel31Ideal.main_arg2) (ix2 0 k)) (fun k => m ((c.tc : Thread _ _).loc Cert.Kernel31Ideal.main_arg3) (ix2 0 k)) (fun k => m ((c.tc : Thread _ _).loc Cert.Kernel31Ideal.main_arg4) (ix2 a k)) (i 1))) (normal (fun k => m ((c.tc : Thread _ _).loc Cert.Kernel31Ideal.main_arg0) (ix2 a k)) (fun k => m ((c.tc : Thread _ _).loc Cert.Kernel31Ideal.main_arg1) (ix2 a k)) (i 1)),
    fun c i => total fun a => cot (missed (fun k => m ((c.tc : Thread _ _).loc Cert.Kernel31Ideal.main_arg0) (ix2 a k)) (fun k => m ((c.tc : Thread _ _).loc Cert.Kernel31Ideal.main_arg1) (ix2 a k)) (fun k => m ((c.tc : Thread _ _).loc Cert.Kernel31Ideal.main_arg2) (ix2 0 k)) (fun k => m ((c.tc : Thread _ _).loc Cert.Kernel31Ideal.main_arg3) (ix2 0 k)) (fun k => m ((c.tc : Thread _ _).loc Cert.Kernel31Ideal.main_arg4) (ix2 a k)) (i 1)),
    (θ_run _ _ _).mono (fun r h c => ⟨(h c).1.trans (arr5 m c), (h c).2.1.trans (arr6 m c), (h c).2.2.1.trans (arr7 m c),
      (h c).2.2.2.1.trans (arr8 m c), (h c).2.2.2.2.1.trans (arr9 m c), (h c).2.2.2.2.2⟩) (Cert.Kernel31Ideal.Value.run_blocks (F := Ideal) m g),
    (θ_run _ _ _).mono (fun r h c => ?_) (Cert.Reference31Ideal.Value.run (F := Ideal) m' g')⟩
  obtain ⟨e0, e1, e2, e3, e4⟩ := e c
  beta_reduce
  rw [← e0, ← e1, ← e2, ← e3, ← e4]
  have one (i : Ix 1 2048) : i = ix2 0 (i 1) := (ValueIdx.eq_ix2 i).trans (congrArg (fun a => ix2 a (i 1)) (Subsingleton.elim (α := Fin 1) _ _))
  refine ⟨(h c).1.trans ((Cert.Reference31Ideal.Read.val_main_v51_eq _ _).trans (funext fun i => ?_)),
    (h c).2.1.trans ((Cert.Reference31Ideal.Read.val_main_v52_eq _ _).trans (funext fun i => ?_)),
    (h c).2.2.1.trans ((Cert.Reference31Ideal.Read.val_main_v53_eq _ _).trans (funext fun i => ?_)),
    (h c).2.2.2.1.trans ((Cert.Reference31Ideal.Read.val_main_v56_eq _ _).trans (funext fun i => ?_)),
    (h c).2.2.2.2.1.trans ((Cert.Reference31Ideal.Read.val_main_v58_eq _ _ _ _ _).trans (funext fun i => ?_)), (h c).2.2.2.2.2⟩
  · exact (congrArg _ (ValueIdx.eq_ix2 i)).trans (ref_grad _ _ _ _ _ (i 0) (i 1))
  · exact (congrArg _ (ValueIdx.eq_ix2 i)).trans ((congrFun (rfl : Cert.Reference31Ideal.Read.val_main_v52 (F := Ideal) _ _ _ _ _ = Cert.Reference31Ideal.Read.val_main_v51 (F := Ideal) _ _ _ _ _) _).trans (ref_grad _ _ _ _ _ (i 0) (i 1)))
  · exact (congrArg _ (ValueIdx.eq_ix2 i)).trans (ref_loss _ _ _ _ _ (i 0) (i 1))
  · exact (congrArg _ (one i)).trans (ref_sums _ _ _ _ _ (i 1)).1
  · exact (congrArg _ (one i)).trans (ref_sums _ _ _ _ _ (i 1)).2

theorem frame_ref : Cert.quiescent_Reference31Ideal (hReference31Ideal := Cert.Reference31Ideal.Gen.facts) := fun m g _ =>
  (θ_run Cert.Reference31Ideal.defs _ _).mono (fun r h => ⟨fun c => (h c).2.2.2.2.2, sem_eq_zero_of_no_sems (by decide) r.2⟩)
    (Cert.Reference31Ideal.Value.run (F := Ideal) m g)

end NormLoss

end Cert

end
-- ==== Proof.Unit.lean ====
/-
  The gated unit of the channel-mixing sublayer.
-/
module

public import proofs.«01_k».proof.Defs
public import proofs.«01_k».proof.Proof.Prod
public import proofs.«01_k».proof.Proof.Gen.Kernel32Ideal.Value
public import proofs.«01_k».proof.Proof.Gen.Reference32Ideal.Run
public import proofs.«01_k».proof.Proof.Gen.Reference32Ideal.Read
public import Idealize.ShloMosaic.Lib.Claim
public import Idealize.ShloMosaic.Lib.Pointwise
public import Idealize.ShloMosaic.Lib.Pipeline.Quiescent
public import Idealize.ShloMosaic.Lib.Pipeline.ValueKit.Point
public import Idealize.ShloMosaic.Lib.Pipeline.ValueKit.Acc
public import Idealize.ShloMosaic.Lib.Pipeline.ReadBack

@[expose] public section

set_option maxRecDepth 16384

noncomputable section

namespace Cert

open Idealize.ShloMosaic Idealize.SL.Sem Idealize.ShloMosaic.StableHlo
open Idealize.ShloMosaic.TcCoe
open Cert.Prod

namespace GatedUnit

/-- What a column held some rows before, and zero above its first row. -/
def past (p : Fin 2048 → EReal) (k r : ℕ) : EReal := if h : k ≤ r ∧ r < 2048 then p ⟨r - k, by omega⟩ else 0

/-- The causal convolution of a column with three taps. -/
def gate (p : Fin 2048 → EReal) (w : Fin 3 → EReal) (b : EReal) (r : Fin 2048) : EReal :=
  b + p r * w 2 + past p 1 r.val * w 1 + past p 2 r.val * w 0

def unit (g u : EReal) : EReal :=
  Ideal.ofBits .f32 0x3F000000#32 * g * (1 + Ideal.tanh (Ideal.ofBits .f32 0x3F4C422A#32 * (g + Ideal.ofBits .f32 0x3D372713#32 * g * g * g))) * u

/-- The kernel turns the column round and puts zero where the turn brought the last rows. -/
theorem past_roll (p : Fin 2048 → EReal) (x : EReal) (k : ℕ) (hk : k < 2048) (r : Fin 2048) (hl : (r.val + 2048 - k) % 2048 < 2048) :
    Scalar.select (IntOp.cmpi .sge (BitVec.ofNat 32 r.val) (BitVec.ofNat 32 k)) (p ⟨(r.val + 2048 - k) % 2048, hl⟩ * x) (0 : EReal)
      = past p k r.val * x := by
  have hr := r.isLt
  unfold past
  by_cases h : k ≤ r.val
  · rw [(WordCmp.cmpi_sge_ofNat_eq_one_iff (by omega) (by omega)).mpr h, dif_pos ⟨h, hr⟩]
    have e : (⟨(r.val + 2048 - k) % 2048, hl⟩ : Fin 2048) = ⟨r.val - k, by omega⟩ := Fin.ext (by show (r.val + 2048 - k) % 2048 = r.val - k; omega)
    rw [e]
    rfl
  · rw [(WordCmp.cmpi_sge_ofNat_eq_zero_iff (by omega) (by omega)).mpr h, dif_neg (fun z => h z.1), zero_mul]
    rfl

section
open Cert.Kernel32Ideal Cert.Kernel32Ideal.Gen

theorem gate_val (v : Vec Ideal S2048x256 .f32) (a b d e : Vec Ideal S1x256 .f32) (r : Fin 2048) (n : Fin 256) :
    k0_pay2 v a b d e (ix2 r n) = a (ix2 0 n) + v (ix2 r n) * b (ix2 0 n)
      + past (fun k => v (ix2 k n)) 1 r.val * d (ix2 0 n) + past (fun k => v (ix2 k n)) 2 r.val * e (ix2 0 n) := by
  rw [← past_roll (fun k => v (ix2 k n)) (d (ix2 0 n)) 1 (by omega) r (Nat.mod_lt _ (by omega)),
    ← past_roll (fun k => v (ix2 k n)) (e (ix2 0 n)) 2 (by omega) r (Nat.mod_lt _ (by omega))]
  pointwise [k0_pay2]

theorem unit_val (v u : Vec Ideal S2048x256 .f32) (a b d e : Vec Ideal S1x256 .f32) (r : Fin 2048) (n : Fin 256) :
    k0_pay1 (k0_pay3 v a b d e) (k0_pay4 v a b d e) u (ix2 r n) = unit (k0_pay2 v a b d e (ix2 r n)) (u (ix2 r n)) := by
  pointwise [k0_pay1, k0_pay3, k0_pay4]
  rfl

variable (m : (ℓ : Loc nD τ sig) → Buf (Elt Ideal) ℓ) (c : Dev nD)

theorem index_all : ∀ t : Fin cfg0.N, win0_0.index t = ![0, t.val] ∧ win0_1.index t = ![0, t.val] ∧ win0_2.index t = ![0, t.val]
    ∧ win0_3.index t = ![0, t.val] ∧ win0_4.index t = ![0, t.val] := by
  decide +kernel

/-- The column that a column of a point's tile is. -/
def col (u : Fin cfg0.N) (n : Fin 256) : Fin 6144 := ⟨u.val * 256 + n.val, by have := lt_of_lt_of_eq u.isLt N_0; omega⟩

theorem blks (u : Fin cfg0.N) (r : Fin 2048) (k : Fin 3) (n : Fin 256) :
    iblk m c 0 u (ix2 r n) = m ((c : Thread nD τ).loc main_arg0) (ix2 r (col u n))
    ∧ iblk m c 1 u (ix2 r n) = m ((c : Thread nD τ).loc main_arg1) (ix2 r (col u n))
    ∧ iblk m c 2 u (ix2 k n) = m ((c : Thread nD τ).loc main_arg2) (ix2 k (col u n))
    ∧ iblk m c 3 u (ix2 0 n) = m ((c : Thread nD τ).loc main_arg3) (ix2 0 (col u n)) := by
  obtain ⟨e0, e1, e2, e3, e4⟩ := index_all u
  refine ⟨?_, ?_, ?_, ?_⟩
  · blk_ext [iblk, V, e0, col]
  · blk_ext [iblk, V, e1, col]
  · blk_ext [iblk, V, e2, col]
  · blk_ext [iblk, V, e3, col]

/-- The taps are the rows of their block. -/
theorem taps (x : Vec Ideal S3x256 .f32) (n : Fin 256) :
    View.ld x r0_2 (ix2 0 n) = x (ix2 2 n) ∧ View.ld x r0_3 (ix2 0 n) = x (ix2 1 n) ∧ View.ld x r0_4 (ix2 0 n) = x (ix2 0 n) := by
  refine ⟨congrArg x ?_, congrArg x ?_, congrArg x ?_⟩ <;> (funext a; fin_cases a <;> apply Fin.ext <;> simp [r0_2, r0_3, r0_4])

theorem out_val (x0 x1 : Vec Ideal S2048x256 .f32) (x2 : Vec Ideal S3x256 .f32) (x3 : Vec Ideal S1x256 .f32) (r : Fin 2048) (n : Fin 256) :
    out0_4 x0 x1 x2 x3 (ix2 r n) = unit (gate (fun k => x1 (ix2 k n)) (fun k => x2 (ix2 k n)) (x3 (ix2 0 n)) r) (x0 (ix2 r n)) := by
  unfold out0_4
  rw [View.canon_unit_zero (by funext a; fin_cases a <;> rfl)]
  iterate 3 rw [View.ld_unit_zero (by funext a; fin_cases a <;> rfl)]
  rw [unit_val, gate_val, (taps x2 n).1, (taps x2 n).2.1, (taps x2 n).2.2]
  rfl

theorem arr : (dats m 0 c).arrAt 4 cfg0.N = fun i : S2048x6144.Idx => unit (gate (fun k => m ((c : Thread nD τ).loc main_arg1) (ix2 k (i 1))) (fun k => m ((c : Thread nD τ).loc main_arg2) (ix2 k (i 1))) (m ((c : Thread nD τ).loc main_arg3) (ix2 0 (i 1))) (i 0)) (m ((c : Thread nD τ).loc main_arg0) (ix2 (i 0) (i 1))) := by
  refine (dats m 0 c).arrAt_eq_of_covers 4 _ (by decide +kernel) fun t _ y => ?_
  obtain ⟨e0, e1, e2, e3, e4⟩ := index_all t
  obtain ⟨r, n, rfl⟩ : ∃ (r : Fin 2048) (n : Fin 256), y = ix2 r n := ⟨y 0, y 1, ValueIdx.eq_ix2 y⟩
  have z0 : (win0_4.blk t).view.emb (ix2 r n) 0 = r := Fin.ext (by blk_simp [e4])
  have z1 : (win0_4.blk t).view.emb (ix2 r n) 1 = col t n := Fin.ext (by blk_simp [e4, col])
  blk_simp [e4]
  rw [after0_4, z0, z1, out_val]
  simp only [(blks m c t _ 0 _).1, (blks m c t _ 0 _).2.1, (blks m c t 0 _ _).2.2.1, (blks m c t 0 0 _).2.2.2]

end

/-- The reference puts two zero rows above the first. -/
theorem ref_past (p : Ix 2048 6144 → EReal) (k : ℕ) (hk : k ≤ 2) (r : Fin 2048) (n : Fin 6144) (hl : k + r.val < 2050) :
    Cert.Reference32Ideal.Read.val_main_v1 (F := Ideal) p (ix2 (⟨k + r.val, hl⟩ : Fin 2050) n) = past (fun j => p (ix2 j n)) (2 - k) r.val := by
  have hr := r.isLt
  unfold past
  by_cases h : k + r.val < 2
  · rw [dif_neg (by omega)]
    pointwise [Cert.Reference32Ideal.Read.val_main_v1, Cert.Reference32Ideal.Read.val_main_v0, Cert.Reference32Ideal.Read.val_main_cst]
    simp [h]
  · rw [dif_pos (by omega)]
    pointwise [Cert.Reference32Ideal.Read.val_main_v1]
    simp only [h, dif_neg, not_false_eq_true]
    refine congrArg p ?_
    funext a
    fin_cases a <;> apply Fin.ext
    · show k + r.val - 2 = r.val - (2 - k)
      omega
    · rfl

theorem ref_gate (p : Ix 2048 6144 → EReal) (w : Ix 3 6144 → EReal) (b : Ix 1 6144 → EReal) (r : Fin 2048) (n : Fin 6144) :
    Cert.Reference32Ideal.Read.val_main_v17 (F := Ideal) p w b (ix2 r n) = gate (fun k => p (ix2 k n)) (fun k => w (ix2 k n)) (b (ix2 0 n)) r := by
  have hr := r.isLt
  have e0 := ref_past p 0 (by omega) r n (by omega)
  have e1 := ref_past p 1 (by omega) r n (by omega)
  have e2 := ref_past p 2 (by omega) r n (by omega)
  have e3 : past (fun j => p (ix2 j n)) (2 - 2) r.val = p (ix2 r n) := dif_pos ⟨Nat.zero_le _, hr⟩
  have e : b (ix2 0 n) + Cert.Reference32Ideal.Read.val_main_v1 (F := Ideal) p (ix2 (⟨0 + r.val, by omega⟩ : Fin 2050) n) * w (ix2 0 n)
      + Cert.Reference32Ideal.Read.val_main_v1 (F := Ideal) p (ix2 (⟨1 + r.val, by omega⟩ : Fin 2050) n) * w (ix2 1 n)
      + Cert.Reference32Ideal.Read.val_main_v1 (F := Ideal) p (ix2 (⟨2 + r.val, by omega⟩ : Fin 2050) n) * w (ix2 2 n)
      = gate (fun k => p (ix2 k n)) (fun k => w (ix2 k n)) (b (ix2 0 n)) r := by
    rw [e0, e1, e2, e3]
    unfold gate
    abel
  rw [← e]
  simp only [Nat.zero_add]
  pointwise [Cert.Reference32Ideal.Read.val_main_v17, Cert.Reference32Ideal.Read.val_main_v16, Cert.Reference32Ideal.Read.val_main_v15, Cert.Reference32Ideal.Read.val_main_v14, Cert.Reference32Ideal.Read.val_main_v13, Cert.Reference32Ideal.Read.val_main_v12, Cert.Reference32Ideal.Read.val_main_v11, Cert.Reference32Ideal.Read.val_main_v10, Cert.Reference32Ideal.Read.val_main_v9, Cert.Reference32Ideal.Read.val_main_v8, Cert.Reference32Ideal.Read.val_main_v7, Cert.Reference32Ideal.Read.val_main_v6, Cert.Reference32Ideal.Read.val_main_v5, Cert.Reference32Ideal.Read.val_main_v4, Cert.Reference32Ideal.Read.val_main_v3, Cert.Reference32Ideal.Read.val_main_v2]

theorem ref_unit (u p : Ix 2048 6144 → EReal) (w : Ix 3 6144 → EReal) (b : Ix 1 6144 → EReal) (r : Fin 2048) (n : Fin 6144) :
    Cert.Reference32Ideal.Read.val_main_v32 (F := Ideal) u p w b (ix2 r n)
      = unit (gate (fun k => p (ix2 k n)) (fun k => w (ix2 k n)) (b (ix2 0 n)) r) (u (ix2 r n)) := by
  rw [← ref_gate]
  unfold unit
  pointwise [Cert.Reference32Ideal.Read.val_main_v32, Cert.Reference32Ideal.Read.val_main_v31, Cert.Reference32Ideal.Read.val_main_v30, Cert.Reference32Ideal.Read.val_main_v29, Cert.Reference32Ideal.Read.val_main_v28, Cert.Reference32Ideal.Read.val_main_v27, Cert.Reference32Ideal.Read.val_main_v26, Cert.Reference32Ideal.Read.val_main_v25, Cert.Reference32Ideal.Read.val_main_v24, Cert.Reference32Ideal.Read.val_main_v23, Cert.Reference32Ideal.Read.val_main_v22, Cert.Reference32Ideal.Read.val_main_v21, Cert.Reference32Ideal.Read.val_main_v20, Cert.Reference32Ideal.Read.val_main_v19, Cert.Reference32Ideal.Read.val_main_v18, Cert.Reference32Ideal.Read.val_main_cst_0, Cert.Reference32Ideal.Read.val_main_cst_1, Cert.Reference32Ideal.Read.val_main_cst_2, Cert.Reference32Ideal.Read.val_main_cst_3]
  generalize Cert.Reference32Ideal.Read.val_main_v17 (F := Ideal) p w b (ix2 r n) = g
  simp only [mul_comm, mul_left_comm, mul_assoc]

theorem algebraic : Cert.algebraic_Kernel32Ideal_Reference32Ideal (hKernel32Ideal := Cert.Kernel32Ideal.Gen.facts) (hReference32Ideal := Cert.Reference32Ideal.Gen.facts) := by
  intro m g m' g' _ e
  refine ⟨fun c i => unit (gate (fun k => m ((c.tc : Thread _ _).loc Cert.Kernel32Ideal.main_arg1) (ix2 k (i 1))) (fun k => m ((c.tc : Thread _ _).loc Cert.Kernel32Ideal.main_arg2) (ix2 k (i 1))) (m ((c.tc : Thread _ _).loc Cert.Kernel32Ideal.main_arg3) (ix2 0 (i 1))) (i 0)) (m ((c.tc : Thread _ _).loc Cert.Kernel32Ideal.main_arg0) (ix2 (i 0) (i 1))),
    (θ_run _ _ _).mono (fun r h c => ⟨(h c).1.trans (arr m c), (h c).2⟩) (Cert.Kernel32Ideal.Value.run_blocks (F := Ideal) m g),
    (θ_run _ _ _).mono (fun r h c => ?_) (Cert.Reference32Ideal.Value.run (F := Ideal) m' g')⟩
  obtain ⟨e0, e1, e2, e3⟩ := e c
  beta_reduce
  rw [← e0, ← e1, ← e2, ← e3]
  refine ⟨(h c).1.trans ((Cert.Reference32Ideal.Read.val_main_v32_eq _ _).trans (funext fun i => ?_)), (h c).2⟩
  exact (congrArg _ (ValueIdx.eq_ix2 i)).trans (ref_unit _ _ _ _ (i 0) (i 1))

theorem frame_ref : Cert.quiescent_Reference32Ideal (hReference32Ideal := Cert.Reference32Ideal.Gen.facts) := fun m g _ =>
  (θ_run Cert.Reference32Ideal.defs _ _).mono (fun r h => ⟨fun c => (h c).2, sem_eq_zero_of_no_sems (by decide) r.2⟩)
    (Cert.Reference32Ideal.Value.run (F := Ideal) m g)

end GatedUnit

end Cert

end
-- ==== Proof.lean ====
/-
  The claims, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2.Points
public import proofs.«01_k».proof.Proof.Gen.Kernel2Ideal
public import proofs.«01_k».proof.Proof.Gen.Kernel2Ideal.Frame
public import proofs.«01_k».proof.Proof.Gen.Kernel2Ideal.Points
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3.Points
public import proofs.«01_k».proof.Proof.Gen.Kernel3Ideal
public import proofs.«01_k».proof.Proof.Gen.Kernel3Ideal.Frame
public import proofs.«01_k».proof.Proof.Gen.Kernel3Ideal.Points
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4.Points
public import proofs.«01_k».proof.Proof.Gen.Kernel4Ideal
public import proofs.«01_k».proof.Proof.Gen.Kernel4Ideal.Frame
public import proofs.«01_k».proof.Proof.Gen.Kernel4Ideal.Points
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5.Points
public import proofs.«01_k».proof.Proof.Gen.Kernel5Ideal
public import proofs.«01_k».proof.Proof.Gen.Kernel5Ideal.Frame
public import proofs.«01_k».proof.Proof.Gen.Kernel5Ideal.Points
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6.Points
public import proofs.«01_k».proof.Proof.Gen.Kernel6Ideal
public import proofs.«01_k».proof.Proof.Gen.Kernel6Ideal.Frame
public import proofs.«01_k».proof.Proof.Gen.Kernel6Ideal.Points
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7.Points
public import proofs.«01_k».proof.Proof.Gen.Kernel7Ideal
public import proofs.«01_k».proof.Proof.Gen.Kernel7Ideal.Frame
public import proofs.«01_k».proof.Proof.Gen.Kernel7Ideal.Points
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8.Points
public import proofs.«01_k».proof.Proof.Gen.Kernel8Ideal
public import proofs.«01_k».proof.Proof.Gen.Kernel8Ideal.Frame
public import proofs.«01_k».proof.Proof.Gen.Kernel8Ideal.Points
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9.Points
public import proofs.«01_k».proof.Proof.Gen.Kernel9Ideal
public import proofs.«01_k».proof.Proof.Gen.Kernel9Ideal.Frame
public import proofs.«01_k».proof.Proof.Gen.Kernel9Ideal.Points
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10.Points
public import proofs.«01_k».proof.Proof.Gen.Kernel10Ideal
public import proofs.«01_k».proof.Proof.Gen.Kernel10Ideal.Frame
public import proofs.«01_k».proof.Proof.Gen.Kernel10Ideal.Points
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11.Points
public import proofs.«01_k».proof.Proof.Gen.Kernel11Ideal
public import proofs.«01_k».proof.Proof.Gen.Kernel11Ideal.Frame
public import proofs.«01_k».proof.Proof.Gen.Kernel11Ideal.Points
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12.Points
public import proofs.«01_k».proof.Proof.Gen.Kernel12Ideal
public import proofs.«01_k».proof.Proof.Gen.Kernel12Ideal.Frame
public import proofs.«01_k».proof.Proof.Gen.Kernel12Ideal.Points
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13.Points
public import proofs.«01_k».proof.Proof.Gen.Kernel13Ideal
public import proofs.«01_k».proof.Proof.Gen.Kernel13Ideal.Frame
public import proofs.«01_k».proof.Proof.Gen.Kernel13Ideal.Points
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14.Points
public import proofs.«01_k».proof.Proof.Gen.Kernel14Ideal
public import proofs.«01_k».proof.Proof.Gen.Kernel14Ideal.Frame
public import proofs.«01_k».proof.Proof.Gen.Kernel14Ideal.Points
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15.Points
public import proofs.«01_k».proof.Proof.Gen.Kernel15Ideal
public import proofs.«01_k».proof.Proof.Gen.Kernel15Ideal.Frame
public import proofs.«01_k».proof.Proof.Gen.Kernel15Ideal.Points
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16.Points
public import proofs.«01_k».proof.Proof.Gen.Kernel16Ideal
public import proofs.«01_k».proof.Proof.Gen.Kernel16Ideal.Frame
public import proofs.«01_k».proof.Proof.Gen.Kernel16Ideal.Points
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17.Points
public import proofs.«01_k».proof.Proof.Gen.Kernel17Ideal
public import proofs.«01_k».proof.Proof.Gen.Kernel17Ideal.Frame
public import proofs.«01_k».proof.Proof.Gen.Kernel17Ideal.Points
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18.Points
public import proofs.«01_k».proof.Proof.Gen.Kernel18Ideal
public import proofs.«01_k».proof.Proof.Gen.Kernel18Ideal.Frame
public import proofs.«01_k».proof.Proof.Gen.Kernel18Ideal.Points
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19.Points
public import proofs.«01_k».proof.Proof.Gen.Kernel19Ideal
public import proofs.«01_k».proof.Proof.Gen.Kernel19Ideal.Frame
public import proofs.«01_k».proof.Proof.Gen.Kernel19Ideal.Points
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20.Points
public import proofs.«01_k».proof.Proof.Gen.Kernel20Ideal
public import proofs.«01_k».proof.Proof.Gen.Kernel20Ideal.Frame
public import proofs.«01_k».proof.Proof.Gen.Kernel20Ideal.Points
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21.Points
public import proofs.«01_k».proof.Proof.Gen.Kernel21Ideal
public import proofs.«01_k».proof.Proof.Gen.Kernel21Ideal.Frame
public import proofs.«01_k».proof.Proof.Gen.Kernel21Ideal.Points
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22.Points
public import proofs.«01_k».proof.Proof.Gen.Kernel22Ideal
public import proofs.«01_k».proof.Proof.Gen.Kernel22Ideal.Frame
public import proofs.«01_k».proof.Proof.Gen.Kernel22Ideal.Points
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23.Points
public import proofs.«01_k».proof.Proof.Gen.Kernel23Ideal
public import proofs.«01_k».proof.Proof.Gen.Kernel23Ideal.Frame
public import proofs.«01_k».proof.Proof.Gen.Kernel23Ideal.Points
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24.Points
public import proofs.«01_k».proof.Proof.Gen.Kernel24Ideal
public import proofs.«01_k».proof.Proof.Gen.Kernel24Ideal.Frame
public import proofs.«01_k».proof.Proof.Gen.Kernel24Ideal.Points
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25.Points
public import proofs.«01_k».proof.Proof.Gen.Kernel25Ideal
public import proofs.«01_k».proof.Proof.Gen.Kernel25Ideal.Frame
public import proofs.«01_k».proof.Proof.Gen.Kernel25Ideal.Points
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Frame
public import proofs.«01_k».proof.Proof.Gen.Kernel26.Points
public import proofs.«01_k».proof.Proof.Gen.Kernel26Ideal
public import proofs.«01_k».proof.Proof.Gen.Kernel26Ideal.Frame
public import proofs.«01_k».proof.Proof.Gen.Kernel26Ideal.Points
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Frame
public import proofs.«01_k».proof.Proof.Gen.Kernel27.Points
public import proofs.«01_k».proof.Proof.Gen.Kernel27Ideal
public import proofs.«01_k».proof.Proof.Gen.Kernel27Ideal.Frame
public import proofs.«01_k».proof.Proof.Gen.Kernel27Ideal.Points
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Frame
public import proofs.«01_k».proof.Proof.Gen.Kernel28.Points
public import proofs.«01_k».proof.Proof.Gen.Kernel28Ideal
public import proofs.«01_k».proof.Proof.Gen.Kernel28Ideal.Frame
public import proofs.«01_k».proof.Proof.Gen.Kernel28Ideal.Points
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Frame
public import proofs.«01_k».proof.Proof.Gen.Kernel29.Points
public import proofs.«01_k».proof.Proof.Gen.Kernel29Ideal
public import proofs.«01_k».proof.Proof.Gen.Kernel29Ideal.Frame
public import proofs.«01_k».proof.Proof.Gen.Kernel29Ideal.Points
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Frame
public import proofs.«01_k».proof.Proof.Gen.Kernel30.Points
public import proofs.«01_k».proof.Proof.Gen.Kernel30Ideal
public import proofs.«01_k».proof.Proof.Gen.Kernel30Ideal.Frame
public import proofs.«01_k».proof.Proof.Gen.Kernel30Ideal.Points
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Frame
public import proofs.«01_k».proof.Proof.Gen.Kernel31.Points
public import proofs.«01_k».proof.Proof.Gen.Kernel31Ideal
public import proofs.«01_k».proof.Proof.Gen.Kernel31Ideal.Frame
public import proofs.«01_k».proof.Proof.Gen.Kernel31Ideal.Points
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Frame
public import proofs.«01_k».proof.Proof.Gen.Kernel32.Points
public import proofs.«01_k».proof.Proof.Gen.Kernel32Ideal
public import proofs.«01_k».proof.Proof.Gen.Kernel32Ideal.Frame
public import proofs.«01_k».proof.Proof.Gen.Kernel32Ideal.Points
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.FrameBits
public import proofs.«01_k».proof.Proof.Ref
public import proofs.«01_k».proof.Proof.Alg
public import proofs.«01_k».proof.Proof.DwUp
public import proofs.«01_k».proof.Proof.Forward
public import proofs.«01_k».proof.Proof.WeightGrad
public import proofs.«01_k».proof.Proof.InputGrad
public import proofs.«01_k».proof.Proof.AdamLarge
public import proofs.«01_k».proof.Proof.AdamSmall
public import proofs.«01_k».proof.Proof.Tiled
public import proofs.«01_k».proof.Proof.Near
public import proofs.«01_k».proof.Proof.Gate
public import proofs.«01_k».proof.Proof.Norm
public import proofs.«01_k».proof.Proof.NormLoss
public import proofs.«01_k».proof.Proof.Unit

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  facts_finite, Cert.Pre_in_order.Gen.facts,
  frame_kernel, frame_ideal, fun m g _ => frame_ideal m g trivial, frame_ref, fun m g _ => frame_ref m g trivial,
  fun m g _ => Cert.Kernel2.Gen.frame (F := Bits) m g, fun m g _ => Cert.Kernel2Ideal.Gen.frame (F := Ideal) m g, Cert.DwUp.frame_ref,
  fun m g _ => Cert.Kernel3.Gen.frame (F := Bits) m g, fun m g _ => Cert.Kernel3Ideal.Gen.frame (F := Ideal) m g, Cert.Wide.frame_ref,
  fun m g _ => Cert.Kernel4.Gen.frame (F := Bits) m g, fun m g _ => Cert.Kernel4Ideal.Gen.frame (F := Ideal) m g, Cert.DwDown.frame_ref,
  fun m g _ => Cert.Kernel5.Gen.frame (F := Bits) m g, fun m g _ => Cert.Kernel5Ideal.Gen.frame (F := Ideal) m g, Cert.DwOut.frame_ref,
  fun m g _ => Cert.Kernel6.Gen.frame (F := Bits) m g, fun m g _ => Cert.Kernel6Ideal.Gen.frame (F := Ideal) m g, Cert.DwRnn.frame_ref,
  fun m g _ => Cert.Kernel7.Gen.frame (F := Bits) m g, fun m g _ => Cert.Kernel7Ideal.Gen.frame (F := Ideal) m g, Cert.DMerged.frame_ref,
  fun m g _ => Cert.Kernel8.Gen.frame (F := Bits) m g, fun m g _ => Cert.Kernel8Ideal.Gen.frame (F := Ideal) m g, Cert.AttnProj.frame_ref,
  fun m g _ => Cert.Kernel9.Gen.frame (F := Bits) m g, fun m g _ => Cert.Kernel9Ideal.Gen.frame (F := Ideal) m g, Cert.RnnProj.frame_ref,
  fun m g _ => Cert.Kernel10.Gen.frame (F := Bits) m g, fun m g _ => Cert.Kernel10Ideal.Gen.frame (F := Ideal) m g, Cert.Adam10.frame_ref,
  fun m g _ => Cert.Kernel11.Gen.frame (F := Bits) m g, fun m g _ => Cert.Kernel11Ideal.Gen.frame (F := Ideal) m g, Cert.Adam11.frame_ref,
  fun m g _ => Cert.Kernel12.Gen.frame (F := Bits) m g, fun m g _ => Cert.Kernel12Ideal.Gen.frame (F := Ideal) m g, Cert.Adam12.frame_ref,
  fun m g _ => Cert.Kernel13.Gen.frame (F := Bits) m g, fun m g _ => Cert.Kernel13Ideal.Gen.frame (F := Ideal) m g, Cert.Adam13.frame_ref,
  fun m g _ => Cert.Kernel14.Gen.frame (F := Bits) m g, fun m g _ => Cert.Kernel14Ideal.Gen.frame (F := Ideal) m g, Cert.Adam14.frame_ref,
  fun m g _ => Cert.Kernel15.Gen.frame (F := Bits) m g, fun m g _ => Cert.Kernel15Ideal.Gen.frame (F := Ideal) m g, Cert.Adam15.frame_ref,
  fun m g _ => Cert.Kernel16.Gen.frame (F := Bits) m g, fun m g _ => Cert.Kernel16Ideal.Gen.frame (F := Ideal) m g, Cert.Adam16.frame_ref,
  fun m g _ => Cert.Kernel17.Gen.frame (F := Bits) m g, fun m g _ => Cert.Kernel17Ideal.Gen.frame (F := Ideal) m g, Cert.Adam17.frame_ref,
  fun m g _ => Cert.Kernel18.Gen.frame (F := Bits) m g, fun m g _ => Cert.Kernel18Ideal.Gen.frame (F := Ideal) m g, Cert.Adam18.frame_ref,
  fun m g _ => Cert.Kernel19.Gen.frame (F := Bits) m g, fun m g _ => Cert.Kernel19Ideal.Gen.frame (F := Ideal) m g, Cert.Adam19.frame_ref,
  fun m g _ => Cert.Kernel20.Gen.frame (F := Bits) m g, fun m g _ => Cert.Kernel20Ideal.Gen.frame (F := Ideal) m g, Cert.Adam20.frame_ref,
  fun m g _ => Cert.Kernel21.Gen.frame (F := Bits) m g, fun m g _ => Cert.Kernel21Ideal.Gen.frame (F := Ideal) m g, Cert.Adam21.frame_ref,
  fun m g _ => Cert.Kernel22.Gen.frame (F := Bits) m g, fun m g _ => Cert.Kernel22Ideal.Gen.frame (F := Ideal) m g, Cert.Adam22.frame_ref,
  fun m g _ => Cert.Kernel23.Gen.frame (F := Bits) m g, fun m g _ => Cert.Kernel23Ideal.Gen.frame (F := Ideal) m g, Cert.Down.frame_ref,
  fun m g _ => Cert.Kernel24.Gen.frame (F := Bits) m g, fun m g _ => Cert.Kernel24Ideal.Gen.frame (F := Ideal) m g, Cert.DGate.frame_ref,
  Cert.Near.frame_kernel, Cert.Near.frame_ideal, Cert.Near.frame_ref, fun m g _ => Cert.Near.frame_ref m g trivial,
  Cert.Diag.frame_kernel, Cert.Diag.frame_ideal, Cert.Diag.frame_ref, fun m g _ => Cert.Diag.frame_ref m g trivial,
  fun m g _ => Cert.Kernel27.Gen.frame (F := Bits) m g, fun m g _ => Cert.Kernel27Ideal.Gen.frame (F := Ideal) m g, Cert.Merge.frame_ref,
  fun m g _ => Cert.Kernel28.Gen.frame (F := Bits) m g, fun m g _ => Cert.Kernel28Ideal.Gen.frame (F := Ideal) m g, Cert.MergeFwd.frame_ref,
  fun m g _ => Cert.Kernel29.Gen.frame (F := Bits) m g, fun m g _ => Cert.Kernel29Ideal.Gen.frame (F := Ideal) m g, Cert.NormBwd.frame_ref,
  fun m g _ => Cert.Kernel30.Gen.frame (F := Bits) m g, fun m g _ => Cert.Kernel30Ideal.Gen.frame (F := Ideal) m g, Cert.NormFwd.frame_ref,
  fun m g _ => Cert.Kernel31.Gen.frame (F := Bits) m g, fun m g _ => Cert.Kernel31Ideal.Gen.frame (F := Ideal) m g, Cert.NormLoss.frame_ref,
  fun m g _ => Cert.Kernel32.Gen.frame (F := Bits) m g, fun m g _ => Cert.Kernel32Ideal.Gen.frame (F := Ideal) m g, Cert.GatedUnit.frame_ref,
  IdealRules.named_const.statement Cert.KernelIdeal.κ "mask" .f32 0xF149F2CA#32 ⊥ rfl, algebraic,
  trivial, Cert.DwUp.algebraic,
  trivial, Cert.Wide.algebraic,
  trivial, Cert.DwDown.algebraic,
  trivial, Cert.DwOut.algebraic,
  trivial, Cert.DwRnn.algebraic,
  trivial, Cert.DMerged.algebraic,
  trivial, Cert.AttnProj.algebraic,
  trivial, Cert.RnnProj.algebraic,
  ⟨IdealRules.named_const.statement Cert.Kernel10Ideal.κ "c1" .f32 0x3FC48605#32 ((8388608 / 5463681 : ℝ) : EReal) rfl,
    IdealRules.named_const.statement Cert.Kernel10Ideal.κ "c2" .f32 0x42C8E6D3#32 ((268435456 / 2672307 : ℝ) : EReal) rfl⟩, Cert.Adam10.algebraic,
  ⟨IdealRules.named_const.statement Cert.Kernel11Ideal.κ "c1" .f32 0x3FC48605#32 ((8388608 / 5463681 : ℝ) : EReal) rfl,
    IdealRules.named_const.statement Cert.Kernel11Ideal.κ "c2" .f32 0x42C8E6D3#32 ((268435456 / 2672307 : ℝ) : EReal) rfl⟩, Cert.Adam11.algebraic,
  ⟨IdealRules.named_const.statement Cert.Kernel12Ideal.κ "c1" .f32 0x3FC48605#32 ((8388608 / 5463681 : ℝ) : EReal) rfl,
    IdealRules.named_const.statement Cert.Kernel12Ideal.κ "c2" .f32 0x42C8E6D3#32 ((268435456 / 2672307 : ℝ) : EReal) rfl⟩, Cert.Adam12.algebraic,
  ⟨IdealRules.named_const.statement Cert.Kernel13Ideal.κ "c1" .f32 0x3FC48605#32 ((8388608 / 5463681 : ℝ) : EReal) rfl,
    IdealRules.named_const.statement Cert.Kernel13Ideal.κ "c2" .f32 0x42C8E6D3#32 ((268435456 / 2672307 : ℝ) : EReal) rfl⟩, Cert.Adam13.algebraic,
  ⟨IdealRules.named_const.statement Cert.Kernel14Ideal.κ "c1" .f32 0x3FC48605#32 ((8388608 / 5463681 : ℝ) : EReal) rfl,
    IdealRules.named_const.statement Cert.Kernel14Ideal.κ "c2" .f32 0x42C8E6D3#32 ((268435456 / 2672307 : ℝ) : EReal) rfl⟩, Cert.Adam14.algebraic,
  ⟨IdealRules.named_const.statement Cert.Kernel15Ideal.κ "c1" .f32 0x3FC48605#32 ((8388608 / 5463681 : ℝ) : EReal) rfl,
    IdealRules.named_const.statement Cert.Kernel15Ideal.κ "c2" .f32 0x42C8E6D3#32 ((268435456 / 2672307 : ℝ) : EReal) rfl⟩, Cert.Adam15.algebraic,
  ⟨IdealRules.named_const.statement Cert.Kernel16Ideal.κ "c1" .f32 0x3FC48605#32 ((8388608 / 5463681 : ℝ) : EReal) rfl,
    IdealRules.named_const.statement Cert.Kernel16Ideal.κ "c2" .f32 0x42C8E6D3#32 ((268435456 / 2672307 : ℝ) : EReal) rfl⟩, Cert.Adam16.algebraic,
  ⟨IdealRules.named_const.statement Cert.Kernel17Ideal.κ "c1" .f32 0x3FC48605#32 ((8388608 / 5463681 : ℝ) : EReal) rfl,
    IdealRules.named_const.statement Cert.Kernel17Ideal.κ "c2" .f32 0x42C8E6D3#32 ((268435456 / 2672307 : ℝ) : EReal) rfl⟩, Cert.Adam17.algebraic,
  ⟨IdealRules.named_const.statement Cert.Kernel18Ideal.κ "c1" .f32 0x3FC48605#32 ((8388608 / 5463681 : ℝ) : EReal) rfl,
    IdealRules.named_const.statement Cert.Kernel18Ideal.κ "c2" .f32 0x42C8E6D3#32 ((268435456 / 2672307 : ℝ) : EReal) rfl⟩, Cert.Adam18.algebraic,
  ⟨IdealRules.named_const.statement Cert.Kernel19Ideal.κ "c1" .f32 0x3FC48605#32 ((8388608 / 5463681 : ℝ) : EReal) rfl,
    IdealRules.named_const.statement Cert.Kernel19Ideal.κ "c2" .f32 0x42C8E6D3#32 ((268435456 / 2672307 : ℝ) : EReal) rfl⟩, Cert.Adam19.algebraic,
  ⟨IdealRules.named_const.statement Cert.Kernel20Ideal.κ "c1" .f32 0x3FC48605#32 ((8388608 / 5463681 : ℝ) : EReal) rfl,
    IdealRules.named_const.statement Cert.Kernel20Ideal.κ "c2" .f32 0x42C8E6D3#32 ((268435456 / 2672307 : ℝ) : EReal) rfl⟩, Cert.Adam20.algebraic,
  ⟨IdealRules.named_const.statement Cert.Kernel21Ideal.κ "c1" .f32 0x3FC48605#32 ((8388608 / 5463681 : ℝ) : EReal) rfl,
    IdealRules.named_const.statement Cert.Kernel21Ideal.κ "c2" .f32 0x42C8E6D3#32 ((268435456 / 2672307 : ℝ) : EReal) rfl⟩, Cert.Adam21.algebraic,
  ⟨IdealRules.named_const.statement Cert.Kernel22Ideal.κ "c1" .f32 0x3FC48605#32 ((8388608 / 5463681 : ℝ) : EReal) rfl,
    IdealRules.named_const.statement Cert.Kernel22Ideal.κ "c2" .f32 0x42C8E6D3#32 ((268435456 / 2672307 : ℝ) : EReal) rfl⟩, Cert.Adam22.algebraic,
  trivial, Cert.Down.algebraic,
  trivial, Cert.DGate.algebraic,
  trivial, Cert.Near.algebraic,
  trivial, Cert.Diag.algebraic,
  trivial, Cert.Merge.algebraic,
  trivial, Cert.MergeFwd.algebraic,
  trivial, Cert.NormBwd.algebraic,
  trivial, Cert.NormFwd.algebraic,
  trivial, Cert.NormLoss.algebraic,
  trivial, Cert.GatedUnit.algebraic⟩

end Cert.Proof

end
